-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "lowest" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x2048 : Shape := ⟨3, ![4, 4096, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S4x4096x2048 .f32) (main_arg1 : FVec F S2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  main_v3
-- ==== Kernel.lean ====
abbrev S4x4096x2048 : Shape := ⟨3, ![4, 4096, 2048]⟩
abbrev S2048 : Shape := ⟨1, ![2048]⟩
abbrev S_ : Shape := ⟨0, ![]⟩
abbrev S1 : Shape := ⟨1, ![1]⟩
abbrev S2 : Shape := ⟨1, ![2]⟩
abbrev S16384x2048 : Shape := ⟨2, ![16384, 2048]⟩
abbrev S4x4096 : Shape := ⟨2, ![4, 4096]⟩
abbrev S512x128 : Shape := ⟨2, ![512, 128]⟩
abbrev S512 : Shape := ⟨1, ![512]⟩
abbrev S256x128 : Shape := ⟨2, ![256, 128]⟩
abbrev S16 : Shape := ⟨1, ![16]⟩
abbrev S1x512 : Shape := ⟨2, ![1, 512]⟩
abbrev S4x4096x1 : Shape := ⟨3, ![4, 4096, 1]⟩

abbrev nBuf : Table → Nat
  | .hbm => 278
  | .local .scVector .vmem => 4
  | _ => 0

abbrev hbmTy0_0 (i : Nat) : BufTy := match i % 128 with
  | 0 => ⟨S4x4096x2048, .f32⟩
  | 1 => ⟨S2048, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .i32⟩
  | 19 => ⟨S_, .i32⟩
  | 20 => ⟨S1, .i32⟩
  | 21 => ⟨S_, .i32⟩
  | 22 => ⟨S2048, .i64⟩
  | 23 => ⟨S_, .i64⟩
  | 24 => ⟨S2048, .i64⟩
  | 25 => ⟨S2048, .i64⟩
  | 26 => ⟨S_, .i64⟩
  | 27 => ⟨S2048, .i64⟩
  | 28 => ⟨S2048, .i64⟩
  | 29 => ⟨S2048, .i32⟩
  | 30 => ⟨S2048, .i32⟩
  | 31 => ⟨S_, .i32⟩
  | 32 => ⟨S_, .i32⟩
  | 33 => ⟨S_, .i32⟩
  | 34 => ⟨S2048, .i32⟩
  | 35 => ⟨S2048, .i32⟩
  | 36 => ⟨S2048, .i32⟩
  | 37 => ⟨S2048, .i32⟩
  | 38 => ⟨S2048, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i32⟩
  | 45 => ⟨S2048, .i32⟩
  | 46 => ⟨S2048, .i32⟩
  | 47 => ⟨S2048, .i32⟩
  | 48 => ⟨S_, .i32⟩
  | 49 => ⟨S2048, .i32⟩
  | 50 => ⟨S2048, .i32⟩
  | 51 => ⟨S_, .i32⟩
  | 52 => ⟨S2048, .i32⟩
  | 53 => ⟨S2048, .i32⟩
  | 54 => ⟨S2048, .i32⟩
  | 55 => ⟨S2048, .i32⟩
  | 56 => ⟨S2048, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i32⟩
  | 63 => ⟨S2048, .i32⟩
  | 64 => ⟨S2048, .i32⟩
  | 65 => ⟨S2048, .i32⟩
  | 66 => ⟨S_, .i32⟩
  | 67 => ⟨S2048, .i32⟩
  | 68 => ⟨S2048, .i32⟩
  | 69 => ⟨S_, .i32⟩
  | 70 => ⟨S2048, .i32⟩
  | 71 => ⟨S2048, .i32⟩
  | 72 => ⟨S2048, .i32⟩
  | 73 => ⟨S2048, .i32⟩
  | 74 => ⟨S2048, .i32⟩
  | 75 => ⟨S2048, .i32⟩
  | 76 => ⟨S2048, .i32⟩
  | 77 => ⟨S2048, .i32⟩
  | 78 => ⟨S_, .i32⟩
  | 79 => ⟨S2048, .i32⟩
  | 80 => ⟨S2048, .i32⟩
  | 81 => ⟨S2048, .i32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S2048, .i32⟩
  | 89 => ⟨S2048, .i32⟩
  | 90 => ⟨S2048, .i32⟩
  | 91 => ⟨S_, .i32⟩
  | 92 => ⟨S2048, .i32⟩
  | 93 => ⟨S2048, .i32⟩
  | 94 => ⟨S_, .i32⟩
  | 95 => ⟨S2048, .i32⟩
  | 96 => ⟨S2048, .i32⟩
  | 97 => ⟨S2048, .i32⟩
  | 98 => ⟨S2048, .i32⟩
  | 99 => ⟨S2048, .i32⟩
  | 100 => ⟨S_, .i32⟩
  | 101 => ⟨S2048, .i32⟩
  | 102 => ⟨S2048, .i32⟩
  | 103 => ⟨S_, .i32⟩
  | 104 => ⟨S2048, .i32⟩
  | 105 => ⟨S2048, .i32⟩
  | 106 => ⟨S2048, .i32⟩
  | 107 => ⟨S2048, .i32⟩
  | 108 => ⟨S2048, .i32⟩
  | 109 => ⟨S_, .i32⟩
  | 110 => ⟨S2048, .i32⟩
  | 111 => ⟨S2048, .i32⟩
  | 112 => ⟨S_, .i32⟩
  | 113 => ⟨S2048, .i32⟩
  | 114 => ⟨S2048, .i32⟩
  | 115 => ⟨S2048, .i32⟩
  | 116 => ⟨S2048, .i32⟩
  | 117 => ⟨S2048, .i32⟩
  | 118 => ⟨S2048, .i32⟩
  | 119 => ⟨S2048, .i32⟩
  | 120 => ⟨S2048, .i32⟩
  | 121 => ⟨S_, .i32⟩
  | 122 => ⟨S2048, .i32⟩
  | 123 => ⟨S2048, .i32⟩
  | 124 => ⟨S2048, .i32⟩
  | 125 => ⟨S_, .i32⟩
  | 126 => ⟨S2048, .i32⟩
  | 127 => ⟨S2048, .i32⟩
  | _ => ⟨S4x4096x2048, .f32⟩

abbrev hbmTy0_1 (i : Nat) : BufTy := match i % 128 with
  | 0 => ⟨S_, .i32⟩
  | 1 => ⟨S2048, .i32⟩
  | 2 => ⟨S2048, .i32⟩
  | 3 => ⟨S2048, .i32⟩
  | 4 => ⟨S2048, .i32⟩
  | 5 => ⟨S2048, .i32⟩
  | 6 => ⟨S_, .i32⟩
  | 7 => ⟨S2048, .i32⟩
  | 8 => ⟨S2048, .i32⟩
  | 9 => ⟨S_, .i32⟩
  | 10 => ⟨S2048, .i32⟩
  | 11 => ⟨S2048, .i32⟩
  | 12 => ⟨S2048, .i32⟩
  | 13 => ⟨S2048, .i32⟩
  | 14 => ⟨S2048, .i32⟩
  | 15 => ⟨S_, .i32⟩
  | 16 => ⟨S2048, .i32⟩
  | 17 => ⟨S2048, .i32⟩
  | 18 => ⟨S_, .i32⟩
  | 19 => ⟨S2048, .i32⟩
  | 20 => ⟨S2048, .i32⟩
  | 21 => ⟨S2048, .i32⟩
  | 22 => ⟨S2048, .i32⟩
  | 23 => ⟨S2048, .i32⟩
  | 24 => ⟨S_, .i32⟩
  | 25 => ⟨S2048, .i32⟩
  | 26 => ⟨S2048, .i32⟩
  | 27 => ⟨S_, .i32⟩
  | 28 => ⟨S2048, .i32⟩
  | 29 => ⟨S2048, .i32⟩
  | 30 => ⟨S2048, .i32⟩
  | 31 => ⟨S2048, .i32⟩
  | 32 => ⟨S2048, .i32⟩
  | 33 => ⟨S2048, .i32⟩
  | 34 => ⟨S2048, .i32⟩
  | 35 => ⟨S2048, .i32⟩
  | 36 => ⟨S_, .i32⟩
  | 37 => ⟨S2048, .i32⟩
  | 38 => ⟨S2048, .i32⟩
  | 39 => ⟨S2048, .i32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S2048, .i32⟩
  | 47 => ⟨S2048, .i32⟩
  | 48 => ⟨S2048, .i32⟩
  | 49 => ⟨S_, .i32⟩
  | 50 => ⟨S2048, .i32⟩
  | 51 => ⟨S2048, .i32⟩
  | 52 => ⟨S_, .i32⟩
  | 53 => ⟨S2048, .i32⟩
  | 54 => ⟨S2048, .i32⟩
  | 55 => ⟨S2048, .i32⟩
  | 56 => ⟨S2048, .i32⟩
  | 57 => ⟨S2048, .i32⟩
  | 58 => ⟨S_, .i32⟩
  | 59 => ⟨S2048, .i32⟩
  | 60 => ⟨S2048, .i32⟩
  | 61 => ⟨S_, .i32⟩
  | 62 => ⟨S2048, .i32⟩
  | 63 => ⟨S2048, .i32⟩
  | 64 => ⟨S2048, .i32⟩
  | 65 => ⟨S2048, .i32⟩
  | 66 => ⟨S2048, .i32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S2048, .i32⟩
  | 74 => ⟨S2048, .i32⟩
  | 75 => ⟨S2048, .i32⟩
  | 76 => ⟨S2048, .i32⟩
  | 77 => ⟨S2048, .i32⟩
  | 78 => ⟨S2048, .i32⟩
  | 79 => ⟨S_, .i32⟩
  | 80 => ⟨S2048, .i32⟩
  | 81 => ⟨S2048, .i32⟩
  | 82 => ⟨S2048, .i32⟩
  | 83 => ⟨S_, .i32⟩
  | 84 => ⟨S2048, .i32⟩
  | 85 => ⟨S2048, .i32⟩
  | 86 => ⟨S_, .i32⟩
  | 87 => ⟨S2048, .i32⟩
  | 88 => ⟨S2048, .i32⟩
  | 89 => ⟨S2048, .i32⟩
  | 90 => ⟨S2048, .i32⟩
  | 91 => ⟨S2048, .i32⟩
  | 92 => ⟨S_, .i32⟩
  | 93 => ⟨S2048, .i32⟩
  | 94 => ⟨S2048, .i32⟩
  | 95 => ⟨S_, .i32⟩
  | 96 => ⟨S2048, .i32⟩
  | 97 => ⟨S2048, .i32⟩
  | 98 => ⟨S2048, .i32⟩
  | 99 => ⟨S2048, .i32⟩
  | 100 => ⟨S2048, .i32⟩
  | 101 => ⟨S_, .i32⟩
  | 102 => ⟨S2048, .i32⟩
  | 103 => ⟨S2048, .i32⟩
  | 104 => ⟨S_, .i32⟩
  | 105 => ⟨S2048, .i32⟩
  | 106 => ⟨S2048, .i32⟩
  | 107 => ⟨S2048, .i32⟩
  | 108 => ⟨S2048, .i32⟩
  | 109 => ⟨S2048, .i32⟩
  | 110 => ⟨S_, .i32⟩
  | 111 => ⟨S2048, .i32⟩
  | 112 => ⟨S2048, .i32⟩
  | 113 => ⟨S_, .i32⟩
  | 114 => ⟨S2048, .i32⟩
  | 115 => ⟨S2048, .i32⟩
  | 116 => ⟨S2048, .i32⟩
  | 117 => ⟨S2048, .i32⟩
  | 118 => ⟨S2048, .i32⟩
  | 119 => ⟨S2048, .i32⟩
  | 120 => ⟨S2048, .i32⟩
  | 121 => ⟨S2048, .i32⟩
  | 122 => ⟨S_, .i32⟩
  | 123 => ⟨S2048, .i32⟩
  | 124 => ⟨S2048, .i32⟩
  | 125 => ⟨S2048, .i32⟩
  | 126 => ⟨S_, .i32⟩
  | 127 => ⟨S2048, .i32⟩
  | _ => ⟨S4x4096x2048, .f32⟩

abbrev hbmTy0_2 (i : Nat) : BufTy := match i % 128 with
  | 0 => ⟨S2048, .i32⟩
  | 1 => ⟨S_, .i32⟩
  | 2 => ⟨S2048, .i32⟩
  | 3 => ⟨S2048, .i32⟩
  | 4 => ⟨S2048, .f32⟩
  | 5 => ⟨S_, .f32⟩
  | 6 => ⟨S2048, .f32⟩
  | 7 => ⟨S2048, .f32⟩
  | 8 => ⟨S1, .f32⟩
  | 9 => ⟨S2048, .f32⟩
  | 10 => ⟨S2048, .f32⟩
  | 11 => ⟨S2048, .f32⟩
  | 12 => ⟨S2048, .f32⟩
  | 13 => ⟨S2048, .f32⟩
  | 14 => ⟨S2048, .f32⟩
  | 15 => ⟨S2048, .f32⟩
  | 16 => ⟨S2048, .f32⟩
  | 17 => ⟨S2048, .f32⟩
  | 18 => ⟨S2048, .f32⟩
  | 19 => ⟨S16384x2048, .f32⟩
  | 20 => ⟨S4x4096, .f32⟩
  | 21 => ⟨S4x4096x1, .f32⟩
  | _ => ⟨S4x4096x2048, .f32⟩

abbrev hbmTy (i : Nat) : BufTy := match i / 128 with
  | 0 => hbmTy0_0 i
  | 1 => hbmTy0_1 i
  | 2 => hbmTy0_2 i
  | _ => ⟨S4x4096x2048, .f32⟩

abbrev bufTy : (tb : Table) → Fin (nBuf tb) → BufTy
  | .hbm, ⟨i, _⟩ => hbmTy i
  | .local .scVector .vmem, ⟨0, _⟩ => ⟨S2048, .f32⟩
  | .local .scVector .vmem, ⟨1, _⟩ => ⟨S2048, .f32⟩
  | .local .scVector .vmem, ⟨2, _⟩ => ⟨S512x128, .f32⟩
  | .local .scVector .vmem, ⟨3, _⟩ => ⟨S512, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_c_0 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_call0_v0 : Ref sig .tc := ⟨.hbm, 31, rfl⟩
abbrev main_call0_call0_c : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_c_0 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_c_1 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_c_2 : Ref sig .tc := ⟨.hbm, 48, rfl⟩
abbrev main_call0_call0_v14 : Ref sig .tc := ⟨.hbm, 49, rfl⟩
abbrev main_call0_call0_v15 : Ref sig .tc := ⟨.hbm, 50, rfl⟩
abbrev main_call0_call0_c_3 : Ref sig .tc := ⟨.hbm, 51, rfl⟩
abbrev main_call0_call0_v16 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_v19 : Ref sig .tc := ⟨.hbm, 55, rfl⟩
abbrev main_call0_call0_v20 : Ref sig .tc := ⟨.hbm, 56, rfl⟩
abbrev main_call0_call0_c_4 : Ref sig .tc := ⟨.hbm, 57, rfl⟩
abbrev main_call0_call0_v21 : Ref sig .tc := ⟨.hbm, 58, rfl⟩
abbrev main_call0_call0_v22 : Ref sig .tc := ⟨.hbm, 59, rfl⟩
abbrev main_call0_call0_c_5 : Ref sig .tc := ⟨.hbm, 60, rfl⟩
abbrev main_call0_call0_v23 : Ref sig .tc := ⟨.hbm, 61, rfl⟩
abbrev main_call0_call0_v24 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_v27 : Ref sig .tc := ⟨.hbm, 65, rfl⟩
abbrev main_call0_call0_c_6 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_c_7 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_v32 : Ref sig .tc := ⟨.hbm, 72, rfl⟩
abbrev main_call0_call0_v33 : Ref sig .tc := ⟨.hbm, 73, rfl⟩
abbrev main_call0_call0_v34 : Ref sig .tc := ⟨.hbm, 74, rfl⟩
abbrev main_call0_call0_v35 : Ref sig .tc := ⟨.hbm, 75, rfl⟩
abbrev main_call0_call0_v36 : Ref sig .tc := ⟨.hbm, 76, rfl⟩
abbrev main_call0_call0_v37 : Ref sig .tc := ⟨.hbm, 77, rfl⟩
abbrev main_call0_call0_c_8 : Ref sig .tc := ⟨.hbm, 78, rfl⟩
abbrev main_call0_call0_v38 : Ref sig .tc := ⟨.hbm, 79, rfl⟩
abbrev main_call0_call0_v39 : Ref sig .tc := ⟨.hbm, 80, rfl⟩
abbrev main_call0_call0_v40 : Ref sig .tc := ⟨.hbm, 81, rfl⟩
abbrev main_call0_call0_c_9 : Ref sig .tc := ⟨.hbm, 82, rfl⟩
abbrev main_call0_call0_v41 : Ref sig .tc := ⟨.hbm, 83, rfl⟩
abbrev main_call0_call0_v42 : Ref sig .tc := ⟨.hbm, 84, rfl⟩
abbrev main_call0_call0_c_10 : Ref sig .tc := ⟨.hbm, 85, rfl⟩
abbrev main_call0_call0_v43 : Ref sig .tc := ⟨.hbm, 86, rfl⟩
abbrev main_call0_call0_v44 : Ref sig .tc := ⟨.hbm, 87, rfl⟩
abbrev main_call0_call0_v45 : Ref sig .tc := ⟨.hbm, 88, rfl⟩
abbrev main_call0_call0_v46 : Ref sig .tc := ⟨.hbm, 89, rfl⟩
abbrev main_call0_call0_v47 : Ref sig .tc := ⟨.hbm, 90, rfl⟩
abbrev main_call0_call0_c_11 : Ref sig .tc := ⟨.hbm, 91, rfl⟩
abbrev main_call0_call0_v48 : Ref sig .tc := ⟨.hbm, 92, rfl⟩
abbrev main_call0_call0_v49 : Ref sig .tc := ⟨.hbm, 93, rfl⟩
abbrev main_call0_call0_c_12 : Ref sig .tc := ⟨.hbm, 94, rfl⟩
abbrev main_call0_call0_v50 : Ref sig .tc := ⟨.hbm, 95, rfl⟩
abbrev main_call0_call0_v51 : Ref sig .tc := ⟨.hbm, 96, rfl⟩
abbrev main_call0_call0_v52 : Ref sig .tc := ⟨.hbm, 97, rfl⟩
abbrev main_call0_call0_v53 : Ref sig .tc := ⟨.hbm, 98, rfl⟩
abbrev main_call0_call0_v54 : Ref sig .tc := ⟨.hbm, 99, rfl⟩
abbrev main_call0_call0_c_13 : Ref sig .tc := ⟨.hbm, 100, rfl⟩
abbrev main_call0_call0_v55 : Ref sig .tc := ⟨.hbm, 101, rfl⟩
abbrev main_call0_call0_v56 : Ref sig .tc := ⟨.hbm, 102, rfl⟩
abbrev main_call0_call0_c_14 : Ref sig .tc := ⟨.hbm, 103, rfl⟩
abbrev main_call0_call0_v57 : Ref sig .tc := ⟨.hbm, 104, rfl⟩
abbrev main_call0_call0_v58 : Ref sig .tc := ⟨.hbm, 105, rfl⟩
abbrev main_call0_call0_v59 : Ref sig .tc := ⟨.hbm, 106, rfl⟩
abbrev main_call0_call0_v60 : Ref sig .tc := ⟨.hbm, 107, rfl⟩
abbrev main_call0_call0_v61 : Ref sig .tc := ⟨.hbm, 108, rfl⟩
abbrev main_call0_call0_c_15 : Ref sig .tc := ⟨.hbm, 109, rfl⟩
abbrev main_call0_call0_v62 : Ref sig .tc := ⟨.hbm, 110, rfl⟩
abbrev main_call0_call0_v63 : Ref sig .tc := ⟨.hbm, 111, rfl⟩
abbrev main_call0_call0_c_16 : Ref sig .tc := ⟨.hbm, 112, rfl⟩
abbrev main_call0_call0_v64 : Ref sig .tc := ⟨.hbm, 113, rfl⟩
abbrev main_call0_call0_v65 : Ref sig .tc := ⟨.hbm, 114, rfl⟩
abbrev main_call0_call0_v66 : Ref sig .tc := ⟨.hbm, 115, rfl⟩
abbrev main_call0_call0_v67 : Ref sig .tc := ⟨.hbm, 116, rfl⟩
abbrev main_call0_call0_v68 : Ref sig .tc := ⟨.hbm, 117, rfl⟩
abbrev main_call0_call0_v69 : Ref sig .tc := ⟨.hbm, 118, rfl⟩
abbrev main_call0_call0_v70 : Ref sig .tc := ⟨.hbm, 119, rfl⟩
abbrev main_call0_call0_v71 : Ref sig .tc := ⟨.hbm, 120, rfl⟩
abbrev main_call0_call0_c_17 : Ref sig .tc := ⟨.hbm, 121, rfl⟩
abbrev main_call0_call0_v72 : Ref sig .tc := ⟨.hbm, 122, rfl⟩
abbrev main_call0_call0_v73 : Ref sig .tc := ⟨.hbm, 123, rfl⟩
abbrev main_call0_call0_v74 : Ref sig .tc := ⟨.hbm, 124, rfl⟩
abbrev main_call0_call0_c_18 : Ref sig .tc := ⟨.hbm, 125, rfl⟩
abbrev main_call0_call0_v75 : Ref sig .tc := ⟨.hbm, 126, rfl⟩
abbrev main_call0_call0_v76 : Ref sig .tc := ⟨.hbm, 127, rfl⟩
abbrev main_call0_call0_c_19 : Ref sig .tc := ⟨.hbm, 128, rfl⟩
abbrev main_call0_call0_v77 : Ref sig .tc := ⟨.hbm, 129, rfl⟩
abbrev main_call0_call0_v78 : Ref sig .tc := ⟨.hbm, 130, rfl⟩
abbrev main_call0_call0_v79 : Ref sig .tc := ⟨.hbm, 131, rfl⟩
abbrev main_call0_call0_v80 : Ref sig .tc := ⟨.hbm, 132, rfl⟩
abbrev main_call0_call0_v81 : Ref sig .tc := ⟨.hbm, 133, rfl⟩
abbrev main_call0_call0_c_20 : Ref sig .tc := ⟨.hbm, 134, rfl⟩
abbrev main_call0_call0_v82 : Ref sig .tc := ⟨.hbm, 135, rfl⟩
abbrev main_call0_call0_v83 : Ref sig .tc := ⟨.hbm, 136, rfl⟩
abbrev main_call0_call0_c_21 : Ref sig .tc := ⟨.hbm, 137, rfl⟩
abbrev main_call0_call0_v84 : Ref sig .tc := ⟨.hbm, 138, rfl⟩
abbrev main_call0_call0_v85 : Ref sig .tc := ⟨.hbm, 139, rfl⟩
abbrev main_call0_call0_v86 : Ref sig .tc := ⟨.hbm, 140, rfl⟩
abbrev main_call0_call0_v87 : Ref sig .tc := ⟨.hbm, 141, rfl⟩
abbrev main_call0_call0_v88 : Ref sig .tc := ⟨.hbm, 142, rfl⟩
abbrev main_call0_call0_c_22 : Ref sig .tc := ⟨.hbm, 143, rfl⟩
abbrev main_call0_call0_v89 : Ref sig .tc := ⟨.hbm, 144, rfl⟩
abbrev main_call0_call0_v90 : Ref sig .tc := ⟨.hbm, 145, rfl⟩
abbrev main_call0_call0_c_23 : Ref sig .tc := ⟨.hbm, 146, rfl⟩
abbrev main_call0_call0_v91 : Ref sig .tc := ⟨.hbm, 147, rfl⟩
abbrev main_call0_call0_v92 : Ref sig .tc := ⟨.hbm, 148, rfl⟩
abbrev main_call0_call0_v93 : Ref sig .tc := ⟨.hbm, 149, rfl⟩
abbrev main_call0_call0_v94 : Ref sig .tc := ⟨.hbm, 150, rfl⟩
abbrev main_call0_call0_v95 : Ref sig .tc := ⟨.hbm, 151, rfl⟩
abbrev main_call0_call0_c_24 : Ref sig .tc := ⟨.hbm, 152, rfl⟩
abbrev main_call0_call0_v96 : Ref sig .tc := ⟨.hbm, 153, rfl⟩
abbrev main_call0_call0_v97 : Ref sig .tc := ⟨.hbm, 154, rfl⟩
abbrev main_call0_call0_c_25 : Ref sig .tc := ⟨.hbm, 155, rfl⟩
abbrev main_call0_call0_v98 : Ref sig .tc := ⟨.hbm, 156, rfl⟩
abbrev main_call0_call0_v99 : Ref sig .tc := ⟨.hbm, 157, rfl⟩
abbrev main_call0_call0_v100 : Ref sig .tc := ⟨.hbm, 158, rfl⟩
abbrev main_call0_call0_v101 : Ref sig .tc := ⟨.hbm, 159, rfl⟩
abbrev main_call0_call0_v102 : Ref sig .tc := ⟨.hbm, 160, rfl⟩
abbrev main_call0_call0_v103 : Ref sig .tc := ⟨.hbm, 161, rfl⟩
abbrev main_call0_call0_v104 : Ref sig .tc := ⟨.hbm, 162, rfl⟩
abbrev main_call0_call0_v105 : Ref sig .tc := ⟨.hbm, 163, rfl⟩
abbrev main_call0_call0_c_26 : Ref sig .tc := ⟨.hbm, 164, rfl⟩
abbrev main_call0_call0_v106 : Ref sig .tc := ⟨.hbm, 165, rfl⟩
abbrev main_call0_call0_v107 : Ref sig .tc := ⟨.hbm, 166, rfl⟩
abbrev main_call0_call0_v108 : Ref sig .tc := ⟨.hbm, 167, rfl⟩
abbrev main_call0_call0_c_27 : Ref sig .tc := ⟨.hbm, 168, rfl⟩
abbrev main_call0_call0_v109 : Ref sig .tc := ⟨.hbm, 169, rfl⟩
abbrev main_call0_call0_v110 : Ref sig .tc := ⟨.hbm, 170, rfl⟩
abbrev main_call0_call0_c_28 : Ref sig .tc := ⟨.hbm, 171, rfl⟩
abbrev main_call0_call0_v111 : Ref sig .tc := ⟨.hbm, 172, rfl⟩
abbrev main_call0_call0_v112 : Ref sig .tc := ⟨.hbm, 173, rfl⟩
abbrev main_call0_call0_v113 : Ref sig .tc := ⟨.hbm, 174, rfl⟩
abbrev main_call0_call0_v114 : Ref sig .tc := ⟨.hbm, 175, rfl⟩
abbrev main_call0_call0_v115 : Ref sig .tc := ⟨.hbm, 176, rfl⟩
abbrev main_call0_call0_c_29 : Ref sig .tc := ⟨.hbm, 177, rfl⟩
abbrev main_call0_call0_v116 : Ref sig .tc := ⟨.hbm, 178, rfl⟩
abbrev main_call0_call0_v117 : Ref sig .tc := ⟨.hbm, 179, rfl⟩
abbrev main_call0_call0_c_30 : Ref sig .tc := ⟨.hbm, 180, rfl⟩
abbrev main_call0_call0_v118 : Ref sig .tc := ⟨.hbm, 181, rfl⟩
abbrev main_call0_call0_v119 : Ref sig .tc := ⟨.hbm, 182, rfl⟩
abbrev main_call0_call0_v120 : Ref sig .tc := ⟨.hbm, 183, rfl⟩
abbrev main_call0_call0_v121 : Ref sig .tc := ⟨.hbm, 184, rfl⟩
abbrev main_call0_call0_v122 : Ref sig .tc := ⟨.hbm, 185, rfl⟩
abbrev main_call0_call0_c_31 : Ref sig .tc := ⟨.hbm, 186, rfl⟩
abbrev main_call0_call0_v123 : Ref sig .tc := ⟨.hbm, 187, rfl⟩
abbrev main_call0_call0_v124 : Ref sig .tc := ⟨.hbm, 188, rfl⟩
abbrev main_call0_call0_c_32 : Ref sig .tc := ⟨.hbm, 189, rfl⟩
abbrev main_call0_call0_v125 : Ref sig .tc := ⟨.hbm, 190, rfl⟩
abbrev main_call0_call0_v126 : Ref sig .tc := ⟨.hbm, 191, rfl⟩
abbrev main_call0_call0_v127 : Ref sig .tc := ⟨.hbm, 192, rfl⟩
abbrev main_call0_call0_v128 : Ref sig .tc := ⟨.hbm, 193, rfl⟩
abbrev main_call0_call0_v129 : Ref sig .tc := ⟨.hbm, 194, rfl⟩
abbrev main_call0_call0_c_33 : Ref sig .tc := ⟨.hbm, 195, rfl⟩
abbrev main_call0_call0_v130 : Ref sig .tc := ⟨.hbm, 196, rfl⟩
abbrev main_call0_call0_v131 : Ref sig .tc := ⟨.hbm, 197, rfl⟩
abbrev main_call0_call0_c_34 : Ref sig .tc := ⟨.hbm, 198, rfl⟩
abbrev main_call0_call0_v132 : Ref sig .tc := ⟨.hbm, 199, rfl⟩
abbrev main_call0_call0_v133 : Ref sig .tc := ⟨.hbm, 200, rfl⟩
abbrev main_call0_call0_v134 : Ref sig .tc := ⟨.hbm, 201, rfl⟩
abbrev main_call0_call0_v135 : Ref sig .tc := ⟨.hbm, 202, rfl⟩
abbrev main_call0_call0_v136 : Ref sig .tc := ⟨.hbm, 203, rfl⟩
abbrev main_call0_call0_v137 : Ref sig .tc := ⟨.hbm, 204, rfl⟩
abbrev main_call0_call0_v138 : Ref sig .tc := ⟨.hbm, 205, rfl⟩
abbrev main_call0_call0_v139 : Ref sig .tc := ⟨.hbm, 206, rfl⟩
abbrev main_call0_call0_c_35 : Ref sig .tc := ⟨.hbm, 207, rfl⟩
abbrev main_call0_call0_v140 : Ref sig .tc := ⟨.hbm, 208, rfl⟩
abbrev main_call0_call0_v141 : Ref sig .tc := ⟨.hbm, 209, rfl⟩
abbrev main_call0_call0_v142 : Ref sig .tc := ⟨.hbm, 210, rfl⟩
abbrev main_call0_call0_c_36 : Ref sig .tc := ⟨.hbm, 211, rfl⟩
abbrev main_call0_call0_v143 : Ref sig .tc := ⟨.hbm, 212, rfl⟩
abbrev main_call0_call0_v144 : Ref sig .tc := ⟨.hbm, 213, rfl⟩
abbrev main_call0_call0_c_37 : Ref sig .tc := ⟨.hbm, 214, rfl⟩
abbrev main_call0_call0_v145 : Ref sig .tc := ⟨.hbm, 215, rfl⟩
abbrev main_call0_call0_v146 : Ref sig .tc := ⟨.hbm, 216, rfl⟩
abbrev main_call0_call0_v147 : Ref sig .tc := ⟨.hbm, 217, rfl⟩
abbrev main_call0_call0_v148 : Ref sig .tc := ⟨.hbm, 218, rfl⟩
abbrev main_call0_call0_v149 : Ref sig .tc := ⟨.hbm, 219, rfl⟩
abbrev main_call0_call0_c_38 : Ref sig .tc := ⟨.hbm, 220, rfl⟩
abbrev main_call0_call0_v150 : Ref sig .tc := ⟨.hbm, 221, rfl⟩
abbrev main_call0_call0_v151 : Ref sig .tc := ⟨.hbm, 222, rfl⟩
abbrev main_call0_call0_c_39 : Ref sig .tc := ⟨.hbm, 223, rfl⟩
abbrev main_call0_call0_v152 : Ref sig .tc := ⟨.hbm, 224, rfl⟩
abbrev main_call0_call0_v153 : Ref sig .tc := ⟨.hbm, 225, rfl⟩
abbrev main_call0_call0_v154 : Ref sig .tc := ⟨.hbm, 226, rfl⟩
abbrev main_call0_call0_v155 : Ref sig .tc := ⟨.hbm, 227, rfl⟩
abbrev main_call0_call0_v156 : Ref sig .tc := ⟨.hbm, 228, rfl⟩
abbrev main_call0_call0_c_40 : Ref sig .tc := ⟨.hbm, 229, rfl⟩
abbrev main_call0_call0_v157 : Ref sig .tc := ⟨.hbm, 230, rfl⟩
abbrev main_call0_call0_v158 : Ref sig .tc := ⟨.hbm, 231, rfl⟩
abbrev main_call0_call0_c_41 : Ref sig .tc := ⟨.hbm, 232, rfl⟩
abbrev main_call0_call0_v159 : Ref sig .tc := ⟨.hbm, 233, rfl⟩
abbrev main_call0_call0_v160 : Ref sig .tc := ⟨.hbm, 234, rfl⟩
abbrev main_call0_call0_v161 : Ref sig .tc := ⟨.hbm, 235, rfl⟩
abbrev main_call0_call0_v162 : Ref sig .tc := ⟨.hbm, 236, rfl⟩
abbrev main_call0_call0_v163 : Ref sig .tc := ⟨.hbm, 237, rfl⟩
abbrev main_call0_call0_c_42 : Ref sig .tc := ⟨.hbm, 238, rfl⟩
abbrev main_call0_call0_v164 : Ref sig .tc := ⟨.hbm, 239, rfl⟩
abbrev main_call0_call0_v165 : Ref sig .tc := ⟨.hbm, 240, rfl⟩
abbrev main_call0_call0_c_43 : Ref sig .tc := ⟨.hbm, 241, rfl⟩
abbrev main_call0_call0_v166 : Ref sig .tc := ⟨.hbm, 242, rfl⟩
abbrev main_call0_call0_v167 : Ref sig .tc := ⟨.hbm, 243, rfl⟩
abbrev main_call0_call0_v168 : Ref sig .tc := ⟨.hbm, 244, rfl⟩
abbrev main_call0_call0_v169 : Ref sig .tc := ⟨.hbm, 245, rfl⟩
abbrev main_call0_call0_v170 : Ref sig .tc := ⟨.hbm, 246, rfl⟩
abbrev main_call0_v15_0 : Ref sig .tc := ⟨.hbm, 247, rfl⟩
abbrev main_call0_call0_v172 : Ref sig .tc := ⟨.hbm, 248, rfl⟩
abbrev main_call0_call0_v173 : Ref sig .tc := ⟨.hbm, 249, rfl⟩
abbrev main_call0_call0_c_44 : Ref sig .tc := ⟨.hbm, 250, rfl⟩
abbrev main_call0_call0_v174 : Ref sig .tc := ⟨.hbm, 251, rfl⟩
abbrev main_call0_v15_1 : Ref sig .tc := ⟨.hbm, 252, rfl⟩
abbrev main_call0_v16 : Ref sig .tc := ⟨.hbm, 253, rfl⟩
abbrev main_call0_c_1 : Ref sig .tc := ⟨.hbm, 254, rfl⟩
abbrev main_call0_v17 : Ref sig .tc := ⟨.hbm, 255, rfl⟩
abbrev main_call0_v18 : Ref sig .tc := ⟨.hbm, 256, rfl⟩
abbrev main_call0_c_2 : Ref sig .tc := ⟨.hbm, 257, rfl⟩
abbrev main_call0_v19 : Ref sig .tc := ⟨.hbm, 258, rfl⟩
abbrev main_call0_v20 : Ref sig .tc := ⟨.hbm, 259, rfl⟩
abbrev main_call0_v21 : Ref sig .tc := ⟨.hbm, 260, rfl⟩
abbrev main_call0_cst : Ref sig .tc := ⟨.hbm, 261, rfl⟩
abbrev main_call0_v22 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_v7 : Ref sig .tc := ⟨.hbm, 270, rfl⟩
abbrev main_v8 : Ref sig .tc := ⟨.hbm, 271, rfl⟩
abbrev main_v9 : Ref sig .tc := ⟨.hbm, 272, rfl⟩
abbrev main_v10 : Ref sig .tc := ⟨.hbm, 273, rfl⟩
abbrev main_v11 : Ref sig .tc := ⟨.hbm, 274, rfl⟩
abbrev main_v12 : Ref sig .tc := ⟨.hbm, 275, rfl⟩
abbrev main_v13 : Ref sig .tc := ⟨.hbm, 276, rfl⟩
abbrev main_v14 : Ref sig .tc := ⟨.hbm, 277, rfl⟩
abbrev main_v12_scv : Ref sig .scVector := ⟨.hbm, 275, rfl⟩
abbrev main_arg1_scv : Ref sig .scVector := ⟨.hbm, 1, rfl⟩
abbrev main_v11_scv : Ref sig .scVector := ⟨.hbm, 274, rfl⟩
abbrev main_v13_scv : Ref sig .scVector := ⟨.hbm, 276, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c1280_i32 : BitVec 32 := 1280#32
  ![v3.toNat, 1280]
@[reducible] def k0_t1_loop : Scf.Loop 32 :=
  let c0_i32_14 : BitVec 32 := 0#32
  let c64_i32 : BitVec 32 := 64#32
  let v18 : BitVec 32 := Scalar.addi c0_i32_14 c64_i32
  let c1_i32 : BitVec 32 := 1#32
  ⟨c0_i32_14, v18, c1_i32⟩
def k0_off2 (k0_t1 : Fin k0_t1_loop.trips) : Fin 1 → Nat :=
  let c0_i32_14 : BitVec 32 := 0#32
  let c1_i32 : BitVec 32 := 1#32
  let arg14 : BitVec 32 := Scf.iv c0_i32_14 c1_i32 k0_t1
  let c2_i32_53 : BitVec 32 := 2#32
  let v146 : BitVec 32 := Scalar.muli arg14 c2_i32_53
  let c16_i32 : BitVec 32 := 16#32
  let v147 : BitVec 32 := Scalar.muli v146 c16_i32
  let v148 : Index := Scalar.indexCast v147
  ![v148.toNat]
def k0_off3 (k0_t1 : Fin k0_t1_loop.trips) : Fin 1 → Nat :=
  let c0_i32_14 : BitVec 32 := 0#32
  let c1_i32 : BitVec 32 := 1#32
  let arg14 : BitVec 32 := Scf.iv c0_i32_14 c1_i32 k0_t1
  let c2_i32_53 : BitVec 32 := 2#32
  let v146 : BitVec 32 := Scalar.muli arg14 c2_i32_53
  let c16_i32 : BitVec 32 := 16#32
  let v147 : BitVec 32 := Scalar.muli v146 c16_i32
  let c16_i32_54 : BitVec 32 := 16#32
  let v153 : BitVec 32 := Scalar.addi v147 c16_i32_54
  let v154 : Index := Scalar.indexCast v153
  ![v154.toNat]
def k0_mult1 (v83 : BitVec 32) : BitVec 32 :=
  let c0_i32_54 : BitVec 32 := 0#32
  let v147 : BitVec 1 := Scalar.cmpi .sgt v83 c0_i32_54
  let v148 : BitVec 32 := Scalar.extui v147
  let c0_i32_55 : BitVec 32 := 0#32
  let v149 : BitVec 1 := Scalar.cmpi .slt v83 c0_i32_55
  let v150 : BitVec 32 := Scalar.extui v149
  let v151 : BitVec 32 := Scalar.subi v148 v150
  let c128_i32_53 : BitVec 32 := 128#32
  let c0_i32_56 : BitVec 32 := 0#32
  let v152 : BitVec 1 := Scalar.cmpi .sgt c128_i32_53 c0_i32_56
  let v153 : BitVec 32 := Scalar.extui v152
  let c0_i32_57 : BitVec 32 := 0#32
  let v154 : BitVec 1 := Scalar.cmpi .slt c128_i32_53 c0_i32_57
  let v155 : BitVec 32 := Scalar.extui v154
  let v156 : BitVec 32 := Scalar.subi v153 v155
  let v157 : BitVec 1 := Scalar.cmpi .ne v151 v156
  let v158 : BitVec 32 := Scalar.remsi v83 c128_i32_53
  let c0_i32_58 : BitVec 32 := 0#32
  let v159 : BitVec 1 := Scalar.cmpi .ne v158 c0_i32_58
  let v160 : BitVec 1 := Scalar.andi v157 v159
  let v146 : BitVec 32 := Scalar.divsi v83 c128_i32_53
  let c1_i32_59 : BitVec 32 := 1#32
  let v161 : BitVec 32 := Scalar.subi v146 c1_i32_59
  let v162 : BitVec 32 := Scalar.select v160 v161 v146
  let c128_i32_60 : BitVec 32 := 128#32
  let v163 : BitVec 32 := Scalar.muli v162 c128_i32_60
  v163
def k0_cond1 (v83 : BitVec 32) : BitVec 1 :=
  let c0_i32_28 : BitVec 32 := 0#32
  let v93 : BitVec 1 := Scalar.cmpi .sgt v83 c0_i32_28
  let v94 : BitVec 32 := Scalar.extui v93
  let c0_i32_29 : BitVec 32 := 0#32
  let v95 : BitVec 1 := Scalar.cmpi .slt v83 c0_i32_29
  let v96 : BitVec 32 := Scalar.extui v95
  let v97 : BitVec 32 := Scalar.subi v94 v96
  let c128_i32 : BitVec 32 := 128#32
  let c0_i32_30 : BitVec 32 := 0#32
  let v98 : BitVec 1 := Scalar.cmpi .sgt c128_i32 c0_i32_30
  let v99 : BitVec 32 := Scalar.extui v98
  let c0_i32_31 : BitVec 32 := 0#32
  let v100 : BitVec 1 := Scalar.cmpi .slt c128_i32 c0_i32_31
  let v101 : BitVec 32 := Scalar.extui v100
  let v102 : BitVec 32 := Scalar.subi v99 v101
  let v103 : BitVec 1 := Scalar.cmpi .ne v97 v102
  let v104 : BitVec 32 := Scalar.remsi v83 c128_i32
  let c0_i32_32 : BitVec 32 := 0#32
  let v105 : BitVec 1 := Scalar.cmpi .ne v104 c0_i32_32
  let v106 : BitVec 1 := Scalar.andi v103 v105
  let v92 : BitVec 32 := Scalar.divsi v83 c128_i32
  let c1_i32_33 : BitVec 32 := 1#32
  let v107 : BitVec 32 := Scalar.subi v92 c1_i32_33
  let v108 : BitVec 32 := Scalar.select v106 v107 v92
  let c10_i32 : BitVec 32 := 10#32
  let v109 : BitVec 1 := Scalar.cmpi .ne v108 c10_i32
  let v110 : BitVec 32 := Scalar.extui v109
  let c0_i32_34 : BitVec 32 := 0#32
  let v111 : BitVec 1 := Scalar.cmpi .ne v110 c0_i32_34
  v111

def k0_off4 (i : grid0.Coords) (v83 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_54 : BitVec 32 := 0#32
  let v147 : BitVec 1 := Scalar.cmpi .sgt v83 c0_i32_54
  let v148 : BitVec 32 := Scalar.extui v147
  let c0_i32_55 : BitVec 32 := 0#32
  let v149 : BitVec 1 := Scalar.cmpi .slt v83 c0_i32_55
  let v150 : BitVec 32 := Scalar.extui v149
  let v151 : BitVec 32 := Scalar.subi v148 v150
  let c128_i32_53 : BitVec 32 := 128#32
  let c0_i32_56 : BitVec 32 := 0#32
  let v152 : BitVec 1 := Scalar.cmpi .sgt c128_i32_53 c0_i32_56
  let v153 : BitVec 32 := Scalar.extui v152
  let c0_i32_57 : BitVec 32 := 0#32
  let v154 : BitVec 1 := Scalar.cmpi .slt c128_i32_53 c0_i32_57
  let v155 : BitVec 32 := Scalar.extui v154
  let v156 : BitVec 32 := Scalar.subi v153 v155
  let v157 : BitVec 1 := Scalar.cmpi .ne v151 v156
  let v158 : BitVec 32 := Scalar.remsi v83 c128_i32_53
  let c0_i32_58 : BitVec 32 := 0#32
  let v159 : BitVec 1 := Scalar.cmpi .ne v158 c0_i32_58
  let v160 : BitVec 1 := Scalar.andi v157 v159
  let v146 : BitVec 32 := Scalar.divsi v83 c128_i32_53
  let c1_i32_59 : BitVec 32 := 1#32
  let v161 : BitVec 32 := Scalar.subi v146 c1_i32_59
  let v162 : BitVec 32 := Scalar.select v160 v161 v146
  let c128_i32_60 : BitVec 32 := 128#32
  let v163 : BitVec 32 := Scalar.muli v162 c128_i32_60
  let v164 : BitVec 32 := v163
  ![v2.toNat, v164.toNat]

def k0_chk1 (i : grid0.Coords) (v83 : BitVec 32) : Prop :=
  (∀ (k0_h1 : k0_cond1 v83 = 1#1), 128 ∣ (k0_mult1 v83).toNat) ∧
  (∀ (k0_h1 : k0_cond1 v83 = 1#1), ∀ a, (k0_off4 i v83) a + S512x128.size a ≤ S16384x2048.size a)
theorem k0_mult1_dvd : ∀ (i : grid0.Coords) (v83 : BitVec 32) (k0_hw1 : k0_chk1 i v83), ∀ (k0_h1 : k0_cond1 v83 = 1#1), 128 ∣ (k0_mult1 v83).toNat := fun i v83 k0_hw1 k0_h1 => k0_hw1.1 k0_h1
theorem k0_off4_inb : ∀ (i : grid0.Coords) (v83 : BitVec 32) (k0_hw1 : k0_chk1 i v83), ∀ (k0_h1 : k0_cond1 v83 = 1#1), ∀ a, (k0_off4 i v83) a + S512x128.size a ≤ S16384x2048.size a := fun i v83 k0_hw1 k0_h1 => k0_hw1.2 k0_h1

@[reducible] def k0_t2_loop : Scf.Loop 32 :=
  let c0_i32_37 : BitVec 32 := 0#32
  let c32_i32 : BitVec 32 := 32#32
  let v116 : BitVec 32 := Scalar.addi c0_i32_37 c32_i32
  let c1_i32_38 : BitVec 32 := 1#32
  ⟨c0_i32_37, v116, c1_i32_38⟩

def k0_chk2 (v115 : IVec S16 32) (v148 : IVec S16 32) : Prop :=
  (∀ a x, ((![v148, v115] : Fin 2 → IVec S16 32) a x).toNat < S512x128.size a)
theorem k0_idx1_inb : ∀ (v115 : IVec S16 32) (v148 : IVec S16 32) (k0_hw2 : k0_chk2 v115 v148), ∀ a x, ((![v148, v115] : Fin 2 → IVec S16 32) a x).toNat < S512x128.size a := fun v115 v148 k0_hw2 => k0_hw2
def k0_off5 (k0_t2 : Fin k0_t2_loop.trips) : Fin 1 → Nat :=
  let c0_i32_37 : BitVec 32 := 0#32
  let c1_i32_38 : BitVec 32 := 1#32
  let arg14 : BitVec 32 := Scf.iv c0_i32_37 c1_i32_38 k0_t2
  let c16_i32_53 : BitVec 32 := 16#32
  let v150 : BitVec 32 := Scalar.muli arg14 c16_i32_53
  let v151 : Index := Scalar.indexCast v150
  ![v151.toNat]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40 : BitVec 32 := 0#32
  let v119 : BitVec 1 := Scalar.cmpi .sgt v1 c0_i32_40
  let v120 : BitVec 32 := Scalar.extui v119
  let c0_i32_41 : BitVec 32 := 0#32
  let v121 : BitVec 1 := Scalar.cmpi .slt v1 c0_i32_41
  let v122 : BitVec 32 := Scalar.extui v121
  let v123 : BitVec 32 := Scalar.subi v120 v122
  let c8_i32 : BitVec 32 := 8#32
  let c0_i32_42 : BitVec 32 := 0#32
  let v124 : BitVec 1 := Scalar.cmpi .sgt c8_i32 c0_i32_42
  let v125 : BitVec 32 := Scalar.extui v124
  let c0_i32_43 : BitVec 32 := 0#32
  let v126 : BitVec 1 := Scalar.cmpi .slt c8_i32 c0_i32_43
  let v127 : BitVec 32 := Scalar.extui v126
  let v128 : BitVec 32 := Scalar.subi v125 v127
  let v129 : BitVec 1 := Scalar.cmpi .ne v123 v128
  let v130 : BitVec 32 := Scalar.remsi v1 c8_i32
  let c0_i32_44 : BitVec 32 := 0#32
  let v131 : BitVec 1 := Scalar.cmpi .ne v130 c0_i32_44
  let v132 : BitVec 1 := Scalar.andi v129 v131
  let v118 : BitVec 32 := Scalar.divsi v1 c8_i32
  let c1_i32_45 : BitVec 32 := 1#32
  let v133 : BitVec 32 := Scalar.subi v118 c1_i32_45
  let v134 : BitVec 32 := Scalar.select v132 v133 v118
  let c8_i32_46 : BitVec 32 := 8#32
  let c0_i32_47 : BitVec 32 := 0#32
  let v135 : BitVec 1 := Scalar.cmpi .eq c8_i32_46 c0_i32_47
  let c1_i32_48 : BitVec 32 := 1#32
  let v136 : BitVec 32 := Scalar.select v135 c1_i32_48 c8_i32_46
  let v137 : BitVec 32 := Scalar.remsi v1 v136
  let c0_i32_50 : BitVec 32 := 0#32
  let v139 : BitVec 1 := Scalar.cmpi .slt v137 c0_i32_50
  let c0_i32_51 : BitVec 32 := 0#32
  let v140 : BitVec 1 := Scalar.cmpi .slt v136 c0_i32_51
  let v141 : BitVec 1 := Scalar.xori v139 v140
  let c0_i32_49 : BitVec 32 := 0#32
  let v138 : BitVec 1 := Scalar.cmpi .ne v137 c0_i32_49
  let v142 : BitVec 1 := Scalar.andi v141 v138
  let v143 : BitVec 32 := Scalar.addi v137 v136
  let v144 : BitVec 32 := Scalar.select v142 v143 v137
  let c512_i32_52 : BitVec 32 := 512#32
  let v145 : BitVec 32 := Scalar.muli v144 c512_i32_52
  ![v134.toNat, v145.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "lowest" => some ⊥
  | _ => none
-- ==== ReferenceIdeal.lean ====
abbrev S4x4096x2048 : Shape := ⟨3, ![4, 4096, 2048]⟩
abbrev S2048 : Shape := ⟨1, ![2048]⟩
abbrev S_ : Shape := ⟨0, ![]⟩
abbrev S1 : Shape := ⟨1, ![1]⟩
abbrev S2 : Shape := ⟨1, ![2]⟩
abbrev S1x1 : Shape := ⟨2, ![1, 1]⟩
abbrev S1x2048 : Shape := ⟨2, ![1, 2048]⟩
abbrev S4x4096x1 : Shape := ⟨3, ![4, 4096, 1]⟩

abbrev nBuf : Space → Nat
  | .hbm => 614
  | .vmem => 0
  | .smem => 0
  | _ => 0

abbrev hbmTy0_0 (i : Nat) : BufTy := match i % 128 with
  | 0 => ⟨S4x4096x2048, .f32⟩
  | 1 => ⟨S2048, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .i32⟩
  | 19 => ⟨S_, .i32⟩
  | 20 => ⟨S1, .i32⟩
  | 21 => ⟨S_, .i32⟩
  | 22 => ⟨S2048, .i64⟩
  | 23 => ⟨S_, .i64⟩
  | 24 => ⟨S2048, .i64⟩
  | 25 => ⟨S2048, .i64⟩
  | 26 => ⟨S_, .i64⟩
  | 27 => ⟨S2048, .i64⟩
  | 28 => ⟨S2048, .i64⟩
  | 29 => ⟨S2048, .i32⟩
  | 30 => ⟨S2048, .i32⟩
  | 31 => ⟨S_, .i32⟩
  | 32 => ⟨S_, .i32⟩
  | 33 => ⟨S_, .i32⟩
  | 34 => ⟨S2048, .i32⟩
  | 35 => ⟨S2048, .i32⟩
  | 36 => ⟨S2048, .i32⟩
  | 37 => ⟨S2048, .i32⟩
  | 38 => ⟨S2048, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i32⟩
  | 45 => ⟨S2048, .i32⟩
  | 46 => ⟨S2048, .i32⟩
  | 47 => ⟨S2048, .i32⟩
  | 48 => ⟨S_, .i32⟩
  | 49 => ⟨S2048, .i32⟩
  | 50 => ⟨S2048, .i32⟩
  | 51 => ⟨S_, .i32⟩
  | 52 => ⟨S2048, .i32⟩
  | 53 => ⟨S2048, .i32⟩
  | 54 => ⟨S2048, .i32⟩
  | 55 => ⟨S2048, .i32⟩
  | 56 => ⟨S2048, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i32⟩
  | 63 => ⟨S2048, .i32⟩
  | 64 => ⟨S2048, .i32⟩
  | 65 => ⟨S2048, .i32⟩
  | 66 => ⟨S_, .i32⟩
  | 67 => ⟨S2048, .i32⟩
  | 68 => ⟨S2048, .i32⟩
  | 69 => ⟨S_, .i32⟩
  | 70 => ⟨S2048, .i32⟩
  | 71 => ⟨S2048, .i32⟩
  | 72 => ⟨S2048, .i32⟩
  | 73 => ⟨S2048, .i32⟩
  | 74 => ⟨S2048, .i32⟩
  | 75 => ⟨S2048, .i32⟩
  | 76 => ⟨S2048, .i32⟩
  | 77 => ⟨S2048, .i32⟩
  | 78 => ⟨S_, .i32⟩
  | 79 => ⟨S2048, .i32⟩
  | 80 => ⟨S2048, .i32⟩
  | 81 => ⟨S2048, .i32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S2048, .i32⟩
  | 89 => ⟨S2048, .i32⟩
  | 90 => ⟨S2048, .i32⟩
  | 91 => ⟨S_, .i32⟩
  | 92 => ⟨S2048, .i32⟩
  | 93 => ⟨S2048, .i32⟩
  | 94 => ⟨S_, .i32⟩
  | 95 => ⟨S2048, .i32⟩
  | 96 => ⟨S2048, .i32⟩
  | 97 => ⟨S2048, .i32⟩
  | 98 => ⟨S2048, .i32⟩
  | 99 => ⟨S2048, .i32⟩
  | 100 => ⟨S_, .i32⟩
  | 101 => ⟨S2048, .i32⟩
  | 102 => ⟨S2048, .i32⟩
  | 103 => ⟨S_, .i32⟩
  | 104 => ⟨S2048, .i32⟩
  | 105 => ⟨S2048, .i32⟩
  | 106 => ⟨S2048, .i32⟩
  | 107 => ⟨S2048, .i32⟩
  | 108 => ⟨S2048, .i32⟩
  | 109 => ⟨S_, .i32⟩
  | 110 => ⟨S2048, .i32⟩
  | 111 => ⟨S2048, .i32⟩
  | 112 => ⟨S_, .i32⟩
  | 113 => ⟨S2048, .i32⟩
  | 114 => ⟨S2048, .i32⟩
  | 115 => ⟨S2048, .i32⟩
  | 116 => ⟨S2048, .i32⟩
  | 117 => ⟨S2048, .i32⟩
  | 118 => ⟨S2048, .i32⟩
  | 119 => ⟨S2048, .i32⟩
  | 120 => ⟨S2048, .i32⟩
  | 121 => ⟨S_, .i32⟩
  | 122 => ⟨S2048, .i32⟩
  | 123 => ⟨S2048, .i32⟩
  | 124 => ⟨S2048, .i32⟩
  | 125 => ⟨S_, .i32⟩
  | 126 => ⟨S2048, .i32⟩
  | 127 => ⟨S2048, .i32⟩
  | _ => ⟨S4x4096x2048, .f32⟩

abbrev hbmTy0_1 (i : Nat) : BufTy := match i % 128 with
  | 0 => ⟨S_, .i32⟩
  | 1 => ⟨S2048, .i32⟩
  | 2 => ⟨S2048, .i32⟩
  | 3 => ⟨S2048, .i32⟩
  | 4 => ⟨S2048, .i32⟩
  | 5 => ⟨S2048, .i32⟩
  | 6 => ⟨S_, .i32⟩
  | 7 => ⟨S2048, .i32⟩
  | 8 => ⟨S2048, .i32⟩
  | 9 => ⟨S_, .i32⟩
  | 10 => ⟨S2048, .i32⟩
  | 11 => ⟨S2048, .i32⟩
  | 12 => ⟨S2048, .i32⟩
  | 13 => ⟨S2048, .i32⟩
  | 14 => ⟨S2048, .i32⟩
  | 15 => ⟨S_, .i32⟩
  | 16 => ⟨S2048, .i32⟩
  | 17 => ⟨S2048, .i32⟩
  | 18 => ⟨S_, .i32⟩
  | 19 => ⟨S2048, .i32⟩
  | 20 => ⟨S2048, .i32⟩
  | 21 => ⟨S2048, .i32⟩
  | 22 => ⟨S2048, .i32⟩
  | 23 => ⟨S2048, .i32⟩
  | 24 => ⟨S_, .i32⟩
  | 25 => ⟨S2048, .i32⟩
  | 26 => ⟨S2048, .i32⟩
  | 27 => ⟨S_, .i32⟩
  | 28 => ⟨S2048, .i32⟩
  | 29 => ⟨S2048, .i32⟩
  | 30 => ⟨S2048, .i32⟩
  | 31 => ⟨S2048, .i32⟩
  | 32 => ⟨S2048, .i32⟩
  | 33 => ⟨S2048, .i32⟩
  | 34 => ⟨S2048, .i32⟩
  | 35 => ⟨S2048, .i32⟩
  | 36 => ⟨S_, .i32⟩
  | 37 => ⟨S2048, .i32⟩
  | 38 => ⟨S2048, .i32⟩
  | 39 => ⟨S2048, .i32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S2048, .i32⟩
  | 47 => ⟨S2048, .i32⟩
  | 48 => ⟨S2048, .i32⟩
  | 49 => ⟨S_, .i32⟩
  | 50 => ⟨S2048, .i32⟩
  | 51 => ⟨S2048, .i32⟩
  | 52 => ⟨S_, .i32⟩
  | 53 => ⟨S2048, .i32⟩
  | 54 => ⟨S2048, .i32⟩
  | 55 => ⟨S2048, .i32⟩
  | 56 => ⟨S2048, .i32⟩
  | 57 => ⟨S2048, .i32⟩
  | 58 => ⟨S_, .i32⟩
  | 59 => ⟨S2048, .i32⟩
  | 60 => ⟨S2048, .i32⟩
  | 61 => ⟨S_, .i32⟩
  | 62 => ⟨S2048, .i32⟩
  | 63 => ⟨S2048, .i32⟩
  | 64 => ⟨S2048, .i32⟩
  | 65 => ⟨S2048, .i32⟩
  | 66 => ⟨S2048, .i32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S2048, .i32⟩
  | 74 => ⟨S2048, .i32⟩
  | 75 => ⟨S2048, .i32⟩
  | 76 => ⟨S2048, .i32⟩
  | 77 => ⟨S2048, .i32⟩
  | 78 => ⟨S2048, .i32⟩
  | 79 => ⟨S_, .i32⟩
  | 80 => ⟨S2048, .i32⟩
  | 81 => ⟨S2048, .i32⟩
  | 82 => ⟨S2048, .i32⟩
  | 83 => ⟨S_, .i32⟩
  | 84 => ⟨S2048, .i32⟩
  | 85 => ⟨S2048, .i32⟩
  | 86 => ⟨S_, .i32⟩
  | 87 => ⟨S2048, .i32⟩
  | 88 => ⟨S2048, .i32⟩
  | 89 => ⟨S2048, .i32⟩
  | 90 => ⟨S2048, .i32⟩
  | 91 => ⟨S2048, .i32⟩
  | 92 => ⟨S_, .i32⟩
  | 93 => ⟨S2048, .i32⟩
  | 94 => ⟨S2048, .i32⟩
  | 95 => ⟨S_, .i32⟩
  | 96 => ⟨S2048, .i32⟩
  | 97 => ⟨S2048, .i32⟩
  | 98 => ⟨S2048, .i32⟩
  | 99 => ⟨S2048, .i32⟩
  | 100 => ⟨S2048, .i32⟩
  | 101 => ⟨S_, .i32⟩
  | 102 => ⟨S2048, .i32⟩
  | 103 => ⟨S2048, .i32⟩
  | 104 => ⟨S_, .i32⟩
  | 105 => ⟨S2048, .i32⟩
  | 106 => ⟨S2048, .i32⟩
  | 107 => ⟨S2048, .i32⟩
  | 108 => ⟨S2048, .i32⟩
  | 109 => ⟨S2048, .i32⟩
  | 110 => ⟨S_, .i32⟩
  | 111 => ⟨S2048, .i32⟩
  | 112 => ⟨S2048, .i32⟩
  | 113 => ⟨S_, .i32⟩
  | 114 => ⟨S2048, .i32⟩
  | 115 => ⟨S2048, .i32⟩
  | 116 => ⟨S2048, .i32⟩
  | 117 => ⟨S2048, .i32⟩
  | 118 => ⟨S2048, .i32⟩
  | 119 => ⟨S2048, .i32⟩
  | 120 => ⟨S2048, .i32⟩
  | 121 => ⟨S2048, .i32⟩
  | 122 => ⟨S_, .i32⟩
  | 123 => ⟨S2048, .i32⟩
  | 124 => ⟨S2048, .i32⟩
  | 125 => ⟨S2048, .i32⟩
  | 126 => ⟨S_, .i32⟩
  | 127 => ⟨S2048, .i32⟩
  | _ => ⟨S4x4096x2048, .f32⟩

abbrev hbmTy0_2 (i : Nat) : BufTy := match i % 128 with
  | 0 => ⟨S2048, .i32⟩
  | 1 => ⟨S_, .i32⟩
  | 2 => ⟨S2048, .i32⟩
  | 3 => ⟨S2048, .i32⟩
  | 4 => ⟨S2048, .f32⟩
  | 5 => ⟨S_, .f32⟩
  | 6 => ⟨S2048, .f32⟩
  | 7 => ⟨S2048, .f32⟩
  | 8 => ⟨S1, .f32⟩
  | 9 => ⟨S2048, .f32⟩
  | 10 => ⟨S2048, .f32⟩
  | 11 => ⟨S2048, .f32⟩
  | 12 => ⟨S2048, .f32⟩
  | 13 => ⟨S2048, .f32⟩
  | 14 => ⟨S2048, .f32⟩
  | 15 => ⟨S2048, .f32⟩
  | 16 => ⟨S2048, .f32⟩
  | 17 => ⟨S2048, .f32⟩
  | 18 => ⟨S2048, .f32⟩
  | 19 => ⟨S2048, .f32⟩
  | 20 => ⟨S_, .f32⟩
  | 21 => ⟨S2048, .f32⟩
  | 22 => ⟨S2048, .f32⟩
  | 23 => ⟨S_, .f32⟩
  | 24 => ⟨S_, .f32⟩
  | 25 => ⟨S_, .f32⟩
  | 26 => ⟨S_, .f32⟩
  | 27 => ⟨S1, .f32⟩
  | 28 => ⟨S2048, .f32⟩
  | 29 => ⟨S2048, .f32⟩
  | 30 => ⟨S2048, .f32⟩
  | 31 => ⟨S_, .f32⟩
  | 32 => ⟨S_, .f32⟩
  | 33 => ⟨S1, .f32⟩
  | 34 => ⟨S2048, .f32⟩
  | 35 => ⟨S2048, .f32⟩
  | 36 => ⟨S2048, .i32⟩
  | 37 => ⟨S_, .f32⟩
  | 38 => ⟨S_, .i32⟩
  | 39 => ⟨S_, .f32⟩
  | 40 => ⟨S_, .i32⟩
  | 41 => ⟨S1, .i32⟩
  | 42 => ⟨S2048, .i32⟩
  | 43 => ⟨S2048, .i32⟩
  | 44 => ⟨S2048, .i1⟩
  | 45 => ⟨S2048, .f32⟩
  | 46 => ⟨S2048, .f32⟩
  | 47 => ⟨S2048, .f32⟩
  | 48 => ⟨S_, .f32⟩
  | 49 => ⟨S2048, .f32⟩
  | 50 => ⟨S2048, .f32⟩
  | 51 => ⟨S2048, .f32⟩
  | 52 => ⟨S_, .i32⟩
  | 53 => ⟨S_, .i32⟩
  | 54 => ⟨S_, .i32⟩
  | 55 => ⟨S_, .i32⟩
  | 56 => ⟨S1, .i32⟩
  | 57 => ⟨S_, .i32⟩
  | 58 => ⟨S_, .i32⟩
  | 59 => ⟨S_, .i32⟩
  | 60 => ⟨S1, .i32⟩
  | 61 => ⟨S2, .i32⟩
  | 62 => ⟨S_, .f32⟩
  | 63 => ⟨S_, .f32⟩
  | 64 => ⟨S_, .f32⟩
  | 65 => ⟨S1x1, .f32⟩
  | 66 => ⟨S1x1, .f32⟩
  | 67 => ⟨S1, .i32⟩
  | 68 => ⟨S_, .i32⟩
  | 69 => ⟨S1, .i32⟩
  | 70 => ⟨S_, .i32⟩
  | 71 => ⟨S1x2048, .i64⟩
  | 72 => ⟨S1x2048, .i64⟩
  | 73 => ⟨S_, .i64⟩
  | 74 => ⟨S1x2048, .i64⟩
  | 75 => ⟨S1x2048, .i64⟩
  | 76 => ⟨S_, .i64⟩
  | 77 => ⟨S1x2048, .i64⟩
  | 78 => ⟨S1x2048, .i64⟩
  | 79 => ⟨S1x2048, .i64⟩
  | 80 => ⟨S_, .i64⟩
  | 81 => ⟨S1x2048, .i64⟩
  | 82 => ⟨S1x2048, .i64⟩
  | 83 => ⟨S1x2048, .i32⟩
  | 84 => ⟨S1x2048, .i32⟩
  | 85 => ⟨S_, .i32⟩
  | 86 => ⟨S_, .i32⟩
  | 87 => ⟨S_, .i32⟩
  | 88 => ⟨S1x2048, .i32⟩
  | 89 => ⟨S1x2048, .i32⟩
  | 90 => ⟨S1x2048, .i32⟩
  | 91 => ⟨S1x2048, .i32⟩
  | 92 => ⟨S1x2048, .i32⟩
  | 93 => ⟨S_, .i32⟩
  | 94 => ⟨S1x2048, .i32⟩
  | 95 => ⟨S1x2048, .i32⟩
  | 96 => ⟨S_, .i32⟩
  | 97 => ⟨S1x2048, .i32⟩
  | 98 => ⟨S1x2048, .i32⟩
  | 99 => ⟨S1x2048, .i32⟩
  | 100 => ⟨S1x2048, .i32⟩
  | 101 => ⟨S1x2048, .i32⟩
  | 102 => ⟨S_, .i32⟩
  | 103 => ⟨S1x2048, .i32⟩
  | 104 => ⟨S1x2048, .i32⟩
  | 105 => ⟨S_, .i32⟩
  | 106 => ⟨S1x2048, .i32⟩
  | 107 => ⟨S1x2048, .i32⟩
  | 108 => ⟨S1x2048, .i32⟩
  | 109 => ⟨S1x2048, .i32⟩
  | 110 => ⟨S1x2048, .i32⟩
  | 111 => ⟨S_, .i32⟩
  | 112 => ⟨S1x2048, .i32⟩
  | 113 => ⟨S1x2048, .i32⟩
  | 114 => ⟨S_, .i32⟩
  | 115 => ⟨S1x2048, .i32⟩
  | 116 => ⟨S1x2048, .i32⟩
  | 117 => ⟨S1x2048, .i32⟩
  | 118 => ⟨S1x2048, .i32⟩
  | 119 => ⟨S1x2048, .i32⟩
  | 120 => ⟨S_, .i32⟩
  | 121 => ⟨S1x2048, .i32⟩
  | 122 => ⟨S1x2048, .i32⟩
  | 123 => ⟨S_, .i32⟩
  | 124 => ⟨S1x2048, .i32⟩
  | 125 => ⟨S1x2048, .i32⟩
  | 126 => ⟨S1x2048, .i32⟩
  | 127 => ⟨S1x2048, .i32⟩
  | _ => ⟨S4x4096x2048, .f32⟩

abbrev hbmTy0_3 (i : Nat) : BufTy := match i % 128 with
  | 0 => ⟨S1x2048, .i32⟩
  | 1 => ⟨S1x2048, .i32⟩
  | 2 => ⟨S1x2048, .i32⟩
  | 3 => ⟨S1x2048, .i32⟩
  | 4 => ⟨S_, .i32⟩
  | 5 => ⟨S1x2048, .i32⟩
  | 6 => ⟨S1x2048, .i32⟩
  | 7 => ⟨S1x2048, .i32⟩
  | 8 => ⟨S_, .i32⟩
  | 9 => ⟨S1x2048, .i32⟩
  | 10 => ⟨S1x2048, .i32⟩
  | 11 => ⟨S_, .i32⟩
  | 12 => ⟨S1x2048, .i32⟩
  | 13 => ⟨S1x2048, .i32⟩
  | 14 => ⟨S1x2048, .i32⟩
  | 15 => ⟨S1x2048, .i32⟩
  | 16 => ⟨S1x2048, .i32⟩
  | 17 => ⟨S_, .i32⟩
  | 18 => ⟨S1x2048, .i32⟩
  | 19 => ⟨S1x2048, .i32⟩
  | 20 => ⟨S_, .i32⟩
  | 21 => ⟨S1x2048, .i32⟩
  | 22 => ⟨S1x2048, .i32⟩
  | 23 => ⟨S1x2048, .i32⟩
  | 24 => ⟨S1x2048, .i32⟩
  | 25 => ⟨S1x2048, .i32⟩
  | 26 => ⟨S_, .i32⟩
  | 27 => ⟨S1x2048, .i32⟩
  | 28 => ⟨S1x2048, .i32⟩
  | 29 => ⟨S_, .i32⟩
  | 30 => ⟨S1x2048, .i32⟩
  | 31 => ⟨S1x2048, .i32⟩
  | 32 => ⟨S1x2048, .i32⟩
  | 33 => ⟨S1x2048, .i32⟩
  | 34 => ⟨S1x2048, .i32⟩
  | 35 => ⟨S_, .i32⟩
  | 36 => ⟨S1x2048, .i32⟩
  | 37 => ⟨S1x2048, .i32⟩
  | 38 => ⟨S_, .i32⟩
  | 39 => ⟨S1x2048, .i32⟩
  | 40 => ⟨S1x2048, .i32⟩
  | 41 => ⟨S1x2048, .i32⟩
  | 42 => ⟨S1x2048, .i32⟩
  | 43 => ⟨S1x2048, .i32⟩
  | 44 => ⟨S1x2048, .i32⟩
  | 45 => ⟨S1x2048, .i32⟩
  | 46 => ⟨S1x2048, .i32⟩
  | 47 => ⟨S_, .i32⟩
  | 48 => ⟨S1x2048, .i32⟩
  | 49 => ⟨S1x2048, .i32⟩
  | 50 => ⟨S1x2048, .i32⟩
  | 51 => ⟨S_, .i32⟩
  | 52 => ⟨S1x2048, .i32⟩
  | 53 => ⟨S1x2048, .i32⟩
  | 54 => ⟨S_, .i32⟩
  | 55 => ⟨S1x2048, .i32⟩
  | 56 => ⟨S1x2048, .i32⟩
  | 57 => ⟨S1x2048, .i32⟩
  | 58 => ⟨S1x2048, .i32⟩
  | 59 => ⟨S1x2048, .i32⟩
  | 60 => ⟨S_, .i32⟩
  | 61 => ⟨S1x2048, .i32⟩
  | 62 => ⟨S1x2048, .i32⟩
  | 63 => ⟨S_, .i32⟩
  | 64 => ⟨S1x2048, .i32⟩
  | 65 => ⟨S1x2048, .i32⟩
  | 66 => ⟨S1x2048, .i32⟩
  | 67 => ⟨S1x2048, .i32⟩
  | 68 => ⟨S1x2048, .i32⟩
  | 69 => ⟨S_, .i32⟩
  | 70 => ⟨S1x2048, .i32⟩
  | 71 => ⟨S1x2048, .i32⟩
  | 72 => ⟨S_, .i32⟩
  | 73 => ⟨S1x2048, .i32⟩
  | 74 => ⟨S1x2048, .i32⟩
  | 75 => ⟨S1x2048, .i32⟩
  | 76 => ⟨S1x2048, .i32⟩
  | 77 => ⟨S1x2048, .i32⟩
  | 78 => ⟨S_, .i32⟩
  | 79 => ⟨S1x2048, .i32⟩
  | 80 => ⟨S1x2048, .i32⟩
  | 81 => ⟨S_, .i32⟩
  | 82 => ⟨S1x2048, .i32⟩
  | 83 => ⟨S1x2048, .i32⟩
  | 84 => ⟨S1x2048, .i32⟩
  | 85 => ⟨S1x2048, .i32⟩
  | 86 => ⟨S1x2048, .i32⟩
  | 87 => ⟨S1x2048, .i32⟩
  | 88 => ⟨S1x2048, .i32⟩
  | 89 => ⟨S1x2048, .i32⟩
  | 90 => ⟨S_, .i32⟩
  | 91 => ⟨S1x2048, .i32⟩
  | 92 => ⟨S1x2048, .i32⟩
  | 93 => ⟨S1x2048, .i32⟩
  | 94 => ⟨S_, .i32⟩
  | 95 => ⟨S1x2048, .i32⟩
  | 96 => ⟨S1x2048, .i32⟩
  | 97 => ⟨S_, .i32⟩
  | 98 => ⟨S1x2048, .i32⟩
  | 99 => ⟨S1x2048, .i32⟩
  | 100 => ⟨S1x2048, .i32⟩
  | 101 => ⟨S1x2048, .i32⟩
  | 102 => ⟨S1x2048, .i32⟩
  | 103 => ⟨S_, .i32⟩
  | 104 => ⟨S1x2048, .i32⟩
  | 105 => ⟨S1x2048, .i32⟩
  | 106 => ⟨S_, .i32⟩
  | 107 => ⟨S1x2048, .i32⟩
  | 108 => ⟨S1x2048, .i32⟩
  | 109 => ⟨S1x2048, .i32⟩
  | 110 => ⟨S1x2048, .i32⟩
  | 111 => ⟨S1x2048, .i32⟩
  | 112 => ⟨S_, .i32⟩
  | 113 => ⟨S1x2048, .i32⟩
  | 114 => ⟨S1x2048, .i32⟩
  | 115 => ⟨S_, .i32⟩
  | 116 => ⟨S1x2048, .i32⟩
  | 117 => ⟨S1x2048, .i32⟩
  | 118 => ⟨S1x2048, .i32⟩
  | 119 => ⟨S1x2048, .i32⟩
  | 120 => ⟨S1x2048, .i32⟩
  | 121 => ⟨S_, .i32⟩
  | 122 => ⟨S1x2048, .i32⟩
  | 123 => ⟨S1x2048, .i32⟩
  | 124 => ⟨S_, .i32⟩
  | 125 => ⟨S1x2048, .i32⟩
  | 126 => ⟨S1x2048, .i32⟩
  | 127 => ⟨S1x2048, .i32⟩
  | _ => ⟨S4x4096x2048, .f32⟩

abbrev hbmTy0_4 (i : Nat) : BufTy := match i % 128 with
  | 0 => ⟨S1x2048, .i32⟩
  | 1 => ⟨S1x2048, .i32⟩
  | 2 => ⟨S1x2048, .i32⟩
  | 3 => ⟨S1x2048, .i32⟩
  | 4 => ⟨S1x2048, .i32⟩
  | 5 => ⟨S_, .i32⟩
  | 6 => ⟨S1x2048, .i32⟩
  | 7 => ⟨S1x2048, .i32⟩
  | 8 => ⟨S1x2048, .i32⟩
  | 9 => ⟨S_, .i32⟩
  | 10 => ⟨S1x2048, .i32⟩
  | 11 => ⟨S1x2048, .i32⟩
  | 12 => ⟨S_, .i32⟩
  | 13 => ⟨S1x2048, .i32⟩
  | 14 => ⟨S1x2048, .i32⟩
  | 15 => ⟨S1x2048, .i32⟩
  | 16 => ⟨S1x2048, .i32⟩
  | 17 => ⟨S1x2048, .i32⟩
  | 18 => ⟨S_, .i32⟩
  | 19 => ⟨S1x2048, .i32⟩
  | 20 => ⟨S1x2048, .i32⟩
  | 21 => ⟨S_, .i32⟩
  | 22 => ⟨S1x2048, .i32⟩
  | 23 => ⟨S1x2048, .i32⟩
  | 24 => ⟨S1x2048, .i32⟩
  | 25 => ⟨S1x2048, .i32⟩
  | 26 => ⟨S1x2048, .i32⟩
  | 27 => ⟨S_, .i32⟩
  | 28 => ⟨S1x2048, .i32⟩
  | 29 => ⟨S1x2048, .i32⟩
  | 30 => ⟨S_, .i32⟩
  | 31 => ⟨S1x2048, .i32⟩
  | 32 => ⟨S1x2048, .i32⟩
  | 33 => ⟨S1x2048, .i32⟩
  | 34 => ⟨S1x2048, .i32⟩
  | 35 => ⟨S1x2048, .i32⟩
  | 36 => ⟨S_, .i32⟩
  | 37 => ⟨S1x2048, .i32⟩
  | 38 => ⟨S1x2048, .i32⟩
  | 39 => ⟨S_, .i32⟩
  | 40 => ⟨S1x2048, .i32⟩
  | 41 => ⟨S1x2048, .i32⟩
  | 42 => ⟨S1x2048, .i32⟩
  | 43 => ⟨S1x2048, .i32⟩
  | 44 => ⟨S1x2048, .i32⟩
  | 45 => ⟨S1x2048, .i32⟩
  | 46 => ⟨S1x2048, .i32⟩
  | 47 => ⟨S1x2048, .i32⟩
  | 48 => ⟨S_, .i32⟩
  | 49 => ⟨S1x2048, .i32⟩
  | 50 => ⟨S1x2048, .i32⟩
  | 51 => ⟨S1x2048, .i32⟩
  | 52 => ⟨S_, .i32⟩
  | 53 => ⟨S1x2048, .i32⟩
  | 54 => ⟨S1x2048, .i32⟩
  | 55 => ⟨S_, .i32⟩
  | 56 => ⟨S1x2048, .i32⟩
  | 57 => ⟨S1x2048, .i32⟩
  | 58 => ⟨S1x2048, .f32⟩
  | 59 => ⟨S_, .f32⟩
  | 60 => ⟨S1x2048, .f32⟩
  | 61 => ⟨S1x2048, .f32⟩
  | 62 => ⟨S1x1, .f32⟩
  | 63 => ⟨S1x2048, .f32⟩
  | 64 => ⟨S1x2048, .f32⟩
  | 65 => ⟨S1x2048, .f32⟩
  | 66 => ⟨S1x2048, .f32⟩
  | 67 => ⟨S1x2048, .f32⟩
  | 68 => ⟨S1x2048, .f32⟩
  | 69 => ⟨S1x2048, .f32⟩
  | 70 => ⟨S1x2048, .f32⟩
  | 71 => ⟨S1x2048, .f32⟩
  | 72 => ⟨S1x2048, .f32⟩
  | 73 => ⟨S1x2048, .f32⟩
  | 74 => ⟨S1x2048, .f32⟩
  | 75 => ⟨S1x2048, .i32⟩
  | 76 => ⟨S_, .f32⟩
  | 77 => ⟨S_, .i32⟩
  | 78 => ⟨S1, .f32⟩
  | 79 => ⟨S1, .i32⟩
  | 80 => ⟨S_, .i32⟩
  | 81 => ⟨S1, .i32⟩
  | 82 => ⟨S1, .i1⟩
  | 83 => ⟨S_, .i32⟩
  | 84 => ⟨S1, .i32⟩
  | 85 => ⟨S1, .i32⟩
  | 86 => ⟨S1, .i32⟩
  | 87 => ⟨S1x1, .i32⟩
  | 88 => ⟨S1, .i32⟩
  | 89 => ⟨S_, .i32⟩
  | 90 => ⟨S1x1, .i32⟩
  | 91 => ⟨S1x1, .i1⟩
  | 92 => ⟨S1x1, .i32⟩
  | 93 => ⟨S1x1, .i1⟩
  | 94 => ⟨S1x1, .i1⟩
  | 95 => ⟨S_, .i1⟩
  | 96 => ⟨S1, .i1⟩
  | 97 => ⟨S4x4096x1, .f32⟩
  | 98 => ⟨S4x4096x1, .i1⟩
  | 99 => ⟨S_, .f32⟩
  | 100 => ⟨S4x4096x1, .f32⟩
  | 101 => ⟨S4x4096x1, .f32⟩
  | _ => ⟨S4x4096x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_c_0 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_call0_v0 : Ref sig .tc := ⟨.hbm, 31, rfl⟩
abbrev main_call0_call0_c : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_c_0 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_c_1 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_c_2 : Ref sig .tc := ⟨.hbm, 48, rfl⟩
abbrev main_call0_call0_v14 : Ref sig .tc := ⟨.hbm, 49, rfl⟩
abbrev main_call0_call0_v15 : Ref sig .tc := ⟨.hbm, 50, rfl⟩
abbrev main_call0_call0_c_3 : Ref sig .tc := ⟨.hbm, 51, rfl⟩
abbrev main_call0_call0_v16 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_v19 : Ref sig .tc := ⟨.hbm, 55, rfl⟩
abbrev main_call0_call0_v20 : Ref sig .tc := ⟨.hbm, 56, rfl⟩
abbrev main_call0_call0_c_4 : Ref sig .tc := ⟨.hbm, 57, rfl⟩
abbrev main_call0_call0_v21 : Ref sig .tc := ⟨.hbm, 58, rfl⟩
abbrev main_call0_call0_v22 : Ref sig .tc := ⟨.hbm, 59, rfl⟩
abbrev main_call0_call0_c_5 : Ref sig .tc := ⟨.hbm, 60, rfl⟩
abbrev main_call0_call0_v23 : Ref sig .tc := ⟨.hbm, 61, rfl⟩
abbrev main_call0_call0_v24 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_v27 : Ref sig .tc := ⟨.hbm, 65, rfl⟩
abbrev main_call0_call0_c_6 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_c_7 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_v32 : Ref sig .tc := ⟨.hbm, 72, rfl⟩
abbrev main_call0_call0_v33 : Ref sig .tc := ⟨.hbm, 73, rfl⟩
abbrev main_call0_call0_v34 : Ref sig .tc := ⟨.hbm, 74, rfl⟩
abbrev main_call0_call0_v35 : Ref sig .tc := ⟨.hbm, 75, rfl⟩
abbrev main_call0_call0_v36 : Ref sig .tc := ⟨.hbm, 76, rfl⟩
abbrev main_call0_call0_v37 : Ref sig .tc := ⟨.hbm, 77, rfl⟩
abbrev main_call0_call0_c_8 : Ref sig .tc := ⟨.hbm, 78, rfl⟩
abbrev main_call0_call0_v38 : Ref sig .tc := ⟨.hbm, 79, rfl⟩
abbrev main_call0_call0_v39 : Ref sig .tc := ⟨.hbm, 80, rfl⟩
abbrev main_call0_call0_v40 : Ref sig .tc := ⟨.hbm, 81, rfl⟩
abbrev main_call0_call0_c_9 : Ref sig .tc := ⟨.hbm, 82, rfl⟩
abbrev main_call0_call0_v41 : Ref sig .tc := ⟨.hbm, 83, rfl⟩
abbrev main_call0_call0_v42 : Ref sig .tc := ⟨.hbm, 84, rfl⟩
abbrev main_call0_call0_c_10 : Ref sig .tc := ⟨.hbm, 85, rfl⟩
abbrev main_call0_call0_v43 : Ref sig .tc := ⟨.hbm, 86, rfl⟩
abbrev main_call0_call0_v44 : Ref sig .tc := ⟨.hbm, 87, rfl⟩
abbrev main_call0_call0_v45 : Ref sig .tc := ⟨.hbm, 88, rfl⟩
abbrev main_call0_call0_v46 : Ref sig .tc := ⟨.hbm, 89, rfl⟩
abbrev main_call0_call0_v47 : Ref sig .tc := ⟨.hbm, 90, rfl⟩
abbrev main_call0_call0_c_11 : Ref sig .tc := ⟨.hbm, 91, rfl⟩
abbrev main_call0_call0_v48 : Ref sig .tc := ⟨.hbm, 92, rfl⟩
abbrev main_call0_call0_v49 : Ref sig .tc := ⟨.hbm, 93, rfl⟩
abbrev main_call0_call0_c_12 : Ref sig .tc := ⟨.hbm, 94, rfl⟩
abbrev main_call0_call0_v50 : Ref sig .tc := ⟨.hbm, 95, rfl⟩
abbrev main_call0_call0_v51 : Ref sig .tc := ⟨.hbm, 96, rfl⟩
abbrev main_call0_call0_v52 : Ref sig .tc := ⟨.hbm, 97, rfl⟩
abbrev main_call0_call0_v53 : Ref sig .tc := ⟨.hbm, 98, rfl⟩
abbrev main_call0_call0_v54 : Ref sig .tc := ⟨.hbm, 99, rfl⟩
abbrev main_call0_call0_c_13 : Ref sig .tc := ⟨.hbm, 100, rfl⟩
abbrev main_call0_call0_v55 : Ref sig .tc := ⟨.hbm, 101, rfl⟩
abbrev main_call0_call0_v56 : Ref sig .tc := ⟨.hbm, 102, rfl⟩
abbrev main_call0_call0_c_14 : Ref sig .tc := ⟨.hbm, 103, rfl⟩
abbrev main_call0_call0_v57 : Ref sig .tc := ⟨.hbm, 104, rfl⟩
abbrev main_call0_call0_v58 : Ref sig .tc := ⟨.hbm, 105, rfl⟩
abbrev main_call0_call0_v59 : Ref sig .tc := ⟨.hbm, 106, rfl⟩
abbrev main_call0_call0_v60 : Ref sig .tc := ⟨.hbm, 107, rfl⟩
abbrev main_call0_call0_v61 : Ref sig .tc := ⟨.hbm, 108, rfl⟩
abbrev main_call0_call0_c_15 : Ref sig .tc := ⟨.hbm, 109, rfl⟩
abbrev main_call0_call0_v62 : Ref sig .tc := ⟨.hbm, 110, rfl⟩
abbrev main_call0_call0_v63 : Ref sig .tc := ⟨.hbm, 111, rfl⟩
abbrev main_call0_call0_c_16 : Ref sig .tc := ⟨.hbm, 112, rfl⟩
abbrev main_call0_call0_v64 : Ref sig .tc := ⟨.hbm, 113, rfl⟩
abbrev main_call0_call0_v65 : Ref sig .tc := ⟨.hbm, 114, rfl⟩
abbrev main_call0_call0_v66 : Ref sig .tc := ⟨.hbm, 115, rfl⟩
abbrev main_call0_call0_v67 : Ref sig .tc := ⟨.hbm, 116, rfl⟩
abbrev main_call0_call0_v68 : Ref sig .tc := ⟨.hbm, 117, rfl⟩
abbrev main_call0_call0_v69 : Ref sig .tc := ⟨.hbm, 118, rfl⟩
abbrev main_call0_call0_v70 : Ref sig .tc := ⟨.hbm, 119, rfl⟩
abbrev main_call0_call0_v71 : Ref sig .tc := ⟨.hbm, 120, rfl⟩
abbrev main_call0_call0_c_17 : Ref sig .tc := ⟨.hbm, 121, rfl⟩
abbrev main_call0_call0_v72 : Ref sig .tc := ⟨.hbm, 122, rfl⟩
abbrev main_call0_call0_v73 : Ref sig .tc := ⟨.hbm, 123, rfl⟩
abbrev main_call0_call0_v74 : Ref sig .tc := ⟨.hbm, 124, rfl⟩
abbrev main_call0_call0_c_18 : Ref sig .tc := ⟨.hbm, 125, rfl⟩
abbrev main_call0_call0_v75 : Ref sig .tc := ⟨.hbm, 126, rfl⟩
abbrev main_call0_call0_v76 : Ref sig .tc := ⟨.hbm, 127, rfl⟩
abbrev main_call0_call0_c_19 : Ref sig .tc := ⟨.hbm, 128, rfl⟩
abbrev main_call0_call0_v77 : Ref sig .tc := ⟨.hbm, 129, rfl⟩
abbrev main_call0_call0_v78 : Ref sig .tc := ⟨.hbm, 130, rfl⟩
abbrev main_call0_call0_v79 : Ref sig .tc := ⟨.hbm, 131, rfl⟩
abbrev main_call0_call0_v80 : Ref sig .tc := ⟨.hbm, 132, rfl⟩
abbrev main_call0_call0_v81 : Ref sig .tc := ⟨.hbm, 133, rfl⟩
abbrev main_call0_call0_c_20 : Ref sig .tc := ⟨.hbm, 134, rfl⟩
abbrev main_call0_call0_v82 : Ref sig .tc := ⟨.hbm, 135, rfl⟩
abbrev main_call0_call0_v83 : Ref sig .tc := ⟨.hbm, 136, rfl⟩
abbrev main_call0_call0_c_21 : Ref sig .tc := ⟨.hbm, 137, rfl⟩
abbrev main_call0_call0_v84 : Ref sig .tc := ⟨.hbm, 138, rfl⟩
abbrev main_call0_call0_v85 : Ref sig .tc := ⟨.hbm, 139, rfl⟩
abbrev main_call0_call0_v86 : Ref sig .tc := ⟨.hbm, 140, rfl⟩
abbrev main_call0_call0_v87 : Ref sig .tc := ⟨.hbm, 141, rfl⟩
abbrev main_call0_call0_v88 : Ref sig .tc := ⟨.hbm, 142, rfl⟩
abbrev main_call0_call0_c_22 : Ref sig .tc := ⟨.hbm, 143, rfl⟩
abbrev main_call0_call0_v89 : Ref sig .tc := ⟨.hbm, 144, rfl⟩
abbrev main_call0_call0_v90 : Ref sig .tc := ⟨.hbm, 145, rfl⟩
abbrev main_call0_call0_c_23 : Ref sig .tc := ⟨.hbm, 146, rfl⟩
abbrev main_call0_call0_v91 : Ref sig .tc := ⟨.hbm, 147, rfl⟩
abbrev main_call0_call0_v92 : Ref sig .tc := ⟨.hbm, 148, rfl⟩
abbrev main_call0_call0_v93 : Ref sig .tc := ⟨.hbm, 149, rfl⟩
abbrev main_call0_call0_v94 : Ref sig .tc := ⟨.hbm, 150, rfl⟩
abbrev main_call0_call0_v95 : Ref sig .tc := ⟨.hbm, 151, rfl⟩
abbrev main_call0_call0_c_24 : Ref sig .tc := ⟨.hbm, 152, rfl⟩
abbrev main_call0_call0_v96 : Ref sig .tc := ⟨.hbm, 153, rfl⟩
abbrev main_call0_call0_v97 : Ref sig .tc := ⟨.hbm, 154, rfl⟩
abbrev main_call0_call0_c_25 : Ref sig .tc := ⟨.hbm, 155, rfl⟩
abbrev main_call0_call0_v98 : Ref sig .tc := ⟨.hbm, 156, rfl⟩
abbrev main_call0_call0_v99 : Ref sig .tc := ⟨.hbm, 157, rfl⟩
abbrev main_call0_call0_v100 : Ref sig .tc := ⟨.hbm, 158, rfl⟩
abbrev main_call0_call0_v101 : Ref sig .tc := ⟨.hbm, 159, rfl⟩
abbrev main_call0_call0_v102 : Ref sig .tc := ⟨.hbm, 160, rfl⟩
abbrev main_call0_call0_v103 : Ref sig .tc := ⟨.hbm, 161, rfl⟩
abbrev main_call0_call0_v104 : Ref sig .tc := ⟨.hbm, 162, rfl⟩
abbrev main_call0_call0_v105 : Ref sig .tc := ⟨.hbm, 163, rfl⟩
abbrev main_call0_call0_c_26 : Ref sig .tc := ⟨.hbm, 164, rfl⟩
abbrev main_call0_call0_v106 : Ref sig .tc := ⟨.hbm, 165, rfl⟩
abbrev main_call0_call0_v107 : Ref sig .tc := ⟨.hbm, 166, rfl⟩
abbrev main_call0_call0_v108 : Ref sig .tc := ⟨.hbm, 167, rfl⟩
abbrev main_call0_call0_c_27 : Ref sig .tc := ⟨.hbm, 168, rfl⟩
abbrev main_call0_call0_v109 : Ref sig .tc := ⟨.hbm, 169, rfl⟩
abbrev main_call0_call0_v110 : Ref sig .tc := ⟨.hbm, 170, rfl⟩
abbrev main_call0_call0_c_28 : Ref sig .tc := ⟨.hbm, 171, rfl⟩
abbrev main_call0_call0_v111 : Ref sig .tc := ⟨.hbm, 172, rfl⟩
abbrev main_call0_call0_v112 : Ref sig .tc := ⟨.hbm, 173, rfl⟩
abbrev main_call0_call0_v113 : Ref sig .tc := ⟨.hbm, 174, rfl⟩
abbrev main_call0_call0_v114 : Ref sig .tc := ⟨.hbm, 175, rfl⟩
abbrev main_call0_call0_v115 : Ref sig .tc := ⟨.hbm, 176, rfl⟩
abbrev main_call0_call0_c_29 : Ref sig .tc := ⟨.hbm, 177, rfl⟩
abbrev main_call0_call0_v116 : Ref sig .tc := ⟨.hbm, 178, rfl⟩
abbrev main_call0_call0_v117 : Ref sig .tc := ⟨.hbm, 179, rfl⟩
abbrev main_call0_call0_c_30 : Ref sig .tc := ⟨.hbm, 180, rfl⟩
abbrev main_call0_call0_v118 : Ref sig .tc := ⟨.hbm, 181, rfl⟩
abbrev main_call0_call0_v119 : Ref sig .tc := ⟨.hbm, 182, rfl⟩
abbrev main_call0_call0_v120 : Ref sig .tc := ⟨.hbm, 183, rfl⟩
abbrev main_call0_call0_v121 : Ref sig .tc := ⟨.hbm, 184, rfl⟩
abbrev main_call0_call0_v122 : Ref sig .tc := ⟨.hbm, 185, rfl⟩
abbrev main_call0_call0_c_31 : Ref sig .tc := ⟨.hbm, 186, rfl⟩
abbrev main_call0_call0_v123 : Ref sig .tc := ⟨.hbm, 187, rfl⟩
abbrev main_call0_call0_v124 : Ref sig .tc := ⟨.hbm, 188, rfl⟩
abbrev main_call0_call0_c_32 : Ref sig .tc := ⟨.hbm, 189, rfl⟩
abbrev main_call0_call0_v125 : Ref sig .tc := ⟨.hbm, 190, rfl⟩
abbrev main_call0_call0_v126 : Ref sig .tc := ⟨.hbm, 191, rfl⟩
abbrev main_call0_call0_v127 : Ref sig .tc := ⟨.hbm, 192, rfl⟩
abbrev main_call0_call0_v128 : Ref sig .tc := ⟨.hbm, 193, rfl⟩
abbrev main_call0_call0_v129 : Ref sig .tc := ⟨.hbm, 194, rfl⟩
abbrev main_call0_call0_c_33 : Ref sig .tc := ⟨.hbm, 195, rfl⟩
abbrev main_call0_call0_v130 : Ref sig .tc := ⟨.hbm, 196, rfl⟩
abbrev main_call0_call0_v131 : Ref sig .tc := ⟨.hbm, 197, rfl⟩
abbrev main_call0_call0_c_34 : Ref sig .tc := ⟨.hbm, 198, rfl⟩
abbrev main_call0_call0_v132 : Ref sig .tc := ⟨.hbm, 199, rfl⟩
abbrev main_call0_call0_v133 : Ref sig .tc := ⟨.hbm, 200, rfl⟩
abbrev main_call0_call0_v134 : Ref sig .tc := ⟨.hbm, 201, rfl⟩
abbrev main_call0_call0_v135 : Ref sig .tc := ⟨.hbm, 202, rfl⟩
abbrev main_call0_call0_v136 : Ref sig .tc := ⟨.hbm, 203, rfl⟩
abbrev main_call0_call0_v137 : Ref sig .tc := ⟨.hbm, 204, rfl⟩
abbrev main_call0_call0_v138 : Ref sig .tc := ⟨.hbm, 205, rfl⟩
abbrev main_call0_call0_v139 : Ref sig .tc := ⟨.hbm, 206, rfl⟩
abbrev main_call0_call0_c_35 : Ref sig .tc := ⟨.hbm, 207, rfl⟩
abbrev main_call0_call0_v140 : Ref sig .tc := ⟨.hbm, 208, rfl⟩
abbrev main_call0_call0_v141 : Ref sig .tc := ⟨.hbm, 209, rfl⟩
abbrev main_call0_call0_v142 : Ref sig .tc := ⟨.hbm, 210, rfl⟩
abbrev main_call0_call0_c_36 : Ref sig .tc := ⟨.hbm, 211, rfl⟩
abbrev main_call0_call0_v143 : Ref sig .tc := ⟨.hbm, 212, rfl⟩
abbrev main_call0_call0_v144 : Ref sig .tc := ⟨.hbm, 213, rfl⟩
abbrev main_call0_call0_c_37 : Ref sig .tc := ⟨.hbm, 214, rfl⟩
abbrev main_call0_call0_v145 : Ref sig .tc := ⟨.hbm, 215, rfl⟩
abbrev main_call0_call0_v146 : Ref sig .tc := ⟨.hbm, 216, rfl⟩
abbrev main_call0_call0_v147 : Ref sig .tc := ⟨.hbm, 217, rfl⟩
abbrev main_call0_call0_v148 : Ref sig .tc := ⟨.hbm, 218, rfl⟩
abbrev main_call0_call0_v149 : Ref sig .tc := ⟨.hbm, 219, rfl⟩
abbrev main_call0_call0_c_38 : Ref sig .tc := ⟨.hbm, 220, rfl⟩
abbrev main_call0_call0_v150 : Ref sig .tc := ⟨.hbm, 221, rfl⟩
abbrev main_call0_call0_v151 : Ref sig .tc := ⟨.hbm, 222, rfl⟩
abbrev main_call0_call0_c_39 : Ref sig .tc := ⟨.hbm, 223, rfl⟩
abbrev main_call0_call0_v152 : Ref sig .tc := ⟨.hbm, 224, rfl⟩
abbrev main_call0_call0_v153 : Ref sig .tc := ⟨.hbm, 225, rfl⟩
abbrev main_call0_call0_v154 : Ref sig .tc := ⟨.hbm, 226, rfl⟩
abbrev main_call0_call0_v155 : Ref sig .tc := ⟨.hbm, 227, rfl⟩
abbrev main_call0_call0_v156 : Ref sig .tc := ⟨.hbm, 228, rfl⟩
abbrev main_call0_call0_c_40 : Ref sig .tc := ⟨.hbm, 229, rfl⟩
abbrev main_call0_call0_v157 : Ref sig .tc := ⟨.hbm, 230, rfl⟩
abbrev main_call0_call0_v158 : Ref sig .tc := ⟨.hbm, 231, rfl⟩
abbrev main_call0_call0_c_41 : Ref sig .tc := ⟨.hbm, 232, rfl⟩
abbrev main_call0_call0_v159 : Ref sig .tc := ⟨.hbm, 233, rfl⟩
abbrev main_call0_call0_v160 : Ref sig .tc := ⟨.hbm, 234, rfl⟩
abbrev main_call0_call0_v161 : Ref sig .tc := ⟨.hbm, 235, rfl⟩
abbrev main_call0_call0_v162 : Ref sig .tc := ⟨.hbm, 236, rfl⟩
abbrev main_call0_call0_v163 : Ref sig .tc := ⟨.hbm, 237, rfl⟩
abbrev main_call0_call0_c_42 : Ref sig .tc := ⟨.hbm, 238, rfl⟩
abbrev main_call0_call0_v164 : Ref sig .tc := ⟨.hbm, 239, rfl⟩
abbrev main_call0_call0_v165 : Ref sig .tc := ⟨.hbm, 240, rfl⟩
abbrev main_call0_call0_c_43 : Ref sig .tc := ⟨.hbm, 241, rfl⟩
abbrev main_call0_call0_v166 : Ref sig .tc := ⟨.hbm, 242, rfl⟩
abbrev main_call0_call0_v167 : Ref sig .tc := ⟨.hbm, 243, rfl⟩
abbrev main_call0_call0_v168 : Ref sig .tc := ⟨.hbm, 244, rfl⟩
abbrev main_call0_call0_v169 : Ref sig .tc := ⟨.hbm, 245, rfl⟩
abbrev main_call0_call0_v170 : Ref sig .tc := ⟨.hbm, 246, rfl⟩
abbrev main_call0_v15_0 : Ref sig .tc := ⟨.hbm, 247, rfl⟩
abbrev main_call0_call0_v172 : Ref sig .tc := ⟨.hbm, 248, rfl⟩
abbrev main_call0_call0_v173 : Ref sig .tc := ⟨.hbm, 249, rfl⟩
abbrev main_call0_call0_c_44 : Ref sig .tc := ⟨.hbm, 250, rfl⟩
abbrev main_call0_call0_v174 : Ref sig .tc := ⟨.hbm, 251, rfl⟩
abbrev main_call0_v15_1 : Ref sig .tc := ⟨.hbm, 252, rfl⟩
abbrev main_call0_v16 : Ref sig .tc := ⟨.hbm, 253, rfl⟩
abbrev main_call0_c_1 : Ref sig .tc := ⟨.hbm, 254, rfl⟩
abbrev main_call0_v17 : Ref sig .tc := ⟨.hbm, 255, rfl⟩
abbrev main_call0_v18 : Ref sig .tc := ⟨.hbm, 256, rfl⟩
abbrev main_call0_c_2 : Ref sig .tc := ⟨.hbm, 257, rfl⟩
abbrev main_call0_v19 : Ref sig .tc := ⟨.hbm, 258, rfl⟩
abbrev main_call0_v20 : Ref sig .tc := ⟨.hbm, 259, rfl⟩
abbrev main_call0_v21 : Ref sig .tc := ⟨.hbm, 260, rfl⟩
abbrev main_call0_cst : Ref sig .tc := ⟨.hbm, 261, rfl⟩
abbrev main_call0_v22 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_v7 : Ref sig .tc := ⟨.hbm, 270, rfl⟩
abbrev main_v8 : Ref sig .tc := ⟨.hbm, 271, rfl⟩
abbrev main_v9 : Ref sig .tc := ⟨.hbm, 272, rfl⟩
abbrev main_v10 : Ref sig .tc := ⟨.hbm, 273, rfl⟩
abbrev main_v11 : Ref sig .tc := ⟨.hbm, 274, rfl⟩
abbrev main_v12 : Ref sig .tc := ⟨.hbm, 275, rfl⟩
abbrev main_cst_3 : Ref sig .tc := ⟨.hbm, 276, rfl⟩
abbrev main_v13 : Ref sig .tc := ⟨.hbm, 277, rfl⟩
abbrev main_v14 : Ref sig .tc := ⟨.hbm, 278, rfl⟩
abbrev main_cst_4 : Ref sig .tc := ⟨.hbm, 279, rfl⟩
abbrev main_v15 : Ref sig .tc := ⟨.hbm, 280, rfl⟩
abbrev main_cst_5 : Ref sig .tc := ⟨.hbm, 281, rfl⟩
abbrev main_v16 : Ref sig .tc := ⟨.hbm, 282, rfl⟩
abbrev main_v17 : Ref sig .tc := ⟨.hbm, 283, rfl⟩
abbrev main_v18 : Ref sig .tc := ⟨.hbm, 284, rfl⟩
abbrev main_v19 : Ref sig .tc := ⟨.hbm, 285, rfl⟩
abbrev main_v20 : Ref sig .tc := ⟨.hbm, 286, rfl⟩
abbrev main_cst_6 : Ref sig .tc := ⟨.hbm, 287, rfl⟩
abbrev main_v21 : Ref sig .tc := ⟨.hbm, 288, rfl⟩
abbrev main_v22 : Ref sig .tc := ⟨.hbm, 289, rfl⟩
abbrev main_v23 : Ref sig .tc := ⟨.hbm, 290, rfl⟩
abbrev main_v24 : Ref sig .tc := ⟨.hbm, 291, rfl⟩
abbrev main_call1_v0 : Ref sig .tc := ⟨.hbm, 292, rfl⟩
abbrev main_call1_cst : Ref sig .tc := ⟨.hbm, 293, rfl⟩
abbrev main_call1_c : Ref sig .tc := ⟨.hbm, 294, rfl⟩
abbrev main_call1_v1_0 : Ref sig .tc := ⟨.hbm, 295, rfl⟩
abbrev main_v25 : Ref sig .tc := ⟨.hbm, 296, rfl⟩
abbrev main_call2_v0 : Ref sig .tc := ⟨.hbm, 297, rfl⟩
abbrev main_call2_v1 : Ref sig .tc := ⟨.hbm, 298, rfl⟩
abbrev main_call2_v2 : Ref sig .tc := ⟨.hbm, 299, rfl⟩
abbrev main_call2_v3 : Ref sig .tc := ⟨.hbm, 300, rfl⟩
abbrev main_v26 : Ref sig .tc := ⟨.hbm, 301, rfl⟩
abbrev main_v27 : Ref sig .tc := ⟨.hbm, 302, rfl⟩
abbrev main_v28 : Ref sig .tc := ⟨.hbm, 303, rfl⟩
abbrev main_cst_7 : Ref sig .tc := ⟨.hbm, 304, rfl⟩
abbrev main_v29 : Ref sig .tc := ⟨.hbm, 305, rfl⟩
abbrev main_v30 : Ref sig .tc := ⟨.hbm, 306, rfl⟩
abbrev main_v31 : Ref sig .tc := ⟨.hbm, 307, rfl⟩
abbrev main_c_8 : Ref sig .tc := ⟨.hbm, 308, rfl⟩
abbrev main_c_9 : Ref sig .tc := ⟨.hbm, 309, rfl⟩
abbrev main_v32 : Ref sig .tc := ⟨.hbm, 310, rfl⟩
abbrev main_v33 : Ref sig .tc := ⟨.hbm, 311, rfl⟩
abbrev main_v34 : Ref sig .tc := ⟨.hbm, 312, rfl⟩
abbrev main_c_10 : Ref sig .tc := ⟨.hbm, 313, rfl⟩
abbrev main_v35 : Ref sig .tc := ⟨.hbm, 314, rfl⟩
abbrev main_v36 : Ref sig .tc := ⟨.hbm, 315, rfl⟩
abbrev main_v37 : Ref sig .tc := ⟨.hbm, 316, rfl⟩
abbrev main_v38 : Ref sig .tc := ⟨.hbm, 317, rfl⟩
abbrev main_call3_cst : Ref sig .tc := ⟨.hbm, 318, rfl⟩
abbrev main_call3_cst_0 : Ref sig .tc := ⟨.hbm, 319, rfl⟩
abbrev main_call3_call0_v0 : Ref sig .tc := ⟨.hbm, 320, rfl⟩
abbrev main_call3_call0_v1 : Ref sig .tc := ⟨.hbm, 321, rfl⟩
abbrev main_call3_call0_v2 : Ref sig .tc := ⟨.hbm, 322, rfl⟩
abbrev main_call3_call0_v3 : Ref sig .tc := ⟨.hbm, 323, rfl⟩
abbrev main_call3_call0_v4 : Ref sig .tc := ⟨.hbm, 324, rfl⟩
abbrev main_call3_call0_v5 : Ref sig .tc := ⟨.hbm, 325, rfl⟩
abbrev main_call3_call0_v6 : Ref sig .tc := ⟨.hbm, 326, rfl⟩
abbrev main_call3_call0_v7 : Ref sig .tc := ⟨.hbm, 327, rfl⟩
abbrev main_call3_call0_v8 : Ref sig .tc := ⟨.hbm, 328, rfl⟩
abbrev main_call3_call0_c : Ref sig .tc := ⟨.hbm, 329, rfl⟩
abbrev main_call3_call0_v9 : Ref sig .tc := ⟨.hbm, 330, rfl⟩
abbrev main_call3_call0_v10 : Ref sig .tc := ⟨.hbm, 331, rfl⟩
abbrev main_call3_call0_c_0 : Ref sig .tc := ⟨.hbm, 332, rfl⟩
abbrev main_call3_call0_v11 : Ref sig .tc := ⟨.hbm, 333, rfl⟩
abbrev main_call3_call0_v12 : Ref sig .tc := ⟨.hbm, 334, rfl⟩
abbrev main_call3_call0_v13 : Ref sig .tc := ⟨.hbm, 335, rfl⟩
abbrev main_call3_call0_c_1 : Ref sig .tc := ⟨.hbm, 336, rfl⟩
abbrev main_call3_call0_v14 : Ref sig .tc := ⟨.hbm, 337, rfl⟩
abbrev main_call3_call0_v15 : Ref sig .tc := ⟨.hbm, 338, rfl⟩
abbrev main_call3_call0_v16 : Ref sig .tc := ⟨.hbm, 339, rfl⟩
abbrev main_call3_call0_v17 : Ref sig .tc := ⟨.hbm, 340, rfl⟩
abbrev main_call3_call0_call0_v0 : Ref sig .tc := ⟨.hbm, 341, rfl⟩
abbrev main_call3_call0_call0_c : Ref sig .tc := ⟨.hbm, 342, rfl⟩
abbrev main_call3_call0_call0_v1 : Ref sig .tc := ⟨.hbm, 343, rfl⟩
abbrev main_call3_call0_call0_v2 : Ref sig .tc := ⟨.hbm, 344, rfl⟩
abbrev main_call3_call0_call0_v3 : Ref sig .tc := ⟨.hbm, 345, rfl⟩
abbrev main_call3_call0_call0_v4 : Ref sig .tc := ⟨.hbm, 346, rfl⟩
abbrev main_call3_call0_call0_v5 : Ref sig .tc := ⟨.hbm, 347, rfl⟩
abbrev main_call3_call0_call0_v6 : Ref sig .tc := ⟨.hbm, 348, rfl⟩
abbrev main_call3_call0_call0_c_0 : Ref sig .tc := ⟨.hbm, 349, rfl⟩
abbrev main_call3_call0_call0_v7 : Ref sig .tc := ⟨.hbm, 350, rfl⟩
abbrev main_call3_call0_call0_v8 : Ref sig .tc := ⟨.hbm, 351, rfl⟩
abbrev main_call3_call0_call0_c_1 : Ref sig .tc := ⟨.hbm, 352, rfl⟩
abbrev main_call3_call0_call0_v9 : Ref sig .tc := ⟨.hbm, 353, rfl⟩
abbrev main_call3_call0_call0_v10 : Ref sig .tc := ⟨.hbm, 354, rfl⟩
abbrev main_call3_call0_call0_v11 : Ref sig .tc := ⟨.hbm, 355, rfl⟩
abbrev main_call3_call0_call0_v12 : Ref sig .tc := ⟨.hbm, 356, rfl⟩
abbrev main_call3_call0_call0_v13 : Ref sig .tc := ⟨.hbm, 357, rfl⟩
abbrev main_call3_call0_call0_c_2 : Ref sig .tc := ⟨.hbm, 358, rfl⟩
abbrev main_call3_call0_call0_v14 : Ref sig .tc := ⟨.hbm, 359, rfl⟩
abbrev main_call3_call0_call0_v15 : Ref sig .tc := ⟨.hbm, 360, rfl⟩
abbrev main_call3_call0_call0_c_3 : Ref sig .tc := ⟨.hbm, 361, rfl⟩
abbrev main_call3_call0_call0_v16 : Ref sig .tc := ⟨.hbm, 362, rfl⟩
abbrev main_call3_call0_call0_v17 : Ref sig .tc := ⟨.hbm, 363, rfl⟩
abbrev main_call3_call0_call0_v18 : Ref sig .tc := ⟨.hbm, 364, rfl⟩
abbrev main_call3_call0_call0_v19 : Ref sig .tc := ⟨.hbm, 365, rfl⟩
abbrev main_call3_call0_call0_v20 : Ref sig .tc := ⟨.hbm, 366, rfl⟩
abbrev main_call3_call0_call0_c_4 : Ref sig .tc := ⟨.hbm, 367, rfl⟩
abbrev main_call3_call0_call0_v21 : Ref sig .tc := ⟨.hbm, 368, rfl⟩
abbrev main_call3_call0_call0_v22 : Ref sig .tc := ⟨.hbm, 369, rfl⟩
abbrev main_call3_call0_call0_c_5 : Ref sig .tc := ⟨.hbm, 370, rfl⟩
abbrev main_call3_call0_call0_v23 : Ref sig .tc := ⟨.hbm, 371, rfl⟩
abbrev main_call3_call0_call0_v24 : Ref sig .tc := ⟨.hbm, 372, rfl⟩
abbrev main_call3_call0_call0_v25 : Ref sig .tc := ⟨.hbm, 373, rfl⟩
abbrev main_call3_call0_call0_v26 : Ref sig .tc := ⟨.hbm, 374, rfl⟩
abbrev main_call3_call0_call0_v27 : Ref sig .tc := ⟨.hbm, 375, rfl⟩
abbrev main_call3_call0_call0_c_6 : Ref sig .tc := ⟨.hbm, 376, rfl⟩
abbrev main_call3_call0_call0_v28 : Ref sig .tc := ⟨.hbm, 377, rfl⟩
abbrev main_call3_call0_call0_v29 : Ref sig .tc := ⟨.hbm, 378, rfl⟩
abbrev main_call3_call0_call0_c_7 : Ref sig .tc := ⟨.hbm, 379, rfl⟩
abbrev main_call3_call0_call0_v30 : Ref sig .tc := ⟨.hbm, 380, rfl⟩
abbrev main_call3_call0_call0_v31 : Ref sig .tc := ⟨.hbm, 381, rfl⟩
abbrev main_call3_call0_call0_v32 : Ref sig .tc := ⟨.hbm, 382, rfl⟩
abbrev main_call3_call0_call0_v33 : Ref sig .tc := ⟨.hbm, 383, rfl⟩
abbrev main_call3_call0_call0_v34 : Ref sig .tc := ⟨.hbm, 384, rfl⟩
abbrev main_call3_call0_call0_v35 : Ref sig .tc := ⟨.hbm, 385, rfl⟩
abbrev main_call3_call0_call0_v36 : Ref sig .tc := ⟨.hbm, 386, rfl⟩
abbrev main_call3_call0_call0_v37 : Ref sig .tc := ⟨.hbm, 387, rfl⟩
abbrev main_call3_call0_call0_c_8 : Ref sig .tc := ⟨.hbm, 388, rfl⟩
abbrev main_call3_call0_call0_v38 : Ref sig .tc := ⟨.hbm, 389, rfl⟩
abbrev main_call3_call0_call0_v39 : Ref sig .tc := ⟨.hbm, 390, rfl⟩
abbrev main_call3_call0_call0_v40 : Ref sig .tc := ⟨.hbm, 391, rfl⟩
abbrev main_call3_call0_call0_c_9 : Ref sig .tc := ⟨.hbm, 392, rfl⟩
abbrev main_call3_call0_call0_v41 : Ref sig .tc := ⟨.hbm, 393, rfl⟩
abbrev main_call3_call0_call0_v42 : Ref sig .tc := ⟨.hbm, 394, rfl⟩
abbrev main_call3_call0_call0_c_10 : Ref sig .tc := ⟨.hbm, 395, rfl⟩
abbrev main_call3_call0_call0_v43 : Ref sig .tc := ⟨.hbm, 396, rfl⟩
abbrev main_call3_call0_call0_v44 : Ref sig .tc := ⟨.hbm, 397, rfl⟩
abbrev main_call3_call0_call0_v45 : Ref sig .tc := ⟨.hbm, 398, rfl⟩
abbrev main_call3_call0_call0_v46 : Ref sig .tc := ⟨.hbm, 399, rfl⟩
abbrev main_call3_call0_call0_v47 : Ref sig .tc := ⟨.hbm, 400, rfl⟩
abbrev main_call3_call0_call0_c_11 : Ref sig .tc := ⟨.hbm, 401, rfl⟩
abbrev main_call3_call0_call0_v48 : Ref sig .tc := ⟨.hbm, 402, rfl⟩
abbrev main_call3_call0_call0_v49 : Ref sig .tc := ⟨.hbm, 403, rfl⟩
abbrev main_call3_call0_call0_c_12 : Ref sig .tc := ⟨.hbm, 404, rfl⟩
abbrev main_call3_call0_call0_v50 : Ref sig .tc := ⟨.hbm, 405, rfl⟩
abbrev main_call3_call0_call0_v51 : Ref sig .tc := ⟨.hbm, 406, rfl⟩
abbrev main_call3_call0_call0_v52 : Ref sig .tc := ⟨.hbm, 407, rfl⟩
abbrev main_call3_call0_call0_v53 : Ref sig .tc := ⟨.hbm, 408, rfl⟩
abbrev main_call3_call0_call0_v54 : Ref sig .tc := ⟨.hbm, 409, rfl⟩
abbrev main_call3_call0_call0_c_13 : Ref sig .tc := ⟨.hbm, 410, rfl⟩
abbrev main_call3_call0_call0_v55 : Ref sig .tc := ⟨.hbm, 411, rfl⟩
abbrev main_call3_call0_call0_v56 : Ref sig .tc := ⟨.hbm, 412, rfl⟩
abbrev main_call3_call0_call0_c_14 : Ref sig .tc := ⟨.hbm, 413, rfl⟩
abbrev main_call3_call0_call0_v57 : Ref sig .tc := ⟨.hbm, 414, rfl⟩
abbrev main_call3_call0_call0_v58 : Ref sig .tc := ⟨.hbm, 415, rfl⟩
abbrev main_call3_call0_call0_v59 : Ref sig .tc := ⟨.hbm, 416, rfl⟩
abbrev main_call3_call0_call0_v60 : Ref sig .tc := ⟨.hbm, 417, rfl⟩
abbrev main_call3_call0_call0_v61 : Ref sig .tc := ⟨.hbm, 418, rfl⟩
abbrev main_call3_call0_call0_c_15 : Ref sig .tc := ⟨.hbm, 419, rfl⟩
abbrev main_call3_call0_call0_v62 : Ref sig .tc := ⟨.hbm, 420, rfl⟩
abbrev main_call3_call0_call0_v63 : Ref sig .tc := ⟨.hbm, 421, rfl⟩
abbrev main_call3_call0_call0_c_16 : Ref sig .tc := ⟨.hbm, 422, rfl⟩
abbrev main_call3_call0_call0_v64 : Ref sig .tc := ⟨.hbm, 423, rfl⟩
abbrev main_call3_call0_call0_v65 : Ref sig .tc := ⟨.hbm, 424, rfl⟩
abbrev main_call3_call0_call0_v66 : Ref sig .tc := ⟨.hbm, 425, rfl⟩
abbrev main_call3_call0_call0_v67 : Ref sig .tc := ⟨.hbm, 426, rfl⟩
abbrev main_call3_call0_call0_v68 : Ref sig .tc := ⟨.hbm, 427, rfl⟩
abbrev main_call3_call0_call0_v69 : Ref sig .tc := ⟨.hbm, 428, rfl⟩
abbrev main_call3_call0_call0_v70 : Ref sig .tc := ⟨.hbm, 429, rfl⟩
abbrev main_call3_call0_call0_v71 : Ref sig .tc := ⟨.hbm, 430, rfl⟩
abbrev main_call3_call0_call0_c_17 : Ref sig .tc := ⟨.hbm, 431, rfl⟩
abbrev main_call3_call0_call0_v72 : Ref sig .tc := ⟨.hbm, 432, rfl⟩
abbrev main_call3_call0_call0_v73 : Ref sig .tc := ⟨.hbm, 433, rfl⟩
abbrev main_call3_call0_call0_v74 : Ref sig .tc := ⟨.hbm, 434, rfl⟩
abbrev main_call3_call0_call0_c_18 : Ref sig .tc := ⟨.hbm, 435, rfl⟩
abbrev main_call3_call0_call0_v75 : Ref sig .tc := ⟨.hbm, 436, rfl⟩
abbrev main_call3_call0_call0_v76 : Ref sig .tc := ⟨.hbm, 437, rfl⟩
abbrev main_call3_call0_call0_c_19 : Ref sig .tc := ⟨.hbm, 438, rfl⟩
abbrev main_call3_call0_call0_v77 : Ref sig .tc := ⟨.hbm, 439, rfl⟩
abbrev main_call3_call0_call0_v78 : Ref sig .tc := ⟨.hbm, 440, rfl⟩
abbrev main_call3_call0_call0_v79 : Ref sig .tc := ⟨.hbm, 441, rfl⟩
abbrev main_call3_call0_call0_v80 : Ref sig .tc := ⟨.hbm, 442, rfl⟩
abbrev main_call3_call0_call0_v81 : Ref sig .tc := ⟨.hbm, 443, rfl⟩
abbrev main_call3_call0_call0_c_20 : Ref sig .tc := ⟨.hbm, 444, rfl⟩
abbrev main_call3_call0_call0_v82 : Ref sig .tc := ⟨.hbm, 445, rfl⟩
abbrev main_call3_call0_call0_v83 : Ref sig .tc := ⟨.hbm, 446, rfl⟩
abbrev main_call3_call0_call0_c_21 : Ref sig .tc := ⟨.hbm, 447, rfl⟩
abbrev main_call3_call0_call0_v84 : Ref sig .tc := ⟨.hbm, 448, rfl⟩
abbrev main_call3_call0_call0_v85 : Ref sig .tc := ⟨.hbm, 449, rfl⟩
abbrev main_call3_call0_call0_v86 : Ref sig .tc := ⟨.hbm, 450, rfl⟩
abbrev main_call3_call0_call0_v87 : Ref sig .tc := ⟨.hbm, 451, rfl⟩
abbrev main_call3_call0_call0_v88 : Ref sig .tc := ⟨.hbm, 452, rfl⟩
abbrev main_call3_call0_call0_c_22 : Ref sig .tc := ⟨.hbm, 453, rfl⟩
abbrev main_call3_call0_call0_v89 : Ref sig .tc := ⟨.hbm, 454, rfl⟩
abbrev main_call3_call0_call0_v90 : Ref sig .tc := ⟨.hbm, 455, rfl⟩
abbrev main_call3_call0_call0_c_23 : Ref sig .tc := ⟨.hbm, 456, rfl⟩
abbrev main_call3_call0_call0_v91 : Ref sig .tc := ⟨.hbm, 457, rfl⟩
abbrev main_call3_call0_call0_v92 : Ref sig .tc := ⟨.hbm, 458, rfl⟩
abbrev main_call3_call0_call0_v93 : Ref sig .tc := ⟨.hbm, 459, rfl⟩
abbrev main_call3_call0_call0_v94 : Ref sig .tc := ⟨.hbm, 460, rfl⟩
abbrev main_call3_call0_call0_v95 : Ref sig .tc := ⟨.hbm, 461, rfl⟩
abbrev main_call3_call0_call0_c_24 : Ref sig .tc := ⟨.hbm, 462, rfl⟩
abbrev main_call3_call0_call0_v96 : Ref sig .tc := ⟨.hbm, 463, rfl⟩
abbrev main_call3_call0_call0_v97 : Ref sig .tc := ⟨.hbm, 464, rfl⟩
abbrev main_call3_call0_call0_c_25 : Ref sig .tc := ⟨.hbm, 465, rfl⟩
abbrev main_call3_call0_call0_v98 : Ref sig .tc := ⟨.hbm, 466, rfl⟩
abbrev main_call3_call0_call0_v99 : Ref sig .tc := ⟨.hbm, 467, rfl⟩
abbrev main_call3_call0_call0_v100 : Ref sig .tc := ⟨.hbm, 468, rfl⟩
abbrev main_call3_call0_call0_v101 : Ref sig .tc := ⟨.hbm, 469, rfl⟩
abbrev main_call3_call0_call0_v102 : Ref sig .tc := ⟨.hbm, 470, rfl⟩
abbrev main_call3_call0_call0_v103 : Ref sig .tc := ⟨.hbm, 471, rfl⟩
abbrev main_call3_call0_call0_v104 : Ref sig .tc := ⟨.hbm, 472, rfl⟩
abbrev main_call3_call0_call0_v105 : Ref sig .tc := ⟨.hbm, 473, rfl⟩
abbrev main_call3_call0_call0_c_26 : Ref sig .tc := ⟨.hbm, 474, rfl⟩
abbrev main_call3_call0_call0_v106 : Ref sig .tc := ⟨.hbm, 475, rfl⟩
abbrev main_call3_call0_call0_v107 : Ref sig .tc := ⟨.hbm, 476, rfl⟩
abbrev main_call3_call0_call0_v108 : Ref sig .tc := ⟨.hbm, 477, rfl⟩
abbrev main_call3_call0_call0_c_27 : Ref sig .tc := ⟨.hbm, 478, rfl⟩
abbrev main_call3_call0_call0_v109 : Ref sig .tc := ⟨.hbm, 479, rfl⟩
abbrev main_call3_call0_call0_v110 : Ref sig .tc := ⟨.hbm, 480, rfl⟩
abbrev main_call3_call0_call0_c_28 : Ref sig .tc := ⟨.hbm, 481, rfl⟩
abbrev main_call3_call0_call0_v111 : Ref sig .tc := ⟨.hbm, 482, rfl⟩
abbrev main_call3_call0_call0_v112 : Ref sig .tc := ⟨.hbm, 483, rfl⟩
abbrev main_call3_call0_call0_v113 : Ref sig .tc := ⟨.hbm, 484, rfl⟩
abbrev main_call3_call0_call0_v114 : Ref sig .tc := ⟨.hbm, 485, rfl⟩
abbrev main_call3_call0_call0_v115 : Ref sig .tc := ⟨.hbm, 486, rfl⟩
abbrev main_call3_call0_call0_c_29 : Ref sig .tc := ⟨.hbm, 487, rfl⟩
abbrev main_call3_call0_call0_v116 : Ref sig .tc := ⟨.hbm, 488, rfl⟩
abbrev main_call3_call0_call0_v117 : Ref sig .tc := ⟨.hbm, 489, rfl⟩
abbrev main_call3_call0_call0_c_30 : Ref sig .tc := ⟨.hbm, 490, rfl⟩
abbrev main_call3_call0_call0_v118 : Ref sig .tc := ⟨.hbm, 491, rfl⟩
abbrev main_call3_call0_call0_v119 : Ref sig .tc := ⟨.hbm, 492, rfl⟩
abbrev main_call3_call0_call0_v120 : Ref sig .tc := ⟨.hbm, 493, rfl⟩
abbrev main_call3_call0_call0_v121 : Ref sig .tc := ⟨.hbm, 494, rfl⟩
abbrev main_call3_call0_call0_v122 : Ref sig .tc := ⟨.hbm, 495, rfl⟩
abbrev main_call3_call0_call0_c_31 : Ref sig .tc := ⟨.hbm, 496, rfl⟩
abbrev main_call3_call0_call0_v123 : Ref sig .tc := ⟨.hbm, 497, rfl⟩
abbrev main_call3_call0_call0_v124 : Ref sig .tc := ⟨.hbm, 498, rfl⟩
abbrev main_call3_call0_call0_c_32 : Ref sig .tc := ⟨.hbm, 499, rfl⟩
abbrev main_call3_call0_call0_v125 : Ref sig .tc := ⟨.hbm, 500, rfl⟩
abbrev main_call3_call0_call0_v126 : Ref sig .tc := ⟨.hbm, 501, rfl⟩
abbrev main_call3_call0_call0_v127 : Ref sig .tc := ⟨.hbm, 502, rfl⟩
abbrev main_call3_call0_call0_v128 : Ref sig .tc := ⟨.hbm, 503, rfl⟩
abbrev main_call3_call0_call0_v129 : Ref sig .tc := ⟨.hbm, 504, rfl⟩
abbrev main_call3_call0_call0_c_33 : Ref sig .tc := ⟨.hbm, 505, rfl⟩
abbrev main_call3_call0_call0_v130 : Ref sig .tc := ⟨.hbm, 506, rfl⟩
abbrev main_call3_call0_call0_v131 : Ref sig .tc := ⟨.hbm, 507, rfl⟩
abbrev main_call3_call0_call0_c_34 : Ref sig .tc := ⟨.hbm, 508, rfl⟩
abbrev main_call3_call0_call0_v132 : Ref sig .tc := ⟨.hbm, 509, rfl⟩
abbrev main_call3_call0_call0_v133 : Ref sig .tc := ⟨.hbm, 510, rfl⟩
abbrev main_call3_call0_call0_v134 : Ref sig .tc := ⟨.hbm, 511, rfl⟩
abbrev main_call3_call0_call0_v135 : Ref sig .tc := ⟨.hbm, 512, rfl⟩
abbrev main_call3_call0_call0_v136 : Ref sig .tc := ⟨.hbm, 513, rfl⟩
abbrev main_call3_call0_call0_v137 : Ref sig .tc := ⟨.hbm, 514, rfl⟩
abbrev main_call3_call0_call0_v138 : Ref sig .tc := ⟨.hbm, 515, rfl⟩
abbrev main_call3_call0_call0_v139 : Ref sig .tc := ⟨.hbm, 516, rfl⟩
abbrev main_call3_call0_call0_c_35 : Ref sig .tc := ⟨.hbm, 517, rfl⟩
abbrev main_call3_call0_call0_v140 : Ref sig .tc := ⟨.hbm, 518, rfl⟩
abbrev main_call3_call0_call0_v141 : Ref sig .tc := ⟨.hbm, 519, rfl⟩
abbrev main_call3_call0_call0_v142 : Ref sig .tc := ⟨.hbm, 520, rfl⟩
abbrev main_call3_call0_call0_c_36 : Ref sig .tc := ⟨.hbm, 521, rfl⟩
abbrev main_call3_call0_call0_v143 : Ref sig .tc := ⟨.hbm, 522, rfl⟩
abbrev main_call3_call0_call0_v144 : Ref sig .tc := ⟨.hbm, 523, rfl⟩
abbrev main_call3_call0_call0_c_37 : Ref sig .tc := ⟨.hbm, 524, rfl⟩
abbrev main_call3_call0_call0_v145 : Ref sig .tc := ⟨.hbm, 525, rfl⟩
abbrev main_call3_call0_call0_v146 : Ref sig .tc := ⟨.hbm, 526, rfl⟩
abbrev main_call3_call0_call0_v147 : Ref sig .tc := ⟨.hbm, 527, rfl⟩
abbrev main_call3_call0_call0_v148 : Ref sig .tc := ⟨.hbm, 528, rfl⟩
abbrev main_call3_call0_call0_v149 : Ref sig .tc := ⟨.hbm, 529, rfl⟩
abbrev main_call3_call0_call0_c_38 : Ref sig .tc := ⟨.hbm, 530, rfl⟩
abbrev main_call3_call0_call0_v150 : Ref sig .tc := ⟨.hbm, 531, rfl⟩
abbrev main_call3_call0_call0_v151 : Ref sig .tc := ⟨.hbm, 532, rfl⟩
abbrev main_call3_call0_call0_c_39 : Ref sig .tc := ⟨.hbm, 533, rfl⟩
abbrev main_call3_call0_call0_v152 : Ref sig .tc := ⟨.hbm, 534, rfl⟩
abbrev main_call3_call0_call0_v153 : Ref sig .tc := ⟨.hbm, 535, rfl⟩
abbrev main_call3_call0_call0_v154 : Ref sig .tc := ⟨.hbm, 536, rfl⟩
abbrev main_call3_call0_call0_v155 : Ref sig .tc := ⟨.hbm, 537, rfl⟩
abbrev main_call3_call0_call0_v156 : Ref sig .tc := ⟨.hbm, 538, rfl⟩
abbrev main_call3_call0_call0_c_40 : Ref sig .tc := ⟨.hbm, 539, rfl⟩
abbrev main_call3_call0_call0_v157 : Ref sig .tc := ⟨.hbm, 540, rfl⟩
abbrev main_call3_call0_call0_v158 : Ref sig .tc := ⟨.hbm, 541, rfl⟩
abbrev main_call3_call0_call0_c_41 : Ref sig .tc := ⟨.hbm, 542, rfl⟩
abbrev main_call3_call0_call0_v159 : Ref sig .tc := ⟨.hbm, 543, rfl⟩
abbrev main_call3_call0_call0_v160 : Ref sig .tc := ⟨.hbm, 544, rfl⟩
abbrev main_call3_call0_call0_v161 : Ref sig .tc := ⟨.hbm, 545, rfl⟩
abbrev main_call3_call0_call0_v162 : Ref sig .tc := ⟨.hbm, 546, rfl⟩
abbrev main_call3_call0_call0_v163 : Ref sig .tc := ⟨.hbm, 547, rfl⟩
abbrev main_call3_call0_call0_c_42 : Ref sig .tc := ⟨.hbm, 548, rfl⟩
abbrev main_call3_call0_call0_v164 : Ref sig .tc := ⟨.hbm, 549, rfl⟩
abbrev main_call3_call0_call0_v165 : Ref sig .tc := ⟨.hbm, 550, rfl⟩
abbrev main_call3_call0_call0_c_43 : Ref sig .tc := ⟨.hbm, 551, rfl⟩
abbrev main_call3_call0_call0_v166 : Ref sig .tc := ⟨.hbm, 552, rfl⟩
abbrev main_call3_call0_call0_v167 : Ref sig .tc := ⟨.hbm, 553, rfl⟩
abbrev main_call3_call0_call0_v168 : Ref sig .tc := ⟨.hbm, 554, rfl⟩
abbrev main_call3_call0_call0_v169 : Ref sig .tc := ⟨.hbm, 555, rfl⟩
abbrev main_call3_call0_call0_v170 : Ref sig .tc := ⟨.hbm, 556, rfl⟩
abbrev main_call3_call0_v18_0 : Ref sig .tc := ⟨.hbm, 557, rfl⟩
abbrev main_call3_call0_call0_v172 : Ref sig .tc := ⟨.hbm, 558, rfl⟩
abbrev main_call3_call0_call0_v173 : Ref sig .tc := ⟨.hbm, 559, rfl⟩
abbrev main_call3_call0_call0_c_44 : Ref sig .tc := ⟨.hbm, 560, rfl⟩
abbrev main_call3_call0_call0_v174 : Ref sig .tc := ⟨.hbm, 561, rfl⟩
abbrev main_call3_call0_v18_1 : Ref sig .tc := ⟨.hbm, 562, rfl⟩
abbrev main_call3_call0_v19 : Ref sig .tc := ⟨.hbm, 563, rfl⟩
abbrev main_call3_call0_c_2 : Ref sig .tc := ⟨.hbm, 564, rfl⟩
abbrev main_call3_call0_v20 : Ref sig .tc := ⟨.hbm, 565, rfl⟩
abbrev main_call3_call0_v21 : Ref sig .tc := ⟨.hbm, 566, rfl⟩
abbrev main_call3_call0_c_3 : Ref sig .tc := ⟨.hbm, 567, rfl⟩
abbrev main_call3_call0_v22 : Ref sig .tc := ⟨.hbm, 568, rfl⟩
abbrev main_call3_call0_v23 : Ref sig .tc := ⟨.hbm, 569, rfl⟩
abbrev main_call3_call0_v24 : Ref sig .tc := ⟨.hbm, 570, rfl⟩
abbrev main_call3_call0_cst : Ref sig .tc := ⟨.hbm, 571, rfl⟩
abbrev main_call3_call0_v25 : Ref sig .tc := ⟨.hbm, 572, rfl⟩
abbrev main_call3_call0_v26 : Ref sig .tc := ⟨.hbm, 573, rfl⟩
abbrev main_call3_call0_v27 : Ref sig .tc := ⟨.hbm, 574, rfl⟩
abbrev main_call3_call0_v28 : Ref sig .tc := ⟨.hbm, 575, rfl⟩
abbrev main_call3_call0_v29 : Ref sig .tc := ⟨.hbm, 576, rfl⟩
abbrev main_call3_call0_v30 : Ref sig .tc := ⟨.hbm, 577, rfl⟩
abbrev main_call3_call0_v31 : Ref sig .tc := ⟨.hbm, 578, rfl⟩
abbrev main_call3_call0_v32 : Ref sig .tc := ⟨.hbm, 579, rfl⟩
abbrev main_call3_v0 : Ref sig .tc := ⟨.hbm, 580, rfl⟩
abbrev main_call3_v1 : Ref sig .tc := ⟨.hbm, 581, rfl⟩
abbrev main_call3_v2 : Ref sig .tc := ⟨.hbm, 582, rfl⟩
abbrev main_call3_v3 : Ref sig .tc := ⟨.hbm, 583, rfl⟩
abbrev main_v39 : Ref sig .tc := ⟨.hbm, 584, rfl⟩
abbrev main_v40 : Ref sig .tc := ⟨.hbm, 585, rfl⟩
abbrev main_v41 : Ref sig .tc := ⟨.hbm, 586, rfl⟩
abbrev main_call4_v0 : Ref sig .tc := ⟨.hbm, 587, rfl⟩
abbrev main_call4_cst : Ref sig .tc := ⟨.hbm, 588, rfl⟩
abbrev main_call4_c : Ref sig .tc := ⟨.hbm, 589, rfl⟩
abbrev main_call4_v1_0 : Ref sig .tc := ⟨.hbm, 590, rfl⟩
abbrev main_v42 : Ref sig .tc := ⟨.hbm, 591, rfl⟩
abbrev main_call5_c : Ref sig .tc := ⟨.hbm, 592, rfl⟩
abbrev main_call5_v0 : Ref sig .tc := ⟨.hbm, 593, rfl⟩
abbrev main_call5_v1 : Ref sig .tc := ⟨.hbm, 594, rfl⟩
abbrev main_call5_c_0 : Ref sig .tc := ⟨.hbm, 595, rfl⟩
abbrev main_call5_v2 : Ref sig .tc := ⟨.hbm, 596, rfl⟩
abbrev main_call5_v3 : Ref sig .tc := ⟨.hbm, 597, rfl⟩
abbrev main_call5_v4 : Ref sig .tc := ⟨.hbm, 598, rfl⟩
abbrev main_call5_v5 : Ref sig .tc := ⟨.hbm, 599, rfl⟩
abbrev main_call5_c_1 : Ref sig .tc := ⟨.hbm, 600, rfl⟩
abbrev main_call5_c_2 : Ref sig .tc := ⟨.hbm, 601, rfl⟩
abbrev main_call5_v6 : Ref sig .tc := ⟨.hbm, 602, rfl⟩
abbrev main_call5_v7 : Ref sig .tc := ⟨.hbm, 603, rfl⟩
abbrev main_call5_v8 : Ref sig .tc := ⟨.hbm, 604, rfl⟩
abbrev main_call5_v9 : Ref sig .tc := ⟨.hbm, 605, rfl⟩
abbrev main_call5_v10 : Ref sig .tc := ⟨.hbm, 606, rfl⟩
abbrev main_call5_c_3 : Ref sig .tc := ⟨.hbm, 607, rfl⟩
abbrev main_call5_v11 : Ref sig .tc := ⟨.hbm, 608, rfl⟩
abbrev main_call5_v12 : Ref sig .tc := ⟨.hbm, 609, rfl⟩
abbrev main_call5_v13 : Ref sig .tc := ⟨.hbm, 610, rfl⟩
abbrev main_call5_cst : Ref sig .tc := ⟨.hbm, 611, rfl⟩
abbrev main_call5_v14 : Ref sig .tc := ⟨.hbm, 612, rfl⟩
abbrev main_v43 : Ref sig .tc := ⟨.hbm, 613, rfl⟩

abbrev nD : Nat := 1
abbrev τ : Topo := Topo.v7x

variable {F : FTy → Type} [FloatOps F]
-- ==== Proof.Tile.lean ====
/-
The SparseCore call as its launch sees it, and the task each of the 32 vector subcores runs: the buffers and the shares of
them a task holds, the fold over `mu + g` it carries, and the column of `x` it writes out.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev K : SparseCore.Cfg τ sig (Pipeline.Sig Λ₀ (Fin 0) fun p => (pcfgs (F := F) p).Adm) 1 := sc (F := F)
theorem nSub_zero : (K (F := F)).nSub 0 = 16 := rfl
theorem nCore_zero : (K (F := F)).nCore 0 = 2 := rfl
abbrev D : Defs nD τ sig (Elt F) (Pipeline.Sig Λ₀ (Fin 0) fun p => (pcfgs (F := F) p).Adm) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false from fun b c h => by
      rcases b with ⟨_ | _, _⟩ <;> first | rfl | cases h | decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- `x` (rows merged), `mu`, `g` and the result, as locations of device `d`. -/
abbrev xLoc (d : Dev nD) : Loc nD τ sig := (SparseCore.T d).loc main_v12
abbrev mLoc (d : Dev nD) : Loc nD τ sig := (SparseCore.T d).loc main_arg1
abbrev gLoc (d : Dev nD) : Loc nD τ sig := (SparseCore.T d).loc main_v11
abbrev oLoc (d : Dev nD) : Loc nD τ sig := (SparseCore.T d).loc main_v13

abbrev xV : Memref sig .scVector .hbm S16384x2048 .f32 := Memref.whole main_v12_scv
abbrev mV : Memref sig .scVector .hbm S2048 .f32 := Memref.whole main_arg1_scv
abbrev gV : Memref sig .scVector .hbm S2048 .f32 := Memref.whole main_v11_scv
abbrev oV : Memref sig .scVector .hbm S4x4096 .f32 := Memref.whole main_v13_scv
abbrev s0V : Memref sig .scVector .vmem S2048 .f32 := Memref.whole cc0_scratch0
abbrev s1V : Memref sig .scVector .vmem S2048 .f32 := Memref.whole cc0_scratch1
abbrev s2V : Memref sig .scVector .vmem S512x128 .f32 := Memref.whole cc0_scratch2
abbrev s3V : Memref sig .scVector .vmem S512 .f32 := Memref.whole cc0_scratch3

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The part of the result a task writes, and its rows of it as the body spells them. -/
abbrev oRect (L : grid0.Coords) : Rect S4x4096 := Rect.unit (s := S4x4096) (k0_off6 L) S1x512.size (k0_off6_inb L)
abbrev oRow (L : grid0.Coords) : Memref sig .scVector .hbm S512 .f32 := ((oV).slice (oRect L) (fun _ => rfl)).squeeze S512 squeezes_S1x512_S512
abbrev oSet (L : grid0.Coords) : Finset S4x4096.Idx := (oRect L).set

theorem set_oRow (L : grid0.Coords) : (oRow L).view.set = oSet L := by
  show (((oV).view.slice (oRect L)).reshape S512 squeezes_S1x512_S512.numel_eq).set = _
  rw [View.set_reshape, View.set_slice]; exact Finset.map_refl

/-! ## The subcore's own cells and buffers -/

section Own
variable (d : Dev nD) (c : Fin τ.nSC) (j : Fin τ.nSub)

abbrev cell (d : Dev nD) (c : Fin τ.nSC) (j : Fin τ.nSub) (s : DmaSems sig S_) : GSem nD τ sig := (V d c j, SemLoc.dma s.sem)

abbrev restCells : Finset (GSem nD τ sig) :=
  ((((((ownCells (V d c j)).erase (cell d c j cc0_scratch4)).erase (cell d c j cc0_scratch5)).erase (cell d c j cc0_scratch6)).erase
    (cell d c j cc0_scratch7)).erase (cell d c j cc0_scoped0)).erase (cell d c j cc0_scoped1)

theorem cell_ne {s t : DmaSems sig S_} (h : s.sem ≠ t.sem) : cell d c j s ≠ cell d c j t :=
  fun e => h (SemLoc.dma.inj (Prod.mk.inj e).2)

theorem mem_cell {s : DmaSems sig S_} (h : (SemLoc.dma s.sem : SemLoc sig).isScoped .scVector = true) : cell d c j s ∈ ownCells (V d c j) :=
  (mem_ownCells (g := cell d c j s)).mpr ⟨rfl, h⟩

theorem ownSems0_V :
    (ownSems0 (V d c j) : sProp 𝕄)
      = iprop(semVal (cell d c j cc0_scratch4) 0 ∗ semVal (cell d c j cc0_scratch5) 0 ∗ semVal (cell d c j cc0_scratch6) 0
          ∗ semVal (cell d c j cc0_scratch7) 0 ∗ semVal (cell d c j cc0_scoped0) 0 ∗ semVal (cell d c j cc0_scoped1) 0
          ∗ bigSep (restCells d c j) fun g => semVal g 0) := by
  unfold SparseCore.Cfg.ownSems0
  rw [SparseCore.bigSep_erase' (mem_cell d c j (s := cc0_scratch4) (by decide)),
    SparseCore.bigSep_erase' (Finset.mem_erase.mpr ⟨cell_ne d c j (by decide), mem_cell d c j (s := cc0_scratch5) (by decide)⟩),
    SparseCore.bigSep_erase' (Finset.mem_erase.mpr ⟨cell_ne d c j (by decide), Finset.mem_erase.mpr ⟨cell_ne d c j (by decide),
      mem_cell d c j (s := cc0_scratch6) (by decide)⟩⟩),
    SparseCore.bigSep_erase' (Finset.mem_erase.mpr ⟨cell_ne d c j (by decide), Finset.mem_erase.mpr ⟨cell_ne d c j (by decide),
      Finset.mem_erase.mpr ⟨cell_ne d c j (by decide), mem_cell d c j (s := cc0_scratch7) (by decide)⟩⟩⟩),
    SparseCore.bigSep_erase' (Finset.mem_erase.mpr ⟨cell_ne d c j (by decide), Finset.mem_erase.mpr ⟨cell_ne d c j (by decide),
      Finset.mem_erase.mpr ⟨cell_ne d c j (by decide), Finset.mem_erase.mpr ⟨cell_ne d c j (by decide),
        mem_cell d c j (s := cc0_scoped0) (by decide)⟩⟩⟩⟩),
    SparseCore.bigSep_erase' (Finset.mem_erase.mpr ⟨cell_ne d c j (by decide), Finset.mem_erase.mpr ⟨cell_ne d c j (by decide),
      Finset.mem_erase.mpr ⟨cell_ne d c j (by decide), Finset.mem_erase.mpr ⟨cell_ne d c j (by decide),
        Finset.mem_erase.mpr ⟨cell_ne d c j (by decide), mem_cell d c j (s := cc0_scoped1) (by decide)⟩⟩⟩⟩⟩)]

abbrev bufR (c : Fin τ.nSC) (j : Fin τ.nSub) (b : Ref sig .scVector) : DevRef τ sig := (Proc.scVector c j).devRef b

abbrev restRefs : Finset (DevRef τ sig) :=
  ((((ownRefs (τ := τ) (sig := sig) (.scVector c j)).erase (bufR c j cc0_scratch0)).erase (bufR c j cc0_scratch1)).erase (bufR c j cc0_scratch2)).erase
    (bufR c j cc0_scratch3)

theorem bufR_ne {a b : Ref sig .scVector} (h : a ≠ b) : bufR c j a ≠ bufR c j b := fun e => h (Proc.devRef_injective _ e)

theorem ownBufs_V :
    (ownBufs (V d c j) : sProp 𝕄)
      = iprop((∃ f, (V d c j).loc cc0_scratch0 ↦{fullShare} f) ∗ (∃ f, (V d c j).loc cc0_scratch1 ↦{fullShare} f)
          ∗ (∃ f, (V d c j).loc cc0_scratch2 ↦{fullShare} f) ∗ (∃ f, (V d c j).loc cc0_scratch3 ↦{fullShare} f)
          ∗ bigSep (restRefs c j) fun b => iprop(∃ f, ((d, b) : Loc nD τ sig) ↦{fullShare} f)) := by
  unfold SparseCore.Cfg.ownBufs
  refine (SparseCore.bigSep_erase' (SparseCore.Cfg.mem_ownRefs_of_owner (p := Proc.scVector c j) (b := bufR c j cc0_scratch0) rfl)).trans ?_
  rw [SparseCore.bigSep_erase' (Finset.mem_erase.mpr ⟨bufR_ne c j (by decide),
      SparseCore.Cfg.mem_ownRefs_of_owner (p := Proc.scVector c j) (b := bufR c j cc0_scratch1) rfl⟩),
    SparseCore.bigSep_erase' (Finset.mem_erase.mpr ⟨bufR_ne c j (by decide), Finset.mem_erase.mpr ⟨bufR_ne c j (by decide),
      SparseCore.Cfg.mem_ownRefs_of_owner (p := Proc.scVector c j) (b := bufR c j cc0_scratch2) rfl⟩⟩),
    SparseCore.bigSep_erase' (Finset.mem_erase.mpr ⟨bufR_ne c j (by decide), Finset.mem_erase.mpr ⟨bufR_ne c j (by decide),
      Finset.mem_erase.mpr ⟨bufR_ne c j (by decide), SparseCore.Cfg.mem_ownRefs_of_owner (p := Proc.scVector c j) (b := bufR c j cc0_scratch3) rfl⟩⟩⟩)]

end Own

/-! ## Words and offsets -/

/-- Element `(r, c)` of the merged array. -/
def xAt (cx : S16384x2048.Idx → F .f32) (r c : ℕ) : F .f32 :=
  cx fun a => ⟨(![r, c] a) % S16384x2048.size a, Nat.mod_lt _ (by match a with | 0 => decide | 1 => decide)⟩

theorem xAt_of_idx (cx : S16384x2048.Idx → F .f32) (i : S16384x2048.Idx) {r c : ℕ} (hr : (i 0).val = r) (hc : (i 1).val = c) : cx i = xAt cx r c := by
  refine congrArg cx (funext fun a => Fin.ext ?_)
  match a with
  | 0 => subst hr; exact (Nat.mod_eq_of_lt (i 0).isLt).symm
  | 1 => subst hc; exact (Nat.mod_eq_of_lt (i 1).isLt).symm

/-- The number of a task: its rows of the merged array are the 512 from `512 * wid`. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

theorem off4_col (L : grid0.Coords) (v : BitVec 32) : k0_off4 L v 1 = k0_off4 (fun | 0 => (0 : Fin 2) | 1 => (0 : Fin 16)) v 1 := by
  unfold k0_off4; simp only [Matrix.cons_val_one, Matrix.cons_val_zero]
theorem off4_row (L : grid0.Coords) (v : BitVec 32) : k0_off4 L v 0 = k0_off4 L 0#32 0 := by
  unfold k0_off4; simp only [Matrix.cons_val_one, Matrix.cons_val_zero]

theorem off4_col_all : ∀ n : Fin 2048, k0_off4 (fun | 0 => (0 : Fin 2) | 1 => (0 : Fin 16)) (BitVec.ofNat 32 n.val) 1 = 128 * (n.val / 128) := by
  decide +kernel
theorem cond1_all : ∀ n : Fin 2048, k0_cond1 (BitVec.ofNat 32 n.val) = 1#1 ∨ n.val / 128 = 10 := by
  decide +kernel
theorem mult1_all : ∀ n : Fin 2048, 128 ∣ (k0_mult1 (BitVec.ofNat 32 n.val)).toNat := by
  decide +kernel
theorem off4_row_all : ∀ (a : Fin 2) (b : Fin 16), k0_off4 (fun | 0 => a | 1 => b) 0#32 0 = 512 * (2 * b.val + a.val) := by
  decide +kernel
theorem off6_all : ∀ (a : Fin 2) (b : Fin 16), k0_off6 (fun | 0 => a | 1 => b) 0 = (2 * b.val + a.val) / 8 ∧ k0_off6 (fun | 0 => a | 1 => b) 1 = 512 * ((2 * b.val + a.val) % 8) := by
  decide +kernel

theorem eta (L : grid0.Coords) : L = (fun | 0 => L 0 | 1 => L 1) := funext fun a => match a with | 0 => rfl | 1 => rfl

theorem off4_eq0 (L : grid0.Coords) (v : BitVec 32) : k0_off4 L v 0 = 512 * wid L := by
  rw [off4_row]; exact off4_row_all (L 0) (L 1)
theorem off4_eq1 (L : grid0.Coords) {v : BitVec 32} (hv : v.toNat < 2048) : k0_off4 L v 1 = 128 * (v.toNat / 128) := by
  rw [off4_col]
  have := off4_col_all ⟨v.toNat, hv⟩
  simpa using this
theorem off6_eq0 (L : grid0.Coords) : k0_off6 L 0 = wid L / 8 := (off6_all (L 0) (L 1)).1
theorem off6_eq1 (L : grid0.Coords) : k0_off6 L 1 = 512 * (wid L % 8) := (off6_all (L 0) (L 1)).2

theorem chk1_of (L : grid0.Coords) {v : BitVec 32} (hv : v.toNat < 2048) : k0_chk1 L v := by
  refine ⟨fun _ => ?_, fun _ a => ?_⟩
  · have := mult1_all ⟨v.toNat, hv⟩
    simpa using this
  · have hw := wid_lt L
    match a with
    | 0 => rw [off4_eq0]; show 512 * wid L + 512 ≤ 16384; omega
    | 1 => rw [off4_eq1 L hv]; show 128 * (v.toNat / 128) + 128 ≤ 2048; omega

theorem cond1_of {v : BitVec 32} (hv : v.toNat < 2048) (h : ¬ k0_cond1 v = 1#1) : v.toNat / 128 = 10 := by
  rcases cond1_all ⟨v.toNat, hv⟩ with h' | h'
  · exact absurd (by simpa using h') h
  · exact h'

theorem pay18_all : ∀ n : Fin 2048, (Scalar.andi (BitVec.ofNat 32 n.val) 127#32).toNat = n.val % 128 := by decide +kernel
theorem pay18_eq {v : BitVec 32} (hv : v.toNat < 2048) (x : S16.Idx) : (k0_pay18 v x).toNat = v.toNat % 128 := by
  have := pay18_all ⟨v.toNat, hv⟩
  show (0#32 + Scalar.andi v 127#32).toNat = _
  simpa using this
theorem pay19_all : ∀ (k : Fin k0_t2_loop.trips) (x : Fin 16), (Scalar.muli (Scf.iv 0#32 1#32 k) 16#32 + BitVec.ofNat 32 x.val).toNat = 16 * k.val + x.val := by decide +kernel
theorem pay19_eq (k : Fin k0_t2_loop.trips) (x : S16.Idx) :
    (k0_pay19 (iota .scVector S16 32 [0] iota_S16_d0_w32_scVector) 0#32 k x).toNat = 16 * k.val + (x 0).val := by
  have h := pay19_all k (x 0)
  rw [← h]
  unfold k0_pay19
  show (Scalar.muli (Scf.iv 0#32 1#32 k) 16#32 + iota .scVector S16 32 [0] iota_S16_d0_w32_scVector x).toNat = _
  congr 2
  unfold iota
  simp

theorem chk2_of {v : BitVec 32} (hv : v.toNat < 2048) (k : Fin k0_t2_loop.trips) :
    k0_chk2 (k0_pay18 v) (k0_pay19 (iota .scVector S16 32 [0] iota_S16_d0_w32_scVector) 0#32 k) := by
  intro a x
  have hk : k.val < 32 := k.isLt
  match a with
  | 0 =>
    show (k0_pay19 _ 0#32 k x).toNat < 512
    rw [pay19_eq]; have : (x 0).val < 16 := (x 0).isLt; omega
  | 1 =>
    show (k0_pay18 v x).toNat < 128
    rw [pay18_eq hv]; omega

section Tile
variable (d : Dev nD) (L : grid0.Coords)

abbrev xq (L : grid0.Coords) : PosShare TreeShare := Transfers.shareTokN (Transfers.shareTokN fullShare (L 0).val) (L 1).val

abbrev h0V : Memref sig .scVector .vmem S256x128 .f32 := (s2V).slice (Rect.unit (s := S512x128) ![0, 0] S256x128.size inb_S512x128_S256x128_0_0) (fun _ => rfl)
abbrev h1V : Memref sig .scVector .vmem S256x128 .f32 := (s2V).slice (Rect.unit (s := S512x128) ![256, 0] S256x128.size inb_S512x128_S256x128_256_0) (fun _ => rfl)

/-- The 16 words of `b` at a window. -/
def ldv (b : S2048.Idx → F .f32) (off : Fin 1 → Nat) (h : ∀ a, off a + S16.size a ≤ S2048.size a) : Vec F S16 .f32 :=
  fun j => b ((Rect.unit (s := S2048) off S16.size h).idx j)

abbrev St1 (F : FTy → Type) : Type := FVec F S16 .f32 × IVec S16 32 × FVec F S16 .f32 × IVec S16 32

/-- One trip of the fold over `mu + g`: two blocks of 16 lanes, each with its own running maximum and where it was met. -/
def stp1 (cm cg : S2048.Idx → F .f32) (k : Fin k0_t1_loop.trips) (s : St1 F) : St1 F :=
  (k0_pay9 s.1 (ldv cm (k0_off2 k) (k0_off2_inb k)) (ldv cg (k0_off2 k) (k0_off2_inb k)),
   k0_pay10 k s.1 s.2.1 (ldv cm (k0_off2 k) (k0_off2_inb k)) (ldv cg (k0_off2 k) (k0_off2_inb k)),
   k0_pay11 s.2.2.1 (ldv cm (k0_off3 k) (k0_off3_inb k)) (ldv cg (k0_off3 k) (k0_off3_inb k)),
   k0_pay12 k s.2.2.1 s.2.2.2 (ldv cm (k0_off3 k) (k0_off3_inb k)) (ldv cg (k0_off3 k) (k0_off3_inb k)))

/-- The fold after `n` trips. -/
def lp1 (cm cg : S2048.Idx → F .f32) : ℕ → St1 F
  | 0 => (k0_pay1 (F := F), k0_pay2, k0_pay3 (F := F), k0_pay4)
  | n + 1 => if h : n < k0_t1_loop.trips then stp1 cm cg ⟨n, h⟩ (lp1 cm cg n) else lp1 cm cg n

theorem lp1_succ (cm cg : S2048.Idx → F .f32) (k : Fin k0_t1_loop.trips) : lp1 cm cg (k.val + 1) = stp1 cm cg k (lp1 cm cg k.val) := by
  rw [lp1, dif_pos k.isLt]

/-- The first loop's invariant: both vectors whole, the carried registers at the fold. -/
def inv1 (cm cg : S2048.Idx → F .f32) (k : ℕ) (s : St1 F) : sProp 𝕄 :=
  iprop(((s0V).view.loc (VT d L) ↦{fullShare} (cm : Buf (Elt F) ((s0V).view.loc (VT d L))))
    ∗ ((s1V).view.loc (VT d L) ↦{fullShare} (cg : Buf (Elt F) ((s1V).view.loc (VT d L)))) ∗ ⌜s = lp1 cm cg k⌝)

end Tile

end Cert.Proof.KI

end
-- ==== Proof.TileRun.lean ====
module

public import proofs.«01_k».proof.Proof.Tile
public import Idealize.ShloMosaic.Lib.Pointwise

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile
variable (d : Dev nD) (L : grid0.Coords)

/-- The column the task reads: from the fold's registers, the lowest position at which the largest lane was met. -/
def selS (s : St1 F) : BitVec 32 :=
  extractAt ![15] (k0_pay17 (k0_pay14 s.1 s.2.1 s.2.2.1 s.2.2.2) (k0_pay15 s.1 s.2.1 s.2.2.1 s.2.2.2) (k0_pay16 s.1 s.2.1 s.2.2.1 s.2.2.2)) inpos_S16_p15

def sel (cm cg : S2048.Idx → F .f32) : BitVec 32 := selS (lp1 cm cg k0_t1_loop.trips)

/-- 512 rows of 128 columns of the merged array: the task's rows, the columns from `c0`. -/
def blkC (L : grid0.Coords) (cx : S16384x2048.Idx → F .f32) (c0 : ℕ) : S512x128.Idx → F .f32 :=
  fun i => xAt cx (512 * wid L + (i 0).val) (c0 + (i 1).val)

theorem h0V_set : h0V.view.set = (Rect.unit (s := S512x128) ![0, 0] S256x128.size inb_S512x128_S256x128_0_0).set := by
  show (s2V.view.slice _).set = _
  rw [View.set_slice]; exact Finset.map_refl
theorem h1V_set : h1V.view.set = (Rect.unit (s := S512x128) ![256, 0] S256x128.size inb_S512x128_S256x128_256_0).set := by
  show (s2V.view.slice _).set = _
  rw [View.set_slice]; exact Finset.map_refl

theorem halves_disj : Disjoint h0V.view.set h1V.view.set := by
  rw [h0V_set, h1V_set, Finset.disjoint_left]
  intro i h0 h1
  have a := (Rect.mem_set_unit.mp h0 0).2
  have b := (Rect.mem_set_unit.mp h1 0).1
  have a' : (i 0).val < 0 + 256 := a
  have b' : 256 ≤ (i 0).val := b
  omega

theorem halves_cover : h0V.view.set ∪ h1V.view.set = Finset.univ := by
  rw [h0V_set, h1V_set]
  ext i
  simp only [Finset.mem_union, Finset.mem_univ, iff_true]
  have r : (i 0).val < 512 := (i 0).isLt
  have c : (i 1).val < 128 := (i 1).isLt
  by_cases h : (i 0).val < 256
  · refine .inl (Rect.mem_set_unit.mpr fun a => ?_)
    match a with
    | 0 => exact ⟨Nat.zero_le _, by show (i 0).val < 0 + 256; omega⟩
    | 1 => exact ⟨Nat.zero_le _, by show (i 1).val < 0 + 128; omega⟩
  · refine .inr (Rect.mem_set_unit.mpr fun a => ?_)
    match a with
    | 0 => exact ⟨by show 256 ≤ (i 0).val; omega, by show (i 0).val < 256 + 256; omega⟩
    | 1 => exact ⟨Nat.zero_le _, by show (i 1).val < 0 + 128; omega⟩

/-- The block buffer whole is its two halves. -/
theorem pts_halves (f : Buf (Elt F) (s2V.view.loc (VT d L))) :
    (s2V.view.loc (VT d L) ↦{fullShare} f : sProp 𝕄)
      ⊣⊢ iprop((h0V.view.loc (VT d L) ↦[h0V.view.set]{fullShare} f) ∗ (h1V.view.loc (VT d L) ↦[h1V.view.set]{fullShare} f)) := by
  have h : (s2V.view.loc (VT d L) ↦[h0V.view.set ∪ h1V.view.set]{fullShare} f : sProp 𝕄)
      ⊣⊢ iprop((s2V.view.loc (VT d L) ↦[h0V.view.set]{fullShare} f) ∗ (s2V.view.loc (VT d L) ↦[h1V.view.set]{fullShare} f)) :=
    pointsTo_union halves_disj
  rw [halves_cover] at h
  exact h

/-- What one piece written through a view leaves on the view's elements. -/
theorem writes_one {κ : Kind} {sp : Space} {s : Shape} {e : EltTy} (v : View sig κ sp s e) (f g : v.ty.Contents (Elt F))
    (w : s.Idx → Elt F e) (h : ∀ j, (_root_.cast (congrArg (Elt F) v.elt_eq.symm) (w j)) = g (v.emb j)) :
    ∀ i ∈ v.set, (v.writes (Elt F) f [⟨Rect.whole s, w⟩]) i = g i := by
  intro i hi
  obtain ⟨j, -, rfl⟩ := Finset.mem_map.mp hi
  rw [View.writes_singleton]
  have e : v.emb j = (v.slice (Rect.whole s)).emb j := by
    show v.emb j = v.emb ((Rect.whole s).idx j)
    congr 1
    funext a; exact Fin.ext (by simp [Rect.whole])
  rw [e, View.write_emb_of_mem _ _ (Finset.mem_univ _), ← e]
  exact h j

/-- The task's part of the result: column `v` of its rows. -/
def colC (L : grid0.Coords) (cx : S16384x2048.Idx → F .f32) (v : BitVec 32) : S512.Idx → F .f32 :=
  fun i => xAt cx (512 * wid L + (i 0).val) v.toNat

/-- The second loop's invariant: the block of columns, and the column filled up to the trip's row. -/
def inv2 (cx : S16384x2048.Idx → F .f32) (v : BitVec 32) (k : ℕ) (_ : BitVec 32) : sProp 𝕄 :=
  iprop((s2V.view.loc (VT d L) ↦{fullShare} (blkC L cx (128 * (v.toNat / 128)) : Buf (Elt F) (s2V.view.loc (VT d L))))
    ∗ ∃ f : Buf (Elt F) (s3V.view.loc (VT d L)), (s3V.view.loc (VT d L) ↦{fullShare} f)
      ∗ ⌜∀ i : S512.Idx, (i 0).val < 16 * k → (f : S512.Idx → F .f32) i = colC L cx v i⌝)

/-- The result the tasks leave: column `v` of the merged array, cut into four rows of 4096. -/
def outC (cx : S16384x2048.Idx → F .f32) (v : BitVec 32) : S4x4096.Idx → F .f32 :=
  fun i => xAt cx (4096 * (i 0).val + (i 1).val) v.toNat

theorem row_idx (j : S512.Idx) : ∀ a, ((Shape.reshapeEquiv squeezes_S1x512_S512.numel_eq j : S1x512.Idx) a).val = ![0, (j 0).val] a := by
  have h : (Shape.reshapeEquiv squeezes_S1x512_S512.numel_eq j : S1x512.Idx) = (fun | 0 => ⟨0, by decide⟩ | 1 => j 0) := by
    refine Shape.reshapeEquiv_eq_of_rowMajor _ ?_
    rw [rowMajor_val1, rowMajor_val2 _ 512 rfl]
    show 0 * 512 + (j 0).val = (j 0).val
    omega
  intro a
  rw [h]
  match a with
  | 0 => rfl
  | 1 => rfl

/-- One trip of the second loop fills 16 more elements of the column. -/
theorem fill_step (cx : S16384x2048.Idx → F .f32) (v : BitVec 32) (k : Fin k0_t2_loop.trips) (f : S512.Idx → F .f32)
    (hf : ∀ i : S512.Idx, (i 0).val < 16 * k.val → f i = colC L cx v i)
    (hb : ∀ a : Fin S512.rank, k0_off5 k a + S16.size a ≤ S512.size a) (w : S16.Idx → F .f32)
    (hw : ∀ x : S16.Idx, w x = xAt cx (512 * wid L + (16 * k.val + (x 0).val)) v.toNat) :
    ∀ i : S512.Idx, (i 0).val < 16 * (k.val + 1) →
      (s3V.view.writes (Elt F) f [⟨Rect.unit (k0_off5 k) S16.size hb, w⟩] : S512.Idx → F .f32) i = colC L cx v i := by
  intro i hi
  rw [View.writes_singleton]
  have ho : k0_off5 k 0 = 16 * k.val := by rw [k0_off5_eq]; rfl
  by_cases h : (i 0).val < 16 * k.val
  · refine (View.write_of_not_mem (Val := Elt F) (v := s3V.view.slice (Rect.unit (k0_off5 k) S16.size hb)) f w Finset.univ (fun hm => ?_)).trans (hf i h)
    obtain ⟨x, -, hx⟩ := Finset.mem_map.mp hm
    have hx0 : (i 0).val = k0_off5 k 0 + 1 * (x 0).val := by rw [← hx]; rfl
    rw [ho] at hx0
    omega
  · have hlt : (i 0).val - 16 * k.val < 16 := by omega
    let x : S16.Idx := fun a => ⟨(i 0).val - 16 * k.val, by match a with | 0 => exact hlt⟩
    have e : (s3V.view.slice (Rect.unit (k0_off5 k) S16.size hb)).emb x = i := by
      refine funext fun a => Fin.ext ?_
      match a with
      | 0 =>
        show k0_off5 k 0 + 1 * ((i 0).val - 16 * k.val) = (i 0).val
        rw [ho]; omega
    have r := View.write_emb_of_mem (Val := Elt F) (v := s3V.view.slice (Rect.unit (k0_off5 k) S16.size hb)) f w (Finset.mem_univ x)
    rw [e] at r
    refine r.trans ((hw _).trans ?_)
    show xAt cx (512 * wid L + (16 * k.val + ((i 0).val - 16 * k.val))) _ = xAt cx (512 * wid L + (i 0).val) _
    congr 1
    omega

theorem tile_run (O : CellTallies nD τ sig (HIx 1)) (W : Waits sig (HIx 1))
    (cx : Buf (Elt F) (xLoc d)) (cm : Buf (Elt F) (mLoc d)) (cg : Buf (Elt F) (gLoc d)) (co : Buf (Elt F) (oLoc d))
    (hsel : (sel (F := F) cm cg).toNat < 2048)
    (f0 : Buf (Elt F) ((s0V).view.loc (VT d L))) (f1 : Buf (Elt F) ((s1V).view.loc (VT d L))) (f2 : Buf (Elt F) ((s2V).view.loc (VT d L))) (f3 : Buf (Elt F) ((s3V).view.loc (VT d L))) :
    (iprop(Transfers.MayWaits (VT d L) (default : HIx 1) O
        ∗ ((xV).view.loc (VT d L) ↦{Transfers.shareTokN (xq L) 0} cx)
        ∗ ((xV).view.loc (VT d L) ↦{Transfers.shareTokN (xq L) 1} cx)
        ∗ ((mV).view.loc (VT d L) ↦{xq L} cm)
        ∗ ((gV).view.loc (VT d L) ↦{xq L} cg)
        ∗ ((oRow L).view.loc (VT d L) ↦[(oRow L).view.set]{fullShare} co)
        ∗ ((s0V).view.loc (VT d L) ↦{fullShare} f0)
        ∗ ((s1V).view.loc (VT d L) ↦{fullShare} f1)
        ∗ ((h0V).view.loc (VT d L) ↦[(h0V).view.set]{fullShare} f2)
        ∗ ((h1V).view.loc (VT d L) ↦[(h1V).view.set]{fullShare} f2)
        ∗ ((s3V).view.loc (VT d L) ↦{fullShare} f3)
        ∗ semVal (cell d (cV L) (jV L) cc0_scratch4) 0 ∗ semVal (cell d (cV L) (jV L) cc0_scratch5) 0 ∗ semVal (cell d (cV L) (jV L) cc0_scratch6) 0
        ∗ semVal (cell d (cV L) (jV L) cc0_scratch7) 0 ∗ semVal (cell d (cV L) (jV L) cc0_scoped0) 0 ∗ semVal (cell d (cV L) (jV L) cc0_scoped1) 0
        ∗ owes (VT d L) O W) : sProp 𝕄)
      ⊢ wp frame (wpE (defs₀ (F := F)) 𝒱₀ (VT d L) none) Set.univ
          (cc0__sc_body L xV (Memref.isWhole_whole _) mV (Memref.isWhole_whole _) gV (Memref.isWhole_whole _) oV (Memref.isWhole_whole _)
            s0V (Memref.isWhole_whole _) s1V (Memref.isWhole_whole _) s2V (Memref.isWhole_whole _) s3V (Memref.isWhole_whole _)
            cc0_scratch4 cc0_scratch5 cc0_scratch6 cc0_scratch7 cc0_scoped0 cc0_scoped1)
          fun _ => iprop(((xV).view.loc (VT d L) ↦{Transfers.shareTokN (xq L) 0} cx)
            ∗ ((xV).view.loc (VT d L) ↦{Transfers.shareTokN (xq L) 1} cx)
            ∗ ((mV).view.loc (VT d L) ↦{xq L} cm)
            ∗ ((gV).view.loc (VT d L) ↦{xq L} cg)
            ∗ ((oRow L).view.loc (VT d L) ↦[(oRow L).view.set]{fullShare} (outC cx (sel cm cg) : Buf (Elt F) (oLoc d)))
            ∗ (∃ f, (s0V).view.loc (VT d L) ↦{fullShare} f)
            ∗ (∃ f, (s1V).view.loc (VT d L) ↦{fullShare} f)
            ∗ (∃ f, (s2V).view.loc (VT d L) ↦{fullShare} f)
            ∗ (∃ f, (s3V).view.loc (VT d L) ↦{fullShare} f)
            ∗ semVal (cell d (cV L) (jV L) cc0_scratch4) 0 ∗ semVal (cell d (cV L) (jV L) cc0_scratch5) 0 ∗ semVal (cell d (cV L) (jV L) cc0_scratch6) 0
            ∗ semVal (cell d (cV L) (jV L) cc0_scratch7) 0 ∗ semVal (cell d (cV L) (jV L) cc0_scoped0) 0 ∗ semVal (cell d (cV L) (jV L) cc0_scoped1) 0
            ∗ ∃ W', owes (VT d L) O W') := by
  iintro ⟨#Hmw, Hx0, Hx1, Hm, Hg, Ho, H0, H1, H2, H2', H3, C4, C5, C6, C7, C8, C9, HO⟩
  rw [cc0__sc_body_eq_skeleton]; unfold cc0__sc_body_skel
  rw [k0_part4_eq_skeleton]; unfold k0_part4_skel
  rw [k0_part1_eq_skeleton]; unfold k0_part1_skel
  sl_exec
  have e0 : View.write (Elt F) (s0V).view f0 (tile_run.sl.dma0_2 d cm) Finset.univ = (cm : Buf (Elt F) ((s0V).view.loc (VT d L))) := by
    rw [View.write_whole_univ]; rfl
  have e1 : View.write (Elt F) (s1V).view f1 (tile_run.sl.dma0_3 d cg) Finset.univ = (cg : Buf (Elt F) ((s1V).view.loc (VT d L))) := by
    rw [View.write_whole_univ]; rfl
  rw [e0, e1]
  rw [bind_assoc, bind_assoc]
  sl_for (inv1 d L cm cg) $$ [H0 H1]
  case region =>
    intro k s
    unfold inv1
    iintro ⟨H0, H1, %hs⟩
    obtain ⟨a15, a16, a17, a18⟩ := s
    sl_exec
    sl_step
    isplitl [H0]; · iexact H0
    isplitl [H1]; · iexact H1
    ipureintro
    rw [lp1_succ, ← hs]
    rfl
  · unfold inv1
    isplitl [H0]; · iexact H0
    isplitl [H1]; · iexact H1
    ipureintro; rfl
  iintro %s HI
  unfold inv1
  icases HI with ⟨H0, H1, %hs⟩
  have hv : (selS s).toNat < 2048 := hs ▸ hsel
  have hk1 : k0_chk1 L (selS s) := chk1_of L hv
  sl_exec
  have o1 : k0_off1 L 0#32 = ![1024 * (L 1).val + 512 * (L 0).val + 256 * 0, 1280] := k0_off1_eq L 0
  have o2 : k0_off1 L 256#32 = ![1024 * (L 1).val + 512 * (L 0).val + 256 * 1, 1280] := k0_off1_eq L 1
  have w0 := writes_one (F := F) h0V.view f2 (blkC L cx 1280) (tile_run.sl.dma0 d L cx) (fun j => by
    refine xAt_of_idx cx _ ?_ ?_
    · show k0_off1 L 0#32 0 + 1 * (j 0).val = 512 * wid L + (0 + 1 * (j 0).val)
      rw [o1]; show 1024 * (L 1).val + 512 * (L 0).val + 256 * 0 + _ = _; unfold wid; omega
    · show k0_off1 L 0#32 1 + 1 * (j 1).val = 1280 + (0 + 1 * (j 1).val)
      rw [o1]; show 1280 + _ = _; omega)
  have w1 := writes_one (F := F) h1V.view f2 (blkC L cx 1280) (tile_run.sl.dma0_1 d L cx) (fun j => by
    refine xAt_of_idx cx _ ?_ ?_
    · show k0_off1 L 256#32 0 + 1 * (j 0).val = 512 * wid L + (256 + 1 * (j 0).val)
      rw [o2]; show 1024 * (L 1).val + 512 * (L 0).val + 256 * 1 + _ = _; unfold wid; omega
    · show k0_off1 L 256#32 1 + 1 * (j 1).val = 1280 + (0 + 1 * (j 1).val)
      rw [o2]; show 1280 + _ = _; omega)
  ihave H2a := (Entails.of_eq (pointsTo_congr w0)) $$ H2
  ihave H2b := (Entails.of_eq (pointsTo_congr w1)) $$ H2'
  ihave H2j := (pts_halves (F := F) d L (blkC L cx 1280)).2 $$ [H2a H2b]
  · isplitl [H2a]; · iexact H2a
    iexact H2b
  rcases Classical.em (k0_cond1 (selS s) = 1#1) with hc | hc
  case' inl =>
    sl_exec (disch := first | sl_exact hc)
    have e2 : View.write (Elt F) s2V.view (blkC L cx 1280) (tile_run.sl.dma0_4 d L cx s hk1 hc) Finset.univ
        = (blkC L cx (128 * ((selS s).toNat / 128)) : Buf (Elt F) (s2V.view.loc (VT d L))) := by
      rw [View.write_whole_univ]
      funext j
      refine xAt_of_idx cx _ ?_ ?_
      · show k0_off4 L (selS s) 0 + 1 * (j 0).val = _
        rw [off4_eq0]; omega
      · show k0_off4 L (selS s) 1 + 1 * (j 1).val = _
        rw [off4_eq1 L hv]; omega
    rw [e2]
  case' inr =>
    sl_exec (disch := first | sl_exact hc)
    have e2 : (1280 : ℕ) = 128 * ((selS s).toNat / 128) := by rw [cond1_of hv hc]
    rw [e2]
  all_goals
    rw [bind_assoc]
    sl_for (inv2 d L cx (selS s)) $$ [H2j H3]
    case region =>
      intro k a
      unfold inv2
      iintro ⟨H2, %f, H3, %hf⟩
      have hk2 := chk2_of hv k
      sl_exec
      ihave H2' := (show (s2V.view.loc (VT d L) ↦{fullShare} (blkC L cx (128 * ((selS s).toNat / 128)) : Buf (Elt F) (s2V.view.loc (VT d L))) : sProp 𝕄)
        ⊢ ((s2V.access (Rect.whole S512x128)).loc (VT d L) ↦[Finset.univ]{fullShare} (blkC L cx (128 * ((selS s).toNat / 128)) : Buf (Elt F) (s2V.view.loc (VT d L)))) from .rfl) $$ H2
      iapply (SparseCore.wp_vectorLoadIdx 𝒱₀ (VT d L) none Set.univ (base := s2V) (S := Finset.univ) (q := fullShare) (Finset.subset_univ _)) $$ H2'; iintro H2
      sl_exec
      sl_step
      isplitl [H2]; · iexact H2
      iexists _
      isplitl [H3]; · iexact H3
      ipureintro
      refine fill_step L cx (selS s) k f hf _ _ fun x => ?_
      have a0 := pay19_eq k x
      have a1 := pay18_eq hv x
      refine (show loadIdx _ _ _ x = xAt cx (512 * wid L + (k0_pay19 (iota .scVector S16 32 [0] iota_S16_d0_w32_scVector) 0#32 k x).toNat)
        (128 * ((selS s).toNat / 128) + (k0_pay18 (selS s) x).toNat) from ?_).trans ?_
      · exact congrArg (fun p : S512x128.Idx => blkC L cx (128 * ((selS s).toNat / 128)) p)
          (funext fun a => Fin.ext (match a with
            | 0 => Nat.zero_add _ |>.trans (Nat.one_mul _)
            | 1 => Nat.zero_add _ |>.trans (Nat.one_mul _)) : _ = (idxAt ![k0_pay19 (iota .scVector S16 32 [0] iota_S16_d0_w32_scVector) 0#32 k, k0_pay18 (selS s)] hk2 x : S512x128.Idx))
      · rw [a0, a1, Nat.div_add_mod]
    · unfold inv2
      isplitl [H2j]; · iexact H2j
      iexists f3
      isplitl [H3]; · iexact H3
      ipureintro
      exact fun i hi => absurd hi (Nat.not_lt_zero _)
    iintro %_ HI
    unfold inv2
    icases HI with ⟨H2, %f, H3, %hf⟩
    sl_exec
    sl_step
    isplitl [Hx0]; · iexact Hx0
    isplitl [Hx1]; · iexact Hx1
    isplitl [Hm]; · iexact Hm
    isplitl [Hg]; · iexact Hg
    isplitl [Ho]
    · iapply (Entails.of_eq (pointsTo_congr (writes_one (F := F) (oRow L).view co (outC cx (sel cm cg)) f (fun j => by
        have hj : (j 0).val < 512 := (j 0).isLt
        have hw := wid_lt L
        have r0 := row_idx j 0
        have r1 := row_idx j 1
        refine (hf j (by show (j 0).val < 16 * 32; omega)).trans ?_
        rw [hs]
        show xAt cx _ _ = xAt cx (4096 * (k0_off6 L 0 + 1 * (Shape.reshapeEquiv squeezes_S1x512_S512.numel_eq j 0).val)
          + (k0_off6 L 1 + 1 * (Shape.reshapeEquiv squeezes_S1x512_S512.numel_eq j 1).val)) _
        have r2 : 512 * wid L + (j 0).val = 4096 * (k0_off6 L 0 + 1 * (Shape.reshapeEquiv squeezes_S1x512_S512.numel_eq j 0).val)
          + (k0_off6 L 1 + 1 * (Shape.reshapeEquiv squeezes_S1x512_S512.numel_eq j 1).val) := by
          rw [r0, r1, off6_eq0, off6_eq1]
          show 512 * wid L + (j 0).val = 4096 * (wid L / 8 + 1 * 0) + (512 * (wid L % 8) + 1 * (j 0).val)
          omega
        rw [← r2]
        rfl))))
      iexact Ho
    isplitl [H0]; · iexists _; iexact H0
    isplitl [H1]; · iexists _; iexact H1
    isplitl [H2]; · iexists _; iexact H2
    isplitl [H3]; · iexists _; iexact H3
    isplitl [C4]; · iexact C4
    isplitl [C5]; · iexact C5
    isplitl [C6]; · iexact C6
    isplitl [C7]; · iexact C7
    isplitl [C8]; · iexact C8
    isplitl [C9]; · iexact C9
    iexists _; iexact HO

end Tile

end Cert.Proof.KI

end
-- ==== Proof.Sel.lean ====
module

public import proofs.«01_k».proof.Proof.TileRun
public import Idealize.ShloMosaic.Lib.Pointwise

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! # The column the kernel picks names one of the 2048 columns -/

theorem minui_le_left (a b : BitVec 32) : (IntOp.minui a b).toNat ≤ a.toNat := by
  unfold IntOp.minui; split <;> simp_all [BitVec.ult, BitVec.ule] <;> omega
theorem minui_le_right (a b : BitVec 32) : (IntOp.minui a b).toNat ≤ b.toNat := by
  unfold IntOp.minui; split <;> simp_all [BitVec.ult, BitVec.ule] <;> omega
theorem minui_or (a b : BitVec 32) : IntOp.minui a b = a ∨ IntOp.minui a b = b := by
  unfold IntOp.minui; split <;> simp

/-- The running smallest word: one of the words it ran over, and none of them is below it. -/
theorem foldl_minui {ι : Type} (g : ι → BitVec 32) (l : List ι) : ∀ r : BitVec 32,
    (l.foldl (fun r k => IntOp.minui r (g k)) r).toNat ≤ r.toNat
      ∧ (∀ k ∈ l, (l.foldl (fun r k => IntOp.minui r (g k)) r).toNat ≤ (g k).toNat)
      ∧ (l.foldl (fun r k => IntOp.minui r (g k)) r = r ∨ ∃ k ∈ l, l.foldl (fun r k => IntOp.minui r (g k)) r = g k) := by
  induction l with
  | nil => exact fun r => ⟨le_rfl, fun _ h => absurd h (List.not_mem_nil), .inl rfl⟩
  | cons a l ih =>
    intro r
    obtain ⟨h1, h2, h3⟩ := ih (IntOp.minui r (g a))
    refine ⟨h1.trans (minui_le_left _ _), fun k hk => ?_, ?_⟩
    · rcases List.mem_cons.mp hk with rfl | hk
      · exact h1.trans (minui_le_right _ _)
      · exact h2 k hk
    · rcases h3 with h3 | ⟨k, hk, h3⟩
      · rcases minui_or r (g a) with e | e
        · exact .inl (h3.trans e)
        · exact .inr ⟨a, List.mem_cons_self, h3.trans e⟩
      · exact .inr ⟨k, List.mem_cons_of_mem _ hk, h3⟩

theorem flip_all : ∀ n : Fin 2048, (BitVec.ofNat 32 n.val ^^^ 2147483648#32).toNat = n.val + 2147483648 := by decide +kernel
theorem flip_toNat {w : BitVec 32} (h : w.toNat < 2048) : (w ^^^ 2147483648#32).toNat = w.toNat + 2147483648 := by
  simpa using flip_all ⟨w.toNat, h⟩

/-- The last lane of the running smallest word, the sign bit flipped before and after: the smallest of the 16 words. -/
theorem last_min (w : IVec S16 32) (hw : ∀ x, (w x).toNat < 2048) :
    (∃ x, extractAt ![15] (xori (scan .min (xori w (broadcast S16 2147483648#32))) (broadcast S16 2147483648#32)) inpos_S16_p15 = w x)
      ∧ ∀ x, (extractAt ![15] (xori (scan .min (xori w (broadcast S16 2147483648#32))) (broadcast S16 2147483648#32)) inpos_S16_p15).toNat ≤ (w x).toNat := by
  let l : List (Fin 16) := (List.finRange 16).filter fun k => decide (0 < k.val ∧ k.val ≤ 15)
  let g : Fin 16 → BitVec 32 := fun k => w (Shape.ofLane k) ^^^ 2147483648#32
  have e : extractAt ![15] (xori (scan .min (xori w (broadcast S16 2147483648#32))) (broadcast S16 2147483648#32)) inpos_S16_p15
      = (l.foldl (fun r k => IntOp.minui r (g k)) (g 0)) ^^^ 2147483648#32 := rfl
  obtain ⟨h1, h2, h3⟩ := foldl_minui g l (g 0)
  have hm : ∃ k, l.foldl (fun r k => IntOp.minui r (g k)) (g 0) = g k := by
    rcases h3 with h | ⟨k, -, h⟩
    · exact ⟨0, h⟩
    · exact ⟨k, h⟩
  have hle : ∀ k, (l.foldl (fun r k => IntOp.minui r (g k)) (g 0)).toNat ≤ (g k).toNat := by
    intro k
    by_cases hk : k = 0
    · exact hk ▸ h1
    · refine h2 k (List.mem_filter.mpr ⟨List.mem_finRange k, ?_⟩)
      have : k.val ≠ 0 := fun h => hk (Fin.ext h)
      simp; omega
  obtain ⟨k, hk⟩ := hm
  rw [e, hk]
  have ek : g k ^^^ 2147483648#32 = w (Shape.ofLane k) := by
    show (_ ^^^ _) ^^^ _ = _
    rw [BitVec.xor_assoc, BitVec.xor_self, BitVec.xor_zero]
  rw [ek]
  refine ⟨⟨_, rfl⟩, fun x => ?_⟩
  have hx : w x = w (Shape.ofLane (x 0)) := congrArg w (funext fun a => by match a with | 0 => rfl)
  have := hle (x 0)
  rw [hk] at this
  have a1 : (g k).toNat = _ := flip_toNat (hw (Shape.ofLane k))
  have a2 : (g (x 0)).toNat = _ := flip_toNat (hw (Shape.ofLane (x 0)))
  rw [a1, a2] at this
  rw [hx]; omega

theorem pos_even : ∀ (k : Fin k0_t1_loop.trips) (x : Fin 16),
    (Scalar.muli (Scalar.muli (Scf.iv 0#32 1#32 k) 2#32) 16#32 + BitVec.ofNat 32 x.val).toNat = 32 * k.val + x.val := by decide +kernel
theorem pos_odd : ∀ (k : Fin k0_t1_loop.trips) (x : Fin 16),
    (Scalar.addi (Scalar.muli (Scalar.muli (Scf.iv 0#32 1#32 k) 2#32) 16#32) 16#32 + BitVec.ofNat 32 x.val).toNat = 32 * k.val + 16 + x.val := by decide +kernel

theorem iota_at (x : S16.Idx) : iota .scVector S16 32 [0] iota_S16_d0_w32_scVector x = BitVec.ofNat 32 (x 0).val := by
  unfold iota; simp

/-- The positions the even blocks' registers hold after a trip. -/
theorem pay10_at (k : Fin k0_t1_loop.trips) (b : FVec F S16 .f32) (i : IVec S16 32) (v w : Vec F S16 .f32) (x : S16.Idx) :
    k0_pay10 k b i v w x = Scalar.select (k0_pay7 b v w x)
      (Scalar.muli (Scalar.muli (Scf.iv 0#32 1#32 k) 2#32) 16#32 + BitVec.ofNat 32 (x 0).val) (i x) := by
  rw [← iota_at]; rfl
/-- The positions the odd blocks' registers hold after a trip. -/
theorem pay12_at (k : Fin k0_t1_loop.trips) (b : FVec F S16 .f32) (i : IVec S16 32) (v w : Vec F S16 .f32) (x : S16.Idx) :
    k0_pay12 k b i v w x = Scalar.select (k0_pay8 b v w x)
      (Scalar.addi (Scalar.muli (Scalar.muli (Scf.iv 0#32 1#32 k) 2#32) 16#32) 16#32 + BitVec.ofNat 32 (x 0).val) (i x) := by
  rw [← iota_at]; rfl

theorem select_lt {c : BitVec 1} {a b : BitVec 32} (ha : a.toNat < 2048) (hb : b.toNat < 2048) : (Scalar.select c a b).toNat < 2048 := by
  unfold Scalar.select; split <;> assumption

theorem lp1_lt (cm cg : S2048.Idx → F .f32) : ∀ n, (∀ x, ((lp1 cm cg n).2.1 x).toNat < 2048) ∧ ∀ x, ((lp1 cm cg n).2.2.2 x).toNat < 2048
  | 0 => ⟨fun _ => by show (0#32).toNat < 2048; decide, fun _ => by show (0#32).toNat < 2048; decide⟩
  | n + 1 => by
    have ih := lp1_lt cm cg n
    by_cases h : n < k0_t1_loop.trips
    · have hn : n < 64 := h
      rw [show n + 1 = (⟨n, h⟩ : Fin k0_t1_loop.trips).val + 1 from rfl, lp1_succ]
      refine ⟨fun x => ?_, fun x => ?_⟩
      · refine (congrArg BitVec.toNat (pay10_at ⟨n, h⟩ _ _ _ _ x)).trans_lt (select_lt ?_ (ih.1 x))
        have e := pos_even ⟨n, h⟩ (x 0); have : (x 0).val < 16 := (x 0).isLt; refine e.trans_lt ?_; show 32 * n + (x 0).val < 2048; omega
      · refine (congrArg BitVec.toNat (pay12_at ⟨n, h⟩ _ _ _ _ x)).trans_lt (select_lt ?_ (ih.2 x))
        have e := pos_odd ⟨n, h⟩ (x 0); have : (x 0).val < 16 := (x 0).isLt; refine e.trans_lt ?_; show 32 * n + 16 + (x 0).val < 2048; omega
    · rw [lp1, dif_neg h]; exact ih

/-- Lane `j` of a vector of 16. -/
abbrev ln (j : Fin 16) : S16.Idx := Shape.ofLane j

/-- The largest of the 16 lanes, by the chain of maxima. -/
def topS (b : FVec F S16 .f32) : F .f32 :=
  ([1, 2, 3, 4, 5, 6, 7, 8, 9, 10, 11, 12, 13, 14, 15] : List (Fin 16)).foldl (fun r j => Scalar.maximumf r (b (ln j))) (b (ln 0))

theorem lane_at (b : FVec F S16 .f32) (j : ℕ) (hj : j < 16) (h h') : extractAt ![0] (extractStridedSlice S1 ![j] b h) h' = b (ln ⟨j, hj⟩) :=
  congrArg b (funext fun a => by match a with | 0 => rfl)

/-- The lanes' positions where the lane holds the largest, the last column elsewhere. -/
def maskS (b : FVec F S16 .f32) (i : IVec S16 32) : IVec S16 32 :=
  fun x => Scalar.select (cmpf .oeq b (broadcast S16 (topS b)) x) (i x) 2047#32

theorem pay17_eq (b : FVec F S16 .f32) (i : IVec S16 32) (h) :
    k0_pay17 b i (extractStridedSlice S1 ![0] b h) = xori (scan .min (xori (maskS b i) (broadcast S16 2147483648#32))) (broadcast S16 2147483648#32) := by
  unfold k0_pay17
  simp only [lane_at b 0 (by decide), lane_at b 1 (by decide), lane_at b 2 (by decide), lane_at b 3 (by decide), lane_at b 4 (by decide),
    lane_at b 5 (by decide), lane_at b 6 (by decide), lane_at b 7 (by decide), lane_at b 8 (by decide), lane_at b 9 (by decide),
    lane_at b 10 (by decide), lane_at b 11 (by decide), lane_at b 12 (by decide), lane_at b 13 (by decide), lane_at b 14 (by decide),
    lane_at b 15 (by decide)]
  rfl

theorem selS_eq (s : St1 F) :
    selS s = extractAt ![15] (xori (scan .min (xori (maskS (k0_pay14 s.1 s.2.1 s.2.2.1 s.2.2.2) (k0_pay15 s.1 s.2.1 s.2.2.1 s.2.2.2))
      (broadcast S16 2147483648#32))) (broadcast S16 2147483648#32)) inpos_S16_p15 := by
  show extractAt ![15] (k0_pay17 _ _ (extractStridedSlice S1 ![0] (k0_pay14 s.1 s.2.1 s.2.2.1 s.2.2.2) slices_S16_o0_S1)) inpos_S16_p15 = _
  rw [pay17_eq]

theorem pay15_lt (b : FVec F S16 .f32) (i : IVec S16 32) (b' : FVec F S16 .f32) (i' : IVec S16 32)
    (h : ∀ x, (i x).toNat < 2048) (h' : ∀ x, (i' x).toNat < 2048) (x : S16.Idx) : (k0_pay15 b i b' i' x).toNat < 2048 :=
  select_lt (h' x) (h x)

theorem maskS_lt (b : FVec F S16 .f32) (i : IVec S16 32) (h : ∀ x, (i x).toNat < 2048) (x : S16.Idx) : (maskS b i x).toNat < 2048 :=
  select_lt (h x) (by decide)

/-- Whatever the vectors hold, the picked column is one of the 2048. -/
theorem sel_lt (cm cg : S2048.Idx → F .f32) : (sel cm cg).toNat < 2048 := by
  have hl := lp1_lt cm cg k0_t1_loop.trips
  unfold sel
  rw [selS_eq]
  obtain ⟨⟨x, hx⟩, -⟩ := last_min _ (maskS_lt (F := F) (k0_pay14 (F := F) (lp1 (F := F) cm cg k0_t1_loop.trips).1 (lp1 cm cg k0_t1_loop.trips).2.1
    (lp1 cm cg k0_t1_loop.trips).2.2.1 (lp1 cm cg k0_t1_loop.trips).2.2.2) _ (pay15_lt (F := F) _ _ _ _ hl.1 hl.2))
  rw [hx]
  exact maskS_lt (F := F) _ _ (pay15_lt (F := F) _ _ _ _ hl.1 hl.2) x

end Cert.Proof.KI

end
-- ==== Proof.Deal.lean ====
/-
What the call deals: each core a share of `x`, `mu` and `g` and its tasks' parts of the result, each task a share of that
and its own part. Every task hands its shares back, and its part of the result at column `sel` of `x`.
-/
module

public import proofs.«01_k».proof.Proof.Sel

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (C : Dev nD → Valuation τ sig (Elt F))

/-- What the call finds in the four buffers, and what it leaves in the result. -/
abbrev cX (d : Dev nD) : Buf (Elt F) (xLoc d) := C d (Proc.devRef .tc main_v12)
abbrev cM (d : Dev nD) : Buf (Elt F) (mLoc d) := C d (Proc.devRef .tc main_arg1)
abbrev cG (d : Dev nD) : Buf (Elt F) (gLoc d) := C d (Proc.devRef .tc main_v11)
abbrev cO (d : Dev nD) : Buf (Elt F) (oLoc d) := C d (Proc.devRef .tc main_v13)
abbrev cR (d : Dev nD) : Buf (Elt F) (oLoc d) := outC (F := F) (cX C d) (sel (F := F) (cM C d) (cG C d))

def coordsV (c : Fin (grid0.bound 0)) (s : Fin (grid0.bound 1)) : grid0.Coords :=
  fun | 0 => c | 1 => s | ⟨_ + 2, h⟩ => absurd h (Nat.not_lt.2 (Nat.le_add_left _ _))

/-- What a task is dealt: shares of the three arrays read, and its part of the result at contents `f`. -/
abbrev tPts (d : Dev nD) (L : grid0.Coords) (f : Buf (Elt F) (oLoc d)) : sProp 𝕄 :=
  iprop((xLoc d ↦{xq L} cX C d) ∗ (mLoc d ↦{xq L} cM C d) ∗ (gLoc d ↦{xq L} cG C d) ∗ (oLoc d ↦[oSet L]{fullShare} f))

/-- What a core is dealt. -/
abbrev cPts (d : Dev nD) (c : Fin (grid0.bound 0)) (f : Buf (Elt F) (oLoc d)) : sProp 𝕄 :=
  iprop((xLoc d ↦{Transfers.shareTokN fullShare c.val} cX C d) ∗ (mLoc d ↦{Transfers.shareTokN fullShare c.val} cM C d)
    ∗ (gLoc d ↦{Transfers.shareTokN fullShare c.val} cG C d) ∗ bigSep Finset.univ fun s : Fin (grid0.bound 1) => oLoc d ↦[oSet (coordsV c s)]{fullShare} f)

def P : (K (F := F)).Pay (nD := nD) (Val := Elt F) (Name := ℕ) (U := UU) where
  st := fun q d c => match q with | 0 => cPts C d ⟨c.val, c.isLt⟩ (cO C d)
  dn := fun q d c => match q with | 0 => cPts C d ⟨c.val, c.isLt⟩ (cR C d)
  go := fun q d c i => match q with | 0 => tPts C d (coordsV ⟨c.val, c.isLt⟩ ⟨i.val, i.isLt⟩) (cO C d)
  td := fun q d c i => match q with | 0 => tPts C d (coordsV ⟨c.val, c.isLt⟩ ⟨i.val, i.isLt⟩) (cR C d)
  x := fun _ _ => iprop(emp)

instance P_storable : (P (F := F) C).IsStorable where
  st q d c := match q with
    | 0 => (inferInstance : BI.Storable (upEmb : UEmb _ 𝕄) (cPts C d ⟨c.val, c.isLt⟩ (cO C d)))
  dn q d c := match q with
    | 0 => (inferInstance : BI.Storable (upEmb : UEmb _ 𝕄) (cPts C d ⟨c.val, c.isLt⟩ (cR C d)))
  go q d c i := match q with
    | 0 => (inferInstance : BI.Storable (upEmb : UEmb _ 𝕄) (tPts C d (coordsV ⟨c.val, c.isLt⟩ ⟨i.val, i.isLt⟩) (cO C d)))
  td q d c i := match q with
    | 0 => (inferInstance : BI.Storable (upEmb : UEmb _ 𝕄) (tPts C d (coordsV ⟨c.val, c.isLt⟩ ⟨i.val, i.isLt⟩) (cR C d)))

/-! ## The task -/

section Task
variable (d : Dev nD) (L : grid0.Coords)

/-- A share of `x` as what stays and the two tokens the half copies read under. -/
theorem x_tokens (q : PosShare TreeShare) (f : Buf (Elt F) (xLoc d)) :
    (xLoc d ↦{q} f : sProp 𝕄) ⊣⊢ iprop((xLoc d ↦{Transfers.shareDrop q 2} f) ∗ (xLoc d ↦{Transfers.shareTokN q 0} f) ∗ (xLoc d ↦{Transfers.shareTokN q 1} f)) := by
  have h : (xLoc d ↦{q} f : sProp 𝕄) ⊣⊢ iprop((xLoc d ↦{Transfers.shareDrop q 2} f) ∗ bigSep (Finset.range 2) fun i => xLoc d ↦{Transfers.shareTokN q i} f) :=
    Transfers.pointsTo_toks_range (ℓ := xLoc d) (S := Finset.univ) (f := f) q 2
  rw [show Finset.range 2 = {0, 1} by decide, SparseCore.bigSep_insert' (by decide), bigSep_singleton] at h
  exact h

theorem o_pts (f : Buf (Elt F) (oLoc d)) :
    ((oRow L).view.loc (VT d L) ↦[(oRow L).view.set]{fullShare} f : sProp 𝕄) = (oLoc d ↦[oSet L]{fullShare} f) := by
  rw [set_oRow]

theorem tile_body (hF : (K (F := F)).Facts) (O : CellTallies nD τ sig (HIx 1)) (W : Waits sig (HIx 1)) (hO : ∀ g, O g none = 0) :
    iprop(levAts (K (F := F)).L (K (F := F)).lev ∗ emp ∗ tPts C d L (cO C d)
        ∗ scopedBufs (VT d L) ∗ scopedSems0 (VT d L) ∗ owes (VT d L) O W)
      ⊢ wp frame (wpE (defs₀ (F := F)) 𝒱₀ (VT d L) none) Set.univ
          (cc0__sc_body L xV (Memref.isWhole_whole _) mV (Memref.isWhole_whole _) gV (Memref.isWhole_whole _) oV (Memref.isWhole_whole _)
            s0V (Memref.isWhole_whole _) s1V (Memref.isWhole_whole _) s2V (Memref.isWhole_whole _) s3V (Memref.isWhole_whole _)
            cc0_scratch4 cc0_scratch5 cc0_scratch6 cc0_scratch7 cc0_scoped0 cc0_scoped1)
          fun _ => iprop(tPts C d L (cR C d)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Hm, Hg, Ho⟩, ⟨⟨%f0, H0⟩, ⟨%f1, H1⟩, ⟨%f2, H2⟩, ⟨%f3, H3⟩, Hbufs⟩, ⟨C4, C5, C6, C7, C8, C9, Hsems⟩, HO⟩
  ihave Hmw := (show levAts (K (F := F)).L (K (F := F)).lev ⊢ Transfers.MayWaits (VT d L) (default : HIx 1) O from
    (K (F := F)).mayWaits_none (thr := VT d L) hO) $$ Hlv
  ihave Ho' := (Entails.of_eq (o_pts (F := F) d L _).symm) $$ Ho
  ihave H2' := (pts_halves (F := F) d L f2).1 $$ H2
  icases H2' with ⟨H2a, H2b⟩
  ihave Hx' := (x_tokens d (xq L) (cX C d)).1 $$ Hx
  icases Hx' with ⟨Hxr, Hx0, Hx1⟩
  iapply (wp_wand_r Idealize.ShloMosaic.frame (wpE (defs₀ (F := F)) 𝒱₀ (VT d L) none) Set.univ)
  isplitl [Hx0 Hx1 Hm Hg Ho' H0 H1 H2a H2b H3 C4 C5 C6 C7 C8 C9 HO]
  · iapply (tile_run d L O W (cX C d) (cM C d) (cG C d) (cO C d) (sel_lt _ _) f0 f1 f2 f3)
    isplitr; · iexact Hmw
    isplitl [Hx0]; · iexact Hx0
    isplitl [Hx1]; · iexact Hx1
    isplitl [Hm]; · iexact Hm
    isplitl [Hg]; · iexact Hg
    isplitl [Ho']; · iexact Ho'
    isplitl [H0]; · iexact H0
    isplitl [H1]; · iexact H1
    isplitl [H2a]; · iexact H2a
    isplitl [H2b]; · iexact H2b
    isplitl [H3]; · iexact H3
    isplitl [C4]; · iexact C4
    isplitl [C5]; · iexact C5
    isplitl [C6]; · iexact C6
    isplitl [C7]; · iexact C7
    isplitl [C8]; · iexact C8
    isplitl [C9]; · iexact C9
    iexact HO
  iintro %_ ⟨Hx0, Hx1, Hm, Hg, Ho', ⟨%e0, H0⟩, ⟨%e1, H1⟩, ⟨%e2, H2⟩, ⟨%e3, H3⟩, C4, C5, C6, C7, C8, C9, ⟨%W', HO⟩⟩
  ihave Hx := (x_tokens d (xq L) (cX C d)).2 $$ [Hxr Hx0 Hx1]
  · isplitl [Hxr]; · iexact Hxr
    isplitl [Hx0]; · iexact Hx0
    iexact Hx1
  isplitl [Hx Hm Hg Ho']
  · isplitl [Hx]; · iexact Hx
    isplitl [Hm]; · iexact Hm
    isplitl [Hg]; · iexact Hg
    iapply (Entails.of_eq (o_pts (F := F) d L _)); iexact Ho'
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [C4 C5 C6 C7 C8 C9 Hsems]
  · isplitl [C4]; · iexact C4
    isplitl [C5]; · iexact C5
    isplitl [C6]; · iexact C6
    isplitl [C7]; · iexact C7
    isplitl [C8]; · iexact C8
    isplitl [C9]; · iexact C9
    iexact Hsems
  iexists _; isplitr
  swap; · iexact HO
  ipureintro; intro p _
  rcases p.2 with _ | q
  · exact .inr (.inl rfl)
  · exact .inr (.inr (congrArg some (Subsingleton.elim q 0)))

end Task

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) mV (Memref.isWhole_whole _) gV (Memref.isWhole_whole _) oV (Memref.isWhole_whole _)
            s0V (Memref.isWhole_whole _) s1V (Memref.isWhole_whole _) s2V (Memref.isWhole_whole _) s3V (Memref.isWhole_whole _)
            cc0_scratch4 cc0_scratch5 cc0_scratch6 cc0_scratch7 cc0_scoped0 cc0_scoped1) ⟨⟩ c s := rfl

theorem tileObl (hF : (K (F := F)).Facts) : (K (F := F)).TileObl (D (F := F)) 𝒱 (P C) v₀ 0 := by
  intro d c i O W hO _ _
  simp only [show (P C).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body C d (coordsV ⟨_, hci.1⟩ ⟨_, hci.2⟩) hF O W hO

/-! ## A core's share dealt to its tasks -/

theorem bigSep_tasks (Φ : Fin (grid0.bound 1) → sProp 𝕄) :
    (bigSep Finset.univ fun i : Fin ((K (F := F)).nSub 0) => Φ ⟨i.val, i.isLt⟩) = bigSep Finset.univ Φ :=
  bigSep_congr fun _ _ => congrArg Φ (Fin.ext rfl)

theorem tok16 {ℓ : Loc nD τ sig} (f : Buf (Elt F) ℓ) (c : Fin (grid0.bound 0)) :
    (ℓ ↦{Transfers.shareTokN fullShare c.val} f : sProp 𝕄) ⊣⊢ iprop((ℓ ↦{Transfers.shareDrop (Transfers.shareTokN fullShare c.val) 16} f)
      ∗ bigSep Finset.univ fun s : Fin (grid0.bound 1) => ℓ ↦{xq (coordsV c s)} f) :=
  Transfers.pointsTo_toks (ℓ := ℓ) (S := Finset.univ) (f := f) (Transfers.shareTokN fullShare c.val) 16

theorem vecSplit : (K (F := F)).VecSplit' (P C) 0 := by
  intro d c
  show cPts C d ⟨c.val, c.isLt⟩ (cO C d) ⊢ |={Set.univ}=> iprop(
      (bigSep Finset.univ fun i : Fin ((K (F := F)).nSub 0) => tPts C d (coordsV ⟨c.val, c.isLt⟩ ⟨i.val, i.isLt⟩) (cO C d))
      ∗ ((bigSep Finset.univ fun i : Fin ((K (F := F)).nSub 0) => tPts C d (coordsV ⟨c.val, c.isLt⟩ ⟨i.val, i.isLt⟩) (cR C d))
          -∗ cPts C d ⟨c.val, c.isLt⟩ (cR C d)))
  generalize (⟨c.val, c.isLt⟩ : Fin (grid0.bound 0)) = c'
  rw [bigSep_tasks (F := F) (fun i => tPts C d (coordsV c' i) (cO C d)), bigSep_tasks (F := F) (fun i => tPts C d (coordsV c' i) (cR C d)),
    bigSep_sep', bigSep_sep', bigSep_sep', bigSep_sep', bigSep_sep', bigSep_sep']
  iintro ⟨Hx, Hm, Hg, Ho⟩
  ihave Hx := (tok16 (F := F) (cX C d) c').1 $$ Hx
  icases Hx with ⟨Hxr, Hx⟩
  ihave Hm := (tok16 (F := F) (cM C d) c').1 $$ Hm
  icases Hm with ⟨Hmr, Hm⟩
  ihave Hg := (tok16 (F := F) (cG C d) c').1 $$ Hg
  icases Hg with ⟨Hgr, Hg⟩
  imodintro
  isplitl [Hx Hm Hg Ho]
  · isplitl [Hx]; · iexact Hx
    isplitl [Hm]; · iexact Hm
    isplitl [Hg]; · iexact Hg
    iexact Ho
  iintro ⟨Hx, Hm, Hg, Ho⟩
  isplitl [Hx Hxr]
  · iapply (tok16 (F := F) (cX C d) c').2
    isplitl [Hxr]; · iexact Hxr
    iexact Hx
  isplitl [Hm Hmr]
  · iapply (tok16 (F := F) (cM C d) c').2
    isplitl [Hmr]; · iexact Hmr
    iexact Hm
  isplitl [Hg Hgr]
  · iapply (tok16 (F := F) (cG C d) c').2
    isplitl [Hgr]; · iexact Hgr
    iexact Hg
  iexact Ho

end Cert.Proof.KI

end
-- ==== Proof.Ssa.lean ====
/-
A line of host operations, each writing one buffer of its own in ascending order: every buffer the line leaves holds its
operation's value at what the line leaves in the buffers it reads. Two such lines that do the same leave the same.
-/
module

public import Idealize.ShloMosaic.Lib.StableHlo.Run

@[expose] public section

namespace Cert.Proof.Ssa

open Idealize.ShloMosaic Idealize.ShloMosaic.StableHlo
open Idealize.SL.Sem

variable {τ : Topo} {sig : RefSig} {Val : EltTy → Type}

/-- A buffer's position among the buffers of its space. -/
abbrev key (r : Ref sig .tc) : ℕ := r.idx.val

/-- An operation the line may hold at position `n`: its buffers are the TensorCore's, it writes the one at `n`. -/
structure Ok (op : HloOp τ sig Val) (n : ℕ) : Prop where
  bufs : op.bufs ⊆ tcRefs τ sig
  fresh : op.fresh = ∅
  writes : ∃ r : Ref sig .tc, op.writes = {Proc.devRef (τ := τ) .tc r} ∧ key r = n

/-- The operations write the buffers from position `n` on, one each. -/
def Line : List (HloOp τ sig Val) → ℕ → Prop
  | [], _ => True
  | op :: ops, n => Ok op n ∧ Line ops (n + 1)

theorem Line.append : ∀ {l₁ l₂ : List (HloOp τ sig Val)} {n k : ℕ}, Line l₁ n → n + l₁.length = k → Line l₂ k → Line (l₁ ++ l₂) n
  | [], _, n, k, _, e, h => by
    have : n = k := e
    exact this ▸ h
  | _ :: l₁, l₂, n, k, h₁, e, h₂ => ⟨h₁.1, Line.append h₁.2 (by simp only [List.length_cons] at e; omega) h₂⟩

theorem Line.ok : ∀ {ops : List (HloOp τ sig Val)} {n : ℕ}, Line ops n → ∀ op ∈ ops, ∃ k, n ≤ k ∧ Ok op k
  | [], _, _, _, h => absurd h List.not_mem_nil
  | o :: ops, n, h, op, hm => by
    rcases List.mem_cons.mp hm with rfl | hm
    · exact ⟨n, le_rfl, h.1⟩
    · obtain ⟨k, hk, ho⟩ := Line.ok h.2 op hm
      exact ⟨k, by omega, ho⟩

theorem ne_of_key {x y : Ref sig .tc} (h : key x ≠ key y) : Proc.devRef (τ := τ) .tc x ≠ Proc.devRef .tc y :=
  devRef_ne_of_ne fun e => h (congrArg key e)

/-- A buffer before the line's first is kept. -/
theorem Line.keep {ops : List (HloOp τ sig Val)} {n : ℕ} (h : Line ops n) {r : Ref sig .tc} (hr : key r < n) (V : Valuation τ sig Val) :
    after ops V (Proc.devRef .tc r) = V (Proc.devRef .tc r) :=
  after_of_forall_not_mem ops V fun op hop hb => by
    obtain ⟨k, hk, ho⟩ := h.ok op hop
    obtain ⟨y, hw, hy⟩ := ho.writes
    rw [hw, Finset.mem_singleton] at hb
    exact ne_of_key (by omega) hb

/-- The operation's value at `y` reads only buffers before `y`. -/
def Dep (op : HloOp τ sig Val) (y : Ref sig .tc) : Prop :=
  ∀ A B : Valuation τ sig Val, (∀ r, key r < key y → A (Proc.devRef .tc r) = B (Proc.devRef .tc r)) →
    op.result A (Proc.devRef .tc y) = op.result B (Proc.devRef .tc y)

/-- What the line leaves in the buffer an operation of it writes is the operation's value at what the line leaves. -/
theorem Line.at : ∀ {ops : List (HloOp τ sig Val)} {n : ℕ}, Line ops n → ∀ {op : HloOp τ sig Val}, op ∈ ops →
    ∀ {y : Ref sig .tc}, op.writes = {Proc.devRef (τ := τ) .tc y} → Dep op y → ∀ V : Valuation τ sig Val,
    after ops V (Proc.devRef .tc y) = op.result (after ops V) (Proc.devRef .tc y)
  | [], _, _, _, hm, _, _, _, _ => absurd hm List.not_mem_nil
  | o :: ops, n, h, op, hm, y, hw, hd, V => by
    rw [after_cons]
    by_cases e : op = o
    · subst e
      obtain ⟨r, hr, hk⟩ := h.1.writes
      have hy : key y = n := by
        rw [← hk]
        have : Proc.devRef (τ := τ) .tc y = Proc.devRef .tc r := Finset.singleton_injective (hw.symm.trans hr)
        by_contra hne
        exact ne_of_key hne this
      rw [Line.keep h.2 (by omega)]
      refine hd _ _ fun r hr => ?_
      rw [Line.keep h.2 (by omega), op.result_of_not_mem V (by
        rw [hw, Finset.mem_singleton]; exact ne_of_key (by omega))]
    · exact Line.at h.2 ((List.mem_cons.mp hm).resolve_left e) hw hd _

/-- A typed reference's contents. -/
def val {T : BufTy} (V : Valuation τ sig Val) (x : TRef sig T) : T.Contents Val := x.ofBuf (V (Proc.devRef .tc x.ref))

section Ops
variable {x a b c e y : Ref sig .tc}

theorem ok_nullary (v : y.ty.Contents Val) (hy) {n : ℕ} (h : key y = n) : Ok (nullary (τ := τ) y v hy) n :=
  ⟨by simp only [nullary_bufs_sub], rfl, y, rfl, h⟩
theorem ok_unary (f : x.ty.Contents Val → y.ty.Contents Val) (hx hy) {n : ℕ} (h : key y = n) : Ok (unary (τ := τ) x y f hx hy) n :=
  ⟨by simp only [unary_bufs_sub], rfl, y, rfl, h⟩
theorem ok_binary (f : a.ty.Contents Val → b.ty.Contents Val → y.ty.Contents Val) (ha hb hy) {n : ℕ} (h : key y = n) :
    Ok (binary (τ := τ) a b y f ha hb hy) n :=
  ⟨by simp only [binary_bufs_sub], rfl, y, rfl, h⟩
theorem ok_ternary (f : c.ty.Contents Val → a.ty.Contents Val → b.ty.Contents Val → y.ty.Contents Val) (hc ha hb hy) {n : ℕ} (h : key y = n) :
    Ok (ternary (τ := τ) c a b y f hc ha hb hy) n :=
  ⟨by simp only [ternary_bufs_sub], rfl, y, rfl, h⟩
theorem ok_quaternary (f : a.ty.Contents Val → b.ty.Contents Val → c.ty.Contents Val → e.ty.Contents Val → y.ty.Contents Val)
    (ha hb hc he hy) {n : ℕ} (h : key y = n) : Ok (quaternary (τ := τ) a b c e y f ha hb hc he hy) n :=
  ⟨by simp only [quaternary_bufs_sub], rfl, y, rfl, h⟩
theorem ok_reshape (he hn hx hy) {n : ℕ} (h : key y = n) : Ok (reshape (τ := τ) (Val := Val) x y he hn hx hy) n :=
  ⟨by simp only [reshape_bufs_sub], rfl, y, rfl, h⟩

variable {ops : List (HloOp τ sig Val)} {n : ℕ}

theorem at_nullary (L : Line ops n) (V : Valuation τ sig Val) {v : y.ty.Contents Val} {hy} (h : nullary (τ := τ) y v hy ∈ ops) :
    after ops V (Proc.devRef .tc y) = v :=
  (L.at h rfl (fun A B _ => by rw [nullary_result', nullary_result']) V).trans (nullary_result' _ _ _)
theorem at_unary (L : Line ops n) (V : Valuation τ sig Val) {f : x.ty.Contents Val → y.ty.Contents Val} {hx hy}
    (h : unary (τ := τ) x y f hx hy ∈ ops) (kx : key x < key y) :
    after ops V (Proc.devRef .tc y) = f (after ops V (Proc.devRef .tc x)) :=
  (L.at h rfl (fun A B e => by rw [unary_result', unary_result', e x kx]) V).trans (unary_result' _ _ _ _)
theorem at_binary (L : Line ops n) (V : Valuation τ sig Val) {f : a.ty.Contents Val → b.ty.Contents Val → y.ty.Contents Val} {ha hb hy}
    (h : binary (τ := τ) a b y f ha hb hy ∈ ops) (ka : key a < key y) (kb : key b < key y) :
    after ops V (Proc.devRef .tc y) = f (after ops V (Proc.devRef .tc a)) (after ops V (Proc.devRef .tc b)) :=
  (L.at h rfl (fun A B e => by rw [binary_result', binary_result', e a ka, e b kb]) V).trans (binary_result' _ _ _ _ _)
theorem at_ternary (L : Line ops n) (V : Valuation τ sig Val)
    {f : c.ty.Contents Val → a.ty.Contents Val → b.ty.Contents Val → y.ty.Contents Val} {hc ha hb hy}
    (h : ternary (τ := τ) c a b y f hc ha hb hy ∈ ops) (kc : key c < key y) (ka : key a < key y) (kb : key b < key y) :
    after ops V (Proc.devRef .tc y) = f (after ops V (Proc.devRef .tc c)) (after ops V (Proc.devRef .tc a)) (after ops V (Proc.devRef .tc b)) :=
  (L.at h rfl (fun A B e => by rw [ternary_result', ternary_result', e c kc, e a ka, e b kb]) V).trans (ternary_result' _ _ _ _ _ _)
theorem at_quaternary (L : Line ops n) (V : Valuation τ sig Val)
    {f : a.ty.Contents Val → b.ty.Contents Val → c.ty.Contents Val → e.ty.Contents Val → y.ty.Contents Val} {ha hb hc he hy}
    (h : quaternary (τ := τ) a b c e y f ha hb hc he hy ∈ ops) (ka : key a < key y) (kb : key b < key y) (kc : key c < key y) (ke : key e < key y) :
    after ops V (Proc.devRef .tc y) = f (after ops V (Proc.devRef .tc a)) (after ops V (Proc.devRef .tc b))
      (after ops V (Proc.devRef .tc c)) (after ops V (Proc.devRef .tc e)) :=
  (L.at h rfl (fun A B q => by rw [quaternary_result', quaternary_result', q a ka, q b kb, q c kc, q e ke]) V).trans (quaternary_result' _ _ _ _ _ _ _)
theorem at_reshape (L : Line ops n) (V : Valuation τ sig Val) {he hn hx hy} (h : reshape (τ := τ) (Val := Val) x y he hn hx hy ∈ ops)
    (kx : key x < key y) :
    after ops V (Proc.devRef .tc y) = fun i => he ▸ shapeCast y.ty.shape (after ops V (Proc.devRef .tc x)) hn i :=
  (L.at h rfl (fun A B e => by rw [reshape_result', reshape_result', e x kx]) V).trans (reshape_result' _ _ _ _ _)

end Ops

/-! ## The same at typed references -/

section Typed
variable {Tx Ta Tb Tc Te Ty : BufTy} {ops : List (HloOp τ sig Val)} {n : ℕ}

theorem val_of_toBuf {T : BufTy} (y : TRef sig T) (v : T.Contents Val) : y.ofBuf (y.toBuf v) = v := by
  obtain ⟨r, rfl, _, _⟩ := y
  rfl

/-- A value before the line's first is kept. -/
theorem Line.val_keep {T : BufTy} (L : Line ops n) {x : TRef sig T} (hr : key x.ref < n) (V : Valuation τ sig Val) :
    val (after ops V) x = val V x := by
  unfold val; rw [L.keep hr]

/-- The value of a buffer at its own type is the buffer. -/
theorem val_mk (V : Valuation τ sig Val) (r : Ref sig .tc) (h₁ h₂) : val V (TRef.mk r rfl h₁ h₂) = V (Proc.devRef .tc r) := rfl

theorem val_nullary (L : Line ops n) (V : Valuation τ sig Val) {y : TRef sig Ty} {v : Ty.Contents Val}
    (h : TRef.nullary (τ := τ) y v ∈ ops) : val (after ops V) y = v := by
  unfold val; rw [at_nullary L V h, val_of_toBuf]
theorem val_unary (L : Line ops n) (V : Valuation τ sig Val) {x : TRef sig Tx} {y : TRef sig Ty} {f : Tx.Contents Val → Ty.Contents Val}
    (h : TRef.unary (τ := τ) x y f ∈ ops) (kx : key x.ref < key y.ref) : val (after ops V) y = f (val (after ops V) x) := by
  unfold val; rw [at_unary L V h kx, val_of_toBuf]
theorem val_binary (L : Line ops n) (V : Valuation τ sig Val) {a : TRef sig Ta} {b : TRef sig Tb} {y : TRef sig Ty}
    {f : Ta.Contents Val → Tb.Contents Val → Ty.Contents Val} (h : TRef.binary (τ := τ) a b y f ∈ ops)
    (ka : key a.ref < key y.ref) (kb : key b.ref < key y.ref) : val (after ops V) y = f (val (after ops V) a) (val (after ops V) b) := by
  unfold val; rw [at_binary L V h ka kb, val_of_toBuf]
theorem val_ternary (L : Line ops n) (V : Valuation τ sig Val) {c : TRef sig Tc} {a : TRef sig Ta} {b : TRef sig Tb} {y : TRef sig Ty}
    {f : Tc.Contents Val → Ta.Contents Val → Tb.Contents Val → Ty.Contents Val} (h : TRef.ternary (τ := τ) c a b y f ∈ ops)
    (kc : key c.ref < key y.ref) (ka : key a.ref < key y.ref) (kb : key b.ref < key y.ref) :
    val (after ops V) y = f (val (after ops V) c) (val (after ops V) a) (val (after ops V) b) := by
  unfold val; rw [at_ternary L V h kc ka kb, val_of_toBuf]
theorem val_quaternary (L : Line ops n) (V : Valuation τ sig Val) {a : TRef sig Ta} {b : TRef sig Tb} {c : TRef sig Tc} {e : TRef sig Te}
    {y : TRef sig Ty} {f : Ta.Contents Val → Tb.Contents Val → Tc.Contents Val → Te.Contents Val → Ty.Contents Val}
    (h : TRef.quaternary (τ := τ) a b c e y f ∈ ops)
    (ka : key a.ref < key y.ref) (kb : key b.ref < key y.ref) (kc : key c.ref < key y.ref) (ke : key e.ref < key y.ref) :
    val (after ops V) y = f (val (after ops V) a) (val (after ops V) b) (val (after ops V) c) (val (after ops V) e) := by
  unfold val; rw [at_quaternary L V h ka kb kc ke, val_of_toBuf]
theorem val_reshape (L : Line ops n) (V : Valuation τ sig Val) {x : TRef sig Tx} {y : TRef sig Ty} {he : Tx.elt = Ty.elt}
    {hn : Tx.shape.ShapeCasts Ty.shape} (h : TRef.reshape (τ := τ) (Val := Val) x y he hn ∈ ops) (kx : key x.ref < key y.ref) :
    val (after ops V) y = fun i => he ▸ shapeCast Ty.shape (val (after ops V) x) hn i := by
  unfold val
  rw [at_reshape L V h kx]
  obtain ⟨r, rfl, _, _⟩ := x
  obtain ⟨r', rfl, _, _⟩ := y
  rfl

end Typed

/-! ## Two lines that do the same -/

section Two
variable {τ' : Topo} {sig' : RefSig} {Tx Ta Tb Ty : BufTy} {ops s : List (HloOp τ sig Val)} {n : ℕ} {ops' s' : List (HloOp τ' sig' Val)} {n' : ℕ}

theorem mem_seg (hs : s ⊆ ops) {k : ℕ} {op : HloOp τ sig Val} (h : s[k]? = some op) : op ∈ ops := hs (List.mem_of_getElem? h)

theorem same_nullary (L : Line ops n) (L' : Line ops' n') (hs : s ⊆ ops) (hs' : s' ⊆ ops') (V : Valuation τ sig Val) (V' : Valuation τ' sig' Val)
    (k : ℕ) {y : TRef sig Ty} {y' : TRef sig' Ty} {v : Ty.Contents Val}
    (h : s[k]? = some (TRef.nullary y v)) (h' : s'[k]? = some (TRef.nullary y' v)) :
    val (after ops V) y = val (after ops' V') y' := by
  rw [val_nullary L V (mem_seg hs h), val_nullary L' V' (mem_seg hs' h')]
theorem same_unary (L : Line ops n) (L' : Line ops' n') (hs : s ⊆ ops) (hs' : s' ⊆ ops') (V : Valuation τ sig Val) (V' : Valuation τ' sig' Val)
    (k : ℕ) {x : TRef sig Tx} {x' : TRef sig' Tx} {y : TRef sig Ty} {y' : TRef sig' Ty} {f : Tx.Contents Val → Ty.Contents Val}
    (h : s[k]? = some (TRef.unary x y f)) (h' : s'[k]? = some (TRef.unary x' y' f)) (kx : key x.ref < key y.ref) (kx' : key x'.ref < key y'.ref)
    (e : val (after ops V) x = val (after ops' V') x') : val (after ops V) y = val (after ops' V') y' := by
  rw [val_unary L V (mem_seg hs h) kx, val_unary L' V' (mem_seg hs' h') kx', e]
theorem same_binary (L : Line ops n) (L' : Line ops' n') (hs : s ⊆ ops) (hs' : s' ⊆ ops') (V : Valuation τ sig Val) (V' : Valuation τ' sig' Val)
    (k : ℕ) {a : TRef sig Ta} {a' : TRef sig' Ta} {b : TRef sig Tb} {b' : TRef sig' Tb} {y : TRef sig Ty} {y' : TRef sig' Ty}
    {f : Ta.Contents Val → Tb.Contents Val → Ty.Contents Val}
    (h : s[k]? = some (TRef.binary a b y f)) (h' : s'[k]? = some (TRef.binary a' b' y' f)) (ka : key a.ref < key y.ref) (ka' : key a'.ref < key y'.ref)
    (kb : key b.ref < key y.ref) (kb' : key b'.ref < key y'.ref)
    (ea : val (after ops V) a = val (after ops' V') a') (eb : val (after ops V) b = val (after ops' V') b') :
    val (after ops V) y = val (after ops' V') y' := by
  rw [val_binary L V (mem_seg hs h) ka kb, val_binary L' V' (mem_seg hs' h') ka' kb', ea, eb]
theorem same_reshape (L : Line ops n) (L' : Line ops' n') (hs : s ⊆ ops) (hs' : s' ⊆ ops') (V : Valuation τ sig Val) (V' : Valuation τ' sig' Val)
    (k : ℕ) {x : TRef sig Tx} {x' : TRef sig' Tx} {y : TRef sig Ty} {y' : TRef sig' Ty} {he : Tx.elt = Ty.elt} {hn : Tx.shape.ShapeCasts Ty.shape}
    (h : s[k]? = some (TRef.reshape x y he hn)) (h' : s'[k]? = some (TRef.reshape x' y' he hn)) (kx : key x.ref < key y.ref) (kx' : key x'.ref < key y'.ref)
    (e : val (after ops V) x = val (after ops' V') x') : val (after ops V) y = val (after ops' V') y' := by
  rw [val_reshape L V (mem_seg hs h) kx, val_reshape L' V' (mem_seg hs' h') kx', e]

end Two

/-! ## A program that runs a line, then something else -/

section Prog
variable {nD : Nat} {Λ : Labels}

/-- `p` runs the operations, then `k`. -/
def Runs (p : Prog (TpuEff nD τ sig Val Λ .tc) PUnit) (ops : List (HloOp τ sig Val)) (k : Prog (TpuEff nD τ sig Val Λ .tc) PUnit) : Prop :=
  p = seq ops >>= fun _ => k

theorem Runs.nil {p : Prog (TpuEff nD τ sig Val Λ .tc) PUnit} : Runs p ([] : List (HloOp τ sig Val)) p := by
  unfold Runs; rw [seq, pure_bind]
theorem Runs.cons {op : HloOp τ sig Val} {p k : Prog (TpuEff nD τ sig Val Λ .tc) PUnit} {ops : List (HloOp τ sig Val)} (h : Runs p ops k) :
    Runs ((hlo rfl op fun _ => .ret (⟨⟩ : PUnit)) >>= fun _ => p) (op :: ops) k := by
  unfold Runs at h ⊢; rw [h, seq, bind_assoc]
theorem Runs.app {q p k : Prog (TpuEff nD τ sig Val Λ .tc) PUnit} {l ops : List (HloOp τ sig Val)} (hq : Runs q l (pure ⟨⟩)) (h : Runs p ops k) :
    Runs (q >>= fun _ => p) (l ++ ops) k := by
  unfold Runs at hq h ⊢
  rw [hq, h, seq_append, bind_assoc, bind_assoc]
  simp only [pure_bind]
theorem Runs.seq {p : Prog (TpuEff nD τ sig Val Λ .tc) PUnit} {l : List (HloOp τ sig Val)} (h : Runs p l (pure ⟨⟩)) : p = StableHlo.seq l := by
  unfold Runs at h; rw [h]; exact bind_pure _
theorem Runs.last {op : HloOp τ sig Val} : Runs (nD := nD) (Λ := Λ) (hlo rfl op fun _ => .ret (⟨⟩ : PUnit)) [op] (pure ⟨⟩) := by
  unfold Runs; rw [StableHlo.seq, StableHlo.seq, bind_assoc]; exact (bind_pure _).symm
theorem Runs.app_last {q : Prog (TpuEff nD τ sig Val Λ .tc) PUnit} {l : List (HloOp τ sig Val)} (hq : Runs q l (pure ⟨⟩)) : Runs q (l ++ []) (pure ⟨⟩) := by
  rwa [List.append_nil]

end Prog

end Cert.Proof.Ssa

end
-- ==== Proof.HostK.lean ====
/-
The host operations before the SparseCore call, as one line: the Gumbel noise, and `x` with its two leading axes merged.
-/
module

public import proofs.«01_k».proof.Defs
public import proofs.«01_k».proof.Proof.Gen.KernelIdeal
public import proofs.«01_k».proof.Proof.Ssa

@[expose] public section

noncomputable section

namespace Cert.Proof.KI

open Cert.KernelIdeal Cert.KernelIdeal.Gen
open Idealize.ShloMosaic Idealize.ShloMosaic.StableHlo Idealize.SL.Sem Cert.Proof.Ssa

variable {F : FTy → Type} [FloatOps F] [Named F]

abbrev LL : Labels := SparseCore.Sig (Pipeline.Sig Λ₀ (Fin 0) fun p => (pcfgs (F := F) p).Adm) 1

def ops_threefry2x32_p0_a (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  [StableHlo.TRef.binary arg0 arg1 φ.v0 xori,
   StableHlo.TRef.nullary φ.c (constantI S_ 32 466688986#32),
   StableHlo.TRef.binary φ.v0 φ.c φ.v1 xori,
   StableHlo.TRef.unary arg0 φ.v2 (broadcastInDim S2048 ![] bcast_S_S2048),
   StableHlo.TRef.binary arg2 φ.v2 φ.v3 addi,
   StableHlo.TRef.unary arg1 φ.v4 (broadcastInDim S2048 ![] bcast_S_S2048),
   StableHlo.TRef.binary arg3 φ.v4 φ.v5 addi,
   StableHlo.TRef.binary φ.v3 φ.v5 φ.v6 addi,
   StableHlo.TRef.nullary φ.c_0 (constantI S_ 32 13#32),
   StableHlo.TRef.unary φ.c_0 φ.v7 (broadcastInDim S2048 ![] bcast_S_S2048),
   StableHlo.TRef.binary φ.v5 φ.v7 φ.v8 Host.shli,
   StableHlo.TRef.nullary φ.c_1 (constantI S_ 32 19#32),
   StableHlo.TRef.unary φ.c_1 φ.v9 (broadcastInDim S2048 ![] bcast_S_S2048),
   StableHlo.TRef.binary φ.v5 φ.v9 φ.v10 Host.shrui,
   StableHlo.TRef.binary φ.v8 φ.v10 φ.v11 ori,
   StableHlo.TRef.binary φ.v6 φ.v11 φ.v12 xori,
   StableHlo.TRef.binary φ.v6 φ.v12 φ.v13 addi,
   StableHlo.TRef.nullary φ.c_2 (constantI S_ 32 15#32),
   StableHlo.TRef.unary φ.c_2 φ.v14 (broadcastInDim S2048 ![] bcast_S_S2048),
   StableHlo.TRef.binary φ.v12 φ.v14 φ.v15 Host.shli,
   StableHlo.TRef.nullary φ.c_3 (constantI S_ 32 17#32),
   StableHlo.TRef.unary φ.c_3 φ.v16 (broadcastInDim S2048 ![] bcast_S_S2048),
   StableHlo.TRef.binary φ.v12 φ.v16 φ.v17 Host.shrui,
   StableHlo.TRef.binary φ.v15 φ.v17 φ.v18 ori,
   StableHlo.TRef.binary φ.v13 φ.v18 φ.v19 xori,
   StableHlo.TRef.binary φ.v13 φ.v19 φ.v20 addi,
   StableHlo.TRef.nullary φ.c_4 (constantI S_ 32 26#32),
   StableHlo.TRef.unary φ.c_4 φ.v21 (broadcastInDim S2048 ![] bcast_S_S2048),
   StableHlo.TRef.binary φ.v19 φ.v21 φ.v22 Host.shli,
   StableHlo.TRef.nullary φ.c_5 (constantI S_ 32 6#32),
   StableHlo.TRef.unary φ.c_5 φ.v23 (broadcastInDim S2048 ![] bcast_S_S2048),
   StableHlo.TRef.binary φ.v19 φ.v23 φ.v24 Host.shrui,
   StableHlo.TRef.binary φ.v22 φ.v24 φ.v25 ori,
   StableHlo.TRef.binary φ.v20 φ.v25 φ.v26 xori,
   StableHlo.TRef.binary φ.v20 φ.v26 φ.v27 addi,
   StableHlo.TRef.nullary φ.c_6 (constantI S_ 32 6#32),
   StableHlo.TRef.unary φ.c_6 φ.v28 (broadcastInDim S2048 ![] bcast_S_S2048),
   StableHlo.TRef.binary φ.v26 φ.v28 φ.v29 Host.shli,
   StableHlo.TRef.nullary φ.c_7 (constantI S_ 32 26#32),
   StableHlo.TRef.unary φ.c_7 φ.v30 (broadcastInDim S2048 ![] bcast_S_S2048),
   StableHlo.TRef.binary φ.v26 φ.v30 φ.v31 Host.shrui,
   StableHlo.TRef.binary φ.v29 φ.v31 φ.v32 ori,
   StableHlo.TRef.binary φ.v27 φ.v32 φ.v33 xori,
   StableHlo.TRef.unary arg1 φ.v34 (broadcastInDim S2048 ![] bcast_S_S2048),
   StableHlo.TRef.binary φ.v27 φ.v34 φ.v35 addi,
   StableHlo.TRef.unary φ.v1 φ.v36 (broadcastInDim S2048 ![] bcast_S_S2048),
   StableHlo.TRef.binary φ.v33 φ.v36 φ.v37 addi,
   StableHlo.TRef.nullary φ.c_8 (constantI S_ 32 1#32),
   StableHlo.TRef.unary φ.c_8 φ.v38 (broadcastInDim S2048 ![] bcast_S_S2048),
   StableHlo.TRef.binary φ.v37 φ.v38 φ.v39 addi,
   StableHlo.TRef.binary φ.v35 φ.v39 φ.v40 addi,
   StableHlo.TRef.nullary φ.c_9 (constantI S_ 32 17#32),
   StableHlo.TRef.unary φ.c_9 φ.v41 (broadcastInDim S2048 ![] bcast_S_S2048),
   StableHlo.TRef.binary φ.v39 φ.v41 φ.v42 Host.shli,
   StableHlo.TRef.nullary φ.c_10 (constantI S_ 32 15#32),
   StableHlo.TRef.unary φ.c_10 φ.v43 (broadcastInDim S2048 ![] bcast_S_S2048),
   StableHlo.TRef.binary φ.v39 φ.v43 φ.v44 Host.shrui,
   StableHlo.TRef.binary φ.v42 φ.v44 φ.v45 ori,
   StableHlo.TRef.binary φ.v40 φ.v45 φ.v46 xori,
   StableHlo.TRef.binary φ.v40 φ.v46 φ.v47 addi]

/-- The operations of `fn_threefry2x32.body_part0`, in order. -/
def ops_threefry2x32_p0 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  ops_threefry2x32_p0_a arg0 arg1 arg2 arg3 φ

theorem runs_threefry2x32_p0 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) :
    Runs (fn_threefry2x32.body_part0 arg0 arg1 arg2 arg3 φ : Prog (TpuEff nD τ sig (Elt F) (LL (F := F)) .tc) PUnit) (ops_threefry2x32_p0 arg0 arg1 arg2 arg3 φ) (pure ⟨⟩) := by
  unfold fn_threefry2x32.body_part0 ops_threefry2x32_p0
  unfold ops_threefry2x32_p0_a
  iterate 59 refine Runs.cons ?_
  exact Runs.last

def ops_threefry2x32_p1_a (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  [StableHlo.TRef.nullary φ.c_11 (constantI S_ 32 29#32),
   StableHlo.TRef.unary φ.c_11 φ.v48 (broadcastInDim S2048 ![] bcast_S_S2048),
   StableHlo.TRef.binary φ.v46 φ.v48 φ.v49 Host.shli,
   StableHlo.TRef.nullary φ.c_12 (constantI S_ 32 3#32),
   StableHlo.TRef.unary φ.c_12 φ.v50 (broadcastInDim S2048 ![] bcast_S_S2048),
   StableHlo.TRef.binary φ.v46 φ.v50 φ.v51 Host.shrui,
   StableHlo.TRef.binary φ.v49 φ.v51 φ.v52 ori,
   StableHlo.TRef.binary φ.v47 φ.v52 φ.v53 xori,
   StableHlo.TRef.binary φ.v47 φ.v53 φ.v54 addi,
   StableHlo.TRef.nullary φ.c_13 (constantI S_ 32 16#32),
   StableHlo.TRef.unary φ.c_13 φ.v55 (broadcastInDim S2048 ![] bcast_S_S2048),
   StableHlo.TRef.binary φ.v53 φ.v55 φ.v56 Host.shli,
   StableHlo.TRef.nullary φ.c_14 (constantI S_ 32 16#32),
   StableHlo.TRef.unary φ.c_14 φ.v57 (broadcastInDim S2048 ![] bcast_S_S2048),
   StableHlo.TRef.binary φ.v53 φ.v57 φ.v58 Host.shrui,
   StableHlo.TRef.binary φ.v56 φ.v58 φ.v59 ori,
   StableHlo.TRef.binary φ.v54 φ.v59 φ.v60 xori,
   StableHlo.TRef.binary φ.v54 φ.v60 φ.v61 addi,
   StableHlo.TRef.nullary φ.c_15 (constantI S_ 32 24#32),
   StableHlo.TRef.unary φ.c_15 φ.v62 (broadcastInDim S2048 ![] bcast_S_S2048),
   StableHlo.TRef.binary φ.v60 φ.v62 φ.v63 Host.shli,
   StableHlo.TRef.nullary φ.c_16 (constantI S_ 32 8#32),
   StableHlo.TRef.unary φ.c_16 φ.v64 (broadcastInDim S2048 ![] bcast_S_S2048),
   StableHlo.TRef.binary φ.v60 φ.v64 φ.v65 Host.shrui,
   StableHlo.TRef.binary φ.v63 φ.v65 φ.v66 ori,
   StableHlo.TRef.binary φ.v61 φ.v66 φ.v67 xori,
   StableHlo.TRef.unary φ.v1 φ.v68 (broadcastInDim S2048 ![] bcast_S_S2048),
   StableHlo.TRef.binary φ.v61 φ.v68 φ.v69 addi,
   StableHlo.TRef.unary arg0 φ.v70 (broadcastInDim S2048 ![] bcast_S_S2048),
   StableHlo.TRef.binary φ.v67 φ.v70 φ.v71 addi,
   StableHlo.TRef.nullary φ.c_17 (constantI S_ 32 2#32),
   StableHlo.TRef.unary φ.c_17 φ.v72 (broadcastInDim S2048 ![] bcast_S_S2048),
   StableHlo.TRef.binary φ.v71 φ.v72 φ.v73 addi,
   StableHlo.TRef.binary φ.v69 φ.v73 φ.v74 addi,
   StableHlo.TRef.nullary φ.c_18 (constantI S_ 32 13#32),
   StableHlo.TRef.unary φ.c_18 φ.v75 (broadcastInDim S2048 ![] bcast_S_S2048),
   StableHlo.TRef.binary φ.v73 φ.v75 φ.v76 Host.shli,
   StableHlo.TRef.nullary φ.c_19 (constantI S_ 32 19#32),
   StableHlo.TRef.unary φ.c_19 φ.v77 (broadcastInDim S2048 ![] bcast_S_S2048),
   StableHlo.TRef.binary φ.v73 φ.v77 φ.v78 Host.shrui,
   StableHlo.TRef.binary φ.v76 φ.v78 φ.v79 ori,
   StableHlo.TRef.binary φ.v74 φ.v79 φ.v80 xori,
   StableHlo.TRef.binary φ.v74 φ.v80 φ.v81 addi,
   StableHlo.TRef.nullary φ.c_20 (constantI S_ 32 15#32),
   StableHlo.TRef.unary φ.c_20 φ.v82 (broadcastInDim S2048 ![] bcast_S_S2048),
   StableHlo.TRef.binary φ.v80 φ.v82 φ.v83 Host.shli,
   StableHlo.TRef.nullary φ.c_21 (constantI S_ 32 17#32),
   StableHlo.TRef.unary φ.c_21 φ.v84 (broadcastInDim S2048 ![] bcast_S_S2048),
   StableHlo.TRef.binary φ.v80 φ.v84 φ.v85 Host.shrui,
   StableHlo.TRef.binary φ.v83 φ.v85 φ.v86 ori,
   StableHlo.TRef.binary φ.v81 φ.v86 φ.v87 xori,
   StableHlo.TRef.binary φ.v81 φ.v87 φ.v88 addi,
   StableHlo.TRef.nullary φ.c_22 (constantI S_ 32 26#32),
   StableHlo.TRef.unary φ.c_22 φ.v89 (broadcastInDim S2048 ![] bcast_S_S2048),
   StableHlo.TRef.binary φ.v87 φ.v89 φ.v90 Host.shli,
   StableHlo.TRef.nullary φ.c_23 (constantI S_ 32 6#32),
   StableHlo.TRef.unary φ.c_23 φ.v91 (broadcastInDim S2048 ![] bcast_S_S2048),
   StableHlo.TRef.binary φ.v87 φ.v91 φ.v92 Host.shrui,
   StableHlo.TRef.binary φ.v90 φ.v92 φ.v93 ori,
   StableHlo.TRef.binary φ.v88 φ.v93 φ.v94 xori]

/-- The operations of `fn_threefry2x32.body_part1`, in order. -/
def ops_threefry2x32_p1 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  ops_threefry2x32_p1_a arg0 arg1 arg2 arg3 φ

theorem runs_threefry2x32_p1 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) :
    Runs (fn_threefry2x32.body_part1 arg0 arg1 arg2 arg3 φ : Prog (TpuEff nD τ sig (Elt F) (LL (F := F)) .tc) PUnit) (ops_threefry2x32_p1 arg0 arg1 arg2 arg3 φ) (pure ⟨⟩) := by
  unfold fn_threefry2x32.body_part1 ops_threefry2x32_p1
  unfold ops_threefry2x32_p1_a
  iterate 59 refine Runs.cons ?_
  exact Runs.last

def ops_threefry2x32_p2_a (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  [StableHlo.TRef.binary φ.v88 φ.v94 φ.v95 addi,
   StableHlo.TRef.nullary φ.c_24 (constantI S_ 32 6#32),
   StableHlo.TRef.unary φ.c_24 φ.v96 (broadcastInDim S2048 ![] bcast_S_S2048),
   StableHlo.TRef.binary φ.v94 φ.v96 φ.v97 Host.shli,
   StableHlo.TRef.nullary φ.c_25 (constantI S_ 32 26#32),
   StableHlo.TRef.unary φ.c_25 φ.v98 (broadcastInDim S2048 ![] bcast_S_S2048),
   StableHlo.TRef.binary φ.v94 φ.v98 φ.v99 Host.shrui,
   StableHlo.TRef.binary φ.v97 φ.v99 φ.v100 ori,
   StableHlo.TRef.binary φ.v95 φ.v100 φ.v101 xori,
   StableHlo.TRef.unary arg0 φ.v102 (broadcastInDim S2048 ![] bcast_S_S2048),
   StableHlo.TRef.binary φ.v95 φ.v102 φ.v103 addi,
   StableHlo.TRef.unary arg1 φ.v104 (broadcastInDim S2048 ![] bcast_S_S2048),
   StableHlo.TRef.binary φ.v101 φ.v104 φ.v105 addi,
   StableHlo.TRef.nullary φ.c_26 (constantI S_ 32 3#32),
   StableHlo.TRef.unary φ.c_26 φ.v106 (broadcastInDim S2048 ![] bcast_S_S2048),
   StableHlo.TRef.binary φ.v105 φ.v106 φ.v107 addi,
   StableHlo.TRef.binary φ.v103 φ.v107 φ.v108 addi,
   StableHlo.TRef.nullary φ.c_27 (constantI S_ 32 17#32),
   StableHlo.TRef.unary φ.c_27 φ.v109 (broadcastInDim S2048 ![] bcast_S_S2048),
   StableHlo.TRef.binary φ.v107 φ.v109 φ.v110 Host.shli,
   StableHlo.TRef.nullary φ.c_28 (constantI S_ 32 15#32),
   StableHlo.TRef.unary φ.c_28 φ.v111 (broadcastInDim S2048 ![] bcast_S_S2048),
   StableHlo.TRef.binary φ.v107 φ.v111 φ.v112 Host.shrui,
   StableHlo.TRef.binary φ.v110 φ.v112 φ.v113 ori,
   StableHlo.TRef.binary φ.v108 φ.v113 φ.v114 xori,
   StableHlo.TRef.binary φ.v108 φ.v114 φ.v115 addi,
   StableHlo.TRef.nullary φ.c_29 (constantI S_ 32 29#32),
   StableHlo.TRef.unary φ.c_29 φ.v116 (broadcastInDim S2048 ![] bcast_S_S2048),
   StableHlo.TRef.binary φ.v114 φ.v116 φ.v117 Host.shli,
   StableHlo.TRef.nullary φ.c_30 (constantI S_ 32 3#32),
   StableHlo.TRef.unary φ.c_30 φ.v118 (broadcastInDim S2048 ![] bcast_S_S2048),
   StableHlo.TRef.binary φ.v114 φ.v118 φ.v119 Host.shrui,
   StableHlo.TRef.binary φ.v117 φ.v119 φ.v120 ori,
   StableHlo.TRef.binary φ.v115 φ.v120 φ.v121 xori,
   StableHlo.TRef.binary φ.v115 φ.v121 φ.v122 addi,
   StableHlo.TRef.nullary φ.c_31 (constantI S_ 32 16#32),
   StableHlo.TRef.unary φ.c_31 φ.v123 (broadcastInDim S2048 ![] bcast_S_S2048),
   StableHlo.TRef.binary φ.v121 φ.v123 φ.v124 Host.shli,
   StableHlo.TRef.nullary φ.c_32 (constantI S_ 32 16#32),
   StableHlo.TRef.unary φ.c_32 φ.v125 (broadcastInDim S2048 ![] bcast_S_S2048),
   StableHlo.TRef.binary φ.v121 φ.v125 φ.v126 Host.shrui,
   StableHlo.TRef.binary φ.v124 φ.v126 φ.v127 ori,
   StableHlo.TRef.binary φ.v122 φ.v127 φ.v128 xori,
   StableHlo.TRef.binary φ.v122 φ.v128 φ.v129 addi,
   StableHlo.TRef.nullary φ.c_33 (constantI S_ 32 24#32),
   StableHlo.TRef.unary φ.c_33 φ.v130 (broadcastInDim S2048 ![] bcast_S_S2048),
   StableHlo.TRef.binary φ.v128 φ.v130 φ.v131 Host.shli,
   StableHlo.TRef.nullary φ.c_34 (constantI S_ 32 8#32),
   StableHlo.TRef.unary φ.c_34 φ.v132 (broadcastInDim S2048 ![] bcast_S_S2048),
   StableHlo.TRef.binary φ.v128 φ.v132 φ.v133 Host.shrui,
   StableHlo.TRef.binary φ.v131 φ.v133 φ.v134 ori,
   StableHlo.TRef.binary φ.v129 φ.v134 φ.v135 xori,
   StableHlo.TRef.unary arg1 φ.v136 (broadcastInDim S2048 ![] bcast_S_S2048),
   StableHlo.TRef.binary φ.v129 φ.v136 φ.v137 addi,
   StableHlo.TRef.unary φ.v1 φ.v138 (broadcastInDim S2048 ![] bcast_S_S2048),
   StableHlo.TRef.binary φ.v135 φ.v138 φ.v139 addi,
   StableHlo.TRef.nullary φ.c_35 (constantI S_ 32 4#32),
   StableHlo.TRef.unary φ.c_35 φ.v140 (broadcastInDim S2048 ![] bcast_S_S2048),
   StableHlo.TRef.binary φ.v139 φ.v140 φ.v141 addi,
   StableHlo.TRef.binary φ.v137 φ.v141 φ.v142 addi]

/-- The operations of `fn_threefry2x32.body_part2`, in order. -/
def ops_threefry2x32_p2 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  ops_threefry2x32_p2_a arg0 arg1 arg2 arg3 φ

theorem runs_threefry2x32_p2 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) :
    Runs (fn_threefry2x32.body_part2 arg0 arg1 arg2 arg3 φ : Prog (TpuEff nD τ sig (Elt F) (LL (F := F)) .tc) PUnit) (ops_threefry2x32_p2 arg0 arg1 arg2 arg3 φ) (pure ⟨⟩) := by
  unfold fn_threefry2x32.body_part2 ops_threefry2x32_p2
  unfold ops_threefry2x32_p2_a
  iterate 59 refine Runs.cons ?_
  exact Runs.last

def ops_threefry2x32_p3_a (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  [StableHlo.TRef.nullary φ.c_36 (constantI S_ 32 13#32),
   StableHlo.TRef.unary φ.c_36 φ.v143 (broadcastInDim S2048 ![] bcast_S_S2048),
   StableHlo.TRef.binary φ.v141 φ.v143 φ.v144 Host.shli,
   StableHlo.TRef.nullary φ.c_37 (constantI S_ 32 19#32),
   StableHlo.TRef.unary φ.c_37 φ.v145 (broadcastInDim S2048 ![] bcast_S_S2048),
   StableHlo.TRef.binary φ.v141 φ.v145 φ.v146 Host.shrui,
   StableHlo.TRef.binary φ.v144 φ.v146 φ.v147 ori,
   StableHlo.TRef.binary φ.v142 φ.v147 φ.v148 xori,
   StableHlo.TRef.binary φ.v142 φ.v148 φ.v149 addi,
   StableHlo.TRef.nullary φ.c_38 (constantI S_ 32 15#32),
   StableHlo.TRef.unary φ.c_38 φ.v150 (broadcastInDim S2048 ![] bcast_S_S2048),
   StableHlo.TRef.binary φ.v148 φ.v150 φ.v151 Host.shli,
   StableHlo.TRef.nullary φ.c_39 (constantI S_ 32 17#32),
   StableHlo.TRef.unary φ.c_39 φ.v152 (broadcastInDim S2048 ![] bcast_S_S2048),
   StableHlo.TRef.binary φ.v148 φ.v152 φ.v153 Host.shrui,
   StableHlo.TRef.binary φ.v151 φ.v153 φ.v154 ori,
   StableHlo.TRef.binary φ.v149 φ.v154 φ.v155 xori,
   StableHlo.TRef.binary φ.v149 φ.v155 φ.v156 addi,
   StableHlo.TRef.nullary φ.c_40 (constantI S_ 32 26#32),
   StableHlo.TRef.unary φ.c_40 φ.v157 (broadcastInDim S2048 ![] bcast_S_S2048),
   StableHlo.TRef.binary φ.v155 φ.v157 φ.v158 Host.shli,
   StableHlo.TRef.nullary φ.c_41 (constantI S_ 32 6#32),
   StableHlo.TRef.unary φ.c_41 φ.v159 (broadcastInDim S2048 ![] bcast_S_S2048),
   StableHlo.TRef.binary φ.v155 φ.v159 φ.v160 Host.shrui,
   StableHlo.TRef.binary φ.v158 φ.v160 φ.v161 ori,
   StableHlo.TRef.binary φ.v156 φ.v161 φ.v162 xori,
   StableHlo.TRef.binary φ.v156 φ.v162 φ.v163 addi,
   StableHlo.TRef.nullary φ.c_42 (constantI S_ 32 6#32),
   StableHlo.TRef.unary φ.c_42 φ.v164 (broadcastInDim S2048 ![] bcast_S_S2048),
   StableHlo.TRef.binary φ.v162 φ.v164 φ.v165 Host.shli,
   StableHlo.TRef.nullary φ.c_43 (constantI S_ 32 26#32),
   StableHlo.TRef.unary φ.c_43 φ.v166 (broadcastInDim S2048 ![] bcast_S_S2048),
   StableHlo.TRef.binary φ.v162 φ.v166 φ.v167 Host.shrui,
   StableHlo.TRef.binary φ.v165 φ.v167 φ.v168 ori,
   StableHlo.TRef.binary φ.v163 φ.v168 φ.v169 xori,
   StableHlo.TRef.unary φ.v1 φ.v170 (broadcastInDim S2048 ![] bcast_S_S2048),
   StableHlo.TRef.binary φ.v163 φ.v170 φ.v171 addi,
   StableHlo.TRef.unary arg0 φ.v172 (broadcastInDim S2048 ![] bcast_S_S2048),
   StableHlo.TRef.binary φ.v169 φ.v172 φ.v173 addi,
   StableHlo.TRef.nullary φ.c_44 (constantI S_ 32 5#32),
   StableHlo.TRef.unary φ.c_44 φ.v174 (broadcastInDim S2048 ![] bcast_S_S2048),
   StableHlo.TRef.binary φ.v173 φ.v174 φ.v175 addi]

/-- The operations of `fn_threefry2x32.body_part3`, in order. -/
def ops_threefry2x32_p3 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  ops_threefry2x32_p3_a arg0 arg1 arg2 arg3 φ

theorem runs_threefry2x32_p3 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) :
    Runs (fn_threefry2x32.body_part3 arg0 arg1 arg2 arg3 φ : Prog (TpuEff nD τ sig (Elt F) (LL (F := F)) .tc) PUnit) (ops_threefry2x32_p3 arg0 arg1 arg2 arg3 φ) (pure ⟨⟩) := by
  unfold fn_threefry2x32.body_part3 ops_threefry2x32_p3
  unfold ops_threefry2x32_p3_a
  iterate 42 refine Runs.cons ?_
  exact Runs.nil

/-- The operations of `fn_threefry2x32.body`, in order. -/
def ops_threefry2x32 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  ops_threefry2x32_p0 arg0 arg1 arg2 arg3 φ ++ (ops_threefry2x32_p1 arg0 arg1 arg2 arg3 φ ++ (ops_threefry2x32_p2 arg0 arg1 arg2 arg3 φ ++ (ops_threefry2x32_p3 arg0 arg1 arg2 arg3 φ)))

theorem runs_threefry2x32 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) :
    Runs (fn_threefry2x32.body arg0 arg1 arg2 arg3 φ : Prog (TpuEff nD τ sig (Elt F) (LL (F := F)) .tc) PUnit) (ops_threefry2x32 arg0 arg1 arg2 arg3 φ) (pure ⟨⟩) := by
  unfold fn_threefry2x32.body ops_threefry2x32
  show Runs _ (ops_threefry2x32_p0 arg0 arg1 arg2 arg3 φ ++ _) _
  refine Runs.app (runs_threefry2x32_p0 _ _ _ _ _) ?_
  show Runs _ (ops_threefry2x32_p1 arg0 arg1 arg2 arg3 φ ++ _) _
  refine Runs.app (runs_threefry2x32_p1 _ _ _ _ _) ?_
  show Runs _ (ops_threefry2x32_p2 arg0 arg1 arg2 arg3 φ ++ _) _
  refine Runs.app (runs_threefry2x32_p2 _ _ _ _ _) ?_
  exact runs_threefry2x32_p3 _ _ _ _ _

def ops_uniform_a (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  [StableHlo.TRef.unary arg1 φ.v0 id,
   StableHlo.TRef.unary arg2 φ.v1 id,
   StableHlo.TRef.unary φ.v0 φ.v2 (broadcastInDim S1 ![] bcast_S_S1),
   StableHlo.TRef.unary φ.v1 φ.v3 (broadcastInDim S1 ![] bcast_S_S1),
   StableHlo.TRef.unary arg0 φ.v4 (extractStridedSlice S1 ![0] · slices_S2_S1_0),
   StableHlo.TRef.reshape φ.v4 φ.v5 (rfl : (.i32 : EltTy) = .i32) shapeCasts_S1_S_,
   StableHlo.TRef.unary arg0 φ.v6 (extractStridedSlice S1 ![1] · slices_S2_S1_1),
   StableHlo.TRef.reshape φ.v6 φ.v7 (rfl : (.i32 : EltTy) = .i32) shapeCasts_S1_S_,
   StableHlo.TRef.nullary φ.v8 (iotaInDim S2048 64 0),
   StableHlo.TRef.nullary φ.c (constantI S_ 64 1#64),
   StableHlo.TRef.unary φ.c φ.v9 (broadcastInDim S2048 ![] bcast_S_S2048),
   StableHlo.TRef.binary φ.v9 φ.v8 φ.v10 muli,
   StableHlo.TRef.nullary φ.c_0 (constantI S_ 64 32#64),
   StableHlo.TRef.unary φ.c_0 φ.v11 (broadcastInDim S2048 ![] bcast_S_S2048),
   StableHlo.TRef.binary φ.v10 φ.v11 φ.v12 Host.shrui,
   StableHlo.TRef.unary φ.v10 φ.v13 (trunci 32 · natLt_32_64),
   StableHlo.TRef.unary φ.v12 φ.v14 (trunci 32 · natLt_32_64)]

def ops_uniform_b (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  [StableHlo.TRef.binary φ.call0.v171 φ.call0.v175 φ.v16 xori,
   StableHlo.TRef.nullary φ.c_1 (constantI S_ 32 9#32),
   StableHlo.TRef.unary φ.c_1 φ.v17 (broadcastInDim S2048 ![] bcast_S_S2048),
   StableHlo.TRef.binary φ.v16 φ.v17 φ.v18 Host.shrui,
   StableHlo.TRef.nullary φ.c_2 (constantI S_ 32 1065353216#32),
   StableHlo.TRef.unary φ.c_2 φ.v19 (broadcastInDim S2048 ![] bcast_S_S2048),
   StableHlo.TRef.binary φ.v18 φ.v19 φ.v20 ori,
   StableHlo.TRef.unary φ.v20 φ.v21 (bitcastToFloat .f32),
   StableHlo.TRef.nullary φ.cst (constant S_ .f32 0x3F800000#32),
   StableHlo.TRef.unary φ.cst φ.v22 (broadcastInDim S2048 ![] bcast_S_S2048),
   StableHlo.TRef.binary φ.v21 φ.v22 φ.v23 subf,
   StableHlo.TRef.binary φ.v3 φ.v2 φ.v24 subf,
   StableHlo.TRef.unary φ.v24 φ.v25 (broadcastInDim S2048 ![0] bcast_S1_S2048_0),
   StableHlo.TRef.binary φ.v23 φ.v25 φ.v26 mulf,
   StableHlo.TRef.unary φ.v2 φ.v27 (broadcastInDim S2048 ![0] bcast_S1_S2048_0),
   StableHlo.TRef.binary φ.v26 φ.v27 φ.v28 addf,
   StableHlo.TRef.unary φ.v2 φ.v29 (broadcastInDim S2048 ![0] bcast_S1_S2048_0),
   StableHlo.TRef.binary φ.v29 φ.v28 φ.v30 maximumf]

/-- The operations of `fn_uniform.body`, in order. -/
def ops_uniform (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  ops_uniform_a arg0 arg1 arg2 φ ++ (ops_threefry2x32 φ.v5 φ.v7 φ.v14 φ.v13 φ.call0 ++ (ops_uniform_b arg0 arg1 arg2 φ))

theorem runs_uniform (arg0 : StableHlo.TRef sig ⟨S2, .i32⟩) (arg1 : StableHlo.TRef sig ⟨S_, .f32⟩) (arg2 : StableHlo.TRef sig ⟨S_, .f32⟩) (φ : fn_uniform.Bufs) :
    Runs (fn_uniform.body arg0 arg1 arg2 φ : Prog (TpuEff nD τ sig (Elt F) (LL (F := F)) .tc) PUnit) (ops_uniform arg0 arg1 arg2 φ) (pure ⟨⟩) := by
  unfold fn_uniform.body ops_uniform
  unfold ops_uniform_a
  iterate 17 refine Runs.cons ?_
  show Runs _ (ops_threefry2x32 φ.v5 φ.v7 φ.v14 φ.v13 φ.call0 ++ _) _
  refine Runs.app (runs_threefry2x32 _ _ _ _ _) ?_
  unfold ops_uniform_b
  iterate 18 refine Runs.cons ?_
  exact Runs.nil

def ops_main_a  : List (HloOp τ sig (Elt F)) :=
  [StableHlo.nullary main_c (constantI S_ 32 42#32),
   StableHlo.nullary main_c_0 (constantI S_ 32 32#32),
   StableHlo.binary main_c main_c_0 main_v0 (Host.shrui : (⟨S_, .i32⟩ : BufTy).Contents (Elt F) → (⟨S_, .i32⟩ : BufTy).Contents (Elt F) → (⟨S_, .i32⟩ : BufTy).Contents (Elt F)),
   StableHlo.unary main_v0 main_v1 (id : (⟨S_, .i32⟩ : BufTy).Contents (Elt F) → (⟨S_, .i32⟩ : BufTy).Contents (Elt F)),
   StableHlo.unary main_v1 main_v2 (broadcastInDim S1 ![] bcast_S_S1 : (⟨S_, .i32⟩ : BufTy).Contents (Elt F) → (⟨S1, .i32⟩ : BufTy).Contents (Elt F)),
   StableHlo.nullary main_c_1 (constantI S_ 32 4294967295#32),
   StableHlo.binary main_c main_c_1 main_v3 (andi : (⟨S_, .i32⟩ : BufTy).Contents (Elt F) → (⟨S_, .i32⟩ : BufTy).Contents (Elt F) → (⟨S_, .i32⟩ : BufTy).Contents (Elt F)),
   StableHlo.unary main_v3 main_v4 (id : (⟨S_, .i32⟩ : BufTy).Contents (Elt F) → (⟨S_, .i32⟩ : BufTy).Contents (Elt F)),
   StableHlo.unary main_v4 main_v5 (broadcastInDim S1 ![] bcast_S_S1 : (⟨S_, .i32⟩ : BufTy).Contents (Elt F) → (⟨S1, .i32⟩ : BufTy).Contents (Elt F)),
   StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.nullary main_cst (constant S_ .f32 0x2EDBE6FF#32),
   StableHlo.nullary main_cst_2 (constant S_ .f32 0x3F800000#32)]

def ops_main_b  : List (HloOp τ sig (Elt F)) :=
  [StableHlo.unary main_v7 main_v8 (Host.log : (⟨S2048, .f32⟩ : BufTy).Contents (Elt F) → (⟨S2048, .f32⟩ : BufTy).Contents (Elt F)),
   StableHlo.unary main_v8 main_v9 (Host.negf : (⟨S2048, .f32⟩ : BufTy).Contents (Elt F) → (⟨S2048, .f32⟩ : BufTy).Contents (Elt F)),
   StableHlo.unary main_v9 main_v10 (Host.log : (⟨S2048, .f32⟩ : BufTy).Contents (Elt F) → (⟨S2048, .f32⟩ : BufTy).Contents (Elt F)),
   StableHlo.unary main_v10 main_v11 (Host.negf : (⟨S2048, .f32⟩ : BufTy).Contents (Elt F) → (⟨S2048, .f32⟩ : BufTy).Contents (Elt F)),
   StableHlo.reshape main_arg0 main_v12 (rfl : (.f32 : EltTy) = .f32) shapeCasts_S4x4096x2048_S16384x2048]

def ops_main_c  : List (HloOp τ sig (Elt F)) :=
  [StableHlo.reshape main_v13 main_v14 (rfl : (.f32 : EltTy) = .f32) shapeCasts_S4x4096_S4x4096x1]

/-- The operations of `main`, in order. -/
def ops_main  : List (HloOp τ sig (Elt F)) :=
  ops_main_a ++ (ops_uniform (.of main_v6) (.of main_cst) (.of main_cst_2) main_call0 ++ (ops_main_b))

theorem runs_main (d : Dev nD) :
    Runs (main d : Prog (TpuEff nD τ sig (Elt F) (LL (F := F)) .tc) PUnit) (ops_main (F := F))
      (sc.run d 0 >>= fun _ => (hlo rfl (StableHlo.reshape main_v13 main_v14 (rfl : (.f32 : EltTy) = .f32) shapeCasts_S4x4096_S4x4096x1) fun _ => .ret (⟨⟩ : PUnit)) >>= fun _ => pure ⟨⟩) := by
  unfold main ops_main
  unfold ops_main_a
  iterate 12 refine Runs.cons ?_
  show Runs _ (ops_uniform (.of main_v6) (.of main_cst) (.of main_cst_2) main_call0 ++ _) _
  refine Runs.app (runs_uniform _ _ _ _) ?_
  unfold ops_main_b
  iterate 5 refine Runs.cons ?_
  exact Runs.nil

theorem line_m_a : Line (ops_main_a : List (HloOp τ sig (Elt F))) 2 :=
  ⟨ok_nullary _ _ rfl, ok_nullary _ _ rfl, ok_binary _ _ _ _ rfl, ok_unary _ _ _ rfl, ok_unary _ _ _ rfl, ok_nullary _ _ rfl, ok_binary _ _ _ _ rfl, ok_unary _ _ _ rfl, ok_unary _ _ _ rfl, ok_binary _ _ _ _ rfl, ok_nullary _ _ rfl, ok_nullary _ _ rfl, trivial⟩

theorem line_m_c0_a : Line (ops_uniform_a (.of main_v6) (.of main_cst) (.of main_cst_2) main_call0 : List (HloOp τ sig (Elt F))) 14 :=
  ⟨ok_unary _ _ _ rfl, ok_unary _ _ _ rfl, ok_unary _ _ _ rfl, ok_unary _ _ _ rfl, ok_unary _ _ _ rfl, ok_reshape _ _ _ _ rfl, ok_unary _ _ _ rfl, ok_reshape _ _ _ _ rfl, ok_nullary _ _ rfl, ok_nullary _ _ rfl, ok_unary _ _ _ rfl, ok_binary _ _ _ _ rfl, ok_nullary _ _ rfl, ok_unary _ _ _ rfl, ok_binary _ _ _ _ rfl, ok_unary _ _ _ rfl, ok_unary _ _ _ rfl, trivial⟩

theorem line_m_c0_c0_p0_a : Line (ops_threefry2x32_p0_a main_call0.v5 main_call0.v7 main_call0.v14 main_call0.v13 main_call0.call0 : List (HloOp τ sig (Elt F))) 31 :=
  ⟨ok_binary _ _ _ _ rfl, ok_nullary _ _ rfl, ok_binary _ _ _ _ rfl, ok_unary _ _ _ rfl, ok_binary _ _ _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, trivial⟩

theorem line_m_c0_c0_p0 : Line (ops_threefry2x32_p0 main_call0.v5 main_call0.v7 main_call0.v14 main_call0.v13 main_call0.call0 : List (HloOp τ sig (Elt F))) 31 :=
  line_m_c0_c0_p0_a

theorem line_m_c0_c0_p1_a : Line (ops_threefry2x32_p1_a main_call0.v5 main_call0.v7 main_call0.v14 main_call0.v13 main_call0.call0 : List (HloOp τ sig (Elt F))) 91 :=
  ⟨ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, trivial⟩

theorem line_m_c0_c0_p1 : Line (ops_threefry2x32_p1 main_call0.v5 main_call0.v7 main_call0.v14 main_call0.v13 main_call0.call0 : List (HloOp τ sig (Elt F))) 91 :=
  line_m_c0_c0_p1_a

theorem line_m_c0_c0_p2_a : Line (ops_threefry2x32_p2_a main_call0.v5 main_call0.v7 main_call0.v14 main_call0.v13 main_call0.call0 : List (HloOp τ sig (Elt F))) 151 :=
  ⟨ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, trivial⟩

theorem line_m_c0_c0_p2 : Line (ops_threefry2x32_p2 main_call0.v5 main_call0.v7 main_call0.v14 main_call0.v13 main_call0.call0 : List (HloOp τ sig (Elt F))) 151 :=
  line_m_c0_c0_p2_a

theorem line_m_c0_c0_p3_a : Line (ops_threefry2x32_p3_a main_call0.v5 main_call0.v7 main_call0.v14 main_call0.v13 main_call0.call0 : List (HloOp τ sig (Elt F))) 211 :=
  ⟨ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, trivial⟩

theorem line_m_c0_c0_p3 : Line (ops_threefry2x32_p3 main_call0.v5 main_call0.v7 main_call0.v14 main_call0.v13 main_call0.call0 : List (HloOp τ sig (Elt F))) 211 :=
  line_m_c0_c0_p3_a

theorem line_m_c0_c0 : Line (ops_threefry2x32 main_call0.v5 main_call0.v7 main_call0.v14 main_call0.v13 main_call0.call0 : List (HloOp τ sig (Elt F))) 31 :=
  line_m_c0_c0_p0.append (k := 91) rfl (line_m_c0_c0_p1.append (k := 151) rfl (line_m_c0_c0_p2.append (k := 211) rfl (line_m_c0_c0_p3)))

theorem line_m_c0_b : Line (ops_uniform_b (.of main_v6) (.of main_cst) (.of main_cst_2) main_call0 : List (HloOp τ sig (Elt F))) 253 :=
  ⟨ok_binary _ _ _ _ rfl, ok_nullary _ _ rfl, ok_unary _ _ _ rfl, ok_binary _ _ _ _ rfl, ok_nullary _ _ rfl, ok_unary _ _ _ rfl, ok_binary _ _ _ _ rfl, ok_unary _ _ _ rfl, ok_nullary _ _ rfl, ok_unary _ _ _ rfl, ok_binary _ _ _ _ rfl, ok_binary _ _ _ _ rfl, ok_unary _ _ _ rfl, ok_binary _ _ _ _ rfl, ok_unary _ _ _ rfl, ok_binary _ _ _ _ rfl, ok_unary _ _ _ rfl, ok_binary _ _ _ _ rfl, trivial⟩

theorem line_m_c0 : Line (ops_uniform (.of main_v6) (.of main_cst) (.of main_cst_2) main_call0 : List (HloOp τ sig (Elt F))) 14 :=
  line_m_c0_a.append (k := 31) rfl (line_m_c0_c0.append (k := 253) rfl (line_m_c0_b))

theorem line_m_b : Line (ops_main_b : List (HloOp τ sig (Elt F))) 271 :=
  ⟨ok_unary _ _ _ rfl, ok_unary _ _ _ rfl, ok_unary _ _ _ rfl, ok_unary _ _ _ rfl, ok_reshape _ _ _ _ rfl, trivial⟩

theorem line_m : Line (ops_main : List (HloOp τ sig (Elt F))) 2 :=
  line_m_a.append (k := 14) rfl (line_m_c0.append (k := 271) rfl (line_m_b))

theorem sub_m_a : (ops_main_a : List (HloOp τ sig (Elt F))) ⊆ ops_main :=
  (List.subset_append_left _ _)

theorem sub_m_c0 : (ops_uniform (.of main_v6) (.of main_cst) (.of main_cst_2) main_call0 : List (HloOp τ sig (Elt F))) ⊆ ops_main :=
  (List.subset_append_of_subset_right _ (List.subset_append_left _ _))

theorem sub_m_c0_a : (ops_uniform_a (.of main_v6) (.of main_cst) (.of main_cst_2) main_call0 : List (HloOp τ sig (Elt F))) ⊆ ops_main :=
  List.Subset.trans (show (ops_uniform_a (.of main_v6) (.of main_cst) (.of main_cst_2) main_call0 : List (HloOp τ sig (Elt F))) ⊆ ops_uniform (.of main_v6) (.of main_cst) (.of main_cst_2) main_call0 from (List.subset_append_left _ _)) sub_m_c0

theorem sub_m_c0_c0 : (ops_threefry2x32 main_call0.v5 main_call0.v7 main_call0.v14 main_call0.v13 main_call0.call0 : List (HloOp τ sig (Elt F))) ⊆ ops_main :=
  List.Subset.trans (show (ops_threefry2x32 main_call0.v5 main_call0.v7 main_call0.v14 main_call0.v13 main_call0.call0 : List (HloOp τ sig (Elt F))) ⊆ ops_uniform (.of main_v6) (.of main_cst) (.of main_cst_2) main_call0 from (List.subset_append_of_subset_right _ (List.subset_append_left _ _))) sub_m_c0

theorem sub_m_c0_c0_p0 : (ops_threefry2x32_p0 main_call0.v5 main_call0.v7 main_call0.v14 main_call0.v13 main_call0.call0 : List (HloOp τ sig (Elt F))) ⊆ ops_main :=
  List.Subset.trans (show (ops_threefry2x32_p0 main_call0.v5 main_call0.v7 main_call0.v14 main_call0.v13 main_call0.call0 : List (HloOp τ sig (Elt F))) ⊆ ops_threefry2x32 main_call0.v5 main_call0.v7 main_call0.v14 main_call0.v13 main_call0.call0 from (List.subset_append_left _ _)) sub_m_c0_c0

theorem sub_m_c0_c0_p0_a : (ops_threefry2x32_p0_a main_call0.v5 main_call0.v7 main_call0.v14 main_call0.v13 main_call0.call0 : List (HloOp τ sig (Elt F))) ⊆ ops_main :=
  List.Subset.trans (show (ops_threefry2x32_p0_a main_call0.v5 main_call0.v7 main_call0.v14 main_call0.v13 main_call0.call0 : List (HloOp τ sig (Elt F))) ⊆ ops_threefry2x32_p0 main_call0.v5 main_call0.v7 main_call0.v14 main_call0.v13 main_call0.call0 from (List.Subset.refl _)) sub_m_c0_c0_p0

theorem sub_m_c0_c0_p1 : (ops_threefry2x32_p1 main_call0.v5 main_call0.v7 main_call0.v14 main_call0.v13 main_call0.call0 : List (HloOp τ sig (Elt F))) ⊆ ops_main :=
  List.Subset.trans (show (ops_threefry2x32_p1 main_call0.v5 main_call0.v7 main_call0.v14 main_call0.v13 main_call0.call0 : List (HloOp τ sig (Elt F))) ⊆ ops_threefry2x32 main_call0.v5 main_call0.v7 main_call0.v14 main_call0.v13 main_call0.call0 from (List.subset_append_of_subset_right _ (List.subset_append_left _ _))) sub_m_c0_c0

theorem sub_m_c0_c0_p1_a : (ops_threefry2x32_p1_a main_call0.v5 main_call0.v7 main_call0.v14 main_call0.v13 main_call0.call0 : List (HloOp τ sig (Elt F))) ⊆ ops_main :=
  List.Subset.trans (show (ops_threefry2x32_p1_a main_call0.v5 main_call0.v7 main_call0.v14 main_call0.v13 main_call0.call0 : List (HloOp τ sig (Elt F))) ⊆ ops_threefry2x32_p1 main_call0.v5 main_call0.v7 main_call0.v14 main_call0.v13 main_call0.call0 from (List.Subset.refl _)) sub_m_c0_c0_p1

theorem sub_m_c0_c0_p2 : (ops_threefry2x32_p2 main_call0.v5 main_call0.v7 main_call0.v14 main_call0.v13 main_call0.call0 : List (HloOp τ sig (Elt F))) ⊆ ops_main :=
  List.Subset.trans (show (ops_threefry2x32_p2 main_call0.v5 main_call0.v7 main_call0.v14 main_call0.v13 main_call0.call0 : List (HloOp τ sig (Elt F))) ⊆ ops_threefry2x32 main_call0.v5 main_call0.v7 main_call0.v14 main_call0.v13 main_call0.call0 from (List.subset_append_of_subset_right _ (List.subset_append_of_subset_right _ (List.subset_append_left _ _)))) sub_m_c0_c0

theorem sub_m_c0_c0_p2_a : (ops_threefry2x32_p2_a main_call0.v5 main_call0.v7 main_call0.v14 main_call0.v13 main_call0.call0 : List (HloOp τ sig (Elt F))) ⊆ ops_main :=
  List.Subset.trans (show (ops_threefry2x32_p2_a main_call0.v5 main_call0.v7 main_call0.v14 main_call0.v13 main_call0.call0 : List (HloOp τ sig (Elt F))) ⊆ ops_threefry2x32_p2 main_call0.v5 main_call0.v7 main_call0.v14 main_call0.v13 main_call0.call0 from (List.Subset.refl _)) sub_m_c0_c0_p2

theorem sub_m_c0_c0_p3 : (ops_threefry2x32_p3 main_call0.v5 main_call0.v7 main_call0.v14 main_call0.v13 main_call0.call0 : List (HloOp τ sig (Elt F))) ⊆ ops_main :=
  List.Subset.trans (show (ops_threefry2x32_p3 main_call0.v5 main_call0.v7 main_call0.v14 main_call0.v13 main_call0.call0 : List (HloOp τ sig (Elt F))) ⊆ ops_threefry2x32 main_call0.v5 main_call0.v7 main_call0.v14 main_call0.v13 main_call0.call0 from (List.subset_append_of_subset_right _ (List.subset_append_of_subset_right _ (List.subset_append_of_subset_right _ (List.Subset.refl _))))) sub_m_c0_c0

theorem sub_m_c0_c0_p3_a : (ops_threefry2x32_p3_a main_call0.v5 main_call0.v7 main_call0.v14 main_call0.v13 main_call0.call0 : List (HloOp τ sig (Elt F))) ⊆ ops_main :=
  List.Subset.trans (show (ops_threefry2x32_p3_a main_call0.v5 main_call0.v7 main_call0.v14 main_call0.v13 main_call0.call0 : List (HloOp τ sig (Elt F))) ⊆ ops_threefry2x32_p3 main_call0.v5 main_call0.v7 main_call0.v14 main_call0.v13 main_call0.call0 from (List.Subset.refl _)) sub_m_c0_c0_p3

theorem sub_m_c0_b : (ops_uniform_b (.of main_v6) (.of main_cst) (.of main_cst_2) main_call0 : List (HloOp τ sig (Elt F))) ⊆ ops_main :=
  List.Subset.trans (show (ops_uniform_b (.of main_v6) (.of main_cst) (.of main_cst_2) main_call0 : List (HloOp τ sig (Elt F))) ⊆ ops_uniform (.of main_v6) (.of main_cst) (.of main_cst_2) main_call0 from (List.subset_append_of_subset_right _ (List.subset_append_of_subset_right _ (List.Subset.refl _)))) sub_m_c0

theorem sub_m_b : (ops_main_b : List (HloOp τ sig (Elt F))) ⊆ ops_main :=
  (List.subset_append_of_subset_right _ (List.subset_append_of_subset_right _ (List.Subset.refl _)))

end Cert.Proof.KI

end
-- ==== Proof.Launch.lean ====
/-
The whole program: the host operations that make the noise, the call, the reshape of its result. It runs, leaves its
arguments alone, and ends with the result at what the line of host operations and the tasks make of the arguments.
-/
module

public import proofs.«01_k».proof.Proof.Deal
public import proofs.«01_k».proof.Proof.HostK
public import Idealize.ShloMosaic.Lib.Pipeline.Frame

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held after seq launchContents)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Ssa

variable {F : FTy → Type} [FloatOps F] [Named F]

local notation "𝕄" => MT nD τ sig (HIx 1) (Elt F) ℕ UU ℕ

/-! ## The result dealt to the 32 tasks -/

theorem mem_oSet (L : grid0.Coords) (i : S4x4096.Idx) :
    i ∈ oSet L ↔ (i 0).val = wid L / 8 ∧ 512 * (wid L % 8) ≤ (i 1).val ∧ (i 1).val < 512 * (wid L % 8) + 512 := by
  unfold oSet oRect
  rw [Rect.mem_set_unit]
  constructor
  · intro h
    have h0 := h 0
    have h1 := h 1
    rw [off6_eq0] at h0; rw [off6_eq1] at h1
    have e0 : S1x512.size 0 = 1 := rfl
    have e1 : S1x512.size 1 = 512 := rfl
    rw [e0] at h0; rw [e1] at h1
    omega
  · rintro ⟨h0, h1, h2⟩ a
    match a with
    | 0 => rw [off6_eq0]; show wid L / 8 ≤ (i 0).val ∧ (i 0).val < wid L / 8 + 1; omega
    | 1 => rw [off6_eq1]; exact ⟨h1, h2⟩

abbrev pSet (p : Fin (grid0.bound 0) × Fin (grid0.bound 1)) : Finset S4x4096.Idx := oSet (coordsV p.1 p.2)

theorem wid_coords (c : Fin (grid0.bound 0)) (s : Fin (grid0.bound 1)) : wid (coordsV c s) = 2 * s.val + c.val := rfl

theorem parts_disjoint : ∀ p ∈ (Finset.univ : Finset (Fin (grid0.bound 0) × Fin (grid0.bound 1))), ∀ p' ∈ (Finset.univ : Finset (Fin (grid0.bound 0) × Fin (grid0.bound 1))),
    p ≠ p' → Disjoint (pSet p) (pSet p') := by
  rintro ⟨c, s⟩ - ⟨c', s'⟩ - hne
  refine Finset.disjoint_left.mpr fun i h h' => hne ?_
  rw [mem_oSet, wid_coords] at h h'
  dsimp only at h h'
  have hc : c.val < 2 := c.isLt
  have hc' : c'.val < 2 := c'.isLt
  have : c.val = c'.val ∧ s.val = s'.val := by omega
  exact Prod.ext (Fin.ext this.1) (Fin.ext this.2)

theorem parts_cover : (Finset.univ : Finset (Fin (grid0.bound 0) × Fin (grid0.bound 1))).biUnion pSet = Finset.univ := by
  refine Finset.eq_univ_iff_forall.mpr fun i => Finset.mem_biUnion.mpr ?_
  have h0 : (i 0).val < 4 := (i 0).isLt
  have h1 : (i 1).val < 4096 := (i 1).isLt
  let w := 8 * (i 0).val + (i 1).val / 512
  refine ⟨(⟨w % 2, show w % 2 < 2 by omega⟩, ⟨w / 2, show w / 2 < 16 by omega⟩), Finset.mem_univ _, ?_⟩
  rw [mem_oSet, wid_coords]
  show (i 0).val = (2 * (w / 2) + w % 2) / 8 ∧ 512 * ((2 * (w / 2) + w % 2) % 8) ≤ (i 1).val ∧ (i 1).val < 512 * ((2 * (w / 2) + w % 2) % 8) + 512
  omega

theorem o_parts (d : Dev nD) (f : Buf (Elt F) (oLoc d)) :
    (oLoc d ↦{fullShare} f : sProp 𝕄) = bigSep Finset.univ fun c : Fin (grid0.bound 0) => bigSep Finset.univ fun s : Fin (grid0.bound 1) =>
      oLoc d ↦[oSet (coordsV c s)]{fullShare} f := by
  rw [← bigSep_univ_prod (fun p : Fin (grid0.bound 0) × Fin (grid0.bound 1) => (oLoc d ↦[oSet (coordsV p.1 p.2)]{fullShare} f : sProp 𝕄)),
    ← pointsTo_biUnion Finset.univ (ℓ := oLoc d) pSet parts_disjoint, parts_cover]

/-! ## The call on the TensorCore -/

theorem tok2 {ℓ : Loc nD τ sig} (f : Buf (Elt F) ℓ) :
    (ℓ ↦{fullShare} f : sProp 𝕄) ⊣⊢ iprop((ℓ ↦{Transfers.shareDrop fullShare 2} f)
      ∗ bigSep Finset.univ fun c : Fin (grid0.bound 0) => ℓ ↦{Transfers.shareTokN fullShare c.val} f) :=
  Transfers.pointsTo_toks (ℓ := ℓ) (S := Finset.univ) (f := f) fullShare 2

section Call
variable (C : Dev nD → Valuation τ sig (Elt F)) (d : Dev nD)

theorem bigSep_cores (Φ : Fin (grid0.bound 0) → sProp 𝕄) :
    (bigSep Finset.univ fun c : Fin ((K (F := F)).nCore 0) => Φ ⟨c.val, c.isLt⟩) = bigSep Finset.univ Φ :=
  bigSep_congr fun _ _ => congrArg Φ (Fin.ext rfl)

theorem cores_eq (f : Buf (Elt F) (oLoc d)) :
    (bigSep Finset.univ fun c : Fin ((K (F := F)).nCore 0) => cPts C d ⟨c.val, c.isLt⟩ f)
      = iprop((bigSep Finset.univ fun c : Fin (grid0.bound 0) => xLoc d ↦{Transfers.shareTokN fullShare c.val} cX C d)
          ∗ (bigSep Finset.univ fun c : Fin (grid0.bound 0) => mLoc d ↦{Transfers.shareTokN fullShare c.val} cM C d)
          ∗ (bigSep Finset.univ fun c : Fin (grid0.bound 0) => gLoc d ↦{Transfers.shareTokN fullShare c.val} cG C d)
          ∗ (oLoc d ↦{fullShare} f)) := by
  rw [bigSep_cores (F := F) (fun c => cPts C d c f), bigSep_sep', bigSep_sep', bigSep_sep', ← o_parts]

theorem st_eq : (bigSep Finset.univ fun c : Fin ((K (F := F)).nCore 0) => (P C).st 0 d c)
    = (bigSep Finset.univ fun c : Fin ((K (F := F)).nCore 0) => cPts C d ⟨c.val, c.isLt⟩ (cO C d)) := rfl
theorem dn_eq : (bigSep Finset.univ fun c : Fin ((K (F := F)).nCore 0) => (P C).dn 0 d c)
    = (bigSep Finset.univ fun c : Fin ((K (F := F)).nCore 0) => cPts C d ⟨c.val, c.isLt⟩ (cR C d)) := rfl

/-- The call's four buffers. -/
abbrev callRefs : Finset (DevRef τ sig) :=
  {Proc.devRef .tc main_v12, Proc.devRef .tc main_arg1, Proc.devRef .tc main_v11, Proc.devRef .tc main_v13}

theorem ref_ne {a b : Ref sig .tc} (h : a ≠ b) : (Proc.devRef .tc a : DevRef τ sig) ≠ Proc.devRef .tc b := fun e => h (Proc.devRef_injective _ e)

theorem held_call (W : Valuation τ sig (Elt F)) :
    (held (d.tc : Thread nD τ) callRefs W : sProp 𝕄)
      = iprop((xLoc d ↦{fullShare} W (Proc.devRef .tc main_v12)) ∗ (mLoc d ↦{fullShare} W (Proc.devRef .tc main_arg1))
          ∗ (gLoc d ↦{fullShare} W (Proc.devRef .tc main_v11)) ∗ (oLoc d ↦{fullShare} W (Proc.devRef .tc main_v13))) := by
  have e1 := ref_ne (a := main_v12) (b := main_arg1) (by decide)
  have e2 := ref_ne (a := main_v12) (b := main_v11) (by decide)
  have e3 := ref_ne (a := main_v12) (b := main_v13) (by decide)
  have e4 := ref_ne (a := main_arg1) (b := main_v11) (by decide)
  have e5 := ref_ne (a := main_arg1) (b := main_v13) (by decide)
  have e6 := ref_ne (a := main_v11) (b := main_v13) (by decide)
  unfold held callRefs
  rw [SparseCore.bigSep_insert' (by simp [e1, e2, e3]), SparseCore.bigSep_insert' (by simp [e4, e5]), SparseCore.bigSep_insert' (by simp [e6]), bigSep_singleton]

/-- The buffers after the call: the result's replaced. -/
def called : Valuation τ sig (Elt F) := Function.update (C d) (Proc.devRef .tc main_v13) (cR C d)

theorem called_of_ne {b : Ref sig .tc} (h : b ≠ main_v13) : called C d (Proc.devRef .tc b) = C d (Proc.devRef .tc b) :=
  Function.update_of_ne (ref_ne h) _ _
theorem called_v13 : called C d (Proc.devRef .tc main_v13) = cR C d := Function.update_self _ _ _

theorem callRefs_sub : callRefs ⊆ Pipeline.ucRefs τ sig := by
  intro b hb
  simp only [callRefs, Finset.mem_insert, Finset.mem_singleton] at hb
  refine Finset.mem_filter.mpr ?_
  rcases hb with rfl | rfl | rfl | rfl <;> exact ⟨Finset.mem_map.mpr ⟨_, Finset.mem_univ _, rfl⟩, by decide⟩

theorem held_rest : (held (d.tc : Thread nD τ) (Pipeline.ucRefs τ sig \ callRefs) (C d) : sProp 𝕄)
    = held (d.tc : Thread nD τ) (Pipeline.ucRefs τ sig \ callRefs) (called C d) :=
  StableHlo.held_congr _ fun b hb => (Function.update_of_ne (fun e => (Finset.mem_sdiff.mp hb).2 (by
    rw [e]; simp [callRefs])) _ _).symm

end Call

/-! ## The buffers from launch to the end -/

section Main
variable (m : (ℓ : Loc nD τ sig) → Buf (Elt F) ℓ) (ρ : Dev nD → PrngReg)

/-- At the call, and at the end. -/
def pre (d : Dev nD) : Valuation τ sig (Elt F) := after ops_main (launchContents m d)
abbrev lastOp : HloOp τ sig (Elt F) := StableHlo.reshape main_v13 main_v14 (rfl : (.f32 : EltTy) = .f32) shapeCasts_S4x4096_S4x4096x1
def post (d : Dev nD) : Valuation τ sig (Elt F) := after [lastOp] (called (pre m) d)

abbrev FIN (d : Dev nD) : sProp 𝕄 :=
  iprop((((SparseCore.T d).loc main_arg0) ↦{fullShare} (post m d (Proc.devRef .tc main_arg0) : Buf (Elt F) ((SparseCore.T d).loc main_arg0)))
    ∗ (((SparseCore.T d).loc main_arg1) ↦{fullShare} (post m d (Proc.devRef .tc main_arg1) : Buf (Elt F) ((SparseCore.T d).loc main_arg1)))
    ∗ (((SparseCore.T d).loc main_v14) ↦{fullShare} (post m d (Proc.devRef .tc main_v14) : Buf (Elt F) ((SparseCore.T d).loc main_v14))))

abbrev endRefs : Finset (DevRef τ sig) := {Proc.devRef .tc main_arg0, Proc.devRef .tc main_arg1, Proc.devRef .tc main_v14}

theorem held_end (d : Dev nD) : (held (d.tc : Thread nD τ) endRefs (post m d) : sProp 𝕄) = FIN m d := by
  have e1 := ref_ne (a := main_arg0) (b := main_arg1) (by decide)
  have e2 := ref_ne (a := main_arg0) (b := main_v14) (by decide)
  have e3 := ref_ne (a := main_arg1) (b := main_v14) (by decide)
  unfold held endRefs
  rw [SparseCore.bigSep_insert' (by simp [e1, e2]), SparseCore.bigSep_insert' (by simp [e3]), bigSep_singleton]

theorem endRefs_sub : endRefs ⊆ Pipeline.ucRefs τ sig := by
  intro b hb
  simp only [endRefs, Finset.mem_insert, Finset.mem_singleton] at hb
  refine Finset.mem_filter.mpr ?_
  rcases hb with rfl | rfl | rfl <;> exact ⟨Finset.mem_map.mpr ⟨_, Finset.mem_univ _, rfl⟩, by decide⟩

theorem last_bufs : (lastOp (F := F)).bufs ⊆ StableHlo.tcRefs τ sig := (ok_reshape (x := main_v13) (y := main_v14) _ _ _ _ rfl).bufs

theorem hmain (κ : GSem nD τ sig → ℕ) (d : Dev nD) :
    iprop((K (F := F)).ctx EH (P (pre m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = _ from
    Pipeline.unscopedBufs_held d (launchContents m d)]
  rw [show main d = _ from runs_main (F := F) d]
  iintro ⟨#Hctx, Hst, ⟨Hb, Hh, Hts, -⟩, -⟩
  iapply (StableHlo.wp_seq 𝒱 none Set.univ d (Pipeline.ucRefs τ sig) _ ops_main
    (fun op h => Pipeline.sub_ucRefs op (line_m.ok op h).choose_spec.2.bufs) (fun op h => (line_m.ok op h).choose_spec.2.fresh) (launchContents m d)) $$ [Hb Hh]
  · isplitl [Hb]; · iexact Hb
    iexact Hh
  iintro ⟨Hb, Hh⟩
  ihave Hh := (Entails.of_eq (show (held (d.tc : Thread nD τ) (Pipeline.ucRefs τ sig) (after ops_main (launchContents m d)) : sProp 𝕄) = _ from
    StableHlo.held_sub_split (d.tc : Thread nD τ) callRefs_sub (pre m d))) $$ Hh
  icases Hh with ⟨Hc, Hr⟩
  ihave Hc := (Entails.of_eq (held_call d (pre m d))) $$ Hc
  icases Hc with ⟨Hx, Hm, Hg, Ho⟩
  ihave Hx := (tok2 (F := F) (cX (pre m) d)).1 $$ Hx
  icases Hx with ⟨Hxr, Hx⟩
  ihave Hm := (tok2 (F := F) (cM (pre m) d)).1 $$ Hm
  icases Hm with ⟨Hmr, Hm⟩
  ihave Hg := (tok2 (F := F) (cG (pre m) d)).1 $$ Hg
  icases Hg with ⟨Hgr, Hg⟩
  rw [wp_bind]
  iapply ((K (F := F)).wp_run (D (F := F)) 𝒱 (EH := EH) (P := P (pre m)) κ d 0) $$ [Hst Hx Hm Hg Ho Hxr Hmr Hgr Hr Hb Hts]
  isplitr; · iexact Hctx
  isplitl [Hst]; · iexact Hst
  isplitl [Hx Hm Hg Ho]
  · rw [st_eq, cores_eq]
    isplitl [Hx]; · iexact Hx
    isplitl [Hm]; · iexact Hm
    isplitl [Hg]; · iexact Hg
    iexact Ho
  iintro ⟨Hst, Hdn⟩
  ihave Hdn' := (Entails.of_eq ((dn_eq (pre m) d).trans (cores_eq (pre m) d _))) $$ Hdn
  icases Hdn' with ⟨Hx, Hm, Hg, Ho⟩
  ihave Hx := (tok2 (F := F) (cX (pre m) d)).2 $$ [Hx Hxr]
  · isplitl [Hxr]; · iexact Hxr
    iexact Hx
  ihave Hm := (tok2 (F := F) (cM (pre m) d)).2 $$ [Hm Hmr]
  · isplitl [Hmr]; · iexact Hmr
    iexact Hm
  ihave Hg := (tok2 (F := F) (cG (pre m) d)).2 $$ [Hg Hgr]
  · isplitl [Hgr]; · iexact Hgr
    iexact Hg
  ihave Hc := (Entails.of_eq (held_call d (called (pre m) d)).symm) $$ [Hx Hm Hg Ho]
  · rw [called_of_ne _ _ (b := main_v12) (by decide), called_of_ne _ _ (b := main_arg1) (by decide), called_of_ne _ _ (b := main_v11) (by decide), called_v13]
    isplitl [Hx]; · iexact Hx
    isplitl [Hm]; · iexact Hm
    isplitl [Hg]; · iexact Hg
    iexact Ho
  ihave Hr := (Entails.of_eq (held_rest (pre m) d)) $$ Hr
  ihave Hh := (Entails.of_eq (StableHlo.held_sub_split (d.tc : Thread nD τ) callRefs_sub (called (pre m) d)).symm) $$ [Hc Hr]
  · isplitl [Hc]; · iexact Hc
    iexact Hr
  rw [show ((hlo rfl (lastOp (F := F)) fun _ => .ret (⟨⟩ : PUnit)) >>= fun _ => pure ⟨⟩ :
      Prog (TpuEff nD τ sig (Elt F) (LL (F := F)) .tc) PUnit) = _ from Runs.cons (op := lastOp (F := F)) (Runs.nil (p := pure ⟨⟩))]
  iapply (StableHlo.wp_seq 𝒱 none Set.univ d (Pipeline.ucRefs τ sig) _ [lastOp (F := F)]
    (fun op h => Pipeline.sub_ucRefs op (List.mem_singleton.mp h ▸ last_bufs)) (fun op h => List.mem_singleton.mp h ▸ rfl) (called (pre m) d)) $$ [Hb Hh]
  · isplitl [Hb]; · iexact Hb
    iexact Hh
  iintro ⟨Hb, Hh⟩
  rw [wp_pure]
  ihave Hh := (Entails.of_eq (show (held (d.tc : Thread nD τ) (Pipeline.ucRefs τ sig) (after [lastOp] (called (pre m) d)) : sProp 𝕄) = _ from
    StableHlo.held_sub_split (d.tc : Thread nD τ) endRefs_sub (post m d))) $$ Hh
  icases Hh with ⟨Hf, -⟩
  ihave Hf := (Entails.of_eq (held_end m d)) $$ Hf
  imodintro
  isplitl [Hst]; · iexact Hst
  isplitl [Hf]; · iexact Hf
  isplitl [Hb] <;> iassumption

/-! ## The run -/

abbrev locT (d : Dev nD) (b : Ref sig .tc) : Loc nD τ sig := (SparseCore.T d).loc b

def fq (d : Dev nD) (s' : Phys nD τ sig (Elt F)) : Prop :=
  s'.mem.mem (locT d main_arg0) = post m d (Proc.devRef .tc main_arg0) ∧ s'.mem.mem (locT d main_arg1) = post m d (Proc.devRef .tc main_arg1)
    ∧ s'.mem.mem (locT d main_v14) = post m d (Proc.devRef .tc main_v14)

theorem hfin (d : Dev nD) (s' : Phys nD τ sig (Elt F)) : iprop(FIN m d ∗ SI s') ⊢ (⌜fq m d s'⌝ : sProp 𝕄) := by
  iintro ⟨⟨Ha, Hb, Hc⟩, HSI⟩
  ihave H := (persistent_entails_right (SI_pointsTo_agree (st := s') (ℓ := locT d main_arg0) (I := Finset.univ) (q := fullShare)
    (f := post m d (Proc.devRef .tc main_arg0)))) $$ [HSI Ha]
  · isplitl [HSI] <;> iassumption
  icases H with ⟨%ha, HSI, -⟩
  ihave H := (persistent_entails_right (SI_pointsTo_agree (st := s') (ℓ := locT d main_arg1) (I := Finset.univ) (q := fullShare)
    (f := post m d (Proc.devRef .tc main_arg1)))) $$ [HSI Hb]
  · isplitl [HSI] <;> iassumption
  icases H with ⟨%hb, HSI, -⟩
  ihave H := (SI_pointsTo_agree (st := s') (ℓ := locT d main_v14) (I := Finset.univ) (q := fullShare)
    (f := post m d (Proc.devRef .tc main_v14))) $$ [HSI Hc]
  · isplitl [HSI] <;> iassumption
  icases H with %hc
  ipureintro
  exact ⟨funext fun i => ha i (Finset.mem_univ i), funext fun i => hb i (Finset.mem_univ i), funext fun i => hc i (Finset.mem_univ i)⟩

def u₀ : UU := (initOf (K (F := F)).hsCells (K (F := F)).hsToks, 1)

theorem bigSep_emp_all {I : Type} (s : Finset I) : (bigSep s fun _ => iprop(emp)) = (iprop(emp) : sProp 𝕄) := bigSep_emp_const s

theorem hu₀ (C : Dev nD → Valuation τ sig (Elt F)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P C).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp_all]; iempintro
  rw [show (bigSep Finset.univ fun thr : Thread nD τ => bigSep Finset.univ fun q : Fin 1 => (P (F := F) C).x q thr) = bigSep Finset.univ fun _ => iprop(emp) from
    bigSep_congr fun _ _ => bigSep_univ_of_subsingleton (0 : Fin 1), bigSep_emp_all]
  iempintro

theorem post_arg {b : Ref sig .tc} (h : key b < 2) (d : Dev nD) : post m d (Proc.devRef .tc b) = m (locT d b) := by
  have l : Line [lastOp (F := F)] 277 := ⟨ok_reshape _ _ _ _ rfl, trivial⟩
  unfold post
  rw [l.keep (by omega), called_of_ne _ _ (fun e => by subst e; revert h; decide)]
  exact line_m.keep h _

def QC : PUnit × MemSt nD τ sig (Elt F) → Prop := fun r =>
  (∀ d : Dev nD, r.2.mem (locT d main_arg0) = m (locT d main_arg0) ∧ r.2.mem (locT d main_arg1) = m (locT d main_arg1)
    ∧ r.2.mem (locT d main_v14) = post m d (Proc.devRef .tc main_v14)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (pre m)) (A := ∅) scFacts v₀
    (fun q hq => match q with | 0 => nomatch hq)
    (fun q _ => match q with | 0 => tileObl (pre m) scFacts)
    (fun q _ => match q with | 0 => SparseCore.Cfg.VecSplit.of_plain (vecSplit (pre m)))
    m ρ main (fun _ => iprop(emp)) (FIN m) (u₀ (F := F)) (sep_elim_left.trans (hu₀ (pre m))) (hmain m ρ) (fq m) (hfin m) (QC m)
    (fun _ h hz => ⟨fun d => ⟨(h d).1.trans (post_arg m (by decide) d), (h d).2.1.trans (post_arg m (by decide) d), (h d).2.2⟩, hz⟩)

end Main

end Cert.Proof.KI

end
-- ==== Proof.HostR.lean ====
/-
The reference program as one line of host operations.
-/
module

public import proofs.«01_k».proof.Defs
public import proofs.«01_k».proof.Proof.Gen.ReferenceIdeal
public import proofs.«01_k».proof.Proof.Ssa

@[expose] public section

noncomputable section

namespace Cert.Proof.RI

open Cert.ReferenceIdeal Cert.ReferenceIdeal.Gen
open Idealize.ShloMosaic Idealize.ShloMosaic.StableHlo Idealize.SL.Sem Cert.Proof.Ssa

variable {F : FTy → Type} [FloatOps F]

abbrev LL : Labels := Pipeline.Sig Λ₀ (Fin 0) fun p => (pcfgs (F := F) p).Adm

def ops_threefry2x32_p0_a (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  [StableHlo.TRef.binary arg0 arg1 φ.v0 xori,
   StableHlo.TRef.nullary φ.c (constantI S_ 32 466688986#32),
   StableHlo.TRef.binary φ.v0 φ.c φ.v1 xori,
   StableHlo.TRef.unary arg0 φ.v2 (broadcastInDim S2048 ![] bcast_S_S2048),
   StableHlo.TRef.binary arg2 φ.v2 φ.v3 addi,
   StableHlo.TRef.unary arg1 φ.v4 (broadcastInDim S2048 ![] bcast_S_S2048),
   StableHlo.TRef.binary arg3 φ.v4 φ.v5 addi,
   StableHlo.TRef.binary φ.v3 φ.v5 φ.v6 addi,
   StableHlo.TRef.nullary φ.c_0 (constantI S_ 32 13#32),
   StableHlo.TRef.unary φ.c_0 φ.v7 (broadcastInDim S2048 ![] bcast_S_S2048),
   StableHlo.TRef.binary φ.v5 φ.v7 φ.v8 Host.shli,
   StableHlo.TRef.nullary φ.c_1 (constantI S_ 32 19#32),
   StableHlo.TRef.unary φ.c_1 φ.v9 (broadcastInDim S2048 ![] bcast_S_S2048),
   StableHlo.TRef.binary φ.v5 φ.v9 φ.v10 Host.shrui,
   StableHlo.TRef.binary φ.v8 φ.v10 φ.v11 ori,
   StableHlo.TRef.binary φ.v6 φ.v11 φ.v12 xori,
   StableHlo.TRef.binary φ.v6 φ.v12 φ.v13 addi,
   StableHlo.TRef.nullary φ.c_2 (constantI S_ 32 15#32),
   StableHlo.TRef.unary φ.c_2 φ.v14 (broadcastInDim S2048 ![] bcast_S_S2048),
   StableHlo.TRef.binary φ.v12 φ.v14 φ.v15 Host.shli,
   StableHlo.TRef.nullary φ.c_3 (constantI S_ 32 17#32),
   StableHlo.TRef.unary φ.c_3 φ.v16 (broadcastInDim S2048 ![] bcast_S_S2048),
   StableHlo.TRef.binary φ.v12 φ.v16 φ.v17 Host.shrui,
   StableHlo.TRef.binary φ.v15 φ.v17 φ.v18 ori,
   StableHlo.TRef.binary φ.v13 φ.v18 φ.v19 xori,
   StableHlo.TRef.binary φ.v13 φ.v19 φ.v20 addi,
   StableHlo.TRef.nullary φ.c_4 (constantI S_ 32 26#32),
   StableHlo.TRef.unary φ.c_4 φ.v21 (broadcastInDim S2048 ![] bcast_S_S2048),
   StableHlo.TRef.binary φ.v19 φ.v21 φ.v22 Host.shli,
   StableHlo.TRef.nullary φ.c_5 (constantI S_ 32 6#32),
   StableHlo.TRef.unary φ.c_5 φ.v23 (broadcastInDim S2048 ![] bcast_S_S2048),
   StableHlo.TRef.binary φ.v19 φ.v23 φ.v24 Host.shrui,
   StableHlo.TRef.binary φ.v22 φ.v24 φ.v25 ori,
   StableHlo.TRef.binary φ.v20 φ.v25 φ.v26 xori,
   StableHlo.TRef.binary φ.v20 φ.v26 φ.v27 addi,
   StableHlo.TRef.nullary φ.c_6 (constantI S_ 32 6#32),
   StableHlo.TRef.unary φ.c_6 φ.v28 (broadcastInDim S2048 ![] bcast_S_S2048),
   StableHlo.TRef.binary φ.v26 φ.v28 φ.v29 Host.shli,
   StableHlo.TRef.nullary φ.c_7 (constantI S_ 32 26#32),
   StableHlo.TRef.unary φ.c_7 φ.v30 (broadcastInDim S2048 ![] bcast_S_S2048),
   StableHlo.TRef.binary φ.v26 φ.v30 φ.v31 Host.shrui,
   StableHlo.TRef.binary φ.v29 φ.v31 φ.v32 ori,
   StableHlo.TRef.binary φ.v27 φ.v32 φ.v33 xori,
   StableHlo.TRef.unary arg1 φ.v34 (broadcastInDim S2048 ![] bcast_S_S2048),
   StableHlo.TRef.binary φ.v27 φ.v34 φ.v35 addi,
   StableHlo.TRef.unary φ.v1 φ.v36 (broadcastInDim S2048 ![] bcast_S_S2048),
   StableHlo.TRef.binary φ.v33 φ.v36 φ.v37 addi,
   StableHlo.TRef.nullary φ.c_8 (constantI S_ 32 1#32),
   StableHlo.TRef.unary φ.c_8 φ.v38 (broadcastInDim S2048 ![] bcast_S_S2048),
   StableHlo.TRef.binary φ.v37 φ.v38 φ.v39 addi,
   StableHlo.TRef.binary φ.v35 φ.v39 φ.v40 addi,
   StableHlo.TRef.nullary φ.c_9 (constantI S_ 32 17#32),
   StableHlo.TRef.unary φ.c_9 φ.v41 (broadcastInDim S2048 ![] bcast_S_S2048),
   StableHlo.TRef.binary φ.v39 φ.v41 φ.v42 Host.shli,
   StableHlo.TRef.nullary φ.c_10 (constantI S_ 32 15#32),
   StableHlo.TRef.unary φ.c_10 φ.v43 (broadcastInDim S2048 ![] bcast_S_S2048),
   StableHlo.TRef.binary φ.v39 φ.v43 φ.v44 Host.shrui,
   StableHlo.TRef.binary φ.v42 φ.v44 φ.v45 ori,
   StableHlo.TRef.binary φ.v40 φ.v45 φ.v46 xori,
   StableHlo.TRef.binary φ.v40 φ.v46 φ.v47 addi]

/-- The operations of `fn_threefry2x32.body_part0`, in order. -/
def ops_threefry2x32_p0 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  ops_threefry2x32_p0_a arg0 arg1 arg2 arg3 φ

theorem runs_threefry2x32_p0 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) :
    Runs (fn_threefry2x32.body_part0 arg0 arg1 arg2 arg3 φ : Prog (TpuEff nD τ sig (Elt F) (LL (F := F)) .tc) PUnit) (ops_threefry2x32_p0 arg0 arg1 arg2 arg3 φ) (pure ⟨⟩) := by
  unfold fn_threefry2x32.body_part0 ops_threefry2x32_p0
  unfold ops_threefry2x32_p0_a
  iterate 59 refine Runs.cons ?_
  exact Runs.last

def ops_threefry2x32_p1_a (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  [StableHlo.TRef.nullary φ.c_11 (constantI S_ 32 29#32),
   StableHlo.TRef.unary φ.c_11 φ.v48 (broadcastInDim S2048 ![] bcast_S_S2048),
   StableHlo.TRef.binary φ.v46 φ.v48 φ.v49 Host.shli,
   StableHlo.TRef.nullary φ.c_12 (constantI S_ 32 3#32),
   StableHlo.TRef.unary φ.c_12 φ.v50 (broadcastInDim S2048 ![] bcast_S_S2048),
   StableHlo.TRef.binary φ.v46 φ.v50 φ.v51 Host.shrui,
   StableHlo.TRef.binary φ.v49 φ.v51 φ.v52 ori,
   StableHlo.TRef.binary φ.v47 φ.v52 φ.v53 xori,
   StableHlo.TRef.binary φ.v47 φ.v53 φ.v54 addi,
   StableHlo.TRef.nullary φ.c_13 (constantI S_ 32 16#32),
   StableHlo.TRef.unary φ.c_13 φ.v55 (broadcastInDim S2048 ![] bcast_S_S2048),
   StableHlo.TRef.binary φ.v53 φ.v55 φ.v56 Host.shli,
   StableHlo.TRef.nullary φ.c_14 (constantI S_ 32 16#32),
   StableHlo.TRef.unary φ.c_14 φ.v57 (broadcastInDim S2048 ![] bcast_S_S2048),
   StableHlo.TRef.binary φ.v53 φ.v57 φ.v58 Host.shrui,
   StableHlo.TRef.binary φ.v56 φ.v58 φ.v59 ori,
   StableHlo.TRef.binary φ.v54 φ.v59 φ.v60 xori,
   StableHlo.TRef.binary φ.v54 φ.v60 φ.v61 addi,
   StableHlo.TRef.nullary φ.c_15 (constantI S_ 32 24#32),
   StableHlo.TRef.unary φ.c_15 φ.v62 (broadcastInDim S2048 ![] bcast_S_S2048),
   StableHlo.TRef.binary φ.v60 φ.v62 φ.v63 Host.shli,
   StableHlo.TRef.nullary φ.c_16 (constantI S_ 32 8#32),
   StableHlo.TRef.unary φ.c_16 φ.v64 (broadcastInDim S2048 ![] bcast_S_S2048),
   StableHlo.TRef.binary φ.v60 φ.v64 φ.v65 Host.shrui,
   StableHlo.TRef.binary φ.v63 φ.v65 φ.v66 ori,
   StableHlo.TRef.binary φ.v61 φ.v66 φ.v67 xori,
   StableHlo.TRef.unary φ.v1 φ.v68 (broadcastInDim S2048 ![] bcast_S_S2048),
   StableHlo.TRef.binary φ.v61 φ.v68 φ.v69 addi,
   StableHlo.TRef.unary arg0 φ.v70 (broadcastInDim S2048 ![] bcast_S_S2048),
   StableHlo.TRef.binary φ.v67 φ.v70 φ.v71 addi,
   StableHlo.TRef.nullary φ.c_17 (constantI S_ 32 2#32),
   StableHlo.TRef.unary φ.c_17 φ.v72 (broadcastInDim S2048 ![] bcast_S_S2048),
   StableHlo.TRef.binary φ.v71 φ.v72 φ.v73 addi,
   StableHlo.TRef.binary φ.v69 φ.v73 φ.v74 addi,
   StableHlo.TRef.nullary φ.c_18 (constantI S_ 32 13#32),
   StableHlo.TRef.unary φ.c_18 φ.v75 (broadcastInDim S2048 ![] bcast_S_S2048),
   StableHlo.TRef.binary φ.v73 φ.v75 φ.v76 Host.shli,
   StableHlo.TRef.nullary φ.c_19 (constantI S_ 32 19#32),
   StableHlo.TRef.unary φ.c_19 φ.v77 (broadcastInDim S2048 ![] bcast_S_S2048),
   StableHlo.TRef.binary φ.v73 φ.v77 φ.v78 Host.shrui,
   StableHlo.TRef.binary φ.v76 φ.v78 φ.v79 ori,
   StableHlo.TRef.binary φ.v74 φ.v79 φ.v80 xori,
   StableHlo.TRef.binary φ.v74 φ.v80 φ.v81 addi,
   StableHlo.TRef.nullary φ.c_20 (constantI S_ 32 15#32),
   StableHlo.TRef.unary φ.c_20 φ.v82 (broadcastInDim S2048 ![] bcast_S_S2048),
   StableHlo.TRef.binary φ.v80 φ.v82 φ.v83 Host.shli,
   StableHlo.TRef.nullary φ.c_21 (constantI S_ 32 17#32),
   StableHlo.TRef.unary φ.c_21 φ.v84 (broadcastInDim S2048 ![] bcast_S_S2048),
   StableHlo.TRef.binary φ.v80 φ.v84 φ.v85 Host.shrui,
   StableHlo.TRef.binary φ.v83 φ.v85 φ.v86 ori,
   StableHlo.TRef.binary φ.v81 φ.v86 φ.v87 xori,
   StableHlo.TRef.binary φ.v81 φ.v87 φ.v88 addi,
   StableHlo.TRef.nullary φ.c_22 (constantI S_ 32 26#32),
   StableHlo.TRef.unary φ.c_22 φ.v89 (broadcastInDim S2048 ![] bcast_S_S2048),
   StableHlo.TRef.binary φ.v87 φ.v89 φ.v90 Host.shli,
   StableHlo.TRef.nullary φ.c_23 (constantI S_ 32 6#32),
   StableHlo.TRef.unary φ.c_23 φ.v91 (broadcastInDim S2048 ![] bcast_S_S2048),
   StableHlo.TRef.binary φ.v87 φ.v91 φ.v92 Host.shrui,
   StableHlo.TRef.binary φ.v90 φ.v92 φ.v93 ori,
   StableHlo.TRef.binary φ.v88 φ.v93 φ.v94 xori]

/-- The operations of `fn_threefry2x32.body_part1`, in order. -/
def ops_threefry2x32_p1 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  ops_threefry2x32_p1_a arg0 arg1 arg2 arg3 φ

theorem runs_threefry2x32_p1 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) :
    Runs (fn_threefry2x32.body_part1 arg0 arg1 arg2 arg3 φ : Prog (TpuEff nD τ sig (Elt F) (LL (F := F)) .tc) PUnit) (ops_threefry2x32_p1 arg0 arg1 arg2 arg3 φ) (pure ⟨⟩) := by
  unfold fn_threefry2x32.body_part1 ops_threefry2x32_p1
  unfold ops_threefry2x32_p1_a
  iterate 59 refine Runs.cons ?_
  exact Runs.last

def ops_threefry2x32_p2_a (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  [StableHlo.TRef.binary φ.v88 φ.v94 φ.v95 addi,
   StableHlo.TRef.nullary φ.c_24 (constantI S_ 32 6#32),
   StableHlo.TRef.unary φ.c_24 φ.v96 (broadcastInDim S2048 ![] bcast_S_S2048),
   StableHlo.TRef.binary φ.v94 φ.v96 φ.v97 Host.shli,
   StableHlo.TRef.nullary φ.c_25 (constantI S_ 32 26#32),
   StableHlo.TRef.unary φ.c_25 φ.v98 (broadcastInDim S2048 ![] bcast_S_S2048),
   StableHlo.TRef.binary φ.v94 φ.v98 φ.v99 Host.shrui,
   StableHlo.TRef.binary φ.v97 φ.v99 φ.v100 ori,
   StableHlo.TRef.binary φ.v95 φ.v100 φ.v101 xori,
   StableHlo.TRef.unary arg0 φ.v102 (broadcastInDim S2048 ![] bcast_S_S2048),
   StableHlo.TRef.binary φ.v95 φ.v102 φ.v103 addi,
   StableHlo.TRef.unary arg1 φ.v104 (broadcastInDim S2048 ![] bcast_S_S2048),
   StableHlo.TRef.binary φ.v101 φ.v104 φ.v105 addi,
   StableHlo.TRef.nullary φ.c_26 (constantI S_ 32 3#32),
   StableHlo.TRef.unary φ.c_26 φ.v106 (broadcastInDim S2048 ![] bcast_S_S2048),
   StableHlo.TRef.binary φ.v105 φ.v106 φ.v107 addi,
   StableHlo.TRef.binary φ.v103 φ.v107 φ.v108 addi,
   StableHlo.TRef.nullary φ.c_27 (constantI S_ 32 17#32),
   StableHlo.TRef.unary φ.c_27 φ.v109 (broadcastInDim S2048 ![] bcast_S_S2048),
   StableHlo.TRef.binary φ.v107 φ.v109 φ.v110 Host.shli,
   StableHlo.TRef.nullary φ.c_28 (constantI S_ 32 15#32),
   StableHlo.TRef.unary φ.c_28 φ.v111 (broadcastInDim S2048 ![] bcast_S_S2048),
   StableHlo.TRef.binary φ.v107 φ.v111 φ.v112 Host.shrui,
   StableHlo.TRef.binary φ.v110 φ.v112 φ.v113 ori,
   StableHlo.TRef.binary φ.v108 φ.v113 φ.v114 xori,
   StableHlo.TRef.binary φ.v108 φ.v114 φ.v115 addi,
   StableHlo.TRef.nullary φ.c_29 (constantI S_ 32 29#32),
   StableHlo.TRef.unary φ.c_29 φ.v116 (broadcastInDim S2048 ![] bcast_S_S2048),
   StableHlo.TRef.binary φ.v114 φ.v116 φ.v117 Host.shli,
   StableHlo.TRef.nullary φ.c_30 (constantI S_ 32 3#32),
   StableHlo.TRef.unary φ.c_30 φ.v118 (broadcastInDim S2048 ![] bcast_S_S2048),
   StableHlo.TRef.binary φ.v114 φ.v118 φ.v119 Host.shrui,
   StableHlo.TRef.binary φ.v117 φ.v119 φ.v120 ori,
   StableHlo.TRef.binary φ.v115 φ.v120 φ.v121 xori,
   StableHlo.TRef.binary φ.v115 φ.v121 φ.v122 addi,
   StableHlo.TRef.nullary φ.c_31 (constantI S_ 32 16#32),
   StableHlo.TRef.unary φ.c_31 φ.v123 (broadcastInDim S2048 ![] bcast_S_S2048),
   StableHlo.TRef.binary φ.v121 φ.v123 φ.v124 Host.shli,
   StableHlo.TRef.nullary φ.c_32 (constantI S_ 32 16#32),
   StableHlo.TRef.unary φ.c_32 φ.v125 (broadcastInDim S2048 ![] bcast_S_S2048),
   StableHlo.TRef.binary φ.v121 φ.v125 φ.v126 Host.shrui,
   StableHlo.TRef.binary φ.v124 φ.v126 φ.v127 ori,
   StableHlo.TRef.binary φ.v122 φ.v127 φ.v128 xori,
   StableHlo.TRef.binary φ.v122 φ.v128 φ.v129 addi,
   StableHlo.TRef.nullary φ.c_33 (constantI S_ 32 24#32),
   StableHlo.TRef.unary φ.c_33 φ.v130 (broadcastInDim S2048 ![] bcast_S_S2048),
   StableHlo.TRef.binary φ.v128 φ.v130 φ.v131 Host.shli,
   StableHlo.TRef.nullary φ.c_34 (constantI S_ 32 8#32),
   StableHlo.TRef.unary φ.c_34 φ.v132 (broadcastInDim S2048 ![] bcast_S_S2048),
   StableHlo.TRef.binary φ.v128 φ.v132 φ.v133 Host.shrui,
   StableHlo.TRef.binary φ.v131 φ.v133 φ.v134 ori,
   StableHlo.TRef.binary φ.v129 φ.v134 φ.v135 xori,
   StableHlo.TRef.unary arg1 φ.v136 (broadcastInDim S2048 ![] bcast_S_S2048),
   StableHlo.TRef.binary φ.v129 φ.v136 φ.v137 addi,
   StableHlo.TRef.unary φ.v1 φ.v138 (broadcastInDim S2048 ![] bcast_S_S2048),
   StableHlo.TRef.binary φ.v135 φ.v138 φ.v139 addi,
   StableHlo.TRef.nullary φ.c_35 (constantI S_ 32 4#32),
   StableHlo.TRef.unary φ.c_35 φ.v140 (broadcastInDim S2048 ![] bcast_S_S2048),
   StableHlo.TRef.binary φ.v139 φ.v140 φ.v141 addi,
   StableHlo.TRef.binary φ.v137 φ.v141 φ.v142 addi]

/-- The operations of `fn_threefry2x32.body_part2`, in order. -/
def ops_threefry2x32_p2 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  ops_threefry2x32_p2_a arg0 arg1 arg2 arg3 φ

theorem runs_threefry2x32_p2 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) :
    Runs (fn_threefry2x32.body_part2 arg0 arg1 arg2 arg3 φ : Prog (TpuEff nD τ sig (Elt F) (LL (F := F)) .tc) PUnit) (ops_threefry2x32_p2 arg0 arg1 arg2 arg3 φ) (pure ⟨⟩) := by
  unfold fn_threefry2x32.body_part2 ops_threefry2x32_p2
  unfold ops_threefry2x32_p2_a
  iterate 59 refine Runs.cons ?_
  exact Runs.last

def ops_threefry2x32_p3_a (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  [StableHlo.TRef.nullary φ.c_36 (constantI S_ 32 13#32),
   StableHlo.TRef.unary φ.c_36 φ.v143 (broadcastInDim S2048 ![] bcast_S_S2048),
   StableHlo.TRef.binary φ.v141 φ.v143 φ.v144 Host.shli,
   StableHlo.TRef.nullary φ.c_37 (constantI S_ 32 19#32),
   StableHlo.TRef.unary φ.c_37 φ.v145 (broadcastInDim S2048 ![] bcast_S_S2048),
   StableHlo.TRef.binary φ.v141 φ.v145 φ.v146 Host.shrui,
   StableHlo.TRef.binary φ.v144 φ.v146 φ.v147 ori,
   StableHlo.TRef.binary φ.v142 φ.v147 φ.v148 xori,
   StableHlo.TRef.binary φ.v142 φ.v148 φ.v149 addi,
   StableHlo.TRef.nullary φ.c_38 (constantI S_ 32 15#32),
   StableHlo.TRef.unary φ.c_38 φ.v150 (broadcastInDim S2048 ![] bcast_S_S2048),
   StableHlo.TRef.binary φ.v148 φ.v150 φ.v151 Host.shli,
   StableHlo.TRef.nullary φ.c_39 (constantI S_ 32 17#32),
   StableHlo.TRef.unary φ.c_39 φ.v152 (broadcastInDim S2048 ![] bcast_S_S2048),
   StableHlo.TRef.binary φ.v148 φ.v152 φ.v153 Host.shrui,
   StableHlo.TRef.binary φ.v151 φ.v153 φ.v154 ori,
   StableHlo.TRef.binary φ.v149 φ.v154 φ.v155 xori,
   StableHlo.TRef.binary φ.v149 φ.v155 φ.v156 addi,
   StableHlo.TRef.nullary φ.c_40 (constantI S_ 32 26#32),
   StableHlo.TRef.unary φ.c_40 φ.v157 (broadcastInDim S2048 ![] bcast_S_S2048),
   StableHlo.TRef.binary φ.v155 φ.v157 φ.v158 Host.shli,
   StableHlo.TRef.nullary φ.c_41 (constantI S_ 32 6#32),
   StableHlo.TRef.unary φ.c_41 φ.v159 (broadcastInDim S2048 ![] bcast_S_S2048),
   StableHlo.TRef.binary φ.v155 φ.v159 φ.v160 Host.shrui,
   StableHlo.TRef.binary φ.v158 φ.v160 φ.v161 ori,
   StableHlo.TRef.binary φ.v156 φ.v161 φ.v162 xori,
   StableHlo.TRef.binary φ.v156 φ.v162 φ.v163 addi,
   StableHlo.TRef.nullary φ.c_42 (constantI S_ 32 6#32),
   StableHlo.TRef.unary φ.c_42 φ.v164 (broadcastInDim S2048 ![] bcast_S_S2048),
   StableHlo.TRef.binary φ.v162 φ.v164 φ.v165 Host.shli,
   StableHlo.TRef.nullary φ.c_43 (constantI S_ 32 26#32),
   StableHlo.TRef.unary φ.c_43 φ.v166 (broadcastInDim S2048 ![] bcast_S_S2048),
   StableHlo.TRef.binary φ.v162 φ.v166 φ.v167 Host.shrui,
   StableHlo.TRef.binary φ.v165 φ.v167 φ.v168 ori,
   StableHlo.TRef.binary φ.v163 φ.v168 φ.v169 xori,
   StableHlo.TRef.unary φ.v1 φ.v170 (broadcastInDim S2048 ![] bcast_S_S2048),
   StableHlo.TRef.binary φ.v163 φ.v170 φ.v171 addi,
   StableHlo.TRef.unary arg0 φ.v172 (broadcastInDim S2048 ![] bcast_S_S2048),
   StableHlo.TRef.binary φ.v169 φ.v172 φ.v173 addi,
   StableHlo.TRef.nullary φ.c_44 (constantI S_ 32 5#32),
   StableHlo.TRef.unary φ.c_44 φ.v174 (broadcastInDim S2048 ![] bcast_S_S2048),
   StableHlo.TRef.binary φ.v173 φ.v174 φ.v175 addi]

/-- The operations of `fn_threefry2x32.body_part3`, in order. -/
def ops_threefry2x32_p3 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  ops_threefry2x32_p3_a arg0 arg1 arg2 arg3 φ

theorem runs_threefry2x32_p3 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) :
    Runs (fn_threefry2x32.body_part3 arg0 arg1 arg2 arg3 φ : Prog (TpuEff nD τ sig (Elt F) (LL (F := F)) .tc) PUnit) (ops_threefry2x32_p3 arg0 arg1 arg2 arg3 φ) (pure ⟨⟩) := by
  unfold fn_threefry2x32.body_part3 ops_threefry2x32_p3
  unfold ops_threefry2x32_p3_a
  iterate 42 refine Runs.cons ?_
  exact Runs.nil

/-- The operations of `fn_threefry2x32.body`, in order. -/
def ops_threefry2x32 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) : List (HloOp τ sig (Elt F)) :=
  ops_threefry2x32_p0 arg0 arg1 arg2 arg3 φ ++ (ops_threefry2x32_p1 arg0 arg1 arg2 arg3 φ ++ (ops_threefry2x32_p2 arg0 arg1 arg2 arg3 φ ++ (ops_threefry2x32_p3 arg0 arg1 arg2 arg3 φ)))

theorem runs_threefry2x32 (arg0 : StableHlo.TRef sig ⟨S_, .i32⟩) (arg1 : StableHlo.TRef sig ⟨S_, .i32⟩) (arg2 : StableHlo.TRef sig ⟨S2048, .i32⟩) (arg3 : StableHlo.TRef sig ⟨S2048, .i32⟩) (φ : fn_threefry2x32.Bufs) :
    Runs (fn_threefry2x32.body arg0 arg1 arg2 arg3 φ : Prog (TpuEff nD τ sig (Elt F) (LL (F := F)) .tc) PUnit) (ops_threefry2x32 arg0 arg1 arg2 arg3 φ) (pure ⟨⟩) := by
  unfold fn_threefry2x32.body ops_threefry2x32
  show Runs _ (ops_threefry2x32_p0 arg0 arg1 arg2 arg3 φ ++ _) _
  refine Runs.app (runs_threefry2x32_p0 _ _ _ _ _) ?_
  show Runs _ (ops_threefry2x32_p1 arg0 arg1 arg2 arg3 φ ++ _) _
  refine Runs.app (runs_threefry2x32_p1 _ _ _ _ _) ?_
  show Runs _ (ops_threefry2x32_p2 arg0 arg1 arg2 arg3 φ ++ _) _
  refine Runs.app (runs_threefry2x32_p2 _ _ _ _ _) ?_
  exact runs_threefry2x32_p3 _ _ _ _ _

def ops_uniform_a (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  [StableHlo.TRef.unary arg1 φ.v0 id,
   StableHlo.TRef.unary arg2 φ.v1 id,
   StableHlo.TRef.unary φ.v0 φ.v2 (broadcastInDim S1 ![] bcast_S_S1),
   StableHlo.TRef.unary φ.v1 φ.v3 (broadcastInDim S1 ![] bcast_S_S1),
   StableHlo.TRef.unary arg0 φ.v4 (extractStridedSlice S1 ![0] · slices_S2_S1_0),
   StableHlo.TRef.reshape φ.v4 φ.v5 (rfl : (.i32 : EltTy) = .i32) shapeCasts_S1_S_,
   StableHlo.TRef.unary arg0 φ.v6 (extractStridedSlice S1 ![1] · slices_S2_S1_1),
   StableHlo.TRef.reshape φ.v6 φ.v7 (rfl : (.i32 : EltTy) = .i32) shapeCasts_S1_S_,
   StableHlo.TRef.nullary φ.v8 (iotaInDim S2048 64 0),
   StableHlo.TRef.nullary φ.c (constantI S_ 64 1#64),
   StableHlo.TRef.unary φ.c φ.v9 (broadcastInDim S2048 ![] bcast_S_S2048),
   StableHlo.TRef.binary φ.v9 φ.v8 φ.v10 muli,
   StableHlo.TRef.nullary φ.c_0 (constantI S_ 64 32#64),
   StableHlo.TRef.unary φ.c_0 φ.v11 (broadcastInDim S2048 ![] bcast_S_S2048),
   StableHlo.TRef.binary φ.v10 φ.v11 φ.v12 Host.shrui,
   StableHlo.TRef.unary φ.v10 φ.v13 (trunci 32 · natLt_32_64),
   StableHlo.TRef.unary φ.v12 φ.v14 (trunci 32 · natLt_32_64)]

def ops_uniform_b (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  [StableHlo.TRef.binary φ.call0.v171 φ.call0.v175 φ.v16 xori,
   StableHlo.TRef.nullary φ.c_1 (constantI S_ 32 9#32),
   StableHlo.TRef.unary φ.c_1 φ.v17 (broadcastInDim S2048 ![] bcast_S_S2048),
   StableHlo.TRef.binary φ.v16 φ.v17 φ.v18 Host.shrui,
   StableHlo.TRef.nullary φ.c_2 (constantI S_ 32 1065353216#32),
   StableHlo.TRef.unary φ.c_2 φ.v19 (broadcastInDim S2048 ![] bcast_S_S2048),
   StableHlo.TRef.binary φ.v18 φ.v19 φ.v20 ori,
   StableHlo.TRef.unary φ.v20 φ.v21 (bitcastToFloat .f32),
   StableHlo.TRef.nullary φ.cst (constant S_ .f32 0x3F800000#32),
   StableHlo.TRef.unary φ.cst φ.v22 (broadcastInDim S2048 ![] bcast_S_S2048),
   StableHlo.TRef.binary φ.v21 φ.v22 φ.v23 subf,
   StableHlo.TRef.binary φ.v3 φ.v2 φ.v24 subf,
   StableHlo.TRef.unary φ.v24 φ.v25 (broadcastInDim S2048 ![0] bcast_S1_S2048_0),
   StableHlo.TRef.binary φ.v23 φ.v25 φ.v26 mulf,
   StableHlo.TRef.unary φ.v2 φ.v27 (broadcastInDim S2048 ![0] bcast_S1_S2048_0),
   StableHlo.TRef.binary φ.v26 φ.v27 φ.v28 addf,
   StableHlo.TRef.unary φ.v2 φ.v29 (broadcastInDim S2048 ![0] bcast_S1_S2048_0),
   StableHlo.TRef.binary φ.v29 φ.v28 φ.v30 maximumf]

/-- The operations of `fn_uniform.body`, in order. -/
def ops_uniform (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  ops_uniform_a arg0 arg1 arg2 φ ++ (ops_threefry2x32 φ.v5 φ.v7 φ.v14 φ.v13 φ.call0 ++ (ops_uniform_b arg0 arg1 arg2 φ))

theorem runs_uniform (arg0 : StableHlo.TRef sig ⟨S2, .i32⟩) (arg1 : StableHlo.TRef sig ⟨S_, .f32⟩) (arg2 : StableHlo.TRef sig ⟨S_, .f32⟩) (φ : fn_uniform.Bufs) :
    Runs (fn_uniform.body arg0 arg1 arg2 φ : Prog (TpuEff nD τ sig (Elt F) (LL (F := F)) .tc) PUnit) (ops_uniform arg0 arg1 arg2 φ) (pure ⟨⟩) := by
  unfold fn_uniform.body ops_uniform
  unfold ops_uniform_a
  iterate 17 refine Runs.cons ?_
  show Runs _ (ops_threefry2x32 φ.v5 φ.v7 φ.v14 φ.v13 φ.call0 ++ _) _
  refine Runs.app (runs_threefry2x32 _ _ _ _ _) ?_
  unfold ops_uniform_b
  iterate 18 refine Runs.cons ?_
  exact Runs.nil

def ops_argmax_a (arg0 : StableHlo.TRef sig ⟨S2048, .f32⟩) (φ : fn_argmax.Bufs) : List (HloOp τ sig (Elt F)) :=
  [StableHlo.TRef.nullary φ.v0 (iotaInDim S2048 32 0),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S2048_S_d0 h_S_ j).1),
   StableHlo.TRef.quaternary arg0 φ.v0 φ.cst φ.c φ.v1_1 (fun x y u v j => (Host.argReduce reducer_argmax_f32_i32 x y u v reducesTo_S2048_S_d0 h_S_ j).2)]

/-- The operations of `fn_argmax.body`, in order. -/
def ops_argmax (arg0 : StableHlo.TRef sig ⟨S2048, .f32⟩) (φ : fn_argmax.Bufs) : List (HloOp τ sig (Elt F)) :=
  ops_argmax_a arg0 φ

theorem runs_argmax (arg0 : StableHlo.TRef sig ⟨S2048, .f32⟩) (φ : fn_argmax.Bufs) :
    Runs (fn_argmax.body arg0 φ : Prog (TpuEff nD τ sig (Elt F) (LL (F := F)) .tc) PUnit) (ops_argmax arg0 φ) (pure ⟨⟩) := by
  unfold fn_argmax.body ops_argmax
  unfold ops_argmax_a
  iterate 5 refine Runs.cons ?_
  exact Runs.nil

def ops_one_hot_a (arg0 : StableHlo.TRef sig ⟨S_, .i32⟩) (φ : fn_one_hot.Bufs) : List (HloOp τ sig (Elt F)) :=
  [StableHlo.TRef.unary arg0 φ.v0 (broadcastInDim S1 ![] bcast_S_S1),
   StableHlo.TRef.nullary φ.v1 (iotaInDim S2048 32 0),
   StableHlo.TRef.unary φ.v0 φ.v2 (broadcastInDim S2048 ![0] bcast_S1_S2048_0),
   StableHlo.TRef.binary φ.v2 φ.v1 φ.v3 (cmpi .eq),
   StableHlo.TRef.unary φ.v3 φ.v4 (uitofp .f32)]

/-- The operations of `fn_one_hot.body`, in order. -/
def ops_one_hot (arg0 : StableHlo.TRef sig ⟨S_, .i32⟩) (φ : fn_one_hot.Bufs) : List (HloOp τ sig (Elt F)) :=
  ops_one_hot_a arg0 φ

theorem runs_one_hot (arg0 : StableHlo.TRef sig ⟨S_, .i32⟩) (φ : fn_one_hot.Bufs) :
    Runs (fn_one_hot.body arg0 φ : Prog (TpuEff nD τ sig (Elt F) (LL (F := F)) .tc) PUnit) (ops_one_hot arg0 φ) (pure ⟨⟩) := by
  unfold fn_one_hot.body ops_one_hot
  unfold ops_one_hot_a
  iterate 5 refine Runs.cons ?_
  exact Runs.nil

def ops_threefry2x32_1_p0_a (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) : List (HloOp τ sig (Elt F)) :=
  [StableHlo.TRef.binary arg0 arg1 φ.v0 xori,
   StableHlo.TRef.nullary φ.c (constantI S_ 32 466688986#32),
   StableHlo.TRef.binary φ.v0 φ.c φ.v1 xori,
   StableHlo.TRef.unary arg0 φ.v2 (broadcastInDim S1x2048 ![] bcast_S_S1x2048),
   StableHlo.TRef.binary arg2 φ.v2 φ.v3 addi,
   StableHlo.TRef.unary arg1 φ.v4 (broadcastInDim S1x2048 ![] bcast_S_S1x2048),
   StableHlo.TRef.binary arg3 φ.v4 φ.v5 addi,
   StableHlo.TRef.binary φ.v3 φ.v5 φ.v6 addi,
   StableHlo.TRef.nullary φ.c_0 (constantI S_ 32 13#32),
   StableHlo.TRef.unary φ.c_0 φ.v7 (broadcastInDim S1x2048 ![] bcast_S_S1x2048),
   StableHlo.TRef.binary φ.v5 φ.v7 φ.v8 Host.shli,
   StableHlo.TRef.nullary φ.c_1 (constantI S_ 32 19#32),
   StableHlo.TRef.unary φ.c_1 φ.v9 (broadcastInDim S1x2048 ![] bcast_S_S1x2048),
   StableHlo.TRef.binary φ.v5 φ.v9 φ.v10 Host.shrui,
   StableHlo.TRef.binary φ.v8 φ.v10 φ.v11 ori,
   StableHlo.TRef.binary φ.v6 φ.v11 φ.v12 xori,
   StableHlo.TRef.binary φ.v6 φ.v12 φ.v13 addi,
   StableHlo.TRef.nullary φ.c_2 (constantI S_ 32 15#32),
   StableHlo.TRef.unary φ.c_2 φ.v14 (broadcastInDim S1x2048 ![] bcast_S_S1x2048),
   StableHlo.TRef.binary φ.v12 φ.v14 φ.v15 Host.shli,
   StableHlo.TRef.nullary φ.c_3 (constantI S_ 32 17#32),
   StableHlo.TRef.unary φ.c_3 φ.v16 (broadcastInDim S1x2048 ![] bcast_S_S1x2048),
   StableHlo.TRef.binary φ.v12 φ.v16 φ.v17 Host.shrui,
   StableHlo.TRef.binary φ.v15 φ.v17 φ.v18 ori,
   StableHlo.TRef.binary φ.v13 φ.v18 φ.v19 xori,
   StableHlo.TRef.binary φ.v13 φ.v19 φ.v20 addi,
   StableHlo.TRef.nullary φ.c_4 (constantI S_ 32 26#32),
   StableHlo.TRef.unary φ.c_4 φ.v21 (broadcastInDim S1x2048 ![] bcast_S_S1x2048),
   StableHlo.TRef.binary φ.v19 φ.v21 φ.v22 Host.shli,
   StableHlo.TRef.nullary φ.c_5 (constantI S_ 32 6#32),
   StableHlo.TRef.unary φ.c_5 φ.v23 (broadcastInDim S1x2048 ![] bcast_S_S1x2048),
   StableHlo.TRef.binary φ.v19 φ.v23 φ.v24 Host.shrui,
   StableHlo.TRef.binary φ.v22 φ.v24 φ.v25 ori,
   StableHlo.TRef.binary φ.v20 φ.v25 φ.v26 xori,
   StableHlo.TRef.binary φ.v20 φ.v26 φ.v27 addi,
   StableHlo.TRef.nullary φ.c_6 (constantI S_ 32 6#32),
   StableHlo.TRef.unary φ.c_6 φ.v28 (broadcastInDim S1x2048 ![] bcast_S_S1x2048),
   StableHlo.TRef.binary φ.v26 φ.v28 φ.v29 Host.shli,
   StableHlo.TRef.nullary φ.c_7 (constantI S_ 32 26#32),
   StableHlo.TRef.unary φ.c_7 φ.v30 (broadcastInDim S1x2048 ![] bcast_S_S1x2048),
   StableHlo.TRef.binary φ.v26 φ.v30 φ.v31 Host.shrui,
   StableHlo.TRef.binary φ.v29 φ.v31 φ.v32 ori,
   StableHlo.TRef.binary φ.v27 φ.v32 φ.v33 xori,
   StableHlo.TRef.unary arg1 φ.v34 (broadcastInDim S1x2048 ![] bcast_S_S1x2048),
   StableHlo.TRef.binary φ.v27 φ.v34 φ.v35 addi,
   StableHlo.TRef.unary φ.v1 φ.v36 (broadcastInDim S1x2048 ![] bcast_S_S1x2048),
   StableHlo.TRef.binary φ.v33 φ.v36 φ.v37 addi,
   StableHlo.TRef.nullary φ.c_8 (constantI S_ 32 1#32),
   StableHlo.TRef.unary φ.c_8 φ.v38 (broadcastInDim S1x2048 ![] bcast_S_S1x2048),
   StableHlo.TRef.binary φ.v37 φ.v38 φ.v39 addi,
   StableHlo.TRef.binary φ.v35 φ.v39 φ.v40 addi,
   StableHlo.TRef.nullary φ.c_9 (constantI S_ 32 17#32),
   StableHlo.TRef.unary φ.c_9 φ.v41 (broadcastInDim S1x2048 ![] bcast_S_S1x2048),
   StableHlo.TRef.binary φ.v39 φ.v41 φ.v42 Host.shli,
   StableHlo.TRef.nullary φ.c_10 (constantI S_ 32 15#32),
   StableHlo.TRef.unary φ.c_10 φ.v43 (broadcastInDim S1x2048 ![] bcast_S_S1x2048),
   StableHlo.TRef.binary φ.v39 φ.v43 φ.v44 Host.shrui,
   StableHlo.TRef.binary φ.v42 φ.v44 φ.v45 ori,
   StableHlo.TRef.binary φ.v40 φ.v45 φ.v46 xori,
   StableHlo.TRef.binary φ.v40 φ.v46 φ.v47 addi]

/-- The operations of `fn_threefry2x32_1.body_part0`, in order. -/
def ops_threefry2x32_1_p0 (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) : List (HloOp τ sig (Elt F)) :=
  ops_threefry2x32_1_p0_a arg0 arg1 arg2 arg3 φ

theorem runs_threefry2x32_1_p0 (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) :
    Runs (fn_threefry2x32_1.body_part0 arg0 arg1 arg2 arg3 φ : Prog (TpuEff nD τ sig (Elt F) (LL (F := F)) .tc) PUnit) (ops_threefry2x32_1_p0 arg0 arg1 arg2 arg3 φ) (pure ⟨⟩) := by
  unfold fn_threefry2x32_1.body_part0 ops_threefry2x32_1_p0
  unfold ops_threefry2x32_1_p0_a
  iterate 59 refine Runs.cons ?_
  exact Runs.last

def ops_threefry2x32_1_p1_a (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) : List (HloOp τ sig (Elt F)) :=
  [StableHlo.TRef.nullary φ.c_11 (constantI S_ 32 29#32),
   StableHlo.TRef.unary φ.c_11 φ.v48 (broadcastInDim S1x2048 ![] bcast_S_S1x2048),
   StableHlo.TRef.binary φ.v46 φ.v48 φ.v49 Host.shli,
   StableHlo.TRef.nullary φ.c_12 (constantI S_ 32 3#32),
   StableHlo.TRef.unary φ.c_12 φ.v50 (broadcastInDim S1x2048 ![] bcast_S_S1x2048),
   StableHlo.TRef.binary φ.v46 φ.v50 φ.v51 Host.shrui,
   StableHlo.TRef.binary φ.v49 φ.v51 φ.v52 ori,
   StableHlo.TRef.binary φ.v47 φ.v52 φ.v53 xori,
   StableHlo.TRef.binary φ.v47 φ.v53 φ.v54 addi,
   StableHlo.TRef.nullary φ.c_13 (constantI S_ 32 16#32),
   StableHlo.TRef.unary φ.c_13 φ.v55 (broadcastInDim S1x2048 ![] bcast_S_S1x2048),
   StableHlo.TRef.binary φ.v53 φ.v55 φ.v56 Host.shli,
   StableHlo.TRef.nullary φ.c_14 (constantI S_ 32 16#32),
   StableHlo.TRef.unary φ.c_14 φ.v57 (broadcastInDim S1x2048 ![] bcast_S_S1x2048),
   StableHlo.TRef.binary φ.v53 φ.v57 φ.v58 Host.shrui,
   StableHlo.TRef.binary φ.v56 φ.v58 φ.v59 ori,
   StableHlo.TRef.binary φ.v54 φ.v59 φ.v60 xori,
   StableHlo.TRef.binary φ.v54 φ.v60 φ.v61 addi,
   StableHlo.TRef.nullary φ.c_15 (constantI S_ 32 24#32),
   StableHlo.TRef.unary φ.c_15 φ.v62 (broadcastInDim S1x2048 ![] bcast_S_S1x2048),
   StableHlo.TRef.binary φ.v60 φ.v62 φ.v63 Host.shli,
   StableHlo.TRef.nullary φ.c_16 (constantI S_ 32 8#32),
   StableHlo.TRef.unary φ.c_16 φ.v64 (broadcastInDim S1x2048 ![] bcast_S_S1x2048),
   StableHlo.TRef.binary φ.v60 φ.v64 φ.v65 Host.shrui,
   StableHlo.TRef.binary φ.v63 φ.v65 φ.v66 ori,
   StableHlo.TRef.binary φ.v61 φ.v66 φ.v67 xori,
   StableHlo.TRef.unary φ.v1 φ.v68 (broadcastInDim S1x2048 ![] bcast_S_S1x2048),
   StableHlo.TRef.binary φ.v61 φ.v68 φ.v69 addi,
   StableHlo.TRef.unary arg0 φ.v70 (broadcastInDim S1x2048 ![] bcast_S_S1x2048),
   StableHlo.TRef.binary φ.v67 φ.v70 φ.v71 addi,
   StableHlo.TRef.nullary φ.c_17 (constantI S_ 32 2#32),
   StableHlo.TRef.unary φ.c_17 φ.v72 (broadcastInDim S1x2048 ![] bcast_S_S1x2048),
   StableHlo.TRef.binary φ.v71 φ.v72 φ.v73 addi,
   StableHlo.TRef.binary φ.v69 φ.v73 φ.v74 addi,
   StableHlo.TRef.nullary φ.c_18 (constantI S_ 32 13#32),
   StableHlo.TRef.unary φ.c_18 φ.v75 (broadcastInDim S1x2048 ![] bcast_S_S1x2048),
   StableHlo.TRef.binary φ.v73 φ.v75 φ.v76 Host.shli,
   StableHlo.TRef.nullary φ.c_19 (constantI S_ 32 19#32),
   StableHlo.TRef.unary φ.c_19 φ.v77 (broadcastInDim S1x2048 ![] bcast_S_S1x2048),
   StableHlo.TRef.binary φ.v73 φ.v77 φ.v78 Host.shrui,
   StableHlo.TRef.binary φ.v76 φ.v78 φ.v79 ori,
   StableHlo.TRef.binary φ.v74 φ.v79 φ.v80 xori,
   StableHlo.TRef.binary φ.v74 φ.v80 φ.v81 addi,
   StableHlo.TRef.nullary φ.c_20 (constantI S_ 32 15#32),
   StableHlo.TRef.unary φ.c_20 φ.v82 (broadcastInDim S1x2048 ![] bcast_S_S1x2048),
   StableHlo.TRef.binary φ.v80 φ.v82 φ.v83 Host.shli,
   StableHlo.TRef.nullary φ.c_21 (constantI S_ 32 17#32),
   StableHlo.TRef.unary φ.c_21 φ.v84 (broadcastInDim S1x2048 ![] bcast_S_S1x2048),
   StableHlo.TRef.binary φ.v80 φ.v84 φ.v85 Host.shrui,
   StableHlo.TRef.binary φ.v83 φ.v85 φ.v86 ori,
   StableHlo.TRef.binary φ.v81 φ.v86 φ.v87 xori,
   StableHlo.TRef.binary φ.v81 φ.v87 φ.v88 addi,
   StableHlo.TRef.nullary φ.c_22 (constantI S_ 32 26#32),
   StableHlo.TRef.unary φ.c_22 φ.v89 (broadcastInDim S1x2048 ![] bcast_S_S1x2048),
   StableHlo.TRef.binary φ.v87 φ.v89 φ.v90 Host.shli,
   StableHlo.TRef.nullary φ.c_23 (constantI S_ 32 6#32),
   StableHlo.TRef.unary φ.c_23 φ.v91 (broadcastInDim S1x2048 ![] bcast_S_S1x2048),
   StableHlo.TRef.binary φ.v87 φ.v91 φ.v92 Host.shrui,
   StableHlo.TRef.binary φ.v90 φ.v92 φ.v93 ori,
   StableHlo.TRef.binary φ.v88 φ.v93 φ.v94 xori]

/-- The operations of `fn_threefry2x32_1.body_part1`, in order. -/
def ops_threefry2x32_1_p1 (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) : List (HloOp τ sig (Elt F)) :=
  ops_threefry2x32_1_p1_a arg0 arg1 arg2 arg3 φ

theorem runs_threefry2x32_1_p1 (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) :
    Runs (fn_threefry2x32_1.body_part1 arg0 arg1 arg2 arg3 φ : Prog (TpuEff nD τ sig (Elt F) (LL (F := F)) .tc) PUnit) (ops_threefry2x32_1_p1 arg0 arg1 arg2 arg3 φ) (pure ⟨⟩) := by
  unfold fn_threefry2x32_1.body_part1 ops_threefry2x32_1_p1
  unfold ops_threefry2x32_1_p1_a
  iterate 59 refine Runs.cons ?_
  exact Runs.last

def ops_threefry2x32_1_p2_a (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) : List (HloOp τ sig (Elt F)) :=
  [StableHlo.TRef.binary φ.v88 φ.v94 φ.v95 addi,
   StableHlo.TRef.nullary φ.c_24 (constantI S_ 32 6#32),
   StableHlo.TRef.unary φ.c_24 φ.v96 (broadcastInDim S1x2048 ![] bcast_S_S1x2048),
   StableHlo.TRef.binary φ.v94 φ.v96 φ.v97 Host.shli,
   StableHlo.TRef.nullary φ.c_25 (constantI S_ 32 26#32),
   StableHlo.TRef.unary φ.c_25 φ.v98 (broadcastInDim S1x2048 ![] bcast_S_S1x2048),
   StableHlo.TRef.binary φ.v94 φ.v98 φ.v99 Host.shrui,
   StableHlo.TRef.binary φ.v97 φ.v99 φ.v100 ori,
   StableHlo.TRef.binary φ.v95 φ.v100 φ.v101 xori,
   StableHlo.TRef.unary arg0 φ.v102 (broadcastInDim S1x2048 ![] bcast_S_S1x2048),
   StableHlo.TRef.binary φ.v95 φ.v102 φ.v103 addi,
   StableHlo.TRef.unary arg1 φ.v104 (broadcastInDim S1x2048 ![] bcast_S_S1x2048),
   StableHlo.TRef.binary φ.v101 φ.v104 φ.v105 addi,
   StableHlo.TRef.nullary φ.c_26 (constantI S_ 32 3#32),
   StableHlo.TRef.unary φ.c_26 φ.v106 (broadcastInDim S1x2048 ![] bcast_S_S1x2048),
   StableHlo.TRef.binary φ.v105 φ.v106 φ.v107 addi,
   StableHlo.TRef.binary φ.v103 φ.v107 φ.v108 addi,
   StableHlo.TRef.nullary φ.c_27 (constantI S_ 32 17#32),
   StableHlo.TRef.unary φ.c_27 φ.v109 (broadcastInDim S1x2048 ![] bcast_S_S1x2048),
   StableHlo.TRef.binary φ.v107 φ.v109 φ.v110 Host.shli,
   StableHlo.TRef.nullary φ.c_28 (constantI S_ 32 15#32),
   StableHlo.TRef.unary φ.c_28 φ.v111 (broadcastInDim S1x2048 ![] bcast_S_S1x2048),
   StableHlo.TRef.binary φ.v107 φ.v111 φ.v112 Host.shrui,
   StableHlo.TRef.binary φ.v110 φ.v112 φ.v113 ori,
   StableHlo.TRef.binary φ.v108 φ.v113 φ.v114 xori,
   StableHlo.TRef.binary φ.v108 φ.v114 φ.v115 addi,
   StableHlo.TRef.nullary φ.c_29 (constantI S_ 32 29#32),
   StableHlo.TRef.unary φ.c_29 φ.v116 (broadcastInDim S1x2048 ![] bcast_S_S1x2048),
   StableHlo.TRef.binary φ.v114 φ.v116 φ.v117 Host.shli,
   StableHlo.TRef.nullary φ.c_30 (constantI S_ 32 3#32),
   StableHlo.TRef.unary φ.c_30 φ.v118 (broadcastInDim S1x2048 ![] bcast_S_S1x2048),
   StableHlo.TRef.binary φ.v114 φ.v118 φ.v119 Host.shrui,
   StableHlo.TRef.binary φ.v117 φ.v119 φ.v120 ori,
   StableHlo.TRef.binary φ.v115 φ.v120 φ.v121 xori,
   StableHlo.TRef.binary φ.v115 φ.v121 φ.v122 addi,
   StableHlo.TRef.nullary φ.c_31 (constantI S_ 32 16#32),
   StableHlo.TRef.unary φ.c_31 φ.v123 (broadcastInDim S1x2048 ![] bcast_S_S1x2048),
   StableHlo.TRef.binary φ.v121 φ.v123 φ.v124 Host.shli,
   StableHlo.TRef.nullary φ.c_32 (constantI S_ 32 16#32),
   StableHlo.TRef.unary φ.c_32 φ.v125 (broadcastInDim S1x2048 ![] bcast_S_S1x2048),
   StableHlo.TRef.binary φ.v121 φ.v125 φ.v126 Host.shrui,
   StableHlo.TRef.binary φ.v124 φ.v126 φ.v127 ori,
   StableHlo.TRef.binary φ.v122 φ.v127 φ.v128 xori,
   StableHlo.TRef.binary φ.v122 φ.v128 φ.v129 addi,
   StableHlo.TRef.nullary φ.c_33 (constantI S_ 32 24#32),
   StableHlo.TRef.unary φ.c_33 φ.v130 (broadcastInDim S1x2048 ![] bcast_S_S1x2048),
   StableHlo.TRef.binary φ.v128 φ.v130 φ.v131 Host.shli,
   StableHlo.TRef.nullary φ.c_34 (constantI S_ 32 8#32),
   StableHlo.TRef.unary φ.c_34 φ.v132 (broadcastInDim S1x2048 ![] bcast_S_S1x2048),
   StableHlo.TRef.binary φ.v128 φ.v132 φ.v133 Host.shrui,
   StableHlo.TRef.binary φ.v131 φ.v133 φ.v134 ori,
   StableHlo.TRef.binary φ.v129 φ.v134 φ.v135 xori,
   StableHlo.TRef.unary arg1 φ.v136 (broadcastInDim S1x2048 ![] bcast_S_S1x2048),
   StableHlo.TRef.binary φ.v129 φ.v136 φ.v137 addi,
   StableHlo.TRef.unary φ.v1 φ.v138 (broadcastInDim S1x2048 ![] bcast_S_S1x2048),
   StableHlo.TRef.binary φ.v135 φ.v138 φ.v139 addi,
   StableHlo.TRef.nullary φ.c_35 (constantI S_ 32 4#32),
   StableHlo.TRef.unary φ.c_35 φ.v140 (broadcastInDim S1x2048 ![] bcast_S_S1x2048),
   StableHlo.TRef.binary φ.v139 φ.v140 φ.v141 addi,
   StableHlo.TRef.binary φ.v137 φ.v141 φ.v142 addi]

/-- The operations of `fn_threefry2x32_1.body_part2`, in order. -/
def ops_threefry2x32_1_p2 (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) : List (HloOp τ sig (Elt F)) :=
  ops_threefry2x32_1_p2_a arg0 arg1 arg2 arg3 φ

theorem runs_threefry2x32_1_p2 (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) :
    Runs (fn_threefry2x32_1.body_part2 arg0 arg1 arg2 arg3 φ : Prog (TpuEff nD τ sig (Elt F) (LL (F := F)) .tc) PUnit) (ops_threefry2x32_1_p2 arg0 arg1 arg2 arg3 φ) (pure ⟨⟩) := by
  unfold fn_threefry2x32_1.body_part2 ops_threefry2x32_1_p2
  unfold ops_threefry2x32_1_p2_a
  iterate 59 refine Runs.cons ?_
  exact Runs.last

def ops_threefry2x32_1_p3_a (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) : List (HloOp τ sig (Elt F)) :=
  [StableHlo.TRef.nullary φ.c_36 (constantI S_ 32 13#32),
   StableHlo.TRef.unary φ.c_36 φ.v143 (broadcastInDim S1x2048 ![] bcast_S_S1x2048),
   StableHlo.TRef.binary φ.v141 φ.v143 φ.v144 Host.shli,
   StableHlo.TRef.nullary φ.c_37 (constantI S_ 32 19#32),
   StableHlo.TRef.unary φ.c_37 φ.v145 (broadcastInDim S1x2048 ![] bcast_S_S1x2048),
   StableHlo.TRef.binary φ.v141 φ.v145 φ.v146 Host.shrui,
   StableHlo.TRef.binary φ.v144 φ.v146 φ.v147 ori,
   StableHlo.TRef.binary φ.v142 φ.v147 φ.v148 xori,
   StableHlo.TRef.binary φ.v142 φ.v148 φ.v149 addi,
   StableHlo.TRef.nullary φ.c_38 (constantI S_ 32 15#32),
   StableHlo.TRef.unary φ.c_38 φ.v150 (broadcastInDim S1x2048 ![] bcast_S_S1x2048),
   StableHlo.TRef.binary φ.v148 φ.v150 φ.v151 Host.shli,
   StableHlo.TRef.nullary φ.c_39 (constantI S_ 32 17#32),
   StableHlo.TRef.unary φ.c_39 φ.v152 (broadcastInDim S1x2048 ![] bcast_S_S1x2048),
   StableHlo.TRef.binary φ.v148 φ.v152 φ.v153 Host.shrui,
   StableHlo.TRef.binary φ.v151 φ.v153 φ.v154 ori,
   StableHlo.TRef.binary φ.v149 φ.v154 φ.v155 xori,
   StableHlo.TRef.binary φ.v149 φ.v155 φ.v156 addi,
   StableHlo.TRef.nullary φ.c_40 (constantI S_ 32 26#32),
   StableHlo.TRef.unary φ.c_40 φ.v157 (broadcastInDim S1x2048 ![] bcast_S_S1x2048),
   StableHlo.TRef.binary φ.v155 φ.v157 φ.v158 Host.shli,
   StableHlo.TRef.nullary φ.c_41 (constantI S_ 32 6#32),
   StableHlo.TRef.unary φ.c_41 φ.v159 (broadcastInDim S1x2048 ![] bcast_S_S1x2048),
   StableHlo.TRef.binary φ.v155 φ.v159 φ.v160 Host.shrui,
   StableHlo.TRef.binary φ.v158 φ.v160 φ.v161 ori,
   StableHlo.TRef.binary φ.v156 φ.v161 φ.v162 xori,
   StableHlo.TRef.binary φ.v156 φ.v162 φ.v163 addi,
   StableHlo.TRef.nullary φ.c_42 (constantI S_ 32 6#32),
   StableHlo.TRef.unary φ.c_42 φ.v164 (broadcastInDim S1x2048 ![] bcast_S_S1x2048),
   StableHlo.TRef.binary φ.v162 φ.v164 φ.v165 Host.shli,
   StableHlo.TRef.nullary φ.c_43 (constantI S_ 32 26#32),
   StableHlo.TRef.unary φ.c_43 φ.v166 (broadcastInDim S1x2048 ![] bcast_S_S1x2048),
   StableHlo.TRef.binary φ.v162 φ.v166 φ.v167 Host.shrui,
   StableHlo.TRef.binary φ.v165 φ.v167 φ.v168 ori,
   StableHlo.TRef.binary φ.v163 φ.v168 φ.v169 xori,
   StableHlo.TRef.unary φ.v1 φ.v170 (broadcastInDim S1x2048 ![] bcast_S_S1x2048),
   StableHlo.TRef.binary φ.v163 φ.v170 φ.v171 addi,
   StableHlo.TRef.unary arg0 φ.v172 (broadcastInDim S1x2048 ![] bcast_S_S1x2048),
   StableHlo.TRef.binary φ.v169 φ.v172 φ.v173 addi,
   StableHlo.TRef.nullary φ.c_44 (constantI S_ 32 5#32),
   StableHlo.TRef.unary φ.c_44 φ.v174 (broadcastInDim S1x2048 ![] bcast_S_S1x2048),
   StableHlo.TRef.binary φ.v173 φ.v174 φ.v175 addi]

/-- The operations of `fn_threefry2x32_1.body_part3`, in order. -/
def ops_threefry2x32_1_p3 (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) : List (HloOp τ sig (Elt F)) :=
  ops_threefry2x32_1_p3_a arg0 arg1 arg2 arg3 φ

theorem runs_threefry2x32_1_p3 (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) :
    Runs (fn_threefry2x32_1.body_part3 arg0 arg1 arg2 arg3 φ : Prog (TpuEff nD τ sig (Elt F) (LL (F := F)) .tc) PUnit) (ops_threefry2x32_1_p3 arg0 arg1 arg2 arg3 φ) (pure ⟨⟩) := by
  unfold fn_threefry2x32_1.body_part3 ops_threefry2x32_1_p3
  unfold ops_threefry2x32_1_p3_a
  iterate 42 refine Runs.cons ?_
  exact Runs.nil

/-- The operations of `fn_threefry2x32_1.body`, in order. -/
def ops_threefry2x32_1 (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) : List (HloOp τ sig (Elt F)) :=
  ops_threefry2x32_1_p0 arg0 arg1 arg2 arg3 φ ++ (ops_threefry2x32_1_p1 arg0 arg1 arg2 arg3 φ ++ (ops_threefry2x32_1_p2 arg0 arg1 arg2 arg3 φ ++ (ops_threefry2x32_1_p3 arg0 arg1 arg2 arg3 φ)))

theorem runs_threefry2x32_1 (arg0 : StableHlo.TRef sig ⟨S_, .i32⟩) (arg1 : StableHlo.TRef sig ⟨S_, .i32⟩) (arg2 : StableHlo.TRef sig ⟨S1x2048, .i32⟩) (arg3 : StableHlo.TRef sig ⟨S1x2048, .i32⟩) (φ : fn_threefry2x32_1.Bufs) :
    Runs (fn_threefry2x32_1.body arg0 arg1 arg2 arg3 φ : Prog (TpuEff nD τ sig (Elt F) (LL (F := F)) .tc) PUnit) (ops_threefry2x32_1 arg0 arg1 arg2 arg3 φ) (pure ⟨⟩) := by
  unfold fn_threefry2x32_1.body ops_threefry2x32_1
  show Runs _ (ops_threefry2x32_1_p0 arg0 arg1 arg2 arg3 φ ++ _) _
  refine Runs.app (runs_threefry2x32_1_p0 _ _ _ _ _) ?_
  show Runs _ (ops_threefry2x32_1_p1 arg0 arg1 arg2 arg3 φ ++ _) _
  refine Runs.app (runs_threefry2x32_1_p1 _ _ _ _ _) ?_
  show Runs _ (ops_threefry2x32_1_p2 arg0 arg1 arg2 arg3 φ ++ _) _
  refine Runs.app (runs_threefry2x32_1_p2 _ _ _ _ _) ?_
  exact runs_threefry2x32_1_p3 _ _ _ _ _

def ops_uniform_0_a (arg0 : StableHlo.TRef sig ⟨S2, .i32⟩) (arg1 : StableHlo.TRef sig ⟨S_, .f32⟩) (arg2 : StableHlo.TRef sig ⟨S_, .f32⟩) (φ : fn_uniform_0.Bufs) : List (HloOp τ sig (Elt F)) :=
  [StableHlo.TRef.unary arg1 φ.v0 id,
   StableHlo.TRef.unary arg2 φ.v1 (broadcastInDim S1x1 ![] bcast_S_S1x1),
   StableHlo.TRef.unary φ.v0 φ.v2 (broadcastInDim S1x1 ![] bcast_S_S1x1),
   StableHlo.TRef.unary arg0 φ.v3 (extractStridedSlice S1 ![0] · slices_S2_S1_0),
   StableHlo.TRef.reshape φ.v3 φ.v4 (rfl : (.i32 : EltTy) = .i32) shapeCasts_S1_S_,
   StableHlo.TRef.unary arg0 φ.v5 (extractStridedSlice S1 ![1] · slices_S2_S1_1),
   StableHlo.TRef.reshape φ.v5 φ.v6 (rfl : (.i32 : EltTy) = .i32) shapeCasts_S1_S_,
   StableHlo.TRef.nullary φ.v7 (iotaInDim S1x2048 64 0),
   StableHlo.TRef.nullary φ.v8 (iotaInDim S1x2048 64 1),
   StableHlo.TRef.nullary φ.c (constantI S_ 64 2048#64),
   StableHlo.TRef.unary φ.c φ.v9 (broadcastInDim S1x2048 ![] bcast_S_S1x2048),
   StableHlo.TRef.binary φ.v9 φ.v7 φ.v10 muli,
   StableHlo.TRef.nullary φ.c_0 (constantI S_ 64 1#64),
   StableHlo.TRef.unary φ.c_0 φ.v11 (broadcastInDim S1x2048 ![] bcast_S_S1x2048),
   StableHlo.TRef.binary φ.v11 φ.v8 φ.v12 muli,
   StableHlo.TRef.binary φ.v10 φ.v12 φ.v13 addi,
   StableHlo.TRef.nullary φ.c_1 (constantI S_ 64 32#64),
   StableHlo.TRef.unary φ.c_1 φ.v14 (broadcastInDim S1x2048 ![] bcast_S_S1x2048),
   StableHlo.TRef.binary φ.v13 φ.v14 φ.v15 Host.shrui,
   StableHlo.TRef.unary φ.v13 φ.v16 (trunci 32 · natLt_32_64),
   StableHlo.TRef.unary φ.v15 φ.v17 (trunci 32 · natLt_32_64)]

def ops_uniform_0_b (arg0 : StableHlo.TRef sig ⟨S2, .i32⟩) (arg1 : StableHlo.TRef sig ⟨S_, .f32⟩) (arg2 : StableHlo.TRef sig ⟨S_, .f32⟩) (φ : fn_uniform_0.Bufs) : List (HloOp τ sig (Elt F)) :=
  [StableHlo.TRef.binary φ.call0.v171 φ.call0.v175 φ.v19 xori,
   StableHlo.TRef.nullary φ.c_2 (constantI S_ 32 9#32),
   StableHlo.TRef.unary φ.c_2 φ.v20 (broadcastInDim S1x2048 ![] bcast_S_S1x2048),
   StableHlo.TRef.binary φ.v19 φ.v20 φ.v21 Host.shrui,
   StableHlo.TRef.nullary φ.c_3 (constantI S_ 32 1065353216#32),
   StableHlo.TRef.unary φ.c_3 φ.v22 (broadcastInDim S1x2048 ![] bcast_S_S1x2048),
   StableHlo.TRef.binary φ.v21 φ.v22 φ.v23 ori,
   StableHlo.TRef.unary φ.v23 φ.v24 (bitcastToFloat .f32),
   StableHlo.TRef.nullary φ.cst (constant S_ .f32 0x3F800000#32),
   StableHlo.TRef.unary φ.cst φ.v25 (broadcastInDim S1x2048 ![] bcast_S_S1x2048),
   StableHlo.TRef.binary φ.v24 φ.v25 φ.v26 subf,
   StableHlo.TRef.binary φ.v2 φ.v1 φ.v27 subf,
   StableHlo.TRef.unary φ.v27 φ.v28 (broadcastInDim S1x2048 ![0, 1] bcast_S1x1_S1x2048_0_1),
   StableHlo.TRef.binary φ.v26 φ.v28 φ.v29 mulf,
   StableHlo.TRef.unary φ.v1 φ.v30 (broadcastInDim S1x2048 ![0, 1] bcast_S1x1_S1x2048_0_1),
   StableHlo.TRef.binary φ.v29 φ.v30 φ.v31 addf,
   StableHlo.TRef.unary φ.v1 φ.v32 (broadcastInDim S1x2048 ![0, 1] bcast_S1x1_S1x2048_0_1),
   StableHlo.TRef.binary φ.v32 φ.v31 φ.v33 maximumf]

/-- The operations of `fn_uniform_0.body`, in order. -/
def ops_uniform_0 (arg0 : StableHlo.TRef sig ⟨S2, .i32⟩) (arg1 : StableHlo.TRef sig ⟨S_, .f32⟩) (arg2 : StableHlo.TRef sig ⟨S_, .f32⟩) (φ : fn_uniform_0.Bufs) : List (HloOp τ sig (Elt F)) :=
  ops_uniform_0_a arg0 arg1 arg2 φ ++ (ops_threefry2x32_1 φ.v4 φ.v6 φ.v17 φ.v16 φ.call0 ++ (ops_uniform_0_b arg0 arg1 arg2 φ))

theorem runs_uniform_0 (arg0 : StableHlo.TRef sig ⟨S2, .i32⟩) (arg1 : StableHlo.TRef sig ⟨S_, .f32⟩) (arg2 : StableHlo.TRef sig ⟨S_, .f32⟩) (φ : fn_uniform_0.Bufs) :
    Runs (fn_uniform_0.body arg0 arg1 arg2 φ : Prog (TpuEff nD τ sig (Elt F) (LL (F := F)) .tc) PUnit) (ops_uniform_0 arg0 arg1 arg2 φ) (pure ⟨⟩) := by
  unfold fn_uniform_0.body ops_uniform_0
  unfold ops_uniform_0_a
  iterate 21 refine Runs.cons ?_
  show Runs _ (ops_threefry2x32_1 φ.v4 φ.v6 φ.v17 φ.v16 φ.call0 ++ _) _
  refine Runs.app (runs_threefry2x32_1 _ _ _ _ _) ?_
  unfold ops_uniform_0_b
  iterate 18 refine Runs.cons ?_
  exact Runs.nil

def ops_gumbel_a (arg0 : StableHlo.TRef sig ⟨S2, .i32⟩) (φ : fn_gumbel.Bufs) : List (HloOp τ sig (Elt F)) :=
  [StableHlo.TRef.nullary φ.cst (constant S_ .f32 0x3F800000#32),
   StableHlo.TRef.nullary φ.cst_0 (constant S_ .f32 0x00800000#32)]

def ops_gumbel_b (arg0 : StableHlo.TRef sig ⟨S2, .i32⟩) (φ : fn_gumbel.Bufs) : List (HloOp τ sig (Elt F)) :=
  [StableHlo.TRef.unary φ.call0.v33 φ.v1 Host.log,
   StableHlo.TRef.unary φ.v1 φ.v2 Host.negf,
   StableHlo.TRef.unary φ.v2 φ.v3 Host.log,
   StableHlo.TRef.unary φ.v3 φ.v4 Host.negf]

/-- The operations of `fn_gumbel.body`, in order. -/
def ops_gumbel (arg0 : StableHlo.TRef sig ⟨S2, .i32⟩) (φ : fn_gumbel.Bufs) : List (HloOp τ sig (Elt F)) :=
  ops_gumbel_a arg0 φ ++ (ops_uniform_0 arg0 φ.cst φ.cst_0 φ.call0 ++ (ops_gumbel_b arg0 φ))

theorem runs_gumbel (arg0 : StableHlo.TRef sig ⟨S2, .i32⟩) (φ : fn_gumbel.Bufs) :
    Runs (fn_gumbel.body arg0 φ : Prog (TpuEff nD τ sig (Elt F) (LL (F := F)) .tc) PUnit) (ops_gumbel arg0 φ) (pure ⟨⟩) := by
  unfold fn_gumbel.body ops_gumbel
  unfold ops_gumbel_a
  iterate 2 refine Runs.cons ?_
  show Runs _ (ops_uniform_0 arg0 φ.cst φ.cst_0 φ.call0 ++ _) _
  refine Runs.app (runs_uniform_0 _ _ _ _) ?_
  unfold ops_gumbel_b
  iterate 4 refine Runs.cons ?_
  exact Runs.nil

def ops_argmax_2_a (arg0 : StableHlo.TRef sig ⟨S1x2048, .f32⟩) (φ : fn_argmax_2.Bufs) : List (HloOp τ sig (Elt F)) :=
  [StableHlo.TRef.nullary φ.v0 (iotaInDim S1x2048 32 1),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S1x2048_S1_d1 h_S_ j).1),
   StableHlo.TRef.quaternary arg0 φ.v0 φ.cst φ.c φ.v1_1 (fun x y u v j => (Host.argReduce reducer_argmax_f32_i32 x y u v reducesTo_S1x2048_S1_d1 h_S_ j).2)]

/-- The operations of `fn_argmax_2.body`, in order. -/
def ops_argmax_2 (arg0 : StableHlo.TRef sig ⟨S1x2048, .f32⟩) (φ : fn_argmax_2.Bufs) : List (HloOp τ sig (Elt F)) :=
  ops_argmax_2_a arg0 φ

theorem runs_argmax_2 (arg0 : StableHlo.TRef sig ⟨S1x2048, .f32⟩) (φ : fn_argmax_2.Bufs) :
    Runs (fn_argmax_2.body arg0 φ : Prog (TpuEff nD τ sig (Elt F) (LL (F := F)) .tc) PUnit) (ops_argmax_2 arg0 φ) (pure ⟨⟩) := by
  unfold fn_argmax_2.body ops_argmax_2
  unfold ops_argmax_2_a
  iterate 5 refine Runs.cons ?_
  exact Runs.nil

def ops_where_a (arg0 : StableHlo.TRef sig ⟨S1, .i1⟩) (arg1 : StableHlo.TRef sig ⟨S1, .i32⟩) (arg2 : StableHlo.TRef sig ⟨S1, .i32⟩) (φ : fn_where.Bufs) : List (HloOp τ sig (Elt F)) :=
  [StableHlo.TRef.ternary arg0 arg1 arg2 φ.v0 select]

/-- The operations of `fn_where.body`, in order. -/
def ops_where (arg0 : StableHlo.TRef sig ⟨S1, .i1⟩) (arg1 : StableHlo.TRef sig ⟨S1, .i32⟩) (arg2 : StableHlo.TRef sig ⟨S1, .i32⟩) (φ : fn_where.Bufs) : List (HloOp τ sig (Elt F)) :=
  ops_where_a arg0 arg1 arg2 φ

theorem runs_where (arg0 : StableHlo.TRef sig ⟨S1, .i1⟩) (arg1 : StableHlo.TRef sig ⟨S1, .i32⟩) (arg2 : StableHlo.TRef sig ⟨S1, .i32⟩) (φ : fn_where.Bufs) :
    Runs (fn_where.body arg0 arg1 arg2 φ : Prog (TpuEff nD τ sig (Elt F) (LL (F := F)) .tc) PUnit) (ops_where arg0 arg1 arg2 φ) (pure ⟨⟩) := by
  unfold fn_where.body ops_where
  unfold ops_where_a
  iterate 1 refine Runs.cons ?_
  exact Runs.nil

def ops_take_a (arg0 : StableHlo.TRef sig ⟨S4x4096x2048, .f32⟩) (arg1 : StableHlo.TRef sig ⟨S1, .i32⟩) (φ : fn_take.Bufs) : List (HloOp τ sig (Elt F)) :=
  [StableHlo.TRef.nullary φ.c (constantI S_ 32 0#32),
   StableHlo.TRef.unary φ.c φ.v0 (broadcastInDim S1 ![] bcast_S_S1),
   StableHlo.TRef.binary arg1 φ.v0 φ.v1 (cmpi .slt),
   StableHlo.TRef.nullary φ.c_0 (constantI S_ 32 2048#32),
   StableHlo.TRef.unary φ.c_0 φ.v2 (broadcastInDim S1 ![] bcast_S_S1),
   StableHlo.TRef.binary arg1 φ.v2 φ.v3 addi]

def ops_take_b (arg0 : StableHlo.TRef sig ⟨S4x4096x2048, .f32⟩) (arg1 : StableHlo.TRef sig ⟨S1, .i32⟩) (φ : fn_take.Bufs) : List (HloOp τ sig (Elt F)) :=
  [StableHlo.TRef.unary φ.call0.v0 φ.v5 (broadcastInDim S1x1 ![0] bcast_S1_S1x1_0),
   StableHlo.TRef.nullary φ.c_1 (constantI S1 32 2047#32),
   StableHlo.TRef.nullary φ.c_2 (constantI S_ 32 0#32),
   StableHlo.TRef.unary φ.c_2 φ.v6 (broadcastInDim S1x1 ![] bcast_S_S1x1),
   StableHlo.TRef.binary φ.v5 φ.v6 φ.v7 (cmpi .sge),
   StableHlo.TRef.unary φ.c_1 φ.v8 (broadcastInDim S1x1 ![1] bcast_S1_S1x1_1),
   StableHlo.TRef.binary φ.v5 φ.v8 φ.v9 (cmpi .sle),
   StableHlo.TRef.binary φ.v7 φ.v9 φ.v10 andi,
   StableHlo.TRef.nullary φ.c_3 (constantI S_ 1 1#1),
   StableHlo.TRef.binary φ.v10 φ.c_3 φ.v11 (fun x v => Host.reduce IntOp.andi x v reducesTo_S1x1_S1_d1 h_S_),
   StableHlo.TRef.binary arg0 φ.v5 φ.v12 (fun x i => Host.gather gather_S4x4096x2048_S1x1_S4x4096x1_01_2_n_n_2_1_440961 x i),
   StableHlo.TRef.unary φ.v11 φ.v13 (broadcastInDim S4x4096x1 ![2] bcast_S1_S4x4096x1_2),
   StableHlo.TRef.nullary φ.cst (constant S_ .f32 0x7FC00000#32),
   StableHlo.TRef.unary φ.cst φ.v14 (broadcastInDim S4x4096x1 ![] bcast_S_S4x4096x1),
   StableHlo.TRef.ternary φ.v13 φ.v12 φ.v14 φ.v15 select]

/-- The operations of `fn_take.body`, in order. -/
def ops_take (arg0 : StableHlo.TRef sig ⟨S4x4096x2048, .f32⟩) (arg1 : StableHlo.TRef sig ⟨S1, .i32⟩) (φ : fn_take.Bufs) : List (HloOp τ sig (Elt F)) :=
  ops_take_a arg0 arg1 φ ++ (ops_where φ.v1 φ.v3 arg1 φ.call0 ++ (ops_take_b arg0 arg1 φ))

theorem runs_take (arg0 : StableHlo.TRef sig ⟨S4x4096x2048, .f32⟩) (arg1 : StableHlo.TRef sig ⟨S1, .i32⟩) (φ : fn_take.Bufs) :
    Runs (fn_take.body arg0 arg1 φ : Prog (TpuEff nD τ sig (Elt F) (LL (F := F)) .tc) PUnit) (ops_take arg0 arg1 φ) (pure ⟨⟩) := by
  unfold fn_take.body ops_take
  unfold ops_take_a
  iterate 6 refine Runs.cons ?_
  show Runs _ (ops_where φ.v1 φ.v3 arg1 φ.call0 ++ _) _
  refine Runs.app (runs_where _ _ _ _) ?_
  unfold ops_take_b
  iterate 15 refine Runs.cons ?_
  exact Runs.nil

def ops_main_a  : List (HloOp τ sig (Elt F)) :=
  [StableHlo.nullary main_c (constantI S_ 32 42#32),
   StableHlo.nullary main_c_0 (constantI S_ 32 32#32),
   StableHlo.binary main_c main_c_0 main_v0 (Host.shrui : (⟨S_, .i32⟩ : BufTy).Contents (Elt F) → (⟨S_, .i32⟩ : BufTy).Contents (Elt F) → (⟨S_, .i32⟩ : BufTy).Contents (Elt F)),
   StableHlo.unary main_v0 main_v1 (id : (⟨S_, .i32⟩ : BufTy).Contents (Elt F) → (⟨S_, .i32⟩ : BufTy).Contents (Elt F)),
   StableHlo.unary main_v1 main_v2 (broadcastInDim S1 ![] bcast_S_S1 : (⟨S_, .i32⟩ : BufTy).Contents (Elt F) → (⟨S1, .i32⟩ : BufTy).Contents (Elt F)),
   StableHlo.nullary main_c_1 (constantI S_ 32 4294967295#32),
   StableHlo.binary main_c main_c_1 main_v3 (andi : (⟨S_, .i32⟩ : BufTy).Contents (Elt F) → (⟨S_, .i32⟩ : BufTy).Contents (Elt F) → (⟨S_, .i32⟩ : BufTy).Contents (Elt F)),
   StableHlo.unary main_v3 main_v4 (id : (⟨S_, .i32⟩ : BufTy).Contents (Elt F) → (⟨S_, .i32⟩ : BufTy).Contents (Elt F)),
   StableHlo.unary main_v4 main_v5 (broadcastInDim S1 ![] bcast_S_S1 : (⟨S_, .i32⟩ : BufTy).Contents (Elt F) → (⟨S1, .i32⟩ : BufTy).Contents (Elt F)),
   StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.nullary main_cst (constant S_ .f32 0x2EDBE6FF#32),
   StableHlo.nullary main_cst_2 (constant S_ .f32 0x3F800000#32)]

def ops_main_b  : List (HloOp τ sig (Elt F)) :=
  [StableHlo.unary main_v7 main_v8 (Host.log : (⟨S2048, .f32⟩ : BufTy).Contents (Elt F) → (⟨S2048, .f32⟩ : BufTy).Contents (Elt F)),
   StableHlo.unary main_v8 main_v9 (Host.negf : (⟨S2048, .f32⟩ : BufTy).Contents (Elt F) → (⟨S2048, .f32⟩ : BufTy).Contents (Elt F)),
   StableHlo.unary main_v9 main_v10 (Host.log : (⟨S2048, .f32⟩ : BufTy).Contents (Elt F) → (⟨S2048, .f32⟩ : BufTy).Contents (Elt F)),
   StableHlo.unary main_v10 main_v11 (Host.negf : (⟨S2048, .f32⟩ : BufTy).Contents (Elt F) → (⟨S2048, .f32⟩ : BufTy).Contents (Elt F)),
   StableHlo.binary main_arg1 main_v11 main_v12 (addf : (⟨S2048, .f32⟩ : BufTy).Contents (Elt F) → (⟨S2048, .f32⟩ : BufTy).Contents (Elt F) → (⟨S2048, .f32⟩ : BufTy).Contents (Elt F)),
   StableHlo.nullary main_cst_3 (constant S_ .f32 0x3C23D70A#32),
   StableHlo.unary main_cst_3 main_v13 (broadcastInDim S2048 ![] bcast_S_S2048 : (⟨S_, .f32⟩ : BufTy).Contents (Elt F) → (⟨S2048, .f32⟩ : BufTy).Contents (Elt F)),
   StableHlo.binary main_v12 main_v13 main_v14 (Host.divf : (⟨S2048, .f32⟩ : BufTy).Contents (Elt F) → (⟨S2048, .f32⟩ : BufTy).Contents (Elt F) → (⟨S2048, .f32⟩ : BufTy).Contents (Elt F)),
   StableHlo.nullary main_cst_4 (constant S_ .f32 0xFF800000#32),
   StableHlo.binary main_v14 main_cst_4 main_v15 ((fun x v => Host.reduce FloatOps.maximumf x v reducesTo_S2048_S_d0 h_S_) : (⟨S2048, .f32⟩ : BufTy).Contents (Elt F) → (⟨S_, .f32⟩ : BufTy).Contents (Elt F) → (⟨S_, .f32⟩ : BufTy).Contents (Elt F)),
   StableHlo.nullary main_cst_5 (constant S_ .f32 0xFF800000#32),
   StableHlo.binary main_cst_5 main_v15 main_v16 (maximumf : (⟨S_, .f32⟩ : BufTy).Contents (Elt F) → (⟨S_, .f32⟩ : BufTy).Contents (Elt F) → (⟨S_, .f32⟩ : BufTy).Contents (Elt F)),
   StableHlo.unary main_v16 main_v17 (broadcastInDim S1 ![] bcast_S_S1 : (⟨S_, .f32⟩ : BufTy).Contents (Elt F) → (⟨S1, .f32⟩ : BufTy).Contents (Elt F)),
   StableHlo.unary main_v17 main_v18 (broadcastInDim S2048 ![0] bcast_S1_S2048_0 : (⟨S1, .f32⟩ : BufTy).Contents (Elt F) → (⟨S2048, .f32⟩ : BufTy).Contents (Elt F)),
   StableHlo.binary main_v14 main_v18 main_v19 (subf : (⟨S2048, .f32⟩ : BufTy).Contents (Elt F) → (⟨S2048, .f32⟩ : BufTy).Contents (Elt F) → (⟨S2048, .f32⟩ : BufTy).Contents (Elt F)),
   StableHlo.unary main_v19 main_v20 (Host.exp : (⟨S2048, .f32⟩ : BufTy).Contents (Elt F) → (⟨S2048, .f32⟩ : BufTy).Contents (Elt F)),
   StableHlo.nullary main_cst_6 (constant S_ .f32 0x00000000#32),
   StableHlo.binary main_v20 main_cst_6 main_v21 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
   StableHlo.unary main_v21 main_v22 (broadcastInDim S1 ![] bcast_S_S1 : (⟨S_, .f32⟩ : BufTy).Contents (Elt F) → (⟨S1, .f32⟩ : BufTy).Contents (Elt F)),
   StableHlo.unary main_v22 main_v23 (broadcastInDim S2048 ![0] bcast_S1_S2048_0 : (⟨S1, .f32⟩ : BufTy).Contents (Elt F) → (⟨S2048, .f32⟩ : BufTy).Contents (Elt F)),
   StableHlo.binary main_v20 main_v23 main_v24 (Host.divf : (⟨S2048, .f32⟩ : BufTy).Contents (Elt F) → (⟨S2048, .f32⟩ : BufTy).Contents (Elt F) → (⟨S2048, .f32⟩ : BufTy).Contents (Elt F))]

def ops_main_c  : List (HloOp τ sig (Elt F)) :=
  [StableHlo.binary main_v26 main_v24 main_v27 (subf : (⟨S2048, .f32⟩ : BufTy).Contents (Elt F) → (⟨S2048, .f32⟩ : BufTy).Contents (Elt F) → (⟨S2048, .f32⟩ : BufTy).Contents (Elt F)),
   StableHlo.binary main_v27 main_v24 main_v28 (addf : (⟨S2048, .f32⟩ : BufTy).Contents (Elt F) → (⟨S2048, .f32⟩ : BufTy).Contents (Elt F) → (⟨S2048, .f32⟩ : BufTy).Contents (Elt F)),
   StableHlo.nullary main_cst_7 (constant S_ .f32 0x1E3CE508#32),
   StableHlo.unary main_cst_7 main_v29 (broadcastInDim S2048 ![] bcast_S_S2048 : (⟨S_, .f32⟩ : BufTy).Contents (Elt F) → (⟨S2048, .f32⟩ : BufTy).Contents (Elt F)),
   StableHlo.binary main_v28 main_v29 main_v30 (addf : (⟨S2048, .f32⟩ : BufTy).Contents (Elt F) → (⟨S2048, .f32⟩ : BufTy).Contents (Elt F) → (⟨S2048, .f32⟩ : BufTy).Contents (Elt F)),
   StableHlo.unary main_v30 main_v31 (Host.log : (⟨S2048, .f32⟩ : BufTy).Contents (Elt F) → (⟨S2048, .f32⟩ : BufTy).Contents (Elt F)),
   StableHlo.nullary main_c_8 (constantI S_ 32 7#32),
   StableHlo.nullary main_c_9 (constantI S_ 32 32#32),
   StableHlo.binary main_c_8 main_c_9 main_v32 (Host.shrui : (⟨S_, .i32⟩ : BufTy).Contents (Elt F) → (⟨S_, .i32⟩ : BufTy).Contents (Elt F) → (⟨S_, .i32⟩ : BufTy).Contents (Elt F)),
   StableHlo.unary main_v32 main_v33 (id : (⟨S_, .i32⟩ : BufTy).Contents (Elt F) → (⟨S_, .i32⟩ : BufTy).Contents (Elt F)),
   StableHlo.unary main_v33 main_v34 (broadcastInDim S1 ![] bcast_S_S1 : (⟨S_, .i32⟩ : BufTy).Contents (Elt F) → (⟨S1, .i32⟩ : BufTy).Contents (Elt F)),
   StableHlo.nullary main_c_10 (constantI S_ 32 4294967295#32),
   StableHlo.binary main_c_8 main_c_10 main_v35 (andi : (⟨S_, .i32⟩ : BufTy).Contents (Elt F) → (⟨S_, .i32⟩ : BufTy).Contents (Elt F) → (⟨S_, .i32⟩ : BufTy).Contents (Elt F)),
   StableHlo.unary main_v35 main_v36 (id : (⟨S_, .i32⟩ : BufTy).Contents (Elt F) → (⟨S_, .i32⟩ : BufTy).Contents (Elt F)),
   StableHlo.unary main_v36 main_v37 (broadcastInDim S1 ![] bcast_S_S1 : (⟨S_, .i32⟩ : BufTy).Contents (Elt F) → (⟨S1, .i32⟩ : BufTy).Contents (Elt F)),
   StableHlo.binary main_v34 main_v37 main_v38 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))]

def ops_main_d  : List (HloOp τ sig (Elt F)) :=
  [StableHlo.unary main_v31 main_v40 (broadcastInDim S1x2048 ![1] bcast_S2048_S1x2048_1 : (⟨S2048, .f32⟩ : BufTy).Contents (Elt F) → (⟨S1x2048, .f32⟩ : BufTy).Contents (Elt F)),
   StableHlo.binary main_v39 main_v40 main_v41 (addf : (⟨S1x2048, .f32⟩ : BufTy).Contents (Elt F) → (⟨S1x2048, .f32⟩ : BufTy).Contents (Elt F) → (⟨S1x2048, .f32⟩ : BufTy).Contents (Elt F))]

/-- The operations of `main`, in order. -/
def ops_main  : List (HloOp τ sig (Elt F)) :=
  ops_main_a ++ (ops_uniform (.of main_v6) (.of main_cst) (.of main_cst_2) main_call0 ++ (ops_main_b ++ (ops_argmax (.of main_v24) main_call1 ++ (ops_one_hot (.of main_v25) main_call2 ++ (ops_main_c ++ (ops_gumbel (.of main_v38) main_call3 ++ (ops_main_d ++ (ops_argmax_2 (.of main_v41) main_call4 ++ (ops_take (.of main_arg0) (.of main_v42) main_call5)))))))))

theorem runs_main (d : Dev nD) :
    Runs (main d : Prog (TpuEff nD τ sig (Elt F) (LL (F := F)) .tc) PUnit) (ops_main (F := F)) (pure ⟨⟩) := by
  unfold main ops_main
  unfold ops_main_a
  iterate 12 refine Runs.cons ?_
  show Runs _ (ops_uniform (.of main_v6) (.of main_cst) (.of main_cst_2) main_call0 ++ _) _
  refine Runs.app (runs_uniform _ _ _ _) ?_
  unfold ops_main_b
  iterate 21 refine Runs.cons ?_
  show Runs _ (ops_argmax (.of main_v24) main_call1 ++ _) _
  refine Runs.app (runs_argmax _ _) ?_
  show Runs _ (ops_one_hot (.of main_v25) main_call2 ++ _) _
  refine Runs.app (runs_one_hot _ _) ?_
  unfold ops_main_c
  iterate 16 refine Runs.cons ?_
  show Runs _ (ops_gumbel (.of main_v38) main_call3 ++ _) _
  refine Runs.app (runs_gumbel _ _) ?_
  unfold ops_main_d
  iterate 2 refine Runs.cons ?_
  show Runs _ (ops_argmax_2 (.of main_v41) main_call4 ++ _) _
  refine Runs.app (runs_argmax_2 _ _) ?_
  show Runs _ (ops_take (.of main_arg0) (.of main_v42) main_call5) _
  refine Runs.app_last (runs_take _ _ _)

theorem line_m_a : Line (ops_main_a : List (HloOp τ sig (Elt F))) 2 :=
  ⟨ok_nullary _ _ rfl, ok_nullary _ _ rfl, ok_binary _ _ _ _ rfl, ok_unary _ _ _ rfl, ok_unary _ _ _ rfl, ok_nullary _ _ rfl, ok_binary _ _ _ _ rfl, ok_unary _ _ _ rfl, ok_unary _ _ _ rfl, ok_binary _ _ _ _ rfl, ok_nullary _ _ rfl, ok_nullary _ _ rfl, trivial⟩

theorem line_m_c0_a : Line (ops_uniform_a (.of main_v6) (.of main_cst) (.of main_cst_2) main_call0 : List (HloOp τ sig (Elt F))) 14 :=
  ⟨ok_unary _ _ _ rfl, ok_unary _ _ _ rfl, ok_unary _ _ _ rfl, ok_unary _ _ _ rfl, ok_unary _ _ _ rfl, ok_reshape _ _ _ _ rfl, ok_unary _ _ _ rfl, ok_reshape _ _ _ _ rfl, ok_nullary _ _ rfl, ok_nullary _ _ rfl, ok_unary _ _ _ rfl, ok_binary _ _ _ _ rfl, ok_nullary _ _ rfl, ok_unary _ _ _ rfl, ok_binary _ _ _ _ rfl, ok_unary _ _ _ rfl, ok_unary _ _ _ rfl, trivial⟩

theorem line_m_c0_c0_p0_a : Line (ops_threefry2x32_p0_a main_call0.v5 main_call0.v7 main_call0.v14 main_call0.v13 main_call0.call0 : List (HloOp τ sig (Elt F))) 31 :=
  ⟨ok_binary _ _ _ _ rfl, ok_nullary _ _ rfl, ok_binary _ _ _ _ rfl, ok_unary _ _ _ rfl, ok_binary _ _ _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, trivial⟩

theorem line_m_c0_c0_p0 : Line (ops_threefry2x32_p0 main_call0.v5 main_call0.v7 main_call0.v14 main_call0.v13 main_call0.call0 : List (HloOp τ sig (Elt F))) 31 :=
  line_m_c0_c0_p0_a

theorem line_m_c0_c0_p1_a : Line (ops_threefry2x32_p1_a main_call0.v5 main_call0.v7 main_call0.v14 main_call0.v13 main_call0.call0 : List (HloOp τ sig (Elt F))) 91 :=
  ⟨ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, trivial⟩

theorem line_m_c0_c0_p1 : Line (ops_threefry2x32_p1 main_call0.v5 main_call0.v7 main_call0.v14 main_call0.v13 main_call0.call0 : List (HloOp τ sig (Elt F))) 91 :=
  line_m_c0_c0_p1_a

theorem line_m_c0_c0_p2_a : Line (ops_threefry2x32_p2_a main_call0.v5 main_call0.v7 main_call0.v14 main_call0.v13 main_call0.call0 : List (HloOp τ sig (Elt F))) 151 :=
  ⟨ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, trivial⟩

theorem line_m_c0_c0_p2 : Line (ops_threefry2x32_p2 main_call0.v5 main_call0.v7 main_call0.v14 main_call0.v13 main_call0.call0 : List (HloOp τ sig (Elt F))) 151 :=
  line_m_c0_c0_p2_a

theorem line_m_c0_c0_p3_a : Line (ops_threefry2x32_p3_a main_call0.v5 main_call0.v7 main_call0.v14 main_call0.v13 main_call0.call0 : List (HloOp τ sig (Elt F))) 211 :=
  ⟨ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, trivial⟩

theorem line_m_c0_c0_p3 : Line (ops_threefry2x32_p3 main_call0.v5 main_call0.v7 main_call0.v14 main_call0.v13 main_call0.call0 : List (HloOp τ sig (Elt F))) 211 :=
  line_m_c0_c0_p3_a

theorem line_m_c0_c0 : Line (ops_threefry2x32 main_call0.v5 main_call0.v7 main_call0.v14 main_call0.v13 main_call0.call0 : List (HloOp τ sig (Elt F))) 31 :=
  line_m_c0_c0_p0.append (k := 91) rfl (line_m_c0_c0_p1.append (k := 151) rfl (line_m_c0_c0_p2.append (k := 211) rfl (line_m_c0_c0_p3)))

theorem line_m_c0_b : Line (ops_uniform_b (.of main_v6) (.of main_cst) (.of main_cst_2) main_call0 : List (HloOp τ sig (Elt F))) 253 :=
  ⟨ok_binary _ _ _ _ rfl, ok_nullary _ _ rfl, ok_unary _ _ _ rfl, ok_binary _ _ _ _ rfl, ok_nullary _ _ rfl, ok_unary _ _ _ rfl, ok_binary _ _ _ _ rfl, ok_unary _ _ _ rfl, ok_nullary _ _ rfl, ok_unary _ _ _ rfl, ok_binary _ _ _ _ rfl, ok_binary _ _ _ _ rfl, ok_unary _ _ _ rfl, ok_binary _ _ _ _ rfl, ok_unary _ _ _ rfl, ok_binary _ _ _ _ rfl, ok_unary _ _ _ rfl, ok_binary _ _ _ _ rfl, trivial⟩

theorem line_m_c0 : Line (ops_uniform (.of main_v6) (.of main_cst) (.of main_cst_2) main_call0 : List (HloOp τ sig (Elt F))) 14 :=
  line_m_c0_a.append (k := 31) rfl (line_m_c0_c0.append (k := 253) rfl (line_m_c0_b))

theorem line_m_b : Line (ops_main_b : List (HloOp τ sig (Elt F))) 271 :=
  ⟨ok_unary _ _ _ rfl, ok_unary _ _ _ rfl, ok_unary _ _ _ rfl, ok_unary _ _ _ rfl, ok_binary _ _ _ _ rfl, ok_nullary _ _ rfl, ok_unary _ _ _ rfl, ok_binary _ _ _ _ rfl, ok_nullary _ _ rfl, ok_binary _ _ _ _ rfl, ok_nullary _ _ rfl, ok_binary _ _ _ _ rfl, ok_unary _ _ _ rfl, ok_unary _ _ _ rfl, ok_binary _ _ _ _ rfl, ok_unary _ _ _ rfl, ok_nullary _ _ rfl, ok_binary _ _ _ _ rfl, ok_unary _ _ _ rfl, ok_unary _ _ _ rfl, ok_binary _ _ _ _ rfl, trivial⟩

theorem line_m_c1_a : Line (ops_argmax_a (.of main_v24) main_call1 : List (HloOp τ sig (Elt F))) 292 :=
  ⟨ok_nullary _ _ rfl, ok_nullary _ _ rfl, ok_nullary _ _ rfl, ok_quaternary _ _ _ _ _ _ rfl, ok_quaternary _ _ _ _ _ _ rfl, trivial⟩

theorem line_m_c1 : Line (ops_argmax (.of main_v24) main_call1 : List (HloOp τ sig (Elt F))) 292 :=
  line_m_c1_a

theorem line_m_c2_a : Line (ops_one_hot_a (.of main_v25) main_call2 : List (HloOp τ sig (Elt F))) 297 :=
  ⟨ok_unary _ _ _ rfl, ok_nullary _ _ rfl, ok_unary _ _ _ rfl, ok_binary _ _ _ _ rfl, ok_unary _ _ _ rfl, trivial⟩

theorem line_m_c2 : Line (ops_one_hot (.of main_v25) main_call2 : List (HloOp τ sig (Elt F))) 297 :=
  line_m_c2_a

theorem line_m_c : Line (ops_main_c : List (HloOp τ sig (Elt F))) 302 :=
  ⟨ok_binary _ _ _ _ rfl, ok_binary _ _ _ _ rfl, ok_nullary _ _ rfl, ok_unary _ _ _ rfl, ok_binary _ _ _ _ rfl, ok_unary _ _ _ rfl, ok_nullary _ _ rfl, ok_nullary _ _ rfl, ok_binary _ _ _ _ rfl, ok_unary _ _ _ rfl, ok_unary _ _ _ rfl, ok_nullary _ _ rfl, ok_binary _ _ _ _ rfl, ok_unary _ _ _ rfl, ok_unary _ _ _ rfl, ok_binary _ _ _ _ rfl, trivial⟩

theorem line_m_c3_a : Line (ops_gumbel_a (.of main_v38) main_call3 : List (HloOp τ sig (Elt F))) 318 :=
  ⟨ok_nullary _ _ rfl, ok_nullary _ _ rfl, trivial⟩

theorem line_m_c3_c0_a : Line (ops_uniform_0_a (.of main_v38) main_call3.cst main_call3.cst_0 main_call3.call0 : List (HloOp τ sig (Elt F))) 320 :=
  ⟨ok_unary _ _ _ rfl, ok_unary _ _ _ rfl, ok_unary _ _ _ rfl, ok_unary _ _ _ rfl, ok_reshape _ _ _ _ rfl, ok_unary _ _ _ rfl, ok_reshape _ _ _ _ rfl, ok_nullary _ _ rfl, ok_nullary _ _ rfl, ok_nullary _ _ rfl, ok_unary _ _ _ rfl, ok_binary _ _ _ _ rfl, ok_nullary _ _ rfl, ok_unary _ _ _ rfl, ok_binary _ _ _ _ rfl, ok_binary _ _ _ _ rfl, ok_nullary _ _ rfl, ok_unary _ _ _ rfl, ok_binary _ _ _ _ rfl, ok_unary _ _ _ rfl, ok_unary _ _ _ rfl, trivial⟩

theorem line_m_c3_c0_c0_p0_a : Line (ops_threefry2x32_1_p0_a main_call3.call0.v4 main_call3.call0.v6 main_call3.call0.v17 main_call3.call0.v16 main_call3.call0.call0 : List (HloOp τ sig (Elt F))) 341 :=
  ⟨ok_binary _ _ _ _ rfl, ok_nullary _ _ rfl, ok_binary _ _ _ _ rfl, ok_unary _ _ _ rfl, ok_binary _ _ _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, trivial⟩

theorem line_m_c3_c0_c0_p0 : Line (ops_threefry2x32_1_p0 main_call3.call0.v4 main_call3.call0.v6 main_call3.call0.v17 main_call3.call0.v16 main_call3.call0.call0 : List (HloOp τ sig (Elt F))) 341 :=
  line_m_c3_c0_c0_p0_a

theorem line_m_c3_c0_c0_p1_a : Line (ops_threefry2x32_1_p1_a main_call3.call0.v4 main_call3.call0.v6 main_call3.call0.v17 main_call3.call0.v16 main_call3.call0.call0 : List (HloOp τ sig (Elt F))) 401 :=
  ⟨ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, trivial⟩

theorem line_m_c3_c0_c0_p1 : Line (ops_threefry2x32_1_p1 main_call3.call0.v4 main_call3.call0.v6 main_call3.call0.v17 main_call3.call0.v16 main_call3.call0.call0 : List (HloOp τ sig (Elt F))) 401 :=
  line_m_c3_c0_c0_p1_a

theorem line_m_c3_c0_c0_p2_a : Line (ops_threefry2x32_1_p2_a main_call3.call0.v4 main_call3.call0.v6 main_call3.call0.v17 main_call3.call0.v16 main_call3.call0.call0 : List (HloOp τ sig (Elt F))) 461 :=
  ⟨ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, ok_binary _ _ _ _ rfl, trivial⟩

theorem line_m_c3_c0_c0_p2 : Line (ops_threefry2x32_1_p2 main_call3.call0.v4 main_call3.call0.v6 main_call3.call0.v17 main_call3.call0.v16 main_call3.call0.call0 : List (HloOp τ sig (Elt F))) 461 :=
  line_m_c3_c0_c0_p2_a

theorem line_m_c3_c0_c0_p3_a : Line (ops_threefry2x32_1_p3_a main_call3.call0.v4 main_call3.call0.v6 main_call3.call0.v17 main_call3.call0.v16 main_call3.call0.call0 : List (HloOp τ sig (Elt F))) 521 :=
  ⟨ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_binary _ _ _ _ rfl, ok_nullary _ _ rfl, ok_unary _ _ _ rfl, ok_binary _ _ _ _ rfl, ok_nullary _ _ rfl, ok_unary _ _ _ rfl, ok_binary _ _ _ _ rfl, ok_binary _ _ _ _ rfl, ok_binary _ _ _ _ rfl, ok_unary _ _ _ rfl, ok_binary _ _ _ _ rfl, ok_unary _ _ _ rfl, ok_binary _ _ _ _ rfl, ok_nullary _ _ rfl, ok_unary _ _ _ rfl, ok_binary _ _ _ _ rfl, trivial⟩

theorem line_m_c3_c0_c0_p3 : Line (ops_threefry2x32_1_p3 main_call3.call0.v4 main_call3.call0.v6 main_call3.call0.v17 main_call3.call0.v16 main_call3.call0.call0 : List (HloOp τ sig (Elt F))) 521 :=
  line_m_c3_c0_c0_p3_a

theorem line_m_c3_c0_c0 : Line (ops_threefry2x32_1 main_call3.call0.v4 main_call3.call0.v6 main_call3.call0.v17 main_call3.call0.v16 main_call3.call0.call0 : List (HloOp τ sig (Elt F))) 341 :=
  line_m_c3_c0_c0_p0.append (k := 401) rfl (line_m_c3_c0_c0_p1.append (k := 461) rfl (line_m_c3_c0_c0_p2.append (k := 521) rfl (line_m_c3_c0_c0_p3)))

theorem line_m_c3_c0_b : Line (ops_uniform_0_b (.of main_v38) main_call3.cst main_call3.cst_0 main_call3.call0 : List (HloOp τ sig (Elt F))) 563 :=
  ⟨ok_binary _ _ _ _ rfl, ok_nullary _ _ rfl, ok_unary _ _ _ rfl, ok_binary _ _ _ _ rfl, ok_nullary _ _ rfl, ok_unary _ _ _ rfl, ok_binary _ _ _ _ rfl, ok_unary _ _ _ rfl, ok_nullary _ _ rfl, ok_unary _ _ _ rfl, ok_binary _ _ _ _ rfl, ok_binary _ _ _ _ rfl, ok_unary _ _ _ rfl, ok_binary _ _ _ _ rfl, ok_unary _ _ _ rfl, ok_binary _ _ _ _ rfl, ok_unary _ _ _ rfl, ok_binary _ _ _ _ rfl, trivial⟩

theorem line_m_c3_c0 : Line (ops_uniform_0 (.of main_v38) main_call3.cst main_call3.cst_0 main_call3.call0 : List (HloOp τ sig (Elt F))) 320 :=
  line_m_c3_c0_a.append (k := 341) rfl (line_m_c3_c0_c0.append (k := 563) rfl (line_m_c3_c0_b))

theorem line_m_c3_b : Line (ops_gumbel_b (.of main_v38) main_call3 : List (HloOp τ sig (Elt F))) 581 :=
  ⟨ok_unary _ _ _ rfl, ok_unary _ _ _ rfl, ok_unary _ _ _ rfl, ok_unary _ _ _ rfl, trivial⟩

theorem line_m_c3 : Line (ops_gumbel (.of main_v38) main_call3 : List (HloOp τ sig (Elt F))) 318 :=
  line_m_c3_a.append (k := 320) rfl (line_m_c3_c0.append (k := 581) rfl (line_m_c3_b))

theorem line_m_d : Line (ops_main_d : List (HloOp τ sig (Elt F))) 585 :=
  ⟨ok_unary _ _ _ rfl, ok_binary _ _ _ _ rfl, trivial⟩

theorem line_m_c4_a : Line (ops_argmax_2_a (.of main_v41) main_call4 : List (HloOp τ sig (Elt F))) 587 :=
  ⟨ok_nullary _ _ rfl, ok_nullary _ _ rfl, ok_nullary _ _ rfl, ok_quaternary _ _ _ _ _ _ rfl, ok_quaternary _ _ _ _ _ _ rfl, trivial⟩

theorem line_m_c4 : Line (ops_argmax_2 (.of main_v41) main_call4 : List (HloOp τ sig (Elt F))) 587 :=
  line_m_c4_a

theorem line_m_c5_a : Line (ops_take_a (.of main_arg0) (.of main_v42) main_call5 : List (HloOp τ sig (Elt F))) 592 :=
  ⟨ok_nullary _ _ rfl, ok_unary _ _ _ rfl, ok_binary _ _ _ _ rfl, ok_nullary _ _ rfl, ok_unary _ _ _ rfl, ok_binary _ _ _ _ rfl, trivial⟩

theorem line_m_c5_c0_a : Line (ops_where_a main_call5.v1 main_call5.v3 (.of main_v42) main_call5.call0 : List (HloOp τ sig (Elt F))) 598 :=
  ⟨ok_ternary _ _ _ _ _ rfl, trivial⟩

theorem line_m_c5_c0 : Line (ops_where main_call5.v1 main_call5.v3 (.of main_v42) main_call5.call0 : List (HloOp τ sig (Elt F))) 598 :=
  line_m_c5_c0_a

theorem line_m_c5_b : Line (ops_take_b (.of main_arg0) (.of main_v42) main_call5 : List (HloOp τ sig (Elt F))) 599 :=
  ⟨ok_unary _ _ _ rfl, ok_nullary _ _ rfl, ok_nullary _ _ rfl, ok_unary _ _ _ rfl, ok_binary _ _ _ _ rfl, ok_unary _ _ _ rfl, ok_binary _ _ _ _ rfl, ok_binary _ _ _ _ rfl, ok_nullary _ _ rfl, ok_binary _ _ _ _ rfl, ok_binary _ _ _ _ rfl, ok_unary _ _ _ rfl, ok_nullary _ _ rfl, ok_unary _ _ _ rfl, ok_ternary _ _ _ _ _ rfl, trivial⟩

theorem line_m_c5 : Line (ops_take (.of main_arg0) (.of main_v42) main_call5 : List (HloOp τ sig (Elt F))) 592 :=
  line_m_c5_a.append (k := 598) rfl (line_m_c5_c0.append (k := 599) rfl (line_m_c5_b))

theorem line_m : Line (ops_main : List (HloOp τ sig (Elt F))) 2 :=
  line_m_a.append (k := 14) rfl (line_m_c0.append (k := 271) rfl (line_m_b.append (k := 292) rfl (line_m_c1.append (k := 297) rfl (line_m_c2.append (k := 302) rfl (line_m_c.append (k := 318) rfl (line_m_c3.append (k := 585) rfl (line_m_d.append (k := 587) rfl (line_m_c4.append (k := 592) rfl (line_m_c5)))))))))

theorem sub_m_a : (ops_main_a : List (HloOp τ sig (Elt F))) ⊆ ops_main :=
  (List.subset_append_left _ _)

theorem sub_m_c0 : (ops_uniform (.of main_v6) (.of main_cst) (.of main_cst_2) main_call0 : List (HloOp τ sig (Elt F))) ⊆ ops_main :=
  (List.subset_append_of_subset_right _ (List.subset_append_left _ _))

theorem sub_m_c0_a : (ops_uniform_a (.of main_v6) (.of main_cst) (.of main_cst_2) main_call0 : List (HloOp τ sig (Elt F))) ⊆ ops_main :=
  List.Subset.trans (show (ops_uniform_a (.of main_v6) (.of main_cst) (.of main_cst_2) main_call0 : List (HloOp τ sig (Elt F))) ⊆ ops_uniform (.of main_v6) (.of main_cst) (.of main_cst_2) main_call0 from (List.subset_append_left _ _)) sub_m_c0

theorem sub_m_c0_c0 : (ops_threefry2x32 main_call0.v5 main_call0.v7 main_call0.v14 main_call0.v13 main_call0.call0 : List (HloOp τ sig (Elt F))) ⊆ ops_main :=
  List.Subset.trans (show (ops_threefry2x32 main_call0.v5 main_call0.v7 main_call0.v14 main_call0.v13 main_call0.call0 : List (HloOp τ sig (Elt F))) ⊆ ops_uniform (.of main_v6) (.of main_cst) (.of main_cst_2) main_call0 from (List.subset_append_of_subset_right _ (List.subset_append_left _ _))) sub_m_c0

theorem sub_m_c0_c0_p0 : (ops_threefry2x32_p0 main_call0.v5 main_call0.v7 main_call0.v14 main_call0.v13 main_call0.call0 : List (HloOp τ sig (Elt F))) ⊆ ops_main :=
  List.Subset.trans (show (ops_threefry2x32_p0 main_call0.v5 main_call0.v7 main_call0.v14 main_call0.v13 main_call0.call0 : List (HloOp τ sig (Elt F))) ⊆ ops_threefry2x32 main_call0.v5 main_call0.v7 main_call0.v14 main_call0.v13 main_call0.call0 from (List.subset_append_left _ _)) sub_m_c0_c0

theorem sub_m_c0_c0_p0_a : (ops_threefry2x32_p0_a main_call0.v5 main_call0.v7 main_call0.v14 main_call0.v13 main_call0.call0 : List (HloOp τ sig (Elt F))) ⊆ ops_main :=
  List.Subset.trans (show (ops_threefry2x32_p0_a main_call0.v5 main_call0.v7 main_call0.v14 main_call0.v13 main_call0.call0 : List (HloOp τ sig (Elt F))) ⊆ ops_threefry2x32_p0 main_call0.v5 main_call0.v7 main_call0.v14 main_call0.v13 main_call0.call0 from (List.Subset.refl _)) sub_m_c0_c0_p0

theorem sub_m_c0_c0_p1 : (ops_threefry2x32_p1 main_call0.v5 main_call0.v7 main_call0.v14 main_call0.v13 main_call0.call0 : List (HloOp τ sig (Elt F))) ⊆ ops_main :=
  List.Subset.trans (show (ops_threefry2x32_p1 main_call0.v5 main_call0.v7 main_call0.v14 main_call0.v13 main_call0.call0 : List (HloOp τ sig (Elt F))) ⊆ ops_threefry2x32 main_call0.v5 main_call0.v7 main_call0.v14 main_call0.v13 main_call0.call0 from (List.subset_append_of_subset_right _ (List.subset_append_left _ _))) sub_m_c0_c0

theorem sub_m_c0_c0_p1_a : (ops_threefry2x32_p1_a main_call0.v5 main_call0.v7 main_call0.v14 main_call0.v13 main_call0.call0 : List (HloOp τ sig (Elt F))) ⊆ ops_main :=
  List.Subset.trans (show (ops_threefry2x32_p1_a main_call0.v5 main_call0.v7 main_call0.v14 main_call0.v13 main_call0.call0 : List (HloOp τ sig (Elt F))) ⊆ ops_threefry2x32_p1 main_call0.v5 main_call0.v7 main_call0.v14 main_call0.v13 main_call0.call0 from (List.Subset.refl _)) sub_m_c0_c0_p1

theorem sub_m_c0_c0_p2 : (ops_threefry2x32_p2 main_call0.v5 main_call0.v7 main_call0.v14 main_call0.v13 main_call0.call0 : List (HloOp τ sig (Elt F))) ⊆ ops_main :=
  List.Subset.trans (show (ops_threefry2x32_p2 main_call0.v5 main_call0.v7 main_call0.v14 main_call0.v13 main_call0.call0 : List (HloOp τ sig (Elt F))) ⊆ ops_threefry2x32 main_call0.v5 main_call0.v7 main_call0.v14 main_call0.v13 main_call0.call0 from (List.subset_append_of_subset_right _ (List.subset_append_of_subset_right _ (List.subset_append_left _ _)))) sub_m_c0_c0

theorem sub_m_c0_c0_p2_a : (ops_threefry2x32_p2_a main_call0.v5 main_call0.v7 main_call0.v14 main_call0.v13 main_call0.call0 : List (HloOp τ sig (Elt F))) ⊆ ops_main :=
  List.Subset.trans (show (ops_threefry2x32_p2_a main_call0.v5 main_call0.v7 main_call0.v14 main_call0.v13 main_call0.call0 : List (HloOp τ sig (Elt F))) ⊆ ops_threefry2x32_p2 main_call0.v5 main_call0.v7 main_call0.v14 main_call0.v13 main_call0.call0 from (List.Subset.refl _)) sub_m_c0_c0_p2

theorem sub_m_c0_c0_p3 : (ops_threefry2x32_p3 main_call0.v5 main_call0.v7 main_call0.v14 main_call0.v13 main_call0.call0 : List (HloOp τ sig (Elt F))) ⊆ ops_main :=
  List.Subset.trans (show (ops_threefry2x32_p3 main_call0.v5 main_call0.v7 main_call0.v14 main_call0.v13 main_call0.call0 : List (HloOp τ sig (Elt F))) ⊆ ops_threefry2x32 main_call0.v5 main_call0.v7 main_call0.v14 main_call0.v13 main_call0.call0 from (List.subset_append_of_subset_right _ (List.subset_append_of_subset_right _ (List.subset_append_of_subset_right _ (List.Subset.refl _))))) sub_m_c0_c0

theorem sub_m_c0_c0_p3_a : (ops_threefry2x32_p3_a main_call0.v5 main_call0.v7 main_call0.v14 main_call0.v13 main_call0.call0 : List (HloOp τ sig (Elt F))) ⊆ ops_main :=
  List.Subset.trans (show (ops_threefry2x32_p3_a main_call0.v5 main_call0.v7 main_call0.v14 main_call0.v13 main_call0.call0 : List (HloOp τ sig (Elt F))) ⊆ ops_threefry2x32_p3 main_call0.v5 main_call0.v7 main_call0.v14 main_call0.v13 main_call0.call0 from (List.Subset.refl _)) sub_m_c0_c0_p3

theorem sub_m_c0_b : (ops_uniform_b (.of main_v6) (.of main_cst) (.of main_cst_2) main_call0 : List (HloOp τ sig (Elt F))) ⊆ ops_main :=
  List.Subset.trans (show (ops_uniform_b (.of main_v6) (.of main_cst) (.of main_cst_2) main_call0 : List (HloOp τ sig (Elt F))) ⊆ ops_uniform (.of main_v6) (.of main_cst) (.of main_cst_2) main_call0 from (List.subset_append_of_subset_right _ (List.subset_append_of_subset_right _ (List.Subset.refl _)))) sub_m_c0

theorem sub_m_b : (ops_main_b : List (HloOp τ sig (Elt F))) ⊆ ops_main :=
  (List.subset_append_of_subset_right _ (List.subset_append_of_subset_right _ (List.subset_append_left _ _)))

theorem sub_m_c1 : (ops_argmax (.of main_v24) main_call1 : List (HloOp τ sig (Elt F))) ⊆ ops_main :=
  (List.subset_append_of_subset_right _ (List.subset_append_of_subset_right _ (List.subset_append_of_subset_right _ (List.subset_append_left _ _))))

theorem sub_m_c1_a : (ops_argmax_a (.of main_v24) main_call1 : List (HloOp τ sig (Elt F))) ⊆ ops_main :=
  List.Subset.trans (show (ops_argmax_a (.of main_v24) main_call1 : List (HloOp τ sig (Elt F))) ⊆ ops_argmax (.of main_v24) main_call1 from (List.Subset.refl _)) sub_m_c1

theorem sub_m_c2 : (ops_one_hot (.of main_v25) main_call2 : List (HloOp τ sig (Elt F))) ⊆ ops_main :=
  (List.subset_append_of_subset_right _ (List.subset_append_of_subset_right _ (List.subset_append_of_subset_right _ (List.subset_append_of_subset_right _ (List.subset_append_left _ _)))))

theorem sub_m_c2_a : (ops_one_hot_a (.of main_v25) main_call2 : List (HloOp τ sig (Elt F))) ⊆ ops_main :=
  List.Subset.trans (show (ops_one_hot_a (.of main_v25) main_call2 : List (HloOp τ sig (Elt F))) ⊆ ops_one_hot (.of main_v25) main_call2 from (List.Subset.refl _)) sub_m_c2

theorem sub_m_c : (ops_main_c : List (HloOp τ sig (Elt F))) ⊆ ops_main :=
  (List.subset_append_of_subset_right _ (List.subset_append_of_subset_right _ (List.subset_append_of_subset_right _ (List.subset_append_of_subset_right _ (List.subset_append_of_subset_right _ (List.subset_append_left _ _))))))

theorem sub_m_c3 : (ops_gumbel (.of main_v38) main_call3 : List (HloOp τ sig (Elt F))) ⊆ ops_main :=
  (List.subset_append_of_subset_right _ (List.subset_append_of_subset_right _ (List.subset_append_of_subset_right _ (List.subset_append_of_subset_right _ (List.subset_append_of_subset_right _ (List.subset_append_of_subset_right _ (List.subset_append_left _ _)))))))

theorem sub_m_c3_a : (ops_gumbel_a (.of main_v38) main_call3 : List (HloOp τ sig (Elt F))) ⊆ ops_main :=
  List.Subset.trans (show (ops_gumbel_a (.of main_v38) main_call3 : List (HloOp τ sig (Elt F))) ⊆ ops_gumbel (.of main_v38) main_call3 from (List.subset_append_left _ _)) sub_m_c3

theorem sub_m_c3_c0 : (ops_uniform_0 (.of main_v38) main_call3.cst main_call3.cst_0 main_call3.call0 : List (HloOp τ sig (Elt F))) ⊆ ops_main :=
  List.Subset.trans (show (ops_uniform_0 (.of main_v38) main_call3.cst main_call3.cst_0 main_call3.call0 : List (HloOp τ sig (Elt F))) ⊆ ops_gumbel (.of main_v38) main_call3 from (List.subset_append_of_subset_right _ (List.subset_append_left _ _))) sub_m_c3

theorem sub_m_c3_c0_a : (ops_uniform_0_a (.of main_v38) main_call3.cst main_call3.cst_0 main_call3.call0 : List (HloOp τ sig (Elt F))) ⊆ ops_main :=
  List.Subset.trans (show (ops_uniform_0_a (.of main_v38) main_call3.cst main_call3.cst_0 main_call3.call0 : List (HloOp τ sig (Elt F))) ⊆ ops_uniform_0 (.of main_v38) main_call3.cst main_call3.cst_0 main_call3.call0 from (List.subset_append_left _ _)) sub_m_c3_c0

theorem sub_m_c3_c0_c0 : (ops_threefry2x32_1 main_call3.call0.v4 main_call3.call0.v6 main_call3.call0.v17 main_call3.call0.v16 main_call3.call0.call0 : List (HloOp τ sig (Elt F))) ⊆ ops_main :=
  List.Subset.trans (show (ops_threefry2x32_1 main_call3.call0.v4 main_call3.call0.v6 main_call3.call0.v17 main_call3.call0.v16 main_call3.call0.call0 : List (HloOp τ sig (Elt F))) ⊆ ops_uniform_0 (.of main_v38) main_call3.cst main_call3.cst_0 main_call3.call0 from (List.subset_append_of_subset_right _ (List.subset_append_left _ _))) sub_m_c3_c0

theorem sub_m_c3_c0_c0_p0 : (ops_threefry2x32_1_p0 main_call3.call0.v4 main_call3.call0.v6 main_call3.call0.v17 main_call3.call0.v16 main_call3.call0.call0 : List (HloOp τ sig (Elt F))) ⊆ ops_main :=
  List.Subset.trans (show (ops_threefry2x32_1_p0 main_call3.call0.v4 main_call3.call0.v6 main_call3.call0.v17 main_call3.call0.v16 main_call3.call0.call0 : List (HloOp τ sig (Elt F))) ⊆ ops_threefry2x32_1 main_call3.call0.v4 main_call3.call0.v6 main_call3.call0.v17 main_call3.call0.v16 main_call3.call0.call0 from (List.subset_append_left _ _)) sub_m_c3_c0_c0

theorem sub_m_c3_c0_c0_p0_a : (ops_threefry2x32_1_p0_a main_call3.call0.v4 main_call3.call0.v6 main_call3.call0.v17 main_call3.call0.v16 main_call3.call0.call0 : List (HloOp τ sig (Elt F))) ⊆ ops_main :=
  List.Subset.trans (show (ops_threefry2x32_1_p0_a main_call3.call0.v4 main_call3.call0.v6 main_call3.call0.v17 main_call3.call0.v16 main_call3.call0.call0 : List (HloOp τ sig (Elt F))) ⊆ ops_threefry2x32_1_p0 main_call3.call0.v4 main_call3.call0.v6 main_call3.call0.v17 main_call3.call0.v16 main_call3.call0.call0 from (List.Subset.refl _)) sub_m_c3_c0_c0_p0

theorem sub_m_c3_c0_c0_p1 : (ops_threefry2x32_1_p1 main_call3.call0.v4 main_call3.call0.v6 main_call3.call0.v17 main_call3.call0.v16 main_call3.call0.call0 : List (HloOp τ sig (Elt F))) ⊆ ops_main :=
  List.Subset.trans (show (ops_threefry2x32_1_p1 main_call3.call0.v4 main_call3.call0.v6 main_call3.call0.v17 main_call3.call0.v16 main_call3.call0.call0 : List (HloOp τ sig (Elt F))) ⊆ ops_threefry2x32_1 main_call3.call0.v4 main_call3.call0.v6 main_call3.call0.v17 main_call3.call0.v16 main_call3.call0.call0 from (List.subset_append_of_subset_right _ (List.subset_append_left _ _))) sub_m_c3_c0_c0

theorem sub_m_c3_c0_c0_p1_a : (ops_threefry2x32_1_p1_a main_call3.call0.v4 main_call3.call0.v6 main_call3.call0.v17 main_call3.call0.v16 main_call3.call0.call0 : List (HloOp τ sig (Elt F))) ⊆ ops_main :=
  List.Subset.trans (show (ops_threefry2x32_1_p1_a main_call3.call0.v4 main_call3.call0.v6 main_call3.call0.v17 main_call3.call0.v16 main_call3.call0.call0 : List (HloOp τ sig (Elt F))) ⊆ ops_threefry2x32_1_p1 main_call3.call0.v4 main_call3.call0.v6 main_call3.call0.v17 main_call3.call0.v16 main_call3.call0.call0 from (List.Subset.refl _)) sub_m_c3_c0_c0_p1

theorem sub_m_c3_c0_c0_p2 : (ops_threefry2x32_1_p2 main_call3.call0.v4 main_call3.call0.v6 main_call3.call0.v17 main_call3.call0.v16 main_call3.call0.call0 : List (HloOp τ sig (Elt F))) ⊆ ops_main :=
  List.Subset.trans (show (ops_threefry2x32_1_p2 main_call3.call0.v4 main_call3.call0.v6 main_call3.call0.v17 main_call3.call0.v16 main_call3.call0.call0 : List (HloOp τ sig (Elt F))) ⊆ ops_threefry2x32_1 main_call3.call0.v4 main_call3.call0.v6 main_call3.call0.v17 main_call3.call0.v16 main_call3.call0.call0 from (List.subset_append_of_subset_right _ (List.subset_append_of_subset_right _ (List.subset_append_left _ _)))) sub_m_c3_c0_c0

theorem sub_m_c3_c0_c0_p2_a : (ops_threefry2x32_1_p2_a main_call3.call0.v4 main_call3.call0.v6 main_call3.call0.v17 main_call3.call0.v16 main_call3.call0.call0 : List (HloOp τ sig (Elt F))) ⊆ ops_main :=
  List.Subset.trans (show (ops_threefry2x32_1_p2_a main_call3.call0.v4 main_call3.call0.v6 main_call3.call0.v17 main_call3.call0.v16 main_call3.call0.call0 : List (HloOp τ sig (Elt F))) ⊆ ops_threefry2x32_1_p2 main_call3.call0.v4 main_call3.call0.v6 main_call3.call0.v17 main_call3.call0.v16 main_call3.call0.call0 from (List.Subset.refl _)) sub_m_c3_c0_c0_p2

theorem sub_m_c3_c0_c0_p3 : (ops_threefry2x32_1_p3 main_call3.call0.v4 main_call3.call0.v6 main_call3.call0.v17 main_call3.call0.v16 main_call3.call0.call0 : List (HloOp τ sig (Elt F))) ⊆ ops_main :=
  List.Subset.trans (show (ops_threefry2x32_1_p3 main_call3.call0.v4 main_call3.call0.v6 main_call3.call0.v17 main_call3.call0.v16 main_call3.call0.call0 : List (HloOp τ sig (Elt F))) ⊆ ops_threefry2x32_1 main_call3.call0.v4 main_call3.call0.v6 main_call3.call0.v17 main_call3.call0.v16 main_call3.call0.call0 from (List.subset_append_of_subset_right _ (List.subset_append_of_subset_right _ (List.subset_append_of_subset_right _ (List.Subset.refl _))))) sub_m_c3_c0_c0

theorem sub_m_c3_c0_c0_p3_a : (ops_threefry2x32_1_p3_a main_call3.call0.v4 main_call3.call0.v6 main_call3.call0.v17 main_call3.call0.v16 main_call3.call0.call0 : List (HloOp τ sig (Elt F))) ⊆ ops_main :=
  List.Subset.trans (show (ops_threefry2x32_1_p3_a main_call3.call0.v4 main_call3.call0.v6 main_call3.call0.v17 main_call3.call0.v16 main_call3.call0.call0 : List (HloOp τ sig (Elt F))) ⊆ ops_threefry2x32_1_p3 main_call3.call0.v4 main_call3.call0.v6 main_call3.call0.v17 main_call3.call0.v16 main_call3.call0.call0 from (List.Subset.refl _)) sub_m_c3_c0_c0_p3

theorem sub_m_c3_c0_b : (ops_uniform_0_b (.of main_v38) main_call3.cst main_call3.cst_0 main_call3.call0 : List (HloOp τ sig (Elt F))) ⊆ ops_main :=
  List.Subset.trans (show (ops_uniform_0_b (.of main_v38) main_call3.cst main_call3.cst_0 main_call3.call0 : List (HloOp τ sig (Elt F))) ⊆ ops_uniform_0 (.of main_v38) main_call3.cst main_call3.cst_0 main_call3.call0 from (List.subset_append_of_subset_right _ (List.subset_append_of_subset_right _ (List.Subset.refl _)))) sub_m_c3_c0

theorem sub_m_c3_b : (ops_gumbel_b (.of main_v38) main_call3 : List (HloOp τ sig (Elt F))) ⊆ ops_main :=
  List.Subset.trans (show (ops_gumbel_b (.of main_v38) main_call3 : List (HloOp τ sig (Elt F))) ⊆ ops_gumbel (.of main_v38) main_call3 from (List.subset_append_of_subset_right _ (List.subset_append_of_subset_right _ (List.Subset.refl _)))) sub_m_c3

theorem sub_m_d : (ops_main_d : List (HloOp τ sig (Elt F))) ⊆ ops_main :=
  (List.subset_append_of_subset_right _ (List.subset_append_of_subset_right _ (List.subset_append_of_subset_right _ (List.subset_append_of_subset_right _ (List.subset_append_of_subset_right _ (List.subset_append_of_subset_right _ (List.subset_append_of_subset_right _ (List.subset_append_left _ _))))))))

theorem sub_m_c4 : (ops_argmax_2 (.of main_v41) main_call4 : List (HloOp τ sig (Elt F))) ⊆ ops_main :=
  (List.subset_append_of_subset_right _ (List.subset_append_of_subset_right _ (List.subset_append_of_subset_right _ (List.subset_append_of_subset_right _ (List.subset_append_of_subset_right _ (List.subset_append_of_subset_right _ (List.subset_append_of_subset_right _ (List.subset_append_of_subset_right _ (List.subset_append_left _ _)))))))))

theorem sub_m_c4_a : (ops_argmax_2_a (.of main_v41) main_call4 : List (HloOp τ sig (Elt F))) ⊆ ops_main :=
  List.Subset.trans (show (ops_argmax_2_a (.of main_v41) main_call4 : List (HloOp τ sig (Elt F))) ⊆ ops_argmax_2 (.of main_v41) main_call4 from (List.Subset.refl _)) sub_m_c4

theorem sub_m_c5 : (ops_take (.of main_arg0) (.of main_v42) main_call5 : List (HloOp τ sig (Elt F))) ⊆ ops_main :=
  (List.subset_append_of_subset_right _ (List.subset_append_of_subset_right _ (List.subset_append_of_subset_right _ (List.subset_append_of_subset_right _ (List.subset_append_of_subset_right _ (List.subset_append_of_subset_right _ (List.subset_append_of_subset_right _ (List.subset_append_of_subset_right _ (List.subset_append_of_subset_right _ (List.Subset.refl _))))))))))

theorem sub_m_c5_a : (ops_take_a (.of main_arg0) (.of main_v42) main_call5 : List (HloOp τ sig (Elt F))) ⊆ ops_main :=
  List.Subset.trans (show (ops_take_a (.of main_arg0) (.of main_v42) main_call5 : List (HloOp τ sig (Elt F))) ⊆ ops_take (.of main_arg0) (.of main_v42) main_call5 from (List.subset_append_left _ _)) sub_m_c5

theorem sub_m_c5_c0 : (ops_where main_call5.v1 main_call5.v3 (.of main_v42) main_call5.call0 : List (HloOp τ sig (Elt F))) ⊆ ops_main :=
  List.Subset.trans (show (ops_where main_call5.v1 main_call5.v3 (.of main_v42) main_call5.call0 : List (HloOp τ sig (Elt F))) ⊆ ops_take (.of main_arg0) (.of main_v42) main_call5 from (List.subset_append_of_subset_right _ (List.subset_append_left _ _))) sub_m_c5

theorem sub_m_c5_c0_a : (ops_where_a main_call5.v1 main_call5.v3 (.of main_v42) main_call5.call0 : List (HloOp τ sig (Elt F))) ⊆ ops_main :=
  List.Subset.trans (show (ops_where_a main_call5.v1 main_call5.v3 (.of main_v42) main_call5.call0 : List (HloOp τ sig (Elt F))) ⊆ ops_where main_call5.v1 main_call5.v3 (.of main_v42) main_call5.call0 from (List.Subset.refl _)) sub_m_c5_c0

theorem sub_m_c5_b : (ops_take_b (.of main_arg0) (.of main_v42) main_call5 : List (HloOp τ sig (Elt F))) ⊆ ops_main :=
  List.Subset.trans (show (ops_take_b (.of main_arg0) (.of main_v42) main_call5 : List (HloOp τ sig (Elt F))) ⊆ ops_take (.of main_arg0) (.of main_v42) main_call5 from (List.subset_append_of_subset_right _ (List.subset_append_of_subset_right _ (List.Subset.refl _)))) sub_m_c5

end Cert.Proof.RI

end
-- ==== Proof.RefRun.lean ====
/-
The reference program runs to what its line of operations makes of the launch contents, and leaves its arguments alone.
-/
module

public import proofs.«01_k».proof.Proof.HostR
public import Idealize.ShloMosaic.Lib.StableHlo.RunHlo
public import Idealize.ShloMosaic.Lib.Quiescent

@[expose] public section

noncomputable section

namespace Cert.Proof.RI

open Cert.ReferenceIdeal Cert.ReferenceIdeal.Gen
open Idealize.ShloMosaic Idealize.ShloMosaic.StableHlo Idealize.SL.Sem Cert.Proof.Ssa

variable {F : FTy → Type} [FloatOps F]

variable (m : (ℓ : Loc nD τ sig) → Buf (Elt F) ℓ) (ρ : Dev nD → PrngReg)

/-- Every TensorCore buffer at the end. -/
def post (d : Dev nD) : Valuation τ sig (Elt F) := after ops_main (launchContents m d)

theorem post_arg {b : Ref sig .tc} (h : key b < 2) (d : Dev nD) : post m d (Proc.devRef .tc b) = m ((d.tc : Thread nD τ).loc b) :=
  line_m.keep h _

theorem run_main : θ_run (Cert.ReferenceIdeal.defs (F := F)) (onTc (τ := τ) (main (F := F))) ⟨m, fun _ => 0, ρ⟩ fun r =>
    ∀ (d : Dev nD) (b : Ref sig .tc), r.2.mem ((d.tc : Thread nD τ).loc b) = post m d (Proc.devRef .tc b) :=
  run_hlo _ (main (F := F)) (ops := ops_main) (fun d => (runs_main d).seq)
    (by decide) (by decide) (List.forall_iff_forall_mem.mpr fun op h => (line_m.ok op h).choose_spec.2.bufs)
    (fun op h => (line_m.ok op h).choose_spec.2.fresh) m ρ

theorem sems_zero (s : MemSt nD τ sig (Elt F)) : s.sem = fun _ => 0 := sem_eq_zero_of_no_sems (by decide) s

end Cert.Proof.RI

end
-- ==== Proof.Frames.lean ====
/-
The three frames, and the constant's substitution.
-/
module

public import proofs.«01_k».proof.Proof.Launch
public import proofs.«01_k».proof.Proof.RefRun
public import proofs.«01_k».proof.Proof.Gen.Kernel

@[expose] public section

noncomputable section

namespace Cert.Proof

open Idealize.ShloMosaic Idealize.SL.Sem

/-- A named constant read as the bits it stands for. -/
@[reducible] def namedBits : Named Bits where
  named _ _ {_} bits := bits

section
attribute [local instance] namedBits

theorem sig_same : Cert.Kernel.sig = Cert.KernelIdeal.sig := rfl

set_option maxHeartbeats 4000000 in
/-- The two printed programs are one at the device's own arithmetic. -/
theorem frame_kernel : Cert.quiescent_Kernel (hKernel := Cert.Kernel.Gen.facts) := fun m ρ _ =>
  (θ_run Cert.Kernel.defs _ _).mono (fun _ h => ⟨fun c => ⟨(h.1 c).1, (h.1 c).2.1⟩, h.2⟩)
    (show θ_run (Cert.Kernel.defs (F := Bits)) (Cert.Kernel.threads (F := Bits)) ⟨m, fun _ => 0, ρ⟩ (KI.QC (F := Bits) m) from
      KI.run_main (F := Bits) m ρ)
end

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (KI.run_main (F := Ideal) m ρ)

theorem frame_ref : Cert.quiescent_ReferenceIdeal (hReferenceIdeal := Cert.ReferenceIdeal.Gen.facts) := fun m ρ _ =>
  (θ_run Cert.ReferenceIdeal.defs _ _).mono
    (fun r h => ⟨fun c => ⟨(h c _).trans (RI.post_arg m (by decide) c), (h c _).trans (RI.post_arg m (by decide) c)⟩, RI.sems_zero r.2⟩)
    (RI.run_main (F := Ideal) m ρ)

theorem preserves : Cert.preserves_Kernel_KernelIdeal :=
  IdealRules.named_const.statement Cert.KernelIdeal.κ "lowest" .f32 0xFF61B1E6#32 ⊥ rfl

end Cert.Proof

end
-- ==== Proof.KArg.lean ====
/-
Over the extended reals, with every sum above −∞, the column the tasks pick is the first at which `mu + g` is largest.
-/
module

public import proofs.«01_k».proof.Proof.Sel

@[expose] public section

noncomputable section

namespace Cert.Proof.KI

open Cert.KernelIdeal Cert.KernelIdeal.Gen
open Idealize.ShloMosaic

/-- `p` is the first of the positions `S` at which `y` is largest, and `b` what `y` is there. -/
structure Best (y : ℕ → EReal) (S : ℕ → Prop) (b : EReal) (p : ℕ) : Prop where
  mem : S p
  val : b = y p
  le : ∀ q, S q → y q ≤ b
  lt : ∀ q, S q → q < p → y q < b

variable {y : ℕ → EReal}

theorem Best.step {S : ℕ → Prop} {b : EReal} {p n : ℕ} (h : Best y S b p) (hn : ∀ q, S q → q < n) :
    Best y (fun q => S q ∨ q = n) (if b < y n then y n else b) (if b < y n then n else p) := by
  by_cases hb : b < y n
  · rw [if_pos hb, if_pos hb]
    exact ⟨.inr rfl, rfl, fun q hq => hq.elim (fun hq => ((h.le q hq).trans_lt hb).le) (fun e => e ▸ le_rfl),
      fun q hq hlt => hq.elim (fun hq => (h.le q hq).trans_lt hb) (fun e => absurd e (by omega))⟩
  · rw [if_neg hb, if_neg hb]
    have := hn p h.mem
    exact ⟨.inl h.mem, h.val, fun q hq => hq.elim (h.le q) (fun e => e ▸ not_lt.mp hb),
      fun q hq hlt => hq.elim (fun hq => h.lt q hq hlt) (fun e => absurd e (by omega))⟩

theorem Best.join {S S' : ℕ → Prop} {b b' : EReal} {p p' : ℕ} (h : Best y S b p) (h' : Best y S' b' p') :
    Best y (fun q => S q ∨ S' q) (if b < b' ∨ b' = b ∧ p' < p then b' else b) (if b < b' ∨ b' = b ∧ p' < p then p' else p) := by
  by_cases hc : b < b' ∨ b' = b ∧ p' < p
  · rw [if_pos hc, if_pos hc]
    refine ⟨.inr h'.mem, h'.val, fun q hq => hq.elim (fun hq => ?_) (h'.le q), fun q hq hlt => hq.elim (fun hq => ?_) (fun hq => h'.lt q hq hlt)⟩
    · rcases hc with hc | ⟨hc, -⟩
      · exact ((h.le q hq).trans_lt hc).le
      · exact hc ▸ h.le q hq
    · rcases hc with hc | ⟨hc, hp⟩
      · exact (h.le q hq).trans_lt hc
      · exact hc ▸ h.lt q hq (by omega)
  · rw [if_neg hc, if_neg hc]
    push Not at hc
    refine ⟨.inl h.mem, h.val, fun q hq => hq.elim (h.le q) (fun hq => (h'.le q hq).trans hc.1), fun q hq hlt => hq.elim (fun hq => h.lt q hq hlt) (fun hq => ?_)⟩
    rcases eq_or_lt_of_le hc.1 with e | e
    · have := hc.2 e
      exact e ▸ h'.lt q hq (by omega)
    · exact (h'.le q hq).trans_lt e

theorem Best.congr {S S' : ℕ → Prop} {b : EReal} {p : ℕ} (h : Best y S b p) (e : ∀ q, S q ↔ S' q) : Best y S' b p :=
  ⟨(e p).mp h.mem, h.val, fun q hq => h.le q ((e q).mpr hq), fun q hq => h.lt q ((e q).mpr hq)⟩

/-! ## The fold -/

/-- Position `n` of a vector of 2048. -/
def ixn (n : ℕ) : S2048.Idx := fun a => ⟨n % 2048, by match a with | 0 => exact Nat.mod_lt _ (by decide)⟩

/-- What is maximised. -/
def yv (cm cg : S2048.Idx → EReal) (n : ℕ) : EReal := cm (ixn n) + cg (ixn n)

variable (cm cg : S2048.Idx → EReal)

theorem off2_all : ∀ k : Fin k0_t1_loop.trips, k0_off2 k 0 = 32 * k.val := by decide +kernel
theorem off3_all : ∀ k : Fin k0_t1_loop.trips, k0_off3 k 0 = 32 * k.val + 16 := by decide +kernel

theorem ldv_at (b : S2048.Idx → EReal) (off : Fin 1 → Nat) (h) (x : S16.Idx) : ldv (F := Ideal) b off h x = b (ixn (off 0 + (x 0).val)) := by
  refine congrArg b (funext fun a => ?_)
  match a with
  | 0 =>
    refine Fin.ext ?_
    have := h 0
    have hx := (x 0).isLt
    have e : S16.size 0 = 16 := rfl
    have e' : S2048.size 0 = 2048 := rfl
    show off 0 + 1 * (x 0).val = (off 0 + (x 0).val) % 2048
    rw [Nat.mod_eq_of_lt (by omega), one_mul]

theorem select_decide {α : Type} (p : Prop) [Decidable p] (a b : α) : Scalar.select (BitVec.ofBool (decide p)) a b = if p then a else b := by
  unfold Scalar.select
  by_cases h : p <;> simp [h]

theorem stp_even (k : Fin k0_t1_loop.trips) (b : FVec Ideal S16 .f32) (i : IVec S16 32) (x : S16.Idx) :
    k0_pay9 b (ldv (F := Ideal) cm (k0_off2 k) (k0_off2_inb k)) (ldv (F := Ideal) cg (k0_off2 k) (k0_off2_inb k)) x
        = (if b x < yv cm cg (32 * k.val + (x 0).val) then yv cm cg (32 * k.val + (x 0).val) else b x)
      ∧ (k0_pay10 k b i (ldv (F := Ideal) cm (k0_off2 k) (k0_off2_inb k)) (ldv (F := Ideal) cg (k0_off2 k) (k0_off2_inb k)) x).toNat
        = (if b x < yv cm cg (32 * k.val + (x 0).val) then 32 * k.val + (x 0).val else (i x).toNat) := by
  have e : ldv (F := Ideal) cm (k0_off2 k) (k0_off2_inb k) x + ldv (F := Ideal) cg (k0_off2 k) (k0_off2_inb k) x = yv cm cg (32 * k.val + (x 0).val) := by
    rw [ldv_at, ldv_at, off2_all]; rfl
  constructor
  · show Scalar.select (BitVec.ofBool (decide (b x < ldv (F := Ideal) cm (k0_off2 k) (k0_off2_inb k) x + ldv (F := Ideal) cg (k0_off2 k) (k0_off2_inb k) x)))
      (ldv (F := Ideal) cm (k0_off2 k) (k0_off2_inb k) x + ldv (F := Ideal) cg (k0_off2 k) (k0_off2_inb k) x) (b x) = _
    rw [e, select_decide]
  · rw [pay10_at]
    show BitVec.toNat (Scalar.select (BitVec.ofBool (decide (b x < ldv (F := Ideal) cm (k0_off2 k) (k0_off2_inb k) x + ldv (F := Ideal) cg (k0_off2 k) (k0_off2_inb k) x))) (_ : BitVec 32) (_ : BitVec 32)) = _
    rw [e, select_decide, apply_ite BitVec.toNat, pos_even k (x 0)]

theorem stp_odd (k : Fin k0_t1_loop.trips) (b : FVec Ideal S16 .f32) (i : IVec S16 32) (x : S16.Idx) :
    k0_pay11 b (ldv (F := Ideal) cm (k0_off3 k) (k0_off3_inb k)) (ldv (F := Ideal) cg (k0_off3 k) (k0_off3_inb k)) x
        = (if b x < yv cm cg (32 * k.val + 16 + (x 0).val) then yv cm cg (32 * k.val + 16 + (x 0).val) else b x)
      ∧ (k0_pay12 k b i (ldv (F := Ideal) cm (k0_off3 k) (k0_off3_inb k)) (ldv (F := Ideal) cg (k0_off3 k) (k0_off3_inb k)) x).toNat
        = (if b x < yv cm cg (32 * k.val + 16 + (x 0).val) then 32 * k.val + 16 + (x 0).val else (i x).toNat) := by
  have e : ldv (F := Ideal) cm (k0_off3 k) (k0_off3_inb k) x + ldv (F := Ideal) cg (k0_off3 k) (k0_off3_inb k) x = yv cm cg (32 * k.val + 16 + (x 0).val) := by
    rw [ldv_at, ldv_at, off3_all]; rfl
  constructor
  · show Scalar.select (BitVec.ofBool (decide (b x < ldv (F := Ideal) cm (k0_off3 k) (k0_off3_inb k) x + ldv (F := Ideal) cg (k0_off3 k) (k0_off3_inb k) x)))
      (ldv (F := Ideal) cm (k0_off3 k) (k0_off3_inb k) x + ldv (F := Ideal) cg (k0_off3 k) (k0_off3_inb k) x) (b x) = _
    rw [e, select_decide]
  · rw [pay12_at]
    show BitVec.toNat (Scalar.select (BitVec.ofBool (decide (b x < ldv (F := Ideal) cm (k0_off3 k) (k0_off3_inb k) x + ldv (F := Ideal) cg (k0_off3 k) (k0_off3_inb k) x))) (_ : BitVec 32) (_ : BitVec 32)) = _
    rw [e, select_decide, apply_ite BitVec.toNat, pos_odd k (x 0)]

/-- The positions a lane has met after `n` trips. -/
def met (o n x : ℕ) (q : ℕ) : Prop := ∃ k, k < n ∧ q = 32 * k + o + x

theorem lowest_bot (x : S16.Idx) : k0_pay1 (F := Ideal) x = ⊥ ∧ k0_pay3 (F := Ideal) x = ⊥ := ⟨rfl, rfl⟩

variable (hy : ∀ n, ⊥ < yv cm cg n)
include hy

theorem fold_best (x : S16.Idx) : ∀ n, n < 64 →
    Best (yv cm cg) (met 0 (n + 1) (x 0).val) ((lp1 (F := Ideal) cm cg (n + 1)).1 x) ((lp1 (F := Ideal) cm cg (n + 1)).2.1 x).toNat
      ∧ Best (yv cm cg) (met 16 (n + 1) (x 0).val) ((lp1 (F := Ideal) cm cg (n + 1)).2.2.1 x) ((lp1 (F := Ideal) cm cg (n + 1)).2.2.2 x).toNat
  | 0, _ => by
    rw [show (0 + 1) = (⟨0, by decide⟩ : Fin k0_t1_loop.trips).val + 1 from rfl, lp1_succ]
    have h1 := stp_even cm cg ⟨0, by decide⟩ (k0_pay1 (F := Ideal)) k0_pay2 x
    have h2 := stp_odd cm cg ⟨0, by decide⟩ (k0_pay3 (F := Ideal)) k0_pay4 x
    rw [(lowest_bot x).1, if_pos (hy _), if_pos (hy _)] at h1
    rw [(lowest_bot x).2, if_pos (hy _), if_pos (hy _)] at h2
    have r : ∀ o, Best (yv cm cg) (met o (0 + 1) (x 0).val) (yv cm cg (32 * 0 + o + (x 0).val)) (32 * 0 + o + (x 0).val) := fun o =>
      ⟨⟨0, by omega, rfl⟩, rfl, fun q ⟨k, hk, e⟩ => by obtain rfl : k = 0 := by omega
                                                       rw [e], fun q ⟨k, hk, e⟩ hlt => by omega⟩
    refine ⟨?_, ?_⟩
    · have := r 0
      rw [show (lp1 (F := Ideal) cm cg (⟨0, by decide⟩ : Fin k0_t1_loop.trips).val) = (k0_pay1 (F := Ideal), k0_pay2, k0_pay3 (F := Ideal), k0_pay4) from rfl]
      exact (show Best _ _ _ _ by
        unfold stp1; dsimp only
        rw [h1.1, h1.2]; exact this)
    · have := r 16
      rw [show (lp1 (F := Ideal) cm cg (⟨0, by decide⟩ : Fin k0_t1_loop.trips).val) = (k0_pay1 (F := Ideal), k0_pay2, k0_pay3 (F := Ideal), k0_pay4) from rfl]
      exact (show Best _ _ _ _ by
        unfold stp1; dsimp only
        rw [h2.1, h2.2]; exact this)
  | n + 1, hn => by
    have ih := fold_best x n (by omega)
    have hk : n + 1 < k0_t1_loop.trips := hn
    rw [show n + 1 + 1 = (⟨n + 1, hk⟩ : Fin k0_t1_loop.trips).val + 1 from rfl, lp1_succ]
    have m : ∀ o q, (met o (n + 1) (x 0).val q ∨ q = 32 * (n + 1) + o + (x 0).val) ↔ met o (n + 1 + 1) (x 0).val q := by
      intro o q
      constructor
      · rintro (⟨k, hk, e⟩ | e)
        · exact ⟨k, by omega, e⟩
        · exact ⟨n + 1, by omega, e⟩
      · rintro ⟨k, hk, e⟩
        by_cases hk' : k < n + 1
        · exact .inl ⟨k, hk', e⟩
        · obtain rfl : k = n + 1 := by omega
          exact .inr e
    have l : ∀ o q, met o (n + 1) (x 0).val q → q < 32 * (n + 1) + o + (x 0).val := by
      rintro o q ⟨k, hk, e⟩; omega
    unfold stp1
    dsimp only
    generalize hs : lp1 (F := Ideal) cm cg (n + 1) = s at ih
    have h1 := stp_even cm cg ⟨n + 1, hk⟩ s.1 s.2.1 x
    have h2 := stp_odd cm cg ⟨n + 1, hk⟩ s.2.2.1 s.2.2.2 x
    refine ⟨?_, ?_⟩
    · rw [h1.1, h1.2]
      exact (ih.1.step (l 0)).congr (m 0)
    · rw [h2.1, h2.2]
      exact (ih.2.step (l 16)).congr (m 16)

/-- The positions of lane `x`. -/
def lane (x q : ℕ) : Prop := q < 2048 ∧ q % 16 = x

theorem pair_best (x : S16.Idx) (s : St1 Ideal) (hs : s = lp1 (F := Ideal) cm cg k0_t1_loop.trips) :
    Best (yv cm cg) (lane (x 0).val) (k0_pay14 s.1 s.2.1 s.2.2.1 s.2.2.2 x) (k0_pay15 s.1 s.2.1 s.2.2.1 s.2.2.2 x).toNat := by
  have h := fold_best cm cg hy x 63 (by omega)
  have hl := lp1_lt (F := Ideal) cm cg k0_t1_loop.trips
  rw [show 63 + 1 = k0_t1_loop.trips from rfl, ← hs] at h
  rw [← hs] at hl
  have j := h.1.join h.2
  have hx : (x 0).val < 16 := (x 0).isLt
  have c : k0_pay13 s.1 s.2.1 s.2.2.1 s.2.2.2 x = 1#1 ↔ (s.1 x < s.2.2.1 x ∨ s.2.2.1 x = s.1 x ∧ (s.2.2.2 x).toNat < (s.2.1 x).toNat) := by
    show (BitVec.ofBool (decide (s.1 x < s.2.2.1 x)) ||| (BitVec.ofBool (decide (s.2.2.1 x = s.1 x)) &&& BitVec.ofBool ((s.2.2.2 x).slt (s.2.1 x)))) = 1#1 ↔ _
    have e : (s.2.2.2 x).slt (s.2.1 x) = decide ((s.2.2.2 x).toNat < (s.2.1 x).toNat) := by
      have a := hl.1 x
      have b := hl.2 x
      rw [BitVec.slt, BitVec.toInt_eq_toNat_of_lt (by omega), BitVec.toInt_eq_toNat_of_lt (by omega)]
      simp
    rw [e]
    by_cases h1 : s.1 x < s.2.2.1 x <;> by_cases h2 : s.2.2.1 x = s.1 x <;> by_cases h3 : (s.2.2.2 x).toNat < (s.2.1 x).toNat <;> simp [h1, h2, h3]
  have e1 : k0_pay14 s.1 s.2.1 s.2.2.1 s.2.2.2 x = if k0_pay13 s.1 s.2.1 s.2.2.1 s.2.2.2 x = 1#1 then s.2.2.1 x else s.1 x := rfl
  have e2 : k0_pay15 s.1 s.2.1 s.2.2.1 s.2.2.2 x = if k0_pay13 s.1 s.2.1 s.2.2.1 s.2.2.2 x = 1#1 then s.2.2.2 x else s.2.1 x := rfl
  rw [e1, e2, apply_ite BitVec.toNat]
  simp only [c]
  refine j.congr fun q => ?_
  constructor
  · rintro (⟨k, hk, e⟩ | ⟨k, hk, e⟩)
    · have : k < 64 := hk
      exact ⟨by omega, by omega⟩
    · have : k < 64 := hk
      exact ⟨by omega, by omega⟩
  · rintro ⟨h1, h2⟩
    by_cases hq : q % 32 < 16
    · exact .inl ⟨q / 32, show q / 32 < 64 by omega, by omega⟩
    · exact .inr ⟨q / 32, show q / 32 < 64 by omega, by omega⟩

omit hy in
theorem topS_le (b : FVec Ideal S16 .f32) (x : S16.Idx) : b x ≤ topS (F := Ideal) b := by
  have hx : x = ln (x 0) := funext fun a => match a with | 0 => rfl
  have f : ∀ (l : List (Fin 16)) (r : EReal), r ≤ l.foldl (fun r j => max r (b (ln j))) r ∧ ∀ j ∈ l, b (ln j) ≤ l.foldl (fun r j => max r (b (ln j))) r := by
    intro l
    induction l with
    | nil => exact fun r => ⟨le_rfl, fun j h => absurd h List.not_mem_nil⟩
    | cons a l ih =>
      intro r
      refine ⟨(le_max_left _ _).trans (ih _).1, fun j h => ?_⟩
      rcases List.mem_cons.mp h with rfl | h
      · exact (le_max_right _ _).trans (ih _).1
      · exact (ih _).2 j h
  have g := f [1, 2, 3, 4, 5, 6, 7, 8, 9, 10, 11, 12, 13, 14, 15] (b (ln 0))
  have c : ∀ j : Fin 16, b (ln j) ≤ topS (F := Ideal) b := fun j => by
    by_cases h0 : j = 0
    · rw [h0]; exact g.1
    · exact g.2 j ((by decide : ∀ j : Fin 16, j ≠ 0 → j ∈ ([1, 2, 3, 4, 5, 6, 7, 8, 9, 10, 11, 12, 13, 14, 15] : List (Fin 16))) _ h0)
  rw [hx]
  exact c (x 0)

omit hy in
theorem topS_mem (b : FVec Ideal S16 .f32) : ∃ x, b x = topS (F := Ideal) b := by
  have f : ∀ (l : List (Fin 16)) (r : EReal), l.foldl (fun r j => max r (b (ln j))) r = r ∨ ∃ j, b (ln j) = l.foldl (fun r j => max r (b (ln j))) r := by
    intro l
    induction l with
    | nil => exact fun r => .inl rfl
    | cons a l ih =>
      intro r
      rcases ih (max r (b (ln a))) with h | h
      · rcases max_choice r (b (ln a)) with e | e
        · exact .inl (h.trans e)
        · exact .inr ⟨a, e.symm.trans h.symm⟩
      · exact .inr h
  rcases f [1, 2, 3, 4, 5, 6, 7, 8, 9, 10, 11, 12, 13, 14, 15] (b (ln 0)) with h | ⟨j, h⟩
  · exact ⟨ln 0, h.symm⟩
  · exact ⟨ln j, h⟩

/-- The picked column is the first of the largest sums. -/
theorem sel_best : Best (yv cm cg) (fun q => q < 2048) (yv cm cg (sel (F := Ideal) cm cg).toNat) (sel (F := Ideal) cm cg).toNat := by
  have hl := lp1_lt (F := Ideal) cm cg k0_t1_loop.trips
  have hlt := sel_lt (F := Ideal) cm cg
  have hb := fun x => pair_best cm cg hy x _ rfl
  unfold sel at hlt ⊢
  generalize hs : lp1 (F := Ideal) cm cg k0_t1_loop.trips = s at hl hb hlt ⊢
  rw [selS_eq] at hlt ⊢
  have hp := pay15_lt (F := Ideal) s.1 s.2.1 s.2.2.1 s.2.2.2 hl.1 hl.2
  generalize hB : k0_pay14 (F := Ideal) s.1 s.2.1 s.2.2.1 s.2.2.2 = B at hb hlt ⊢
  generalize hI : k0_pay15 (F := Ideal) s.1 s.2.1 s.2.2.1 s.2.2.2 = I at hb hp hlt ⊢
  obtain ⟨⟨x0, h0⟩, hmin⟩ := last_min _ (maskS_lt (F := Ideal) B I hp)
  generalize extractAt ![15] (xori (scan .min (xori (maskS (F := Ideal) B I) (broadcast S16 2147483648#32))) (broadcast S16 2147483648#32)) inpos_S16_p15 = r at *
  have hm : ∀ x, (maskS (F := Ideal) B I x).toNat = if B x = topS (F := Ideal) B then (I x).toNat else 2047 := by
    intro x
    show BitVec.toNat (Scalar.select (BitVec.ofBool (decide (B x = topS (F := Ideal) B))) (I x) 2047#32) = _
    rw [select_decide, apply_ite BitVec.toNat]; rfl
  have hr : yv cm cg r.toNat = topS (F := Ideal) B := by
    have e0 := hm x0
    rw [← h0] at e0
    by_cases ht : B x0 = topS (F := Ideal) B
    · rw [if_pos ht] at e0
      rw [e0, ← (hb x0).val]; exact ht
    · rw [if_neg ht] at e0
      obtain ⟨x1, h1⟩ := topS_mem B
      have e1 := hm x1
      rw [if_pos h1] at e1
      have l1 := hmin x1
      have l2 := hp x1
      rw [show r.toNat = (I x1).toNat by omega, ← (hb x1).val]; exact h1
  have lane_of : ∀ q, q < 2048 → ∃ x : S16.Idx, lane (x 0).val q := fun q hq =>
    ⟨ln ⟨q % 16, Nat.mod_lt _ (by decide)⟩, hq, rfl⟩
  have hle : ∀ q, q < 2048 → yv cm cg q ≤ yv cm cg r.toNat := fun q hq => by
    obtain ⟨x, hx⟩ := lane_of q hq
    rw [hr]
    exact ((hb x).le q hx).trans (topS_le B x)
  refine ⟨hlt, rfl, hle, fun q hq hlt' => lt_of_le_of_ne (hle q hq) fun e => ?_⟩
  obtain ⟨x, hx⟩ := lane_of q hq
  have hBx : B x = topS (F := Ideal) B := le_antisymm (topS_le B x) (by rw [← hr, ← e]; exact (hb x).le q hx)
  have e1 := hm x
  rw [if_pos hBx] at e1
  have l1 := hmin x
  have := (hb x).lt q hx (by omega)
  rw [hBx, ← hr, e] at this
  exact lt_irrefl _ this

end Cert.Proof.KI

end
-- ==== Proof.KVal.lean ====
/-
What the kernel's program leaves in its result, over the arguments: the reshapes around the call undone.
-/
module

public import proofs.«01_k».proof.Proof.Launch
public import proofs.«01_k».proof.Proof.KArg

@[expose] public section

noncomputable section

namespace Cert.Proof.KI

open Cert.KernelIdeal Cert.KernelIdeal.Gen
open Idealize.ShloMosaic Idealize.ShloMosaic.StableHlo Cert.Proof.Ssa

variable {F : FTy → Type} [FloatOps F] [Named F]

/-- The tokens' index at batch, position and column. -/
def argAt (j : S4x4096x1.Idx) (c : ℕ) (hc : c < 2048) : S4x4096x2048.Idx := fun k => match k with
  | 0 => (⟨(j 0).val, (j 0).isLt⟩ : Fin 4)
  | 1 => (⟨(j 1).val, (j 1).isLt⟩ : Fin 4096)
  | 2 => (⟨c, hc⟩ : Fin 2048)

theorem merged_at (x : S4x4096x2048.Idx → F .f32) (h : S4x4096x2048.ShapeCasts S16384x2048) (j : S4x4096x1.Idx) (c : ℕ) (hc : c < 2048) :
    xAt (shapeCast S16384x2048 x h) (4096 * (j 0).val + (j 1).val) c = x (argAt j c hc) := by
  have l0 : (j 0).val < 4 := (j 0).isLt
  have l1 : (j 1).val < 4096 := (j 1).isLt
  unfold xAt shapeCast
  refine congrArg x (Shape.reshapeEquiv_eq_of_rowMajor _ ?_)
  rw [Shape.rowMajor_val_two, Shape.rowMajor_val_three]
  show ((j 0).val * 4096 + (j 1).val) * 2048 + c = (4096 * (j 0).val + (j 1).val) % 16384 * 2048 + c % 2048
  generalize (j 0).val = a at *
  generalize (j 1).val = b at *
  rw [Nat.mod_eq_of_lt (by omega : 4096 * a + b < 16384), Nat.mod_eq_of_lt hc]
  ring

/-- The first two axes of an index of the result. -/
def rowOf (j : S4x4096x1.Idx) : S4x4096.Idx := fun k => match k with
  | 0 => (⟨(j 0).val, (j 0).isLt⟩ : Fin 4)
  | 1 => (⟨(j 1).val, (j 1).isLt⟩ : Fin 4096)

theorem split_at (x : S4x4096.Idx → F .f32) (h : S4x4096.ShapeCasts S4x4096x1) (j : S4x4096x1.Idx) : shapeCast S4x4096x1 x h j = x (rowOf j) := by
  have l2 : (j 2).val < 1 := (j 2).isLt
  unfold shapeCast
  refine congrArg x (Shape.reshapeEquiv_eq_of_rowMajor _ ?_)
  rw [Shape.rowMajor_val_two, Shape.rowMajor_val_three]
  show (j 0).val * 4096 + (j 1).val = ((j 0).val * 4096 + (j 1).val) * 1 + (j 2).val
  omega

variable (m : (ℓ : Loc nD τ sig) → Buf (Elt F) ℓ) (d : Dev nD)

theorem pre_arg0 : pre m d (Proc.devRef .tc main_arg0) = m (locT d main_arg0) := line_m.keep (by decide) _
theorem pre_arg1 : pre m d (Proc.devRef .tc main_arg1) = m (locT d main_arg1) := line_m.keep (by decide) _

theorem pre_v12 : pre m d (Proc.devRef .tc main_v12)
    = (shapeCast S16384x2048 (m (locT d main_arg0) : S4x4096x2048.Idx → F .f32) shapeCasts_S4x4096x2048_S16384x2048 : S16384x2048.Idx → F .f32) := by
  rw [← pre_arg0 m d]
  exact at_reshape line_m (launchContents m d) (mem_seg sub_m_b (k := 4) rfl) (by decide)

theorem post_v14 : post m d (Proc.devRef .tc main_v14)
    = (shapeCast S4x4096x1 (cR (pre m) d : S4x4096.Idx → F .f32) shapeCasts_S4x4096_S4x4096x1 : S4x4096x1.Idx → F .f32) := by
  have l : Line [lastOp (F := F)] 277 := ⟨ok_reshape _ _ _ _ rfl, trivial⟩
  have h : post m d (Proc.devRef .tc main_v13) = cR (pre m) d := (l.keep (by decide) _).trans (called_v13 _ _)
  rw [← h]
  exact at_reshape l (called (pre m) d) List.mem_cons_self (by decide)

/-- The kernel's result: the tokens' column it picks. -/
theorem post_value (j : S4x4096x1.Idx) : (post m d (Proc.devRef .tc main_v14) : S4x4096x1.Idx → F .f32) j
    = (m (locT d main_arg0) : S4x4096x2048.Idx → F .f32) (argAt j (sel (F := F) (m (locT d main_arg1)) (pre m d (Proc.devRef .tc main_v11))).toNat (sel_lt _ _)) := by
  rw [post_v14, split_at, ← merged_at (m (locT d main_arg0) : S4x4096x2048.Idx → F .f32) shapeCasts_S4x4096x2048_S16384x2048, ← pre_v12 m d, ← pre_arg1 m d]
  rfl

end Cert.Proof.KI

end
-- ==== Proof.EqR.lean ====
/-
What the reference leaves in each of its buffers, from what it leaves in those the line's operation reads.
-/
module

public import proofs.«01_k».proof.Proof.HostR

@[expose] public section

noncomputable section

namespace Cert.Proof.RI

open Cert.ReferenceIdeal Cert.ReferenceIdeal.Gen
open Idealize.ShloMosaic Idealize.ShloMosaic.StableHlo Idealize.SL.Sem Cert.Proof.Ssa

attribute [local irreducible] Host.reduce

/-- What the reference leaves in a buffer. -/
def R {F : FTy → Type} [FloatOps F] {T : BufTy} (V : Valuation τ sig (Elt F)) (x : TRef sig T) : T.Contents (Elt F) := val (after (ops_main (F := F)) V) x

abbrev r0 : TRef sig ⟨S4x4096x2048, .f32⟩ := .of main_arg0
abbrev r1 : TRef sig ⟨S2048, .f32⟩ := .of main_arg1
abbrev r2 : TRef sig ⟨S_, .i32⟩ := .of main_c
abbrev r3 : TRef sig ⟨S_, .i32⟩ := .of main_c_0
abbrev r4 : TRef sig ⟨S_, .i32⟩ := .of main_v0
abbrev r5 : TRef sig ⟨S_, .i32⟩ := .of main_v1
abbrev r6 : TRef sig ⟨S1, .i32⟩ := .of main_v2
abbrev r7 : TRef sig ⟨S_, .i32⟩ := .of main_c_1
abbrev r8 : TRef sig ⟨S_, .i32⟩ := .of main_v3
abbrev r9 : TRef sig ⟨S_, .i32⟩ := .of main_v4
abbrev r10 : TRef sig ⟨S1, .i32⟩ := .of main_v5
abbrev r11 : TRef sig ⟨S2, .i32⟩ := .of main_v6
abbrev r12 : TRef sig ⟨S_, .f32⟩ := .of main_cst
abbrev r13 : TRef sig ⟨S_, .f32⟩ := .of main_cst_2
abbrev r14 := main_call0.v0
abbrev r15 := main_call0.v1
abbrev r16 := main_call0.v2
abbrev r17 := main_call0.v3
abbrev r247 := main_call0.call0.v171
abbrev r252 := main_call0.call0.v175
abbrev r253 := main_call0.v16
abbrev r254 := main_call0.c_1
abbrev r255 := main_call0.v17
abbrev r256 := main_call0.v18
abbrev r257 := main_call0.c_2
abbrev r258 := main_call0.v19
abbrev r259 := main_call0.v20
abbrev r260 := main_call0.v21
abbrev r261 := main_call0.cst
abbrev r262 := main_call0.v22
abbrev r263 := main_call0.v23
abbrev r264 := main_call0.v24
abbrev r265 := main_call0.v25
abbrev r266 := main_call0.v26
abbrev r267 := main_call0.v27
abbrev r268 := main_call0.v28
abbrev r269 := main_call0.v29
abbrev r270 := main_call0.v30
abbrev r271 : TRef sig ⟨S2048, .f32⟩ := .of main_v8
abbrev r272 : TRef sig ⟨S2048, .f32⟩ := .of main_v9
abbrev r273 : TRef sig ⟨S2048, .f32⟩ := .of main_v10
abbrev r274 : TRef sig ⟨S2048, .f32⟩ := .of main_v11
abbrev r275 : TRef sig ⟨S2048, .f32⟩ := .of main_v12
abbrev r276 : TRef sig ⟨S_, .f32⟩ := .of main_cst_3
abbrev r277 : TRef sig ⟨S2048, .f32⟩ := .of main_v13
abbrev r278 : TRef sig ⟨S2048, .f32⟩ := .of main_v14
abbrev r279 : TRef sig ⟨S_, .f32⟩ := .of main_cst_4
abbrev r280 : TRef sig ⟨S_, .f32⟩ := .of main_v15
abbrev r281 : TRef sig ⟨S_, .f32⟩ := .of main_cst_5
abbrev r282 : TRef sig ⟨S_, .f32⟩ := .of main_v16
abbrev r283 : TRef sig ⟨S1, .f32⟩ := .of main_v17
abbrev r284 : TRef sig ⟨S2048, .f32⟩ := .of main_v18
abbrev r285 : TRef sig ⟨S2048, .f32⟩ := .of main_v19
abbrev r286 : TRef sig ⟨S2048, .f32⟩ := .of main_v20
abbrev r287 : TRef sig ⟨S_, .f32⟩ := .of main_cst_6
abbrev r288 : TRef sig ⟨S_, .f32⟩ := .of main_v21
abbrev r289 : TRef sig ⟨S1, .f32⟩ := .of main_v22
abbrev r290 : TRef sig ⟨S2048, .f32⟩ := .of main_v23
abbrev r291 : TRef sig ⟨S2048, .f32⟩ := .of main_v24
abbrev r292 := main_call1.v0
abbrev r293 := main_call1.cst
abbrev r294 := main_call1.c
abbrev r295 := main_call1.v1_0
abbrev r296 := main_call1.v1_1
abbrev r297 := main_call2.v0
abbrev r298 := main_call2.v1
abbrev r299 := main_call2.v2
abbrev r300 := main_call2.v3
abbrev r301 := main_call2.v4
abbrev r302 : TRef sig ⟨S2048, .f32⟩ := .of main_v27
abbrev r303 : TRef sig ⟨S2048, .f32⟩ := .of main_v28
abbrev r304 : TRef sig ⟨S_, .f32⟩ := .of main_cst_7
abbrev r305 : TRef sig ⟨S2048, .f32⟩ := .of main_v29
abbrev r306 : TRef sig ⟨S2048, .f32⟩ := .of main_v30
abbrev r307 : TRef sig ⟨S2048, .f32⟩ := .of main_v31
abbrev r308 : TRef sig ⟨S_, .i32⟩ := .of main_c_8
abbrev r309 : TRef sig ⟨S_, .i32⟩ := .of main_c_9
abbrev r310 : TRef sig ⟨S_, .i32⟩ := .of main_v32
abbrev r311 : TRef sig ⟨S_, .i32⟩ := .of main_v33
abbrev r312 : TRef sig ⟨S1, .i32⟩ := .of main_v34
abbrev r313 : TRef sig ⟨S_, .i32⟩ := .of main_c_10
abbrev r314 : TRef sig ⟨S_, .i32⟩ := .of main_v35
abbrev r315 : TRef sig ⟨S_, .i32⟩ := .of main_v36
abbrev r316 : TRef sig ⟨S1, .i32⟩ := .of main_v37
abbrev r317 : TRef sig ⟨S2, .i32⟩ := .of main_v38
abbrev r318 := main_call3.cst
abbrev r319 := main_call3.cst_0
abbrev r320 := main_call3.call0.v0
abbrev r321 := main_call3.call0.v1
abbrev r322 := main_call3.call0.v2
abbrev r323 := main_call3.call0.v3
abbrev r324 := main_call3.call0.v4
abbrev r325 := main_call3.call0.v5
abbrev r326 := main_call3.call0.v6
abbrev r327 := main_call3.call0.v7
abbrev r328 := main_call3.call0.v8
abbrev r329 := main_call3.call0.c
abbrev r330 := main_call3.call0.v9
abbrev r331 := main_call3.call0.v10
abbrev r332 := main_call3.call0.c_0
abbrev r333 := main_call3.call0.v11
abbrev r334 := main_call3.call0.v12
abbrev r335 := main_call3.call0.v13
abbrev r336 := main_call3.call0.c_1
abbrev r337 := main_call3.call0.v14
abbrev r338 := main_call3.call0.v15
abbrev r339 := main_call3.call0.v16
abbrev r340 := main_call3.call0.v17
abbrev r557 := main_call3.call0.call0.v171
abbrev r562 := main_call3.call0.call0.v175
abbrev r563 := main_call3.call0.v19
abbrev r564 := main_call3.call0.c_2
abbrev r565 := main_call3.call0.v20
abbrev r566 := main_call3.call0.v21
abbrev r567 := main_call3.call0.c_3
abbrev r568 := main_call3.call0.v22
abbrev r569 := main_call3.call0.v23
abbrev r570 := main_call3.call0.v24
abbrev r571 := main_call3.call0.cst
abbrev r572 := main_call3.call0.v25
abbrev r573 := main_call3.call0.v26
abbrev r574 := main_call3.call0.v27
abbrev r575 := main_call3.call0.v28
abbrev r576 := main_call3.call0.v29
abbrev r577 := main_call3.call0.v30
abbrev r578 := main_call3.call0.v31
abbrev r579 := main_call3.call0.v32
abbrev r580 := main_call3.call0.v33
abbrev r581 := main_call3.v1
abbrev r582 := main_call3.v2
abbrev r583 := main_call3.v3
abbrev r584 := main_call3.v4
abbrev r585 : TRef sig ⟨S1x2048, .f32⟩ := .of main_v40
abbrev r586 : TRef sig ⟨S1x2048, .f32⟩ := .of main_v41
abbrev r587 := main_call4.v0
abbrev r588 := main_call4.cst
abbrev r589 := main_call4.c
abbrev r590 := main_call4.v1_0
abbrev r591 := main_call4.v1_1
abbrev r592 := main_call5.c
abbrev r593 := main_call5.v0
abbrev r594 := main_call5.v1
abbrev r595 := main_call5.c_0
abbrev r596 := main_call5.v2
abbrev r597 := main_call5.v3
abbrev r598 := main_call5.call0.v0
abbrev r599 := main_call5.v5
abbrev r600 := main_call5.c_1
abbrev r601 := main_call5.c_2
abbrev r602 := main_call5.v6
abbrev r603 := main_call5.v7
abbrev r604 := main_call5.v8
abbrev r605 := main_call5.v9
abbrev r606 := main_call5.v10
abbrev r607 := main_call5.c_3
abbrev r608 := main_call5.v11
abbrev r609 := main_call5.v12
abbrev r610 := main_call5.v13
abbrev r611 := main_call5.cst
abbrev r612 := main_call5.v14
abbrev r613 := main_call5.v15

variable {F : FTy → Type} [FloatOps F] (V : Valuation τ sig (Elt F))

theorem e2 : R V r2 = (constantI S_ 32 42#32) :=
  val_nullary line_m V (y := r2) (mem_seg sub_m_a (k := 0) rfl)
theorem e3 : R V r3 = (constantI S_ 32 32#32) :=
  val_nullary line_m V (y := r3) (mem_seg sub_m_a (k := 1) rfl)
theorem e4 : R V r4 = (Host.shrui) (R V r2) (R V r3) :=
  val_binary line_m V (a := r2) (b := r3) (y := r4) (mem_seg sub_m_a (k := 2) rfl) (by decide) (by decide)
theorem e5 : R V r5 = (id) (R V r4) :=
  val_unary line_m V (x := r4) (y := r5) (mem_seg sub_m_a (k := 3) rfl) (by decide)
theorem e6 : R V r6 = (broadcastInDim S1 ![] bcast_S_S1) (R V r5) :=
  val_unary line_m V (x := r5) (y := r6) (mem_seg sub_m_a (k := 4) rfl) (by decide)
theorem e7 : R V r7 = (constantI S_ 32 4294967295#32) :=
  val_nullary line_m V (y := r7) (mem_seg sub_m_a (k := 5) rfl)
theorem e8 : R V r8 = (andi) (R V r2) (R V r7) :=
  val_binary line_m V (a := r2) (b := r7) (y := r8) (mem_seg sub_m_a (k := 6) rfl) (by decide) (by decide)
theorem e9 : R V r9 = (id) (R V r8) :=
  val_unary line_m V (x := r8) (y := r9) (mem_seg sub_m_a (k := 7) rfl) (by decide)
theorem e10 : R V r10 = (broadcastInDim S1 ![] bcast_S_S1) (R V r9) :=
  val_unary line_m V (x := r9) (y := r10) (mem_seg sub_m_a (k := 8) rfl) (by decide)
theorem e11 : R V r11 = ((fun a b => concatenate S2 0 [⟨S1, a⟩, ⟨S1, b⟩] concatenates_S1_S1_S2_d0)) (R V r6) (R V r10) :=
  val_binary line_m V (a := r6) (b := r10) (y := r11) (f := ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (mem_seg sub_m_a (k := 9) rfl) (by decide) (by decide)
theorem e12 : R V r12 = (constant S_ .f32 0x2EDBE6FF#32) :=
  val_nullary line_m V (y := r12) (mem_seg sub_m_a (k := 10) rfl)
theorem e13 : R V r13 = (constant S_ .f32 0x3F800000#32) :=
  val_nullary line_m V (y := r13) (mem_seg sub_m_a (k := 11) rfl)
theorem e14 : R V r14 = id (R V r12) :=
  val_unary line_m V (x := r12) (y := r14) (mem_seg sub_m_c0_a (k := 0) rfl) (by decide)
theorem e15 : R V r15 = id (R V r13) :=
  val_unary line_m V (x := r13) (y := r15) (mem_seg sub_m_c0_a (k := 1) rfl) (by decide)
theorem e16 : R V r16 = (broadcastInDim S1 ![] bcast_S_S1) (R V r14) :=
  val_unary line_m V (x := r14) (y := r16) (mem_seg sub_m_c0_a (k := 2) rfl) (by decide)
theorem e17 : R V r17 = (broadcastInDim S1 ![] bcast_S_S1) (R V r15) :=
  val_unary line_m V (x := r15) (y := r17) (mem_seg sub_m_c0_a (k := 3) rfl) (by decide)
theorem e253 : R V r253 = xori (R V r247) (R V r252) :=
  val_binary line_m V (a := r247) (b := r252) (y := r253) (mem_seg sub_m_c0_b (k := 0) rfl) (by decide) (by decide)
theorem e254 : R V r254 = (constantI S_ 32 9#32) :=
  val_nullary line_m V (y := r254) (mem_seg sub_m_c0_b (k := 1) rfl)
theorem e255 : R V r255 = (broadcastInDim S2048 ![] bcast_S_S2048) (R V r254) :=
  val_unary line_m V (x := r254) (y := r255) (mem_seg sub_m_c0_b (k := 2) rfl) (by decide)
theorem e256 : R V r256 = Host.shrui (R V r253) (R V r255) :=
  val_binary line_m V (a := r253) (b := r255) (y := r256) (mem_seg sub_m_c0_b (k := 3) rfl) (by decide) (by decide)
theorem e257 : R V r257 = (constantI S_ 32 1065353216#32) :=
  val_nullary line_m V (y := r257) (mem_seg sub_m_c0_b (k := 4) rfl)
theorem e258 : R V r258 = (broadcastInDim S2048 ![] bcast_S_S2048) (R V r257) :=
  val_unary line_m V (x := r257) (y := r258) (mem_seg sub_m_c0_b (k := 5) rfl) (by decide)
theorem e259 : R V r259 = ori (R V r256) (R V r258) :=
  val_binary line_m V (a := r256) (b := r258) (y := r259) (mem_seg sub_m_c0_b (k := 6) rfl) (by decide) (by decide)
theorem e260 : R V r260 = (bitcastToFloat .f32) (R V r259) :=
  val_unary line_m V (x := r259) (y := r260) (mem_seg sub_m_c0_b (k := 7) rfl) (by decide)
theorem e261 : R V r261 = (constant S_ .f32 0x3F800000#32) :=
  val_nullary line_m V (y := r261) (mem_seg sub_m_c0_b (k := 8) rfl)
theorem e262 : R V r262 = (broadcastInDim S2048 ![] bcast_S_S2048) (R V r261) :=
  val_unary line_m V (x := r261) (y := r262) (mem_seg sub_m_c0_b (k := 9) rfl) (by decide)
theorem e263 : R V r263 = subf (R V r260) (R V r262) :=
  val_binary line_m V (a := r260) (b := r262) (y := r263) (mem_seg sub_m_c0_b (k := 10) rfl) (by decide) (by decide)
theorem e264 : R V r264 = subf (R V r17) (R V r16) :=
  val_binary line_m V (a := r17) (b := r16) (y := r264) (mem_seg sub_m_c0_b (k := 11) rfl) (by decide) (by decide)
theorem e265 : R V r265 = (broadcastInDim S2048 ![0] bcast_S1_S2048_0) (R V r264) :=
  val_unary line_m V (x := r264) (y := r265) (mem_seg sub_m_c0_b (k := 12) rfl) (by decide)
theorem e266 : R V r266 = mulf (R V r263) (R V r265) :=
  val_binary line_m V (a := r263) (b := r265) (y := r266) (mem_seg sub_m_c0_b (k := 13) rfl) (by decide) (by decide)
theorem e267 : R V r267 = (broadcastInDim S2048 ![0] bcast_S1_S2048_0) (R V r16) :=
  val_unary line_m V (x := r16) (y := r267) (mem_seg sub_m_c0_b (k := 14) rfl) (by decide)
theorem e268 : R V r268 = addf (R V r266) (R V r267) :=
  val_binary line_m V (a := r266) (b := r267) (y := r268) (mem_seg sub_m_c0_b (k := 15) rfl) (by decide) (by decide)
theorem e269 : R V r269 = (broadcastInDim S2048 ![0] bcast_S1_S2048_0) (R V r16) :=
  val_unary line_m V (x := r16) (y := r269) (mem_seg sub_m_c0_b (k := 16) rfl) (by decide)
theorem e270 : R V r270 = maximumf (R V r269) (R V r268) :=
  val_binary line_m V (a := r269) (b := r268) (y := r270) (mem_seg sub_m_c0_b (k := 17) rfl) (by decide) (by decide)
theorem e271 : R V r271 = (Host.log) (R V r270) :=
  val_unary line_m V (x := r270) (y := r271) (mem_seg sub_m_b (k := 0) rfl) (by decide)
theorem e272 : R V r272 = (Host.negf) (R V r271) :=
  val_unary line_m V (x := r271) (y := r272) (mem_seg sub_m_b (k := 1) rfl) (by decide)
theorem e273 : R V r273 = (Host.log) (R V r272) :=
  val_unary line_m V (x := r272) (y := r273) (mem_seg sub_m_b (k := 2) rfl) (by decide)
theorem e274 : R V r274 = (Host.negf) (R V r273) :=
  val_unary line_m V (x := r273) (y := r274) (mem_seg sub_m_b (k := 3) rfl) (by decide)
theorem e275 : R V r275 = (addf) (R V r1) (R V r274) :=
  val_binary line_m V (a := r1) (b := r274) (y := r275) (mem_seg sub_m_b (k := 4) rfl) (by decide) (by decide)
theorem e276 : R V r276 = (constant S_ .f32 0x3C23D70A#32) :=
  val_nullary line_m V (y := r276) (mem_seg sub_m_b (k := 5) rfl)
theorem e277 : R V r277 = (broadcastInDim S2048 ![] bcast_S_S2048) (R V r276) :=
  val_unary line_m V (x := r276) (y := r277) (mem_seg sub_m_b (k := 6) rfl) (by decide)
theorem e278 : R V r278 = (Host.divf) (R V r275) (R V r277) :=
  val_binary line_m V (a := r275) (b := r277) (y := r278) (mem_seg sub_m_b (k := 7) rfl) (by decide) (by decide)
theorem e279 : R V r279 = (constant S_ .f32 0xFF800000#32) :=
  val_nullary line_m V (y := r279) (mem_seg sub_m_b (k := 8) rfl)
theorem e280 : R V r280 = ((fun x v => Host.reduce FloatOps.maximumf x v reducesTo_S2048_S_d0 h_S_)) (R V r278) (R V r279) :=
  val_binary line_m V (a := r278) (b := r279) (y := r280) (f := ((fun x v => Host.reduce FloatOps.maximumf x v reducesTo_S2048_S_d0 h_S_) : (⟨S2048, .f32⟩ : BufTy).Contents (Elt F) → (⟨S_, .f32⟩ : BufTy).Contents (Elt F) → (⟨S_, .f32⟩ : BufTy).Contents (Elt F))) (mem_seg sub_m_b (k := 9) rfl) (by decide) (by decide)
theorem e281 : R V r281 = (constant S_ .f32 0xFF800000#32) :=
  val_nullary line_m V (y := r281) (mem_seg sub_m_b (k := 10) rfl)
theorem e282 : R V r282 = (maximumf) (R V r281) (R V r280) :=
  val_binary line_m V (a := r281) (b := r280) (y := r282) (mem_seg sub_m_b (k := 11) rfl) (by decide) (by decide)
theorem e283 : R V r283 = (broadcastInDim S1 ![] bcast_S_S1) (R V r282) :=
  val_unary line_m V (x := r282) (y := r283) (mem_seg sub_m_b (k := 12) rfl) (by decide)
theorem e284 : R V r284 = (broadcastInDim S2048 ![0] bcast_S1_S2048_0) (R V r283) :=
  val_unary line_m V (x := r283) (y := r284) (mem_seg sub_m_b (k := 13) rfl) (by decide)
theorem e285 : R V r285 = (subf) (R V r278) (R V r284) :=
  val_binary line_m V (a := r278) (b := r284) (y := r285) (mem_seg sub_m_b (k := 14) rfl) (by decide) (by decide)
theorem e286 : R V r286 = (Host.exp) (R V r285) :=
  val_unary line_m V (x := r285) (y := r286) (mem_seg sub_m_b (k := 15) rfl) (by decide)
theorem e287 : R V r287 = (constant S_ .f32 0x00000000#32) :=
  val_nullary line_m V (y := r287) (mem_seg sub_m_b (k := 16) rfl)
theorem e288 : R V r288 = ((fun x v => Host.reduceAdd x v reducesTo_S2048_S_d0 h_S_)) (R V r286) (R V r287) :=
  val_binary line_m V (a := r286) (b := r287) (y := r288) (f := ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F))) (mem_seg sub_m_b (k := 17) rfl) (by decide) (by decide)
theorem e289 : R V r289 = (broadcastInDim S1 ![] bcast_S_S1) (R V r288) :=
  val_unary line_m V (x := r288) (y := r289) (mem_seg sub_m_b (k := 18) rfl) (by decide)
theorem e290 : R V r290 = (broadcastInDim S2048 ![0] bcast_S1_S2048_0) (R V r289) :=
  val_unary line_m V (x := r289) (y := r290) (mem_seg sub_m_b (k := 19) rfl) (by decide)
theorem e291 : R V r291 = (Host.divf) (R V r286) (R V r290) :=
  val_binary line_m V (a := r286) (b := r290) (y := r291) (mem_seg sub_m_b (k := 20) rfl) (by decide) (by decide)
theorem e292 : R V r292 = (iotaInDim S2048 32 0) :=
  val_nullary line_m V (y := r292) (mem_seg sub_m_c1_a (k := 0) rfl)
theorem e293 : R V r293 = (constant S_ .f32 0xFF800000#32) :=
  val_nullary line_m V (y := r293) (mem_seg sub_m_c1_a (k := 1) rfl)
theorem e294 : R V r294 = (constantI S_ 32 0#32) :=
  val_nullary line_m V (y := r294) (mem_seg sub_m_c1_a (k := 2) rfl)
theorem e295 : R V r295 = (fun x y u v j => (Host.argReduce reducer_argmax_f32_i32 x y u v reducesTo_S2048_S_d0 h_S_ j).1) (R V r291) (R V r292) (R V r293) (R V r294) :=
  val_quaternary line_m V (a := r291) (b := r292) (c := r293) (e := r294) (y := r295) (mem_seg sub_m_c1_a (k := 3) rfl) (by decide) (by decide) (by decide) (by decide)
theorem e296 : R V r296 = (fun x y u v j => (Host.argReduce reducer_argmax_f32_i32 x y u v reducesTo_S2048_S_d0 h_S_ j).2) (R V r291) (R V r292) (R V r293) (R V r294) :=
  val_quaternary line_m V (a := r291) (b := r292) (c := r293) (e := r294) (y := r296) (mem_seg sub_m_c1_a (k := 4) rfl) (by decide) (by decide) (by decide) (by decide)
theorem e297 : R V r297 = (broadcastInDim S1 ![] bcast_S_S1) (R V r296) :=
  val_unary line_m V (x := r296) (y := r297) (mem_seg sub_m_c2_a (k := 0) rfl) (by decide)
theorem e298 : R V r298 = (iotaInDim S2048 32 0) :=
  val_nullary line_m V (y := r298) (mem_seg sub_m_c2_a (k := 1) rfl)
theorem e299 : R V r299 = (broadcastInDim S2048 ![0] bcast_S1_S2048_0) (R V r297) :=
  val_unary line_m V (x := r297) (y := r299) (mem_seg sub_m_c2_a (k := 2) rfl) (by decide)
theorem e300 : R V r300 = (cmpi .eq) (R V r299) (R V r298) :=
  val_binary line_m V (a := r299) (b := r298) (y := r300) (mem_seg sub_m_c2_a (k := 3) rfl) (by decide) (by decide)
theorem e301 : R V r301 = (uitofp .f32) (R V r300) :=
  val_unary line_m V (x := r300) (y := r301) (mem_seg sub_m_c2_a (k := 4) rfl) (by decide)
theorem e302 : R V r302 = (subf) (R V r301) (R V r291) :=
  val_binary line_m V (a := r301) (b := r291) (y := r302) (mem_seg sub_m_c (k := 0) rfl) (by decide) (by decide)
theorem e303 : R V r303 = (addf) (R V r302) (R V r291) :=
  val_binary line_m V (a := r302) (b := r291) (y := r303) (mem_seg sub_m_c (k := 1) rfl) (by decide) (by decide)
theorem e304 : R V r304 = (constant S_ .f32 0x1E3CE508#32) :=
  val_nullary line_m V (y := r304) (mem_seg sub_m_c (k := 2) rfl)
theorem e305 : R V r305 = (broadcastInDim S2048 ![] bcast_S_S2048) (R V r304) :=
  val_unary line_m V (x := r304) (y := r305) (mem_seg sub_m_c (k := 3) rfl) (by decide)
theorem e306 : R V r306 = (addf) (R V r303) (R V r305) :=
  val_binary line_m V (a := r303) (b := r305) (y := r306) (mem_seg sub_m_c (k := 4) rfl) (by decide) (by decide)
theorem e307 : R V r307 = (Host.log) (R V r306) :=
  val_unary line_m V (x := r306) (y := r307) (mem_seg sub_m_c (k := 5) rfl) (by decide)
theorem e308 : R V r308 = (constantI S_ 32 7#32) :=
  val_nullary line_m V (y := r308) (mem_seg sub_m_c (k := 6) rfl)
theorem e309 : R V r309 = (constantI S_ 32 32#32) :=
  val_nullary line_m V (y := r309) (mem_seg sub_m_c (k := 7) rfl)
theorem e310 : R V r310 = (Host.shrui) (R V r308) (R V r309) :=
  val_binary line_m V (a := r308) (b := r309) (y := r310) (mem_seg sub_m_c (k := 8) rfl) (by decide) (by decide)
theorem e311 : R V r311 = (id) (R V r310) :=
  val_unary line_m V (x := r310) (y := r311) (mem_seg sub_m_c (k := 9) rfl) (by decide)
theorem e312 : R V r312 = (broadcastInDim S1 ![] bcast_S_S1) (R V r311) :=
  val_unary line_m V (x := r311) (y := r312) (mem_seg sub_m_c (k := 10) rfl) (by decide)
theorem e313 : R V r313 = (constantI S_ 32 4294967295#32) :=
  val_nullary line_m V (y := r313) (mem_seg sub_m_c (k := 11) rfl)
theorem e314 : R V r314 = (andi) (R V r308) (R V r313) :=
  val_binary line_m V (a := r308) (b := r313) (y := r314) (mem_seg sub_m_c (k := 12) rfl) (by decide) (by decide)
theorem e315 : R V r315 = (id) (R V r314) :=
  val_unary line_m V (x := r314) (y := r315) (mem_seg sub_m_c (k := 13) rfl) (by decide)
theorem e316 : R V r316 = (broadcastInDim S1 ![] bcast_S_S1) (R V r315) :=
  val_unary line_m V (x := r315) (y := r316) (mem_seg sub_m_c (k := 14) rfl) (by decide)
theorem e317 : R V r317 = ((fun a b => concatenate S2 0 [⟨S1, a⟩, ⟨S1, b⟩] concatenates_S1_S1_S2_d0)) (R V r312) (R V r316) :=
  val_binary line_m V (a := r312) (b := r316) (y := r317) (f := ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (mem_seg sub_m_c (k := 15) rfl) (by decide) (by decide)
theorem e318 : R V r318 = (constant S_ .f32 0x3F800000#32) :=
  val_nullary line_m V (y := r318) (mem_seg sub_m_c3_a (k := 0) rfl)
theorem e319 : R V r319 = (constant S_ .f32 0x00800000#32) :=
  val_nullary line_m V (y := r319) (mem_seg sub_m_c3_a (k := 1) rfl)
theorem e320 : R V r320 = id (R V r318) :=
  val_unary line_m V (x := r318) (y := r320) (mem_seg sub_m_c3_c0_a (k := 0) rfl) (by decide)
theorem e321 : R V r321 = (broadcastInDim S1x1 ![] bcast_S_S1x1) (R V r319) :=
  val_unary line_m V (x := r319) (y := r321) (mem_seg sub_m_c3_c0_a (k := 1) rfl) (by decide)
theorem e322 : R V r322 = (broadcastInDim S1x1 ![] bcast_S_S1x1) (R V r320) :=
  val_unary line_m V (x := r320) (y := r322) (mem_seg sub_m_c3_c0_a (k := 2) rfl) (by decide)
theorem e323 : R V r323 = (extractStridedSlice S1 ![0] · slices_S2_S1_0) (R V r317) :=
  val_unary line_m V (x := r317) (y := r323) (mem_seg sub_m_c3_c0_a (k := 3) rfl) (by decide)
theorem e325 : R V r325 = (extractStridedSlice S1 ![1] · slices_S2_S1_1) (R V r317) :=
  val_unary line_m V (x := r317) (y := r325) (mem_seg sub_m_c3_c0_a (k := 5) rfl) (by decide)
theorem e327 : R V r327 = (iotaInDim S1x2048 64 0) :=
  val_nullary line_m V (y := r327) (mem_seg sub_m_c3_c0_a (k := 7) rfl)
theorem e328 : R V r328 = (iotaInDim S1x2048 64 1) :=
  val_nullary line_m V (y := r328) (mem_seg sub_m_c3_c0_a (k := 8) rfl)
theorem e329 : R V r329 = (constantI S_ 64 2048#64) :=
  val_nullary line_m V (y := r329) (mem_seg sub_m_c3_c0_a (k := 9) rfl)
theorem e330 : R V r330 = (broadcastInDim S1x2048 ![] bcast_S_S1x2048) (R V r329) :=
  val_unary line_m V (x := r329) (y := r330) (mem_seg sub_m_c3_c0_a (k := 10) rfl) (by decide)
theorem e331 : R V r331 = muli (R V r330) (R V r327) :=
  val_binary line_m V (a := r330) (b := r327) (y := r331) (mem_seg sub_m_c3_c0_a (k := 11) rfl) (by decide) (by decide)
theorem e332 : R V r332 = (constantI S_ 64 1#64) :=
  val_nullary line_m V (y := r332) (mem_seg sub_m_c3_c0_a (k := 12) rfl)
theorem e333 : R V r333 = (broadcastInDim S1x2048 ![] bcast_S_S1x2048) (R V r332) :=
  val_unary line_m V (x := r332) (y := r333) (mem_seg sub_m_c3_c0_a (k := 13) rfl) (by decide)
theorem e334 : R V r334 = muli (R V r333) (R V r328) :=
  val_binary line_m V (a := r333) (b := r328) (y := r334) (mem_seg sub_m_c3_c0_a (k := 14) rfl) (by decide) (by decide)
theorem e335 : R V r335 = addi (R V r331) (R V r334) :=
  val_binary line_m V (a := r331) (b := r334) (y := r335) (mem_seg sub_m_c3_c0_a (k := 15) rfl) (by decide) (by decide)
theorem e336 : R V r336 = (constantI S_ 64 32#64) :=
  val_nullary line_m V (y := r336) (mem_seg sub_m_c3_c0_a (k := 16) rfl)
theorem e337 : R V r337 = (broadcastInDim S1x2048 ![] bcast_S_S1x2048) (R V r336) :=
  val_unary line_m V (x := r336) (y := r337) (mem_seg sub_m_c3_c0_a (k := 17) rfl) (by decide)
theorem e338 : R V r338 = Host.shrui (R V r335) (R V r337) :=
  val_binary line_m V (a := r335) (b := r337) (y := r338) (mem_seg sub_m_c3_c0_a (k := 18) rfl) (by decide) (by decide)
theorem e339 : R V r339 = (trunci 32 · natLt_32_64) (R V r335) :=
  val_unary line_m V (x := r335) (y := r339) (mem_seg sub_m_c3_c0_a (k := 19) rfl) (by decide)
theorem e340 : R V r340 = (trunci 32 · natLt_32_64) (R V r338) :=
  val_unary line_m V (x := r338) (y := r340) (mem_seg sub_m_c3_c0_a (k := 20) rfl) (by decide)
theorem e563 : R V r563 = xori (R V r557) (R V r562) :=
  val_binary line_m V (a := r557) (b := r562) (y := r563) (mem_seg sub_m_c3_c0_b (k := 0) rfl) (by decide) (by decide)
theorem e564 : R V r564 = (constantI S_ 32 9#32) :=
  val_nullary line_m V (y := r564) (mem_seg sub_m_c3_c0_b (k := 1) rfl)
theorem e565 : R V r565 = (broadcastInDim S1x2048 ![] bcast_S_S1x2048) (R V r564) :=
  val_unary line_m V (x := r564) (y := r565) (mem_seg sub_m_c3_c0_b (k := 2) rfl) (by decide)
theorem e566 : R V r566 = Host.shrui (R V r563) (R V r565) :=
  val_binary line_m V (a := r563) (b := r565) (y := r566) (mem_seg sub_m_c3_c0_b (k := 3) rfl) (by decide) (by decide)
theorem e567 : R V r567 = (constantI S_ 32 1065353216#32) :=
  val_nullary line_m V (y := r567) (mem_seg sub_m_c3_c0_b (k := 4) rfl)
theorem e568 : R V r568 = (broadcastInDim S1x2048 ![] bcast_S_S1x2048) (R V r567) :=
  val_unary line_m V (x := r567) (y := r568) (mem_seg sub_m_c3_c0_b (k := 5) rfl) (by decide)
theorem e569 : R V r569 = ori (R V r566) (R V r568) :=
  val_binary line_m V (a := r566) (b := r568) (y := r569) (mem_seg sub_m_c3_c0_b (k := 6) rfl) (by decide) (by decide)
theorem e570 : R V r570 = (bitcastToFloat .f32) (R V r569) :=
  val_unary line_m V (x := r569) (y := r570) (mem_seg sub_m_c3_c0_b (k := 7) rfl) (by decide)
theorem e571 : R V r571 = (constant S_ .f32 0x3F800000#32) :=
  val_nullary line_m V (y := r571) (mem_seg sub_m_c3_c0_b (k := 8) rfl)
theorem e572 : R V r572 = (broadcastInDim S1x2048 ![] bcast_S_S1x2048) (R V r571) :=
  val_unary line_m V (x := r571) (y := r572) (mem_seg sub_m_c3_c0_b (k := 9) rfl) (by decide)
theorem e573 : R V r573 = subf (R V r570) (R V r572) :=
  val_binary line_m V (a := r570) (b := r572) (y := r573) (mem_seg sub_m_c3_c0_b (k := 10) rfl) (by decide) (by decide)
theorem e574 : R V r574 = subf (R V r322) (R V r321) :=
  val_binary line_m V (a := r322) (b := r321) (y := r574) (mem_seg sub_m_c3_c0_b (k := 11) rfl) (by decide) (by decide)
theorem e575 : R V r575 = (broadcastInDim S1x2048 ![0, 1] bcast_S1x1_S1x2048_0_1) (R V r574) :=
  val_unary line_m V (x := r574) (y := r575) (mem_seg sub_m_c3_c0_b (k := 12) rfl) (by decide)
theorem e576 : R V r576 = mulf (R V r573) (R V r575) :=
  val_binary line_m V (a := r573) (b := r575) (y := r576) (mem_seg sub_m_c3_c0_b (k := 13) rfl) (by decide) (by decide)
theorem e577 : R V r577 = (broadcastInDim S1x2048 ![0, 1] bcast_S1x1_S1x2048_0_1) (R V r321) :=
  val_unary line_m V (x := r321) (y := r577) (mem_seg sub_m_c3_c0_b (k := 14) rfl) (by decide)
theorem e578 : R V r578 = addf (R V r576) (R V r577) :=
  val_binary line_m V (a := r576) (b := r577) (y := r578) (mem_seg sub_m_c3_c0_b (k := 15) rfl) (by decide) (by decide)
theorem e579 : R V r579 = (broadcastInDim S1x2048 ![0, 1] bcast_S1x1_S1x2048_0_1) (R V r321) :=
  val_unary line_m V (x := r321) (y := r579) (mem_seg sub_m_c3_c0_b (k := 16) rfl) (by decide)
theorem e580 : R V r580 = maximumf (R V r579) (R V r578) :=
  val_binary line_m V (a := r579) (b := r578) (y := r580) (mem_seg sub_m_c3_c0_b (k := 17) rfl) (by decide) (by decide)
theorem e581 : R V r581 = Host.log (R V r580) :=
  val_unary line_m V (x := r580) (y := r581) (mem_seg sub_m_c3_b (k := 0) rfl) (by decide)
theorem e582 : R V r582 = Host.negf (R V r581) :=
  val_unary line_m V (x := r581) (y := r582) (mem_seg sub_m_c3_b (k := 1) rfl) (by decide)
theorem e583 : R V r583 = Host.log (R V r582) :=
  val_unary line_m V (x := r582) (y := r583) (mem_seg sub_m_c3_b (k := 2) rfl) (by decide)
theorem e584 : R V r584 = Host.negf (R V r583) :=
  val_unary line_m V (x := r583) (y := r584) (mem_seg sub_m_c3_b (k := 3) rfl) (by decide)
theorem e585 : R V r585 = (broadcastInDim S1x2048 ![1] bcast_S2048_S1x2048_1) (R V r307) :=
  val_unary line_m V (x := r307) (y := r585) (mem_seg sub_m_d (k := 0) rfl) (by decide)
theorem e586 : R V r586 = (addf) (R V r584) (R V r585) :=
  val_binary line_m V (a := r584) (b := r585) (y := r586) (mem_seg sub_m_d (k := 1) rfl) (by decide) (by decide)
theorem e587 : R V r587 = (iotaInDim S1x2048 32 1) :=
  val_nullary line_m V (y := r587) (mem_seg sub_m_c4_a (k := 0) rfl)
theorem e588 : R V r588 = (constant S_ .f32 0xFF800000#32) :=
  val_nullary line_m V (y := r588) (mem_seg sub_m_c4_a (k := 1) rfl)
theorem e589 : R V r589 = (constantI S_ 32 0#32) :=
  val_nullary line_m V (y := r589) (mem_seg sub_m_c4_a (k := 2) rfl)
theorem e590 : R V r590 = (fun x y u v j => (Host.argReduce reducer_argmax_f32_i32 x y u v reducesTo_S1x2048_S1_d1 h_S_ j).1) (R V r586) (R V r587) (R V r588) (R V r589) :=
  val_quaternary line_m V (a := r586) (b := r587) (c := r588) (e := r589) (y := r590) (mem_seg sub_m_c4_a (k := 3) rfl) (by decide) (by decide) (by decide) (by decide)
theorem e591 : R V r591 = (fun x y u v j => (Host.argReduce reducer_argmax_f32_i32 x y u v reducesTo_S1x2048_S1_d1 h_S_ j).2) (R V r586) (R V r587) (R V r588) (R V r589) :=
  val_quaternary line_m V (a := r586) (b := r587) (c := r588) (e := r589) (y := r591) (mem_seg sub_m_c4_a (k := 4) rfl) (by decide) (by decide) (by decide) (by decide)
theorem e592 : R V r592 = (constantI S_ 32 0#32) :=
  val_nullary line_m V (y := r592) (mem_seg sub_m_c5_a (k := 0) rfl)
theorem e593 : R V r593 = (broadcastInDim S1 ![] bcast_S_S1) (R V r592) :=
  val_unary line_m V (x := r592) (y := r593) (mem_seg sub_m_c5_a (k := 1) rfl) (by decide)
theorem e594 : R V r594 = (cmpi .slt) (R V r591) (R V r593) :=
  val_binary line_m V (a := r591) (b := r593) (y := r594) (mem_seg sub_m_c5_a (k := 2) rfl) (by decide) (by decide)
theorem e595 : R V r595 = (constantI S_ 32 2048#32) :=
  val_nullary line_m V (y := r595) (mem_seg sub_m_c5_a (k := 3) rfl)
theorem e596 : R V r596 = (broadcastInDim S1 ![] bcast_S_S1) (R V r595) :=
  val_unary line_m V (x := r595) (y := r596) (mem_seg sub_m_c5_a (k := 4) rfl) (by decide)
theorem e597 : R V r597 = addi (R V r591) (R V r596) :=
  val_binary line_m V (a := r591) (b := r596) (y := r597) (mem_seg sub_m_c5_a (k := 5) rfl) (by decide) (by decide)
theorem e598 : R V r598 = (select : (⟨S1, .i1⟩ : BufTy).Contents (Elt F) → (⟨S1, .i32⟩ : BufTy).Contents (Elt F) → (⟨S1, .i32⟩ : BufTy).Contents (Elt F) → (⟨S1, .i32⟩ : BufTy).Contents (Elt F)) (R V r594) (R V r597) (R V r591) :=
  val_ternary line_m V (c := r594) (a := r597) (b := r591) (y := r598) (mem_seg sub_m_c5_c0_a (k := 0) rfl) (by decide) (by decide) (by decide)
theorem e599 : R V r599 = (broadcastInDim S1x1 ![0] bcast_S1_S1x1_0) (R V r598) :=
  val_unary line_m V (x := r598) (y := r599) (mem_seg sub_m_c5_b (k := 0) rfl) (by decide)
theorem e600 : R V r600 = (constantI S1 32 2047#32) :=
  val_nullary line_m V (y := r600) (mem_seg sub_m_c5_b (k := 1) rfl)
theorem e601 : R V r601 = (constantI S_ 32 0#32) :=
  val_nullary line_m V (y := r601) (mem_seg sub_m_c5_b (k := 2) rfl)
theorem e602 : R V r602 = (broadcastInDim S1x1 ![] bcast_S_S1x1) (R V r601) :=
  val_unary line_m V (x := r601) (y := r602) (mem_seg sub_m_c5_b (k := 3) rfl) (by decide)
theorem e603 : R V r603 = (cmpi .sge) (R V r599) (R V r602) :=
  val_binary line_m V (a := r599) (b := r602) (y := r603) (mem_seg sub_m_c5_b (k := 4) rfl) (by decide) (by decide)
theorem e604 : R V r604 = (broadcastInDim S1x1 ![1] bcast_S1_S1x1_1) (R V r600) :=
  val_unary line_m V (x := r600) (y := r604) (mem_seg sub_m_c5_b (k := 5) rfl) (by decide)
theorem e605 : R V r605 = (cmpi .sle) (R V r599) (R V r604) :=
  val_binary line_m V (a := r599) (b := r604) (y := r605) (mem_seg sub_m_c5_b (k := 6) rfl) (by decide) (by decide)
theorem e606 : R V r606 = andi (R V r603) (R V r605) :=
  val_binary line_m V (a := r603) (b := r605) (y := r606) (mem_seg sub_m_c5_b (k := 7) rfl) (by decide) (by decide)
theorem e607 : R V r607 = (constantI S_ 1 1#1) :=
  val_nullary line_m V (y := r607) (mem_seg sub_m_c5_b (k := 8) rfl)
theorem e608 : R V r608 = (fun x v => Host.reduce IntOp.andi x v reducesTo_S1x1_S1_d1 h_S_) (R V r606) (R V r607) :=
  val_binary line_m V (a := r606) (b := r607) (y := r608) (mem_seg sub_m_c5_b (k := 9) rfl) (by decide) (by decide)
theorem e609 : R V r609 = (fun x i => Host.gather gather_S4x4096x2048_S1x1_S4x4096x1_01_2_n_n_2_1_440961 x i) (R V r0) (R V r599) :=
  val_binary line_m V (a := r0) (b := r599) (y := r609) (mem_seg sub_m_c5_b (k := 10) rfl) (by decide) (by decide)
theorem e610 : R V r610 = (broadcastInDim S4x4096x1 ![2] bcast_S1_S4x4096x1_2) (R V r608) :=
  val_unary line_m V (x := r608) (y := r610) (mem_seg sub_m_c5_b (k := 11) rfl) (by decide)
theorem e611 : R V r611 = (constant S_ .f32 0x7FC00000#32) :=
  val_nullary line_m V (y := r611) (mem_seg sub_m_c5_b (k := 12) rfl)
theorem e612 : R V r612 = (broadcastInDim S4x4096x1 ![] bcast_S_S4x4096x1) (R V r611) :=
  val_unary line_m V (x := r611) (y := r612) (mem_seg sub_m_c5_b (k := 13) rfl) (by decide)
theorem e613 : R V r613 = (select : (⟨S4x4096x1, .i1⟩ : BufTy).Contents (Elt F) → (⟨S4x4096x1, .f32⟩ : BufTy).Contents (Elt F) → (⟨S4x4096x1, .f32⟩ : BufTy).Contents (Elt F) → (⟨S4x4096x1, .f32⟩ : BufTy).Contents (Elt F)) (R V r610) (R V r609) (R V r612) :=
  val_ternary line_m V (c := r610) (a := r609) (b := r612) (y := r613) (mem_seg sub_m_c5_b (k := 14) rfl) (by decide) (by decide) (by decide)

theorem e_arg0 : R V r0 = val V r0 := line_m.val_keep (by decide) V
theorem e_arg1 : R V r1 = val V r1 := line_m.val_keep (by decide) V

end Cert.Proof.RI

end
-- ==== Proof.RArg.lean ====
/-
The reference's arg-max over the extended reals: the first place at which a vector above −∞ is largest.
-/
module

public import proofs.«01_k».proof.Proof.Sel
public import proofs.«01_k».proof.Proof.HostR

@[expose] public section

noncomputable section

namespace Cert.Proof.RI

open Cert.ReferenceIdeal Cert.ReferenceIdeal.Gen
open Idealize.ShloMosaic

/-- One step of the arg-max. -/
abbrev red : EReal × BitVec 32 → EReal × BitVec 32 → EReal × BitVec 32 := reducer_argmax_f32_i32 (F := Ideal)

/-- The step keeps one of its two pairs: the greater value, and of equal values the lower place. -/
theorem red_spec (a b : EReal × BitVec 32) : (red a b = a ∨ red a b = b) ∧ ∀ p, p = a ∨ p = b → p.1 ≤ (red a b).1 ∧ (p.1 = (red a b).1 → (red a b).2.toInt ≤ p.2.toInt) := by
  obtain ⟨x, i⟩ := a
  obtain ⟨y, j⟩ := b
  have e : red (x, i) (y, j) = (if y < x then x else y, if y < x ∨ x = y ∧ i.toInt < j.toInt then i else j) := by
    show (Scalar.select (BitVec.ofBool (decide (y < x)) ||| BitVec.ofBool (decide (x ≠ x))) x y,
      Scalar.select (BitVec.ofBool (decide (y < x)) ||| BitVec.ofBool (decide (x ≠ x)) ||| (BitVec.ofBool (decide (x = y)) &&& BitVec.ofBool (i.slt j))) i j) = _
    have hs : i.slt j = decide (i.toInt < j.toInt) := rfl
    rw [hs]
    unfold Scalar.select
    by_cases h1 : y < x <;> by_cases h2 : x = y <;> by_cases h3 : i.toInt < j.toInt <;> simp [h1, h2, h3]
  rw [e]
  rcases lt_trichotomy y x with h | h | h
  · rw [if_pos h, if_pos (.inl h)]
    refine ⟨.inl rfl, ?_⟩
    rintro p (rfl | rfl)
    · exact ⟨le_rfl, fun _ => le_rfl⟩
    · exact ⟨h.le, fun e => absurd e h.ne⟩
  · subst h
    rw [if_neg (lt_irrefl _)]
    by_cases hij : i.toInt < j.toInt
    · rw [if_pos (.inr ⟨rfl, hij⟩)]
      refine ⟨.inl rfl, ?_⟩
      rintro p (rfl | rfl)
      · exact ⟨le_rfl, fun _ => le_rfl⟩
      · exact ⟨le_rfl, fun _ => hij.le⟩
    · rw [if_neg (fun h => h.elim (lt_irrefl _) (fun h => hij h.2))]
      refine ⟨.inr rfl, ?_⟩
      rintro p (rfl | rfl)
      · exact ⟨le_rfl, fun _ => not_lt.mp hij⟩
      · exact ⟨le_rfl, fun _ => le_rfl⟩
  · rw [if_neg h.not_gt, if_neg (fun e => e.elim h.not_gt (fun e => h.ne e.1))]
    refine ⟨.inr rfl, ?_⟩
    rintro p (rfl | rfl)
    · exact ⟨h.le, fun e => absurd e h.ne⟩
    · exact ⟨le_rfl, fun _ => le_rfl⟩

theorem fold_spec : ∀ (l : List (EReal × BitVec 32)) (a : EReal × BitVec 32),
    (l.foldl red a = a ∨ l.foldl red a ∈ l) ∧ ∀ p, p = a ∨ p ∈ l → p.1 ≤ (l.foldl red a).1 ∧ (p.1 = (l.foldl red a).1 → (l.foldl red a).2.toInt ≤ p.2.toInt)
  | [], a => ⟨.inl rfl, fun p h => h.elim (fun e => e ▸ ⟨le_rfl, fun _ => le_rfl⟩) (fun h => absurd h List.not_mem_nil)⟩
  | b :: l, a => by
    obtain ⟨hm, hp⟩ := fold_spec l (red a b)
    obtain ⟨rm, rp⟩ := red_spec a b
    rw [List.foldl_cons]
    refine ⟨?_, fun p h => ?_⟩
    · rcases hm with e | hm
      · rw [e]
        rcases rm with e' | e'
        · exact .inl e'
        · exact .inr (by rw [e']; exact List.mem_cons_self)
      · exact .inr (List.mem_cons_of_mem _ hm)
    · have h0 := hp _ (.inl rfl)
      have via : p = a ∨ p = b → _ := fun h' =>
        show p.1 ≤ (l.foldl red (red a b)).1 ∧ (p.1 = (l.foldl red (red a b)).1 → (l.foldl red (red a b)).2.toInt ≤ p.2.toInt) from by
          have h1 := rp p h'
          refine ⟨h1.1.trans h0.1, fun e => ?_⟩
          have e1 : p.1 = (red a b).1 := le_antisymm h1.1 (e ▸ h0.1)
          exact (h0.2 (e1 ▸ e)).trans (h1.2 e1)
      rcases h with h | h
      · exact via (.inl h)
      · rcases List.mem_cons.mp h with h | h
        · exact via (.inr h)
        · exact hp p (.inr h)

/-- The arg-max of a vector above −∞, whose axes all reduce to one place, is the lowest word among those of its largest values. -/
theorem argmax_spec {s t u : Shape} {axes : List (Fin s.rank)} (x : s.Idx → EReal) (y : s.Idx → BitVec 32) (ix : u.Idx → EReal) (iy : u.Idx → BitVec 32)
    (h : s.ReducesTo axes t) (hu : 0 < u.numel) (j : t.Idx) [Subsingleton t.Idx] [Nonempty s.Idx] (hx : ∀ i, ⊥ < x i) (hi : ∀ k, ix k = ⊥) :
    ∃ i₀, (Host.argReduce (F := Ideal) (φ := .f32) red x y ix iy h hu j).2 = y i₀ ∧ ∀ i, x i ≤ x i₀ ∧ (x i = x i₀ → (y i₀).toInt ≤ (y i).toInt) := by
  rw [Ideal.argReduce_eq_reduce2, Host.reduce2_eq_foldl_fiber]
  have hmem : ∀ i, (x i, y i) ∈ Host.argReduceFiber x y h j := fun i => by
    unfold Host.argReduceFiber
    refine List.mem_map.mpr ⟨s.rowMajor i, List.mem_filter.mpr ⟨List.mem_finRange _, decide_eq_true (Subsingleton.elim _ _)⟩, ?_⟩
    simp
  have hof : ∀ p ∈ Host.argReduceFiber x y h j, ∃ i, p = (x i, y i) := fun p hp => by
    unfold Host.argReduceFiber at hp
    obtain ⟨n, -, rfl⟩ := List.mem_map.mp hp
    exact ⟨_, rfl⟩
  obtain ⟨hm, hp⟩ := fold_spec (Host.argReduceFiber x y h j) (ix (Shape.Idx.first hu), iy (Shape.Idx.first hu))
  obtain ⟨i1⟩ := (inferInstance : Nonempty s.Idx)
  have hm' : ∃ i, (Host.argReduceFiber x y h j).foldl red (ix (Shape.Idx.first hu), iy (Shape.Idx.first hu)) = (x i, y i) := by
    rcases hm with e | hm
    · have := (hp _ (.inr (hmem i1))).1
      rw [e] at this
      exact absurd (this.trans_eq (hi _)) (not_le.mpr (hx i1))
    · exact hof _ hm
  obtain ⟨i0, e⟩ := hm'
  refine ⟨i0, congrArg Prod.snd e, fun i => ?_⟩
  have := hp _ (.inr (hmem i))
  rw [e] at this
  exact this

end Cert.Proof.RI

end
-- ==== Proof.Gum.lean ====
/-
Real numbers behind the noise: a uniform sample made from any word lies strictly between zero and one, so its Gumbel
noise is a real, and between −7·log 2 and 24·log 2 where the sample's least value is 2⁻¹²⁶.
-/
module

public import Idealize.ShloMosaic.PureOps.Ideal
public import Idealize.ShloMosaic.Lib.IdealHost

@[expose] public section

noncomputable section

namespace Cert.Proof

open Idealize.ShloMosaic

/-! ## Constants -/

theorem lit_one : Ideal.ofBits .f32 0x3F800000#32 = ((1 : ℝ) : EReal) := by
  rw [Idealize.ShloMosaic.Ideal.ofBits_one_f32]; rfl

theorem lit_tiny : Ideal.ofBits .f32 0x00800000#32 = (((2 : ℝ) ^ (-126 : ℤ) : ℝ) : EReal) := by
  simp [Ideal.ofBits, Ideal.ieee, -EReal.coe_mul]; norm_num

theorem lit_1em10 : Ideal.ofBits .f32 0x2EDBE6FF#32 = ((14411519 * (2 : ℝ) ^ (-57 : ℤ) : ℝ) : EReal) := by
  simp [Ideal.ofBits, Ideal.ieee, -EReal.coe_mul]

theorem lit_1em20 : Ideal.ofBits .f32 0x1E3CE508#32 = ((12379400 * (2 : ℝ) ^ (-90 : ℤ) : ℝ) : EReal) := by
  simp [Ideal.ofBits, Ideal.ieee, -EReal.coe_mul]

theorem lit_1em2 : Ideal.ofBits .f32 0x3C23D70A#32 = ((10737418 * (2 : ℝ) ^ (-30 : ℤ) : ℝ) : EReal) := by
  simp [Ideal.ofBits, Ideal.ieee, -EReal.coe_mul]

theorem lit_bot : Ideal.ofBits .f32 0xFF800000#32 = ⊥ := by
  simp [Ideal.ofBits, Ideal.ieee]

theorem lit_top : Ideal.ofBits .f32 0x7F800000#32 = ⊤ := by
  simp [Ideal.ofBits, Ideal.ieee]

/-! ## The mantissa's float -/

/-- A word whose top nine bits are those of `1.0`, minus one. -/
theorem mantissa (w : BitVec 32) : ∃ f : ℝ, Ideal.ofBits .f32 (w >>> 9 ||| 0x3F800000#32) = ((1 + f : ℝ) : EReal) ∧ 0 ≤ f ∧ f ≤ 1 - (2 : ℝ) ^ (-23 : ℤ) := by
  have h1 : (w >>> 9 ||| 0x3F800000#32).extractLsb' 31 1 = 0#1 := by
    ext i hi
    obtain rfl : i = 0 := by omega
    simp
  have h2 : (w >>> 9 ||| 0x3F800000#32).extractLsb' 23 8 = 127#8 := by
    ext i hi
    have : i = 0 ∨ i = 1 ∨ i = 2 ∨ i = 3 ∨ i = 4 ∨ i = 5 ∨ i = 6 ∨ i = 7 := by omega
    rcases this with rfl | rfl | rfl | rfl | rfl | rfl | rfl | rfl <;> simp
  obtain ⟨n, hn⟩ : ∃ n, n = ((w >>> 9 ||| 0x3F800000#32).extractLsb' 0 23).toNat := ⟨_, rfl⟩
  have hl : n < 2 ^ 23 := by rw [hn]; exact BitVec.isLt _
  refine ⟨n * (2 : ℝ) ^ (-23 : ℤ), ?_, by positivity, ?_⟩
  · show Ideal.ieee 8 23 _ = _
    unfold Ideal.ieee
    simp only [show (8 + 23 : ℕ) = 31 from rfl, h1, h2, ← hn]
    norm_num
    norm_cast
    push_cast
    ring
  · have : (n : ℝ) ≤ 2 ^ 23 - 1 := by
      have : n + 1 ≤ 2 ^ 23 := hl
      have h : ((n + 1 : ℕ) : ℝ) ≤ ((2 ^ 23 : ℕ) : ℝ) := Nat.cast_le.mpr this
      push_cast at h
      linarith
    rw [show (2 : ℝ) ^ 23 = 8388608 by norm_num] at this
    norm_num
    linarith

/-! ## The noise -/

/-- The sample on `[lo, hi)` made from a word. -/
def uni (lo hi : EReal) (w : BitVec 32) : EReal :=
  max lo ((Ideal.ofBits .f32 (w >>> 9 ||| 0x3F800000#32) - Ideal.ofBits .f32 0x3F800000#32) * (hi - lo) + lo)

/-- The Gumbel noise of a sample. -/
def gum (u : EReal) : EReal := -Ideal.log (-Ideal.log u)

theorem uni_real (lo : ℝ) (h0 : 0 < lo) (h1 : lo ≤ 1 / 2) (w : BitVec 32) :
    ∃ u : ℝ, uni (lo : EReal) ((1 : ℝ) : EReal) w = u ∧ lo ≤ u ∧ u ≤ 1 - (2 : ℝ) ^ (-24 : ℤ) := by
  obtain ⟨f, e, hf0, hf1⟩ := mantissa w
  refine ⟨max lo (f * (1 - lo) + lo), ?_, le_max_left _ _, max_le ?_ ?_⟩
  · unfold uni
    rw [e, lit_one, ← EReal.coe_sub, ← EReal.coe_sub, ← EReal.coe_mul, ← EReal.coe_add, show 1 + f - 1 = f by ring]
    exact (EReal.coe_strictMono.monotone.map_max).symm
  · norm_num; linarith
  · have : f * (1 - lo) ≤ (1 - (2 : ℝ) ^ (-23 : ℤ)) * (1 - lo) := mul_le_mul_of_nonneg_right hf1 (by linarith)
    norm_num at this ⊢
    nlinarith

theorem gum_real (u : ℝ) (h0 : 0 < u) (h1 : u < 1) : gum (u : EReal) = ((-Real.log (-Real.log u) : ℝ) : EReal) := by
  have hl := Real.log_neg h0 h1
  unfold gum
  rw [Ideal.log_coe, if_neg (not_le.mpr h0), ← EReal.coe_neg, Ideal.log_coe, if_neg (by linarith), ← EReal.coe_neg]

theorem gum_bounds (u : ℝ) (h0 : (2 : ℝ) ^ (-126 : ℤ) ≤ u) (h1 : u ≤ 1 - (2 : ℝ) ^ (-24 : ℤ)) :
    -(7 * Real.log 2) ≤ -Real.log (-Real.log u) ∧ -Real.log (-Real.log u) ≤ 24 * Real.log 2 := by
  have hu : 0 < u := lt_of_lt_of_le (by positivity) h0
  have hl2 : Real.log 2 ≤ 1 := by
    have := Real.log_le_sub_one_of_pos (x := 2) (by norm_num); linarith
  have a : -Real.log u ≤ 126 * Real.log 2 := by
    have := Real.log_le_log (by positivity) h0
    rw [Real.log_zpow] at this
    push_cast at this
    linarith
  have b : (2 : ℝ) ^ (-24 : ℤ) ≤ -Real.log u := by
    have := Real.log_le_sub_one_of_pos hu
    linarith
  have c : 0 < -Real.log u := lt_of_lt_of_le (by positivity) b
  constructor
  · have : Real.log (-Real.log u) ≤ Real.log ((2 : ℝ) ^ (7 : ℤ)) := Real.log_le_log c (by norm_num; linarith)
    rw [Real.log_zpow] at this
    push_cast at this
    linarith
  · have := Real.log_le_log (by positivity) b
    rw [Real.log_zpow] at this
    push_cast at this
    linarith

/-- The logarithm of the small constant is below −66·log 2. -/
theorem log_small : Real.log (12379400 * (2 : ℝ) ^ (-90 : ℤ)) ≤ -(66 * Real.log 2) := by
  have : Real.log (12379400 * (2 : ℝ) ^ (-90 : ℤ)) ≤ Real.log ((2 : ℝ) ^ (-66 : ℤ)) := Real.log_le_log (by positivity) (by norm_num)
  rw [Real.log_zpow] at this
  push_cast at this
  linarith

end Cert.Proof

end
-- ==== Proof.RVal.lean ====
/-
What the reference computes over the extended reals, for real means: its second draw can only repeat the first arg-max,
so the result is the column of the tokens at which `mu + g` is first largest.
-/
module

public import proofs.«01_k».proof.Proof.EqR
public import proofs.«01_k».proof.Proof.RArg
public import proofs.«01_k».proof.Proof.Gum

@[expose] public section

noncomputable section

namespace Cert.Proof.RI

open Cert.ReferenceIdeal Cert.ReferenceIdeal.Gen
open Idealize.ShloMosaic Idealize.ShloMosaic.StableHlo Cert.Proof.Ssa

instance : Subsingleton S_.Idx := ⟨fun a b => funext fun i => i.elim0⟩
instance : Subsingleton S1.Idx := ⟨fun a b => funext fun i => match i with | 0 => Subsingleton.elim (α := Fin 1) _ _⟩
instance : Subsingleton S1x1.Idx := ⟨fun a b => funext fun i => match i with | 0 => Subsingleton.elim (α := Fin 1) _ _ | 1 => Subsingleton.elim (α := Fin 1) _ _⟩
instance : Nonempty S2048.Idx := ⟨fun a => match a with | 0 => (0 : Fin 2048)⟩
instance : Nonempty S1x2048.Idx := ⟨fun a => match a with | 0 => (0 : Fin 1) | 1 => (0 : Fin 2048)⟩

attribute [local irreducible] R Host.reduce Ideal.ofBits

variable (V : Valuation τ sig (Elt Ideal))

/-! ## Pieces -/

theorem div_coe (a b : ℝ) (hb : b ≠ 0) : Ideal.div (a : EReal) (b : EReal) = ((a / b : ℝ) : EReal) := by
  unfold Ideal.div
  rw [if_neg (EReal.coe_ne_zero.mpr hb), ← EReal.coe_inv, ← EReal.coe_mul, div_eq_mul_inv]

theorem fold_max_real {ι : Type} (x : ι → EReal) (hx : ∀ i, ∃ r : ℝ, x i = r) : ∀ (l : List ι) (a : ℝ), ∃ r : ℝ, l.foldl (fun r i => max r (x i)) (a : EReal) = r
  | [], a => ⟨a, rfl⟩
  | i :: l, a => by
    obtain ⟨r, e⟩ := hx i
    rw [List.foldl_cons, e, ← EReal.coe_strictMono.monotone.map_max]
    exact fold_max_real x hx l _

theorem reduce_max_real {s t u : Shape} {axes : List (Fin s.rank)} (x : s.Idx → EReal) (ix : u.Idx → EReal) (h : s.ReducesTo axes t) (hu : 0 < u.numel)
    (j : t.Idx) [Subsingleton t.Idx] [Nonempty s.Idx] (hx : ∀ i, ∃ r : ℝ, x i = r) (hi : ∀ k, ix k = ⊥) :
    ∃ r : ℝ, Host.reduce (max : EReal → EReal → EReal) x ix h hu j = r := by
  rw [Host.reduce_eq_foldl, hi]
  obtain ⟨i1⟩ := (inferInstance : Nonempty s.Idx)
  have hm : i1 ∈ (((List.finRange s.numel).map s.rowMajor.symm).filter fun i => h.drop i = j) :=
    List.mem_filter.mpr ⟨List.mem_map.mpr ⟨s.rowMajor i1, List.mem_finRange _, by simp⟩, decide_eq_true (Subsingleton.elim _ _)⟩
  generalize (((List.finRange s.numel).map s.rowMajor.symm).filter fun i => h.drop i = j) = l at hm
  match l, hm with
  | i :: l, _ =>
    obtain ⟨r, e⟩ := hx i
    rw [List.foldl_cons, e, max_eq_right bot_le]
    exact fold_max_real x hx l _

theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem toInt_small (n : ℕ) (h : n < 2048) : (BitVec.ofNat 32 n).toInt = n := by
  rw [BitVec.toInt_eq_toNat_of_lt (by rw [BitVec.toNat_ofNat]; omega), BitVec.toNat_ofNat]
  omega

/-! ## The operations at an index -/

theorem sub_at (s : Shape) (x z : s.Idx → Elt Ideal .f32) (i) : subf (F := Ideal) (s := s) (φ := .f32) x z i = (x i : EReal) - z i := rfl
theorem add_at (s : Shape) (x z : s.Idx → Elt Ideal .f32) (i) : addf (F := Ideal) (s := s) (φ := .f32) x z i = (x i : EReal) + z i := rfl
theorem mul_at (s : Shape) (x z : s.Idx → Elt Ideal .f32) (i) : mulf (F := Ideal) (s := s) (φ := .f32) x z i = (x i : EReal) * z i := rfl
theorem max_at (s : Shape) (x z : s.Idx → Elt Ideal .f32) (i) : maximumf (F := Ideal) (s := s) (φ := .f32) x z i = max (x i : EReal) (z i) := rfl
theorem log_at (s : Shape) (x : s.Idx → Elt Ideal .f32) (i) : Host.log (F := Ideal) (s := s) (φ := .f32) x i = Ideal.log (x i : EReal) := rfl
theorem gum_at (s : Shape) (x : s.Idx → Elt Ideal .f32) (i) : Host.negf (F := Ideal) (s := s) (φ := .f32) (Host.log (Host.negf (Host.log x))) i = gum (x i) := rfl

/-! ## The first noise -/

theorem v256 (i : S2048.Idx) : R V r256 i = R V r253 i >>> 9 := by
  rw [e256, e255, e254]
  generalize R V r253 = x
  rfl

theorem v260 (i : S2048.Idx) : R V r260 i = Ideal.ofBits .f32 (R V r253 i >>> 9 ||| 0x3F800000#32) := by
  rw [e260, e259, e258, e257, ← v256]
  generalize R V r256 = x
  rfl

theorem v16 (i : S1.Idx) : R V r16 i = Ideal.ofBits .f32 0x2EDBE6FF#32 := by
  rw [e16, e14, e12]
  rfl

theorem v17 (i : S1.Idx) : R V r17 i = Ideal.ofBits .f32 0x3F800000#32 := by
  rw [e17, e15, e13]
  rfl

theorem v263 (i : S2048.Idx) : R V r263 i = Ideal.ofBits .f32 (R V r253 i >>> 9 ||| 0x3F800000#32) - Ideal.ofBits .f32 0x3F800000#32 := by
  rw [← v260 V i, e263]
  refine (sub_at S2048 (R V r260) (R V r262) i).trans (congrArg (fun a : EReal => (R V r260 i : EReal) - a) ?_)
  rw [e262, e261]
  rfl

theorem v265 (i : S2048.Idx) : R V r265 i = Ideal.ofBits .f32 0x3F800000#32 - Ideal.ofBits .f32 0x2EDBE6FF#32 := by
  rw [e265, e264]
  have h1 := v17 V
  have h2 := v16 V
  generalize R V r17 = x at *
  generalize R V r16 = z at *
  exact congrArg₂ (fun a b : EReal => a - b) (h1 _) (h2 _)

theorem v267 (i : S2048.Idx) : R V r267 i = Ideal.ofBits .f32 0x2EDBE6FF#32 := by
  rw [e267]
  have h := v16 V
  generalize R V r16 = x at *
  exact h _

theorem v269 (i : S2048.Idx) : R V r269 i = Ideal.ofBits .f32 0x2EDBE6FF#32 := by
  rw [e269]
  have h := v16 V
  generalize R V r16 = x at *
  exact h _

theorem v270 (i : S2048.Idx) : R V r270 i = uni (Ideal.ofBits .f32 0x2EDBE6FF#32) (Ideal.ofBits .f32 0x3F800000#32) (R V r253 i) := by
  have h1 := v269 V i
  have h2 := v267 V i
  have h3 := v263 V i
  have h4 := v265 V i
  have h5 : R V r266 i = (R V r263 i : EReal) * R V r265 i := by
    rw [e266]
    exact mul_at S2048 (R V r263) (R V r265) i
  have h6 : R V r268 i = (R V r266 i : EReal) + R V r267 i := by
    rw [e268]
    exact add_at S2048 (R V r266) (R V r267) i
  have h7 : R V r270 i = max (R V r269 i : EReal) (R V r268 i) := by
    rw [e270]
    exact max_at S2048 (R V r269) (R V r268) i
  rw [h7, h6, h5, h4, h3, h2, h1]
  rfl

theorem v274 (i : S2048.Idx) : R V r274 i = gum (R V r270 i) := by
  rw [e274, e273, e272, e271]
  exact gum_at S2048 (R V r270) i

theorem noise_real (i : S2048.Idx) : ∃ r : ℝ, R V r274 i = (r : EReal) := by
  rw [v274, v270, lit_1em10, lit_one]
  obtain ⟨u, e, h0, h1⟩ := uni_real (14411519 * (2 : ℝ) ^ (-57 : ℤ)) (by positivity) (by norm_num) (R V r253 i)
  rw [e]
  refine ⟨_, gum_real u (lt_of_lt_of_le (by positivity) h0) (lt_of_le_of_lt h1 ?_)⟩
  have : (0 : ℝ) < (2 : ℝ) ^ (-24 : ℤ) := by positivity
  linarith

/-! ## The second noise -/

theorem v566 (i : S1x2048.Idx) : R V r566 i = R V r563 i >>> 9 := by
  rw [e566, e565, e564]
  generalize R V r563 = x
  rfl

theorem v570 (i : S1x2048.Idx) : R V r570 i = Ideal.ofBits .f32 (R V r563 i >>> 9 ||| 0x3F800000#32) := by
  rw [e570, e569, e568, e567, ← v566]
  generalize R V r566 = x
  rfl

theorem v321 (i : S1x1.Idx) : R V r321 i = Ideal.ofBits .f32 0x00800000#32 := by
  rw [e321, e319]
  rfl

theorem v322 (i : S1x1.Idx) : R V r322 i = Ideal.ofBits .f32 0x3F800000#32 := by
  rw [e322, e320, e318]
  rfl

theorem v573 (i : S1x2048.Idx) : R V r573 i = Ideal.ofBits .f32 (R V r563 i >>> 9 ||| 0x3F800000#32) - Ideal.ofBits .f32 0x3F800000#32 := by
  rw [← v570 V i, e573]
  refine (sub_at S1x2048 (R V r570) (R V r572) i).trans (congrArg (fun a : EReal => (R V r570 i : EReal) - a) ?_)
  rw [e572, e571]
  rfl

theorem v575 (i : S1x2048.Idx) : R V r575 i = Ideal.ofBits .f32 0x3F800000#32 - Ideal.ofBits .f32 0x00800000#32 := by
  rw [e575, e574]
  have h1 := v322 V
  have h2 := v321 V
  generalize R V r322 = x at *
  generalize R V r321 = z at *
  exact congrArg₂ (fun a b : EReal => a - b) (h1 _) (h2 _)

theorem v577 (i : S1x2048.Idx) : R V r577 i = Ideal.ofBits .f32 0x00800000#32 := by
  rw [e577]
  have h := v321 V
  generalize R V r321 = x at *
  exact h _

theorem v579 (i : S1x2048.Idx) : R V r579 i = Ideal.ofBits .f32 0x00800000#32 := by
  rw [e579]
  have h := v321 V
  generalize R V r321 = x at *
  exact h _

theorem v580 (i : S1x2048.Idx) : R V r580 i = uni (Ideal.ofBits .f32 0x00800000#32) (Ideal.ofBits .f32 0x3F800000#32) (R V r563 i) := by
  have h1 := v579 V i
  have h2 := v577 V i
  have h3 := v573 V i
  have h4 := v575 V i
  have h5 : R V r576 i = (R V r573 i : EReal) * R V r575 i := by
    rw [e576]
    exact mul_at S1x2048 (R V r573) (R V r575) i
  have h6 : R V r578 i = (R V r576 i : EReal) + R V r577 i := by
    rw [e578]
    exact add_at S1x2048 (R V r576) (R V r577) i
  have h7 : R V r580 i = max (R V r579 i : EReal) (R V r578 i) := by
    rw [e580]
    exact max_at S1x2048 (R V r579) (R V r578) i
  rw [h7, h6, h5, h4, h3, h2, h1]
  rfl

theorem v584 (i : S1x2048.Idx) : R V r584 i = gum (R V r580 i) := by
  rw [e584, e583, e582, e581]
  exact gum_at S1x2048 (R V r580) i

theorem noise_bounds (i : S1x2048.Idx) : ∃ r : ℝ, R V r584 i = (r : EReal) ∧ -(7 * Real.log 2) ≤ r ∧ r ≤ 24 * Real.log 2 := by
  rw [v584, v580, lit_tiny, lit_one]
  obtain ⟨u, e, h0, h1⟩ := uni_real ((2 : ℝ) ^ (-126 : ℤ)) (by positivity) (by norm_num) (R V r563 i)
  rw [e]
  refine ⟨_, gum_real u (lt_of_lt_of_le (by positivity) h0) (lt_of_le_of_lt h1 ?_), gum_bounds u h0 h1⟩
  have : (0 : ℝ) < (2 : ℝ) ^ (-24 : ℤ) := by positivity
  linarith

/-! ## The softmax and its arg-max -/

section Real
variable (y : S2048.Idx → ℝ) (hy : ∀ i, R V r275 i = (y i : EReal))
include hy

theorem v278 (i : S2048.Idx) : R V r278 i = ((y i / (10737418 * (2 : ℝ) ^ (-30 : ℤ)) : ℝ) : EReal) := by
  rw [e278, e277, e276]
  show Ideal.div (R V r275 i) (Ideal.ofBits .f32 0x3C23D70A#32) = _
  rw [hy, lit_1em2, div_coe _ _ (by positivity)]

theorem v284 : ∃ m : ℝ, ∀ i, R V r284 i = (m : EReal) := by
  obtain ⟨m, hm⟩ := reduce_max_real (R V r278) (R V r279) reducesTo_S2048_S_d0 h_S_ (fun a => a.elim0) (fun i => ⟨_, v278 V y hy i⟩)
    (fun k => by rw [e279]; exact lit_bot)
  refine ⟨m, fun i => ?_⟩
  rw [e284, e283, e282, e281, e280]
  show max (Ideal.ofBits .f32 0xFF800000#32) (Host.reduce (max : EReal → EReal → EReal) (R V r278) (R V r279) reducesTo_S2048_S_d0 h_S_ _) = _
  rw [lit_bot, max_eq_right bot_le]
  exact (congrArg _ (Subsingleton.elim (α := S_.Idx) _ _)).trans hm

/-- The softmax is real and orders the columns as `y` does. -/
theorem v291 : ∃ p : S2048.Idx → ℝ, (∀ i, R V r291 i = (p i : EReal)) ∧ ∀ i j, p i ≤ p j ↔ y i ≤ y j := by
  obtain ⟨m, hm⟩ := v284 V y hy
  obtain ⟨c, hc⟩ : ∃ c : ℝ, c = 10737418 * (2 : ℝ) ^ (-30 : ℤ) := ⟨_, rfl⟩
  have c0 : 0 < c := hc ▸ by positivity
  have h286 : ∀ i, R V r286 i = ((Real.exp (y i / c - m) : ℝ) : EReal) := fun i => by
    rw [e286, e285]
    show Ideal.exp (R V r278 i - R V r284 i) = _
    rw [v278 V y hy, hm, ← EReal.coe_sub, Ideal.exp_coe, hc]
  obtain ⟨S, hS⟩ : ∃ S : ℝ, S = ∑ i : S2048.Idx, Real.exp (y i / c - m) := ⟨_, rfl⟩
  have S0 : 0 < S := hS ▸ Finset.sum_pos (fun i _ => Real.exp_pos _) Finset.univ_nonempty
  have h288 : ∀ k, R V r288 k = (S : EReal) := fun k => by
    rw [e288, e287]
    show Ideal.hostReduceAdd reducesTo_S2048_S_d0 (R V r286) (Ideal.ofBits .f32 0x00000000#32) k = _
    unfold Ideal.hostReduceAdd
    rw [Ideal.ofBits_zero_f32, zero_add, Finset.filter_true_of_mem (fun i _ => Subsingleton.elim _ _), hS, ← sum_real]
    exact Finset.sum_congr rfl fun i _ => h286 i
  refine ⟨fun i => Real.exp (y i / c - m) / S, fun i => ?_, fun i j => ?_⟩
  · rw [e291, e290, e289]
    show Ideal.div (R V r286 i) (R V r288 _) = _
    rw [h286, h288, div_coe _ _ S0.ne']
  · rw [div_le_div_iff_of_pos_right S0, Real.exp_le_exp, sub_le_sub_iff_right, div_le_div_iff_of_pos_right c0]

/-- The first arg-max. -/
theorem v296 : ∃ i₀ : S2048.Idx, (∀ k, R V r296 k = BitVec.ofNat 32 (i₀ 0).val) ∧ ∀ i, y i ≤ y i₀ ∧ (y i = y i₀ → (i₀ 0).val ≤ (i 0).val) := by
  obtain ⟨p, hp, hle⟩ := v291 V y hy
  obtain ⟨i₀, h1, h2⟩ := argmax_spec (R V r291) (R V r292) (R V r293) (R V r294) reducesTo_S2048_S_d0 h_S_ (fun a => a.elim0)
    (fun i => by rw [hp]; exact EReal.bot_lt_coe _) (fun k => by rw [e293]; exact lit_bot)
  rw [e292] at h1 h2
  refine ⟨i₀, fun k => ?_, fun i => ⟨(hle _ _).mp ?_, fun e => ?_⟩⟩
  · rw [Subsingleton.elim k (fun a => a.elim0), e296, e292]
    exact h1
  · have := (h2 i).1
    rw [hp, hp] at this
    exact EReal.coe_le_coe_iff.mp this
  · have e' : p i = p i₀ := le_antisymm ((hle _ _).mpr e.le) ((hle _ _).mpr e.ge)
    have := (h2 i).2 (by rw [hp, hp, e'])
    have l0 : (i₀ 0).val < 2048 := (i₀ 0).isLt
    have l1 : (i 0).val < 2048 := (i 0).isLt
    have t : (BitVec.ofNat 32 (i₀ 0).val).toInt ≤ (BitVec.ofNat 32 (i 0).val).toInt := this
    rw [toInt_small _ l0, toInt_small _ l1] at t
    exact_mod_cast t

end Real

end Cert.Proof.RI

end
-- ==== Proof.RPick.lean ====
/-
The reference's second draw: against a one-hot row its bounded noise cannot move the arg-max, so the result is
the column of the tokens at the first arg-max of `mu + g`.
-/
module

public import proofs.«01_k».proof.Proof.RVal
import Idealize.ShloMosaic.Lib.StableHlo.Predicate

@[expose] public section

noncomputable section

namespace Cert.Proof.RI

open Cert.ReferenceIdeal Cert.ReferenceIdeal.Gen
open Idealize.ShloMosaic Idealize.ShloMosaic.StableHlo Cert.Proof.Ssa

attribute [local irreducible] R Host.reduce Ideal.ofBits

/-! ## The one-hot row -/

theorem onehot_at (b : BitVec 32) (i : S2048.Idx) :
    uitofp (F := Ideal) .f32 (cmpi .eq (fun _ : S2048.Idx => b) (iotaInDim S2048 32 0)) i
      = (((BitVec.ofBool (b == BitVec.ofNat 32 (i 0).val)).toNat : ℝ) : EReal) := rfl

theorem hot_real (a : S2048.Idx) (i : S2048.Idx) :
    (((BitVec.ofBool (BitVec.ofNat 32 (a 0).val == BitVec.ofNat 32 (i 0).val)).toNat : ℝ)) = if (i 0).val = (a 0).val then (1 : ℝ) else 0 := by
  have l0 : (a 0).val < 2048 := (a 0).isLt
  have l1 : (i 0).val < 2048 := (i 0).isLt
  by_cases h : (i 0).val = (a 0).val
  · rw [if_pos h, h, beq_self_eq_true]
    simp
  · have hn : (BitVec.ofNat 32 (a 0).val == BitVec.ofNat 32 (i 0).val) = false := by
      rw [beq_eq_false_iff_ne]
      intro e
      have := congrArg BitVec.toNat e
      rw [BitVec.toNat_ofNat, BitVec.toNat_ofNat] at this
      omega
    rw [if_neg h, hn]
    simp

variable (V : Valuation τ sig (Elt Ideal))

theorem v301 (a : S2048.Idx) (h : ∀ k, R V r296 k = BitVec.ofNat 32 (a 0).val) (i : S2048.Idx) :
    R V r301 i = ((if (i 0).val = (a 0).val then (1 : ℝ) else 0 : ℝ) : EReal) := by
  have h' : R V r296 = fun _ => BitVec.ofNat 32 (a 0).val := funext h
  rw [e301, e300, e299, e298, e297, h', ← hot_real a i]
  exact onehot_at _ i

theorem v307 (a : S2048.Idx) (h : ∀ k, R V r296 k = BitVec.ofNat 32 (a 0).val) (p : S2048.Idx → ℝ) (hp : ∀ i, R V r291 i = (p i : EReal)) (i : S2048.Idx) :
    R V r307 i = ((Real.log ((if (i 0).val = (a 0).val then (1 : ℝ) else 0) + 12379400 * (2 : ℝ) ^ (-90 : ℤ)) : ℝ) : EReal) := by
  have h1 : R V r302 i = (R V r301 i : EReal) - R V r291 i := by
    rw [e302]
    exact sub_at S2048 (R V r301) (R V r291) i
  have h2 : R V r303 i = (R V r302 i : EReal) + R V r291 i := by
    rw [e303]
    exact add_at S2048 (R V r302) (R V r291) i
  have h3 : R V r305 i = Ideal.ofBits .f32 0x1E3CE508#32 := by
    rw [e305, e304]
    rfl
  rw [lit_1em20] at h3
  have h4 : R V r306 i = (R V r303 i : EReal) + R V r305 i := by
    rw [e306]
    exact add_at S2048 (R V r303) (R V r305) i
  have h5 : R V r307 i = Ideal.log (R V r306 i) := by
    rw [e307]
    exact log_at S2048 (R V r306) i
  have c0 : (0 : ℝ) < 12379400 * (2 : ℝ) ^ (-90 : ℤ) := by positivity
  generalize (12379400 * (2 : ℝ) ^ (-90 : ℤ) : ℝ) = c at *
  rw [h5, h4, h3, h2, h1, v301 V a h i, hp]
  have hh : (0 : ℝ) ≤ if (i 0).val = (a 0).val then (1 : ℝ) else 0 := by split <;> norm_num
  generalize (if (i 0).val = (a 0).val then (1 : ℝ) else 0 : ℝ) = q at *
  rw [← EReal.coe_sub, ← EReal.coe_add, ← EReal.coe_add, Ideal.log_coe, sub_add_cancel, if_neg (by linarith)]

/-! ## The second arg-max -/

/-- The index of the one row at column `n`. -/
def rowAt (a : S2048.Idx) : S1x2048.Idx := fun k => match k with
  | 0 => (0 : Fin 1)
  | 1 => (⟨(a 0).val, (a 0).isLt⟩ : Fin 2048)

/-- The column of an index of the one row. -/
def colOf (i : S1x2048.Idx) : S2048.Idx := fun k => match k with
  | 0 => (⟨(i 1).val, (i 1).isLt⟩ : Fin 2048)

theorem bcast_at (x : S2048.Idx → Elt Ideal .f32) (i : S1x2048.Idx) :
    broadcastInDim S1x2048 ![1] bcast_S2048_S1x2048_1 x i = x (colOf i) := by
  refine congrArg x (funext fun k => ?_)
  match k with
  | 0 => rfl

theorem v586 (i : S1x2048.Idx) : R V r586 i = (R V r584 i : EReal) + R V r307 (colOf i) := by
  have h : R V r585 i = R V r307 (colOf i) := by
    rw [e585]
    exact bcast_at (R V r307) i
  rw [e586, ← h]
  exact add_at S1x2048 (R V r584) (R V r585) i

theorem v591 (a : S2048.Idx) (h : ∀ k, R V r296 k = BitVec.ofNat 32 (a 0).val) (p : S2048.Idx → ℝ) (hp : ∀ i, R V r291 i = (p i : EReal)) (k : S1.Idx) :
    R V r591 k = BitVec.ofNat 32 (a 0).val := by
  choose n hn lo hi using noise_bounds V
  have hx : ∀ i : S1x2048.Idx, R V r586 i
      = ((n i + Real.log ((if (i 1).val = (a 0).val then (1 : ℝ) else 0) + 12379400 * (2 : ℝ) ^ (-90 : ℤ)) : ℝ) : EReal) := fun i => by
    rw [v586, hn, v307 V a h p hp, ← EReal.coe_add]
    rfl
  obtain ⟨i₁, h1, h2⟩ := argmax_spec (R V r586) (R V r587) (R V r588) (R V r589) reducesTo_S1x2048_S1_d1 h_S_ k
    (fun i => by rw [hx]; exact EReal.bot_lt_coe _) (fun k => by rw [e588]; exact lit_bot)
  rw [e587] at h1
  have l1 : (i₁ 1).val = (a 0).val := by
    by_contra hne
    have := (h2 (rowAt a)).1
    rw [hx, hx, EReal.coe_le_coe_iff, if_neg hne, if_pos (show ((rowAt a) 1).val = (a 0).val from rfl), zero_add] at this
    have c0 : (0 : ℝ) < 12379400 * (2 : ℝ) ^ (-90 : ℤ) := by positivity
    have big : 0 ≤ Real.log (1 + 12379400 * (2 : ℝ) ^ (-90 : ℤ)) := Real.log_nonneg (by linarith)
    have sm := log_small
    have b1 := lo (rowAt a)
    have b2 := hi i₁
    have l2 : 0 < Real.log 2 := Real.log_pos (by norm_num)
    linarith
  rw [e591, e587, ← l1]
  exact h1

/-! ## The column taken -/

theorem foldl_and {ι : Type} : ∀ l : List ι, l.foldl (fun r (_ : ι) => IntOp.andi r (1#1)) (1#1) = 1#1
  | [] => rfl
  | _ :: l => foldl_and l

theorem reduce_and (j : S1.Idx) : Host.reduce IntOp.andi (fun _ : S1x1.Idx => 1#1) (fun _ : S_.Idx => 1#1) reducesTo_S1x1_S1_d1 h_S_ j = 1#1 := by
  rw [Host.reduce_eq_foldl]
  exact foldl_and _

/-- The tokens' index at batch, position and column. -/
def tokAt (j : S4x4096x1.Idx) (a : S2048.Idx) : S4x4096x2048.Idx := fun k => match k with
  | 0 => (⟨(j 0).val, (j 0).isLt⟩ : Fin 4)
  | 1 => (⟨(j 1).val, (j 1).isLt⟩ : Fin 4096)
  | 2 => (⟨(a 0).val, (a 0).isLt⟩ : Fin 2048)

theorem gather_at (x : S4x4096x2048.Idx → Elt Ideal .f32) (a : S2048.Idx) (j : S4x4096x1.Idx) :
    Host.gather gather_S4x4096x2048_S1x1_S4x4096x1_01_2_n_n_2_1_440961 x (fun _ : S1x1.Idx => BitVec.ofNat 32 (a 0).val) j = x (tokAt j a) := by
  unfold Host.gather
  refine congrArg x (funext fun k => Fin.ext ?_)
  have l0 : (a 0).val < 2048 := (a 0).isLt
  let d := gather_S4x4096x2048_S1x1_S4x4096x1_01_2_n_n_2_1_440961
  let b : IVec S1x1 32 := fun _ => BitVec.ofNat 32 (a 0).val
  show d.start j b k + d.batchCoord j k + d.offCoord j k = _
  rw [GatherDims.batchCoord_eq_zero _ _ _ List.not_mem_nil]
  match k with
  | 0 =>
    unfold GatherDims.start
    rw [dif_neg (show (0 : Fin 3) ∉ d.startIndexMap from (by decide : (0 : Fin 3) ∉ [(2 : Fin 3)]))]
    unfold GatherDims.offCoord
    rw [dif_pos ((GatherDims.mem_sKept d 0).mpr ⟨show (0 : Fin 3) ∉ [(2 : Fin 3)] by decide, List.not_mem_nil⟩), Nat.zero_add]
    rfl
  | 1 =>
    unfold GatherDims.start
    rw [dif_neg (show (1 : Fin 3) ∉ d.startIndexMap from (by decide : (1 : Fin 3) ∉ [(2 : Fin 3)]))]
    unfold GatherDims.offCoord
    rw [dif_pos ((GatherDims.mem_sKept d 1).mpr ⟨show (1 : Fin 3) ∉ [(2 : Fin 3)] by decide, List.not_mem_nil⟩), Nat.zero_add]
    rfl
  | 2 =>
    rw [GatherDims.offCoord_eq_zero _ _ _ (fun h => ((GatherDims.mem_sKept _ _).mp h).1 (List.mem_singleton.mpr rfl))]
    unfold GatherDims.start
    rw [dif_pos (show (2 : Fin 3) ∈ d.startIndexMap from List.mem_singleton.mpr rfl), Nat.add_zero]
    show min ((BitVec.ofNat 32 (a 0).val).toInt.toNat) (2048 - 1) = (a 0).val
    rw [toInt_small _ l0, Int.toNat_natCast]
    omega

theorem slt_small (n : ℕ) (h : n < 2048) : IntOp.cmpi .slt (BitVec.ofNat 32 n) 0#32 = 0#1 := by
  show BitVec.ofBool ((BitVec.ofNat 32 n).slt 0#32) = 0#1
  have : (BitVec.ofNat 32 n).slt 0#32 = false := by
    rw [BitVec.slt_eq_decide, toInt_small n h]
    exact decide_eq_false (by simp)
  rw [this]
  rfl

theorem sge_small (n : ℕ) (h : n < 2048) : IntOp.cmpi .sge (BitVec.ofNat 32 n) 0#32 = 1#1 := by
  show BitVec.ofBool ((0#32 : BitVec 32).sle (BitVec.ofNat 32 n)) = 1#1
  have : (0#32 : BitVec 32).sle (BitVec.ofNat 32 n) = true := by
    rw [BitVec.sle_eq_decide, toInt_small n h]
    exact decide_eq_true (by simp)
  rw [this]
  rfl

theorem sle_small (n : ℕ) (h : n < 2048) : IntOp.cmpi .sle (BitVec.ofNat 32 n) 2047#32 = 1#1 := by
  show BitVec.ofBool ((BitVec.ofNat 32 n).sle (2047#32 : BitVec 32)) = 1#1
  have : (BitVec.ofNat 32 n).sle (2047#32 : BitVec 32) = true := by
    rw [BitVec.sle_eq_decide, toInt_small n h, show (2047#32 : BitVec 32).toInt = 2047 from by decide]
    exact decide_eq_true (by omega)
  rw [this]
  rfl

theorem v598 (a : S2048.Idx) (h : ∀ k, R V r591 k = BitVec.ofNat 32 (a 0).val) (k : S1.Idx) : R V r598 k = BitVec.ofNat 32 (a 0).val := by
  have h1 : R V r594 k = 0#1 := by
    rw [e594, e593, e592, ← slt_small (a 0).val (a 0).isLt, ← h k]
    rfl
  have h2 : R V r598 k = Scalar.select (R V r594 k) (R V r597 k) (R V r591 k) := by
    rw [e598]
    rfl
  rw [h2, h1, h]
  rfl

theorem v608 (a : S2048.Idx) (h : ∀ k, R V r599 k = BitVec.ofNat 32 (a 0).val) (k : S1.Idx) : R V r608 k = 1#1 := by
  have h1 : R V r603 = fun _ => 1#1 := funext fun i => by
    rw [e603, e602, e601, ← sge_small (a 0).val (a 0).isLt, ← h i]
    rfl
  have h2 : R V r605 = fun _ => 1#1 := funext fun i => by
    rw [e605, e604, e600, ← sle_small (a 0).val (a 0).isLt, ← h i]
    rfl
  have h3 : R V r606 = fun _ => 1#1 := by
    rw [e606, h1, h2]
    exact funext fun _ => show IntOp.andi (1#1) (1#1) = 1#1 by decide
  rw [e608, h3, e607]
  exact reduce_and k

theorem v613 (a : S2048.Idx) (h : ∀ k, R V r591 k = BitVec.ofNat 32 (a 0).val) (j : S4x4096x1.Idx) : R V r613 j = R V r0 (tokAt j a) := by
  have h1 : R V r599 = fun _ => BitVec.ofNat 32 (a 0).val := funext fun i => by
    rw [e599]
    exact v598 V a h _
  have h2 : R V r610 j = 1#1 := by
    rw [e610]
    exact v608 V a (fun k => congrFun h1 k) _
  have h3 : R V r609 j = R V r0 (tokAt j a) := by
    rw [e609, h1]
    exact gather_at (R V r0) a j
  have h4 : R V r613 j = Scalar.select (R V r610 j) (R V r609 j) (R V r612 j) := by
    rw [e613]
    rfl
  rw [h4, h2, h3]
  rfl

/-- The reference's value: the tokens' column at the first arg-max. -/
theorem ref_value (y : S2048.Idx → ℝ) (hy : ∀ i, R V r275 i = (y i : EReal)) :
    ∃ a : S2048.Idx, (∀ i, y i ≤ y a ∧ (y i = y a → (a 0).val ≤ (i 0).val)) ∧ ∀ j, R V r613 j = R V r0 (tokAt j a) := by
  obtain ⟨p, hp, _⟩ := v291 V y hy
  obtain ⟨a, h, hb⟩ := v296 V y hy
  exact ⟨a, hb, v613 V a (v591 V a h p hp)⟩

end Cert.Proof.RI

end
-- ==== Proof.SameG.lean ====
/-
Up to the noise the two programs run the same operations: what the kernel's program leaves in a buffer there, the reference leaves in its own.
-/
module

public import proofs.«01_k».proof.Proof.HostK
public import proofs.«01_k».proof.Proof.EqR

@[expose] public section

noncomputable section

open Idealize.ShloMosaic Idealize.ShloMosaic.StableHlo Idealize.SL.Sem Cert.Proof.Ssa

namespace Cert.Proof.KI

open Cert.KernelIdeal Cert.KernelIdeal.Gen

abbrev k2 : TRef sig ⟨S_, .i32⟩ := .of main_c
abbrev k3 : TRef sig ⟨S_, .i32⟩ := .of main_c_0
abbrev k4 : TRef sig ⟨S_, .i32⟩ := .of main_v0
abbrev k5 : TRef sig ⟨S_, .i32⟩ := .of main_v1
abbrev k6 : TRef sig ⟨S1, .i32⟩ := .of main_v2
abbrev k7 : TRef sig ⟨S_, .i32⟩ := .of main_c_1
abbrev k8 : TRef sig ⟨S_, .i32⟩ := .of main_v3
abbrev k9 : TRef sig ⟨S_, .i32⟩ := .of main_v4
abbrev k10 : TRef sig ⟨S1, .i32⟩ := .of main_v5
abbrev k11 : TRef sig ⟨S2, .i32⟩ := .of main_v6
abbrev k12 : TRef sig ⟨S_, .f32⟩ := .of main_cst
abbrev k13 : TRef sig ⟨S_, .f32⟩ := .of main_cst_2
abbrev k14 := main_call0.v0
abbrev k15 := main_call0.v1
abbrev k16 := main_call0.v2
abbrev k17 := main_call0.v3
abbrev k18 := main_call0.v4
abbrev k19 := main_call0.v5
abbrev k20 := main_call0.v6
abbrev k21 := main_call0.v7
abbrev k22 := main_call0.v8
abbrev k23 := main_call0.c
abbrev k24 := main_call0.v9
abbrev k25 := main_call0.v10
abbrev k26 := main_call0.c_0
abbrev k27 := main_call0.v11
abbrev k28 := main_call0.v12
abbrev k29 := main_call0.v13
abbrev k30 := main_call0.v14
abbrev k31 := main_call0.call0.v0
abbrev k32 := main_call0.call0.c
abbrev k33 := main_call0.call0.v1
abbrev k34 := main_call0.call0.v2
abbrev k35 := main_call0.call0.v3
abbrev k36 := main_call0.call0.v4
abbrev k37 := main_call0.call0.v5
abbrev k38 := main_call0.call0.v6
abbrev k39 := main_call0.call0.c_0
abbrev k40 := main_call0.call0.v7
abbrev k41 := main_call0.call0.v8
abbrev k42 := main_call0.call0.c_1
abbrev k43 := main_call0.call0.v9
abbrev k44 := main_call0.call0.v10
abbrev k45 := main_call0.call0.v11
abbrev k46 := main_call0.call0.v12
abbrev k47 := main_call0.call0.v13
abbrev k48 := main_call0.call0.c_2
abbrev k49 := main_call0.call0.v14
abbrev k50 := main_call0.call0.v15
abbrev k51 := main_call0.call0.c_3
abbrev k52 := main_call0.call0.v16
abbrev k53 := main_call0.call0.v17
abbrev k54 := main_call0.call0.v18
abbrev k55 := main_call0.call0.v19
abbrev k56 := main_call0.call0.v20
abbrev k57 := main_call0.call0.c_4
abbrev k58 := main_call0.call0.v21
abbrev k59 := main_call0.call0.v22
abbrev k60 := main_call0.call0.c_5
abbrev k61 := main_call0.call0.v23
abbrev k62 := main_call0.call0.v24
abbrev k63 := main_call0.call0.v25
abbrev k64 := main_call0.call0.v26
abbrev k65 := main_call0.call0.v27
abbrev k66 := main_call0.call0.c_6
abbrev k67 := main_call0.call0.v28
abbrev k68 := main_call0.call0.v29
abbrev k69 := main_call0.call0.c_7
abbrev k70 := main_call0.call0.v30
abbrev k71 := main_call0.call0.v31
abbrev k72 := main_call0.call0.v32
abbrev k73 := main_call0.call0.v33
abbrev k74 := main_call0.call0.v34
abbrev k75 := main_call0.call0.v35
abbrev k76 := main_call0.call0.v36
abbrev k77 := main_call0.call0.v37
abbrev k78 := main_call0.call0.c_8
abbrev k79 := main_call0.call0.v38
abbrev k80 := main_call0.call0.v39
abbrev k81 := main_call0.call0.v40
abbrev k82 := main_call0.call0.c_9
abbrev k83 := main_call0.call0.v41
abbrev k84 := main_call0.call0.v42
abbrev k85 := main_call0.call0.c_10
abbrev k86 := main_call0.call0.v43
abbrev k87 := main_call0.call0.v44
abbrev k88 := main_call0.call0.v45
abbrev k89 := main_call0.call0.v46
abbrev k90 := main_call0.call0.v47
abbrev k91 := main_call0.call0.c_11
abbrev k92 := main_call0.call0.v48
abbrev k93 := main_call0.call0.v49
abbrev k94 := main_call0.call0.c_12
abbrev k95 := main_call0.call0.v50
abbrev k96 := main_call0.call0.v51
abbrev k97 := main_call0.call0.v52
abbrev k98 := main_call0.call0.v53
abbrev k99 := main_call0.call0.v54
abbrev k100 := main_call0.call0.c_13
abbrev k101 := main_call0.call0.v55
abbrev k102 := main_call0.call0.v56
abbrev k103 := main_call0.call0.c_14
abbrev k104 := main_call0.call0.v57
abbrev k105 := main_call0.call0.v58
abbrev k106 := main_call0.call0.v59
abbrev k107 := main_call0.call0.v60
abbrev k108 := main_call0.call0.v61
abbrev k109 := main_call0.call0.c_15
abbrev k110 := main_call0.call0.v62
abbrev k111 := main_call0.call0.v63
abbrev k112 := main_call0.call0.c_16
abbrev k113 := main_call0.call0.v64
abbrev k114 := main_call0.call0.v65
abbrev k115 := main_call0.call0.v66
abbrev k116 := main_call0.call0.v67
abbrev k117 := main_call0.call0.v68
abbrev k118 := main_call0.call0.v69
abbrev k119 := main_call0.call0.v70
abbrev k120 := main_call0.call0.v71
abbrev k121 := main_call0.call0.c_17
abbrev k122 := main_call0.call0.v72
abbrev k123 := main_call0.call0.v73
abbrev k124 := main_call0.call0.v74
abbrev k125 := main_call0.call0.c_18
abbrev k126 := main_call0.call0.v75
abbrev k127 := main_call0.call0.v76
abbrev k128 := main_call0.call0.c_19
abbrev k129 := main_call0.call0.v77
abbrev k130 := main_call0.call0.v78
abbrev k131 := main_call0.call0.v79
abbrev k132 := main_call0.call0.v80
abbrev k133 := main_call0.call0.v81
abbrev k134 := main_call0.call0.c_20
abbrev k135 := main_call0.call0.v82
abbrev k136 := main_call0.call0.v83
abbrev k137 := main_call0.call0.c_21
abbrev k138 := main_call0.call0.v84
abbrev k139 := main_call0.call0.v85
abbrev k140 := main_call0.call0.v86
abbrev k141 := main_call0.call0.v87
abbrev k142 := main_call0.call0.v88
abbrev k143 := main_call0.call0.c_22
abbrev k144 := main_call0.call0.v89
abbrev k145 := main_call0.call0.v90
abbrev k146 := main_call0.call0.c_23
abbrev k147 := main_call0.call0.v91
abbrev k148 := main_call0.call0.v92
abbrev k149 := main_call0.call0.v93
abbrev k150 := main_call0.call0.v94
abbrev k151 := main_call0.call0.v95
abbrev k152 := main_call0.call0.c_24
abbrev k153 := main_call0.call0.v96
abbrev k154 := main_call0.call0.v97
abbrev k155 := main_call0.call0.c_25
abbrev k156 := main_call0.call0.v98
abbrev k157 := main_call0.call0.v99
abbrev k158 := main_call0.call0.v100
abbrev k159 := main_call0.call0.v101
abbrev k160 := main_call0.call0.v102
abbrev k161 := main_call0.call0.v103
abbrev k162 := main_call0.call0.v104
abbrev k163 := main_call0.call0.v105
abbrev k164 := main_call0.call0.c_26
abbrev k165 := main_call0.call0.v106
abbrev k166 := main_call0.call0.v107
abbrev k167 := main_call0.call0.v108
abbrev k168 := main_call0.call0.c_27
abbrev k169 := main_call0.call0.v109
abbrev k170 := main_call0.call0.v110
abbrev k171 := main_call0.call0.c_28
abbrev k172 := main_call0.call0.v111
abbrev k173 := main_call0.call0.v112
abbrev k174 := main_call0.call0.v113
abbrev k175 := main_call0.call0.v114
abbrev k176 := main_call0.call0.v115
abbrev k177 := main_call0.call0.c_29
abbrev k178 := main_call0.call0.v116
abbrev k179 := main_call0.call0.v117
abbrev k180 := main_call0.call0.c_30
abbrev k181 := main_call0.call0.v118
abbrev k182 := main_call0.call0.v119
abbrev k183 := main_call0.call0.v120
abbrev k184 := main_call0.call0.v121
abbrev k185 := main_call0.call0.v122
abbrev k186 := main_call0.call0.c_31
abbrev k187 := main_call0.call0.v123
abbrev k188 := main_call0.call0.v124
abbrev k189 := main_call0.call0.c_32
abbrev k190 := main_call0.call0.v125
abbrev k191 := main_call0.call0.v126
abbrev k192 := main_call0.call0.v127
abbrev k193 := main_call0.call0.v128
abbrev k194 := main_call0.call0.v129
abbrev k195 := main_call0.call0.c_33
abbrev k196 := main_call0.call0.v130
abbrev k197 := main_call0.call0.v131
abbrev k198 := main_call0.call0.c_34
abbrev k199 := main_call0.call0.v132
abbrev k200 := main_call0.call0.v133
abbrev k201 := main_call0.call0.v134
abbrev k202 := main_call0.call0.v135
abbrev k203 := main_call0.call0.v136
abbrev k204 := main_call0.call0.v137
abbrev k205 := main_call0.call0.v138
abbrev k206 := main_call0.call0.v139
abbrev k207 := main_call0.call0.c_35
abbrev k208 := main_call0.call0.v140
abbrev k209 := main_call0.call0.v141
abbrev k210 := main_call0.call0.v142
abbrev k211 := main_call0.call0.c_36
abbrev k212 := main_call0.call0.v143
abbrev k213 := main_call0.call0.v144
abbrev k214 := main_call0.call0.c_37
abbrev k215 := main_call0.call0.v145
abbrev k216 := main_call0.call0.v146
abbrev k217 := main_call0.call0.v147
abbrev k218 := main_call0.call0.v148
abbrev k219 := main_call0.call0.v149
abbrev k220 := main_call0.call0.c_38
abbrev k221 := main_call0.call0.v150
abbrev k222 := main_call0.call0.v151
abbrev k223 := main_call0.call0.c_39
abbrev k224 := main_call0.call0.v152
abbrev k225 := main_call0.call0.v153
abbrev k226 := main_call0.call0.v154
abbrev k227 := main_call0.call0.v155
abbrev k228 := main_call0.call0.v156
abbrev k229 := main_call0.call0.c_40
abbrev k230 := main_call0.call0.v157
abbrev k231 := main_call0.call0.v158
abbrev k232 := main_call0.call0.c_41
abbrev k233 := main_call0.call0.v159
abbrev k234 := main_call0.call0.v160
abbrev k235 := main_call0.call0.v161
abbrev k236 := main_call0.call0.v162
abbrev k237 := main_call0.call0.v163
abbrev k238 := main_call0.call0.c_42
abbrev k239 := main_call0.call0.v164
abbrev k240 := main_call0.call0.v165
abbrev k241 := main_call0.call0.c_43
abbrev k242 := main_call0.call0.v166
abbrev k243 := main_call0.call0.v167
abbrev k244 := main_call0.call0.v168
abbrev k245 := main_call0.call0.v169
abbrev k246 := main_call0.call0.v170
abbrev k247 := main_call0.call0.v171
abbrev k248 := main_call0.call0.v172
abbrev k249 := main_call0.call0.v173
abbrev k250 := main_call0.call0.c_44
abbrev k251 := main_call0.call0.v174
abbrev k252 := main_call0.call0.v175
abbrev k253 := main_call0.v16
abbrev k254 := main_call0.c_1
abbrev k255 := main_call0.v17
abbrev k256 := main_call0.v18
abbrev k257 := main_call0.c_2
abbrev k258 := main_call0.v19
abbrev k259 := main_call0.v20
abbrev k260 := main_call0.v21
abbrev k261 := main_call0.cst
abbrev k262 := main_call0.v22
abbrev k263 := main_call0.v23
abbrev k264 := main_call0.v24
abbrev k265 := main_call0.v25
abbrev k266 := main_call0.v26
abbrev k267 := main_call0.v27
abbrev k268 := main_call0.v28
abbrev k269 := main_call0.v29
abbrev k270 := main_call0.v30
abbrev k271 : TRef sig ⟨S2048, .f32⟩ := .of main_v8
abbrev k272 : TRef sig ⟨S2048, .f32⟩ := .of main_v9
abbrev k273 : TRef sig ⟨S2048, .f32⟩ := .of main_v10
abbrev k274 : TRef sig ⟨S2048, .f32⟩ := .of main_v11

end Cert.Proof.KI

namespace Cert.Proof.RI

open Cert.ReferenceIdeal Cert.ReferenceIdeal.Gen

abbrev r18 := main_call0.v4
abbrev r19 := main_call0.v5
abbrev r20 := main_call0.v6
abbrev r21 := main_call0.v7
abbrev r22 := main_call0.v8
abbrev r23 := main_call0.c
abbrev r24 := main_call0.v9
abbrev r25 := main_call0.v10
abbrev r26 := main_call0.c_0
abbrev r27 := main_call0.v11
abbrev r28 := main_call0.v12
abbrev r29 := main_call0.v13
abbrev r30 := main_call0.v14
abbrev r31 := main_call0.call0.v0
abbrev r32 := main_call0.call0.c
abbrev r33 := main_call0.call0.v1
abbrev r34 := main_call0.call0.v2
abbrev r35 := main_call0.call0.v3
abbrev r36 := main_call0.call0.v4
abbrev r37 := main_call0.call0.v5
abbrev r38 := main_call0.call0.v6
abbrev r39 := main_call0.call0.c_0
abbrev r40 := main_call0.call0.v7
abbrev r41 := main_call0.call0.v8
abbrev r42 := main_call0.call0.c_1
abbrev r43 := main_call0.call0.v9
abbrev r44 := main_call0.call0.v10
abbrev r45 := main_call0.call0.v11
abbrev r46 := main_call0.call0.v12
abbrev r47 := main_call0.call0.v13
abbrev r48 := main_call0.call0.c_2
abbrev r49 := main_call0.call0.v14
abbrev r50 := main_call0.call0.v15
abbrev r51 := main_call0.call0.c_3
abbrev r52 := main_call0.call0.v16
abbrev r53 := main_call0.call0.v17
abbrev r54 := main_call0.call0.v18
abbrev r55 := main_call0.call0.v19
abbrev r56 := main_call0.call0.v20
abbrev r57 := main_call0.call0.c_4
abbrev r58 := main_call0.call0.v21
abbrev r59 := main_call0.call0.v22
abbrev r60 := main_call0.call0.c_5
abbrev r61 := main_call0.call0.v23
abbrev r62 := main_call0.call0.v24
abbrev r63 := main_call0.call0.v25
abbrev r64 := main_call0.call0.v26
abbrev r65 := main_call0.call0.v27
abbrev r66 := main_call0.call0.c_6
abbrev r67 := main_call0.call0.v28
abbrev r68 := main_call0.call0.v29
abbrev r69 := main_call0.call0.c_7
abbrev r70 := main_call0.call0.v30
abbrev r71 := main_call0.call0.v31
abbrev r72 := main_call0.call0.v32
abbrev r73 := main_call0.call0.v33
abbrev r74 := main_call0.call0.v34
abbrev r75 := main_call0.call0.v35
abbrev r76 := main_call0.call0.v36
abbrev r77 := main_call0.call0.v37
abbrev r78 := main_call0.call0.c_8
abbrev r79 := main_call0.call0.v38
abbrev r80 := main_call0.call0.v39
abbrev r81 := main_call0.call0.v40
abbrev r82 := main_call0.call0.c_9
abbrev r83 := main_call0.call0.v41
abbrev r84 := main_call0.call0.v42
abbrev r85 := main_call0.call0.c_10
abbrev r86 := main_call0.call0.v43
abbrev r87 := main_call0.call0.v44
abbrev r88 := main_call0.call0.v45
abbrev r89 := main_call0.call0.v46
abbrev r90 := main_call0.call0.v47
abbrev r91 := main_call0.call0.c_11
abbrev r92 := main_call0.call0.v48
abbrev r93 := main_call0.call0.v49
abbrev r94 := main_call0.call0.c_12
abbrev r95 := main_call0.call0.v50
abbrev r96 := main_call0.call0.v51
abbrev r97 := main_call0.call0.v52
abbrev r98 := main_call0.call0.v53
abbrev r99 := main_call0.call0.v54
abbrev r100 := main_call0.call0.c_13
abbrev r101 := main_call0.call0.v55
abbrev r102 := main_call0.call0.v56
abbrev r103 := main_call0.call0.c_14
abbrev r104 := main_call0.call0.v57
abbrev r105 := main_call0.call0.v58
abbrev r106 := main_call0.call0.v59
abbrev r107 := main_call0.call0.v60
abbrev r108 := main_call0.call0.v61
abbrev r109 := main_call0.call0.c_15
abbrev r110 := main_call0.call0.v62
abbrev r111 := main_call0.call0.v63
abbrev r112 := main_call0.call0.c_16
abbrev r113 := main_call0.call0.v64
abbrev r114 := main_call0.call0.v65
abbrev r115 := main_call0.call0.v66
abbrev r116 := main_call0.call0.v67
abbrev r117 := main_call0.call0.v68
abbrev r118 := main_call0.call0.v69
abbrev r119 := main_call0.call0.v70
abbrev r120 := main_call0.call0.v71
abbrev r121 := main_call0.call0.c_17
abbrev r122 := main_call0.call0.v72
abbrev r123 := main_call0.call0.v73
abbrev r124 := main_call0.call0.v74
abbrev r125 := main_call0.call0.c_18
abbrev r126 := main_call0.call0.v75
abbrev r127 := main_call0.call0.v76
abbrev r128 := main_call0.call0.c_19
abbrev r129 := main_call0.call0.v77
abbrev r130 := main_call0.call0.v78
abbrev r131 := main_call0.call0.v79
abbrev r132 := main_call0.call0.v80
abbrev r133 := main_call0.call0.v81
abbrev r134 := main_call0.call0.c_20
abbrev r135 := main_call0.call0.v82
abbrev r136 := main_call0.call0.v83
abbrev r137 := main_call0.call0.c_21
abbrev r138 := main_call0.call0.v84
abbrev r139 := main_call0.call0.v85
abbrev r140 := main_call0.call0.v86
abbrev r141 := main_call0.call0.v87
abbrev r142 := main_call0.call0.v88
abbrev r143 := main_call0.call0.c_22
abbrev r144 := main_call0.call0.v89
abbrev r145 := main_call0.call0.v90
abbrev r146 := main_call0.call0.c_23
abbrev r147 := main_call0.call0.v91
abbrev r148 := main_call0.call0.v92
abbrev r149 := main_call0.call0.v93
abbrev r150 := main_call0.call0.v94
abbrev r151 := main_call0.call0.v95
abbrev r152 := main_call0.call0.c_24
abbrev r153 := main_call0.call0.v96
abbrev r154 := main_call0.call0.v97
abbrev r155 := main_call0.call0.c_25
abbrev r156 := main_call0.call0.v98
abbrev r157 := main_call0.call0.v99
abbrev r158 := main_call0.call0.v100
abbrev r159 := main_call0.call0.v101
abbrev r160 := main_call0.call0.v102
abbrev r161 := main_call0.call0.v103
abbrev r162 := main_call0.call0.v104
abbrev r163 := main_call0.call0.v105
abbrev r164 := main_call0.call0.c_26
abbrev r165 := main_call0.call0.v106
abbrev r166 := main_call0.call0.v107
abbrev r167 := main_call0.call0.v108
abbrev r168 := main_call0.call0.c_27
abbrev r169 := main_call0.call0.v109
abbrev r170 := main_call0.call0.v110
abbrev r171 := main_call0.call0.c_28
abbrev r172 := main_call0.call0.v111
abbrev r173 := main_call0.call0.v112
abbrev r174 := main_call0.call0.v113
abbrev r175 := main_call0.call0.v114
abbrev r176 := main_call0.call0.v115
abbrev r177 := main_call0.call0.c_29
abbrev r178 := main_call0.call0.v116
abbrev r179 := main_call0.call0.v117
abbrev r180 := main_call0.call0.c_30
abbrev r181 := main_call0.call0.v118
abbrev r182 := main_call0.call0.v119
abbrev r183 := main_call0.call0.v120
abbrev r184 := main_call0.call0.v121
abbrev r185 := main_call0.call0.v122
abbrev r186 := main_call0.call0.c_31
abbrev r187 := main_call0.call0.v123
abbrev r188 := main_call0.call0.v124
abbrev r189 := main_call0.call0.c_32
abbrev r190 := main_call0.call0.v125
abbrev r191 := main_call0.call0.v126
abbrev r192 := main_call0.call0.v127
abbrev r193 := main_call0.call0.v128
abbrev r194 := main_call0.call0.v129
abbrev r195 := main_call0.call0.c_33
abbrev r196 := main_call0.call0.v130
abbrev r197 := main_call0.call0.v131
abbrev r198 := main_call0.call0.c_34
abbrev r199 := main_call0.call0.v132
abbrev r200 := main_call0.call0.v133
abbrev r201 := main_call0.call0.v134
abbrev r202 := main_call0.call0.v135
abbrev r203 := main_call0.call0.v136
abbrev r204 := main_call0.call0.v137
abbrev r205 := main_call0.call0.v138
abbrev r206 := main_call0.call0.v139
abbrev r207 := main_call0.call0.c_35
abbrev r208 := main_call0.call0.v140
abbrev r209 := main_call0.call0.v141
abbrev r210 := main_call0.call0.v142
abbrev r211 := main_call0.call0.c_36
abbrev r212 := main_call0.call0.v143
abbrev r213 := main_call0.call0.v144
abbrev r214 := main_call0.call0.c_37
abbrev r215 := main_call0.call0.v145
abbrev r216 := main_call0.call0.v146
abbrev r217 := main_call0.call0.v147
abbrev r218 := main_call0.call0.v148
abbrev r219 := main_call0.call0.v149
abbrev r220 := main_call0.call0.c_38
abbrev r221 := main_call0.call0.v150
abbrev r222 := main_call0.call0.v151
abbrev r223 := main_call0.call0.c_39
abbrev r224 := main_call0.call0.v152
abbrev r225 := main_call0.call0.v153
abbrev r226 := main_call0.call0.v154
abbrev r227 := main_call0.call0.v155
abbrev r228 := main_call0.call0.v156
abbrev r229 := main_call0.call0.c_40
abbrev r230 := main_call0.call0.v157
abbrev r231 := main_call0.call0.v158
abbrev r232 := main_call0.call0.c_41
abbrev r233 := main_call0.call0.v159
abbrev r234 := main_call0.call0.v160
abbrev r235 := main_call0.call0.v161
abbrev r236 := main_call0.call0.v162
abbrev r237 := main_call0.call0.v163
abbrev r238 := main_call0.call0.c_42
abbrev r239 := main_call0.call0.v164
abbrev r240 := main_call0.call0.v165
abbrev r241 := main_call0.call0.c_43
abbrev r242 := main_call0.call0.v166
abbrev r243 := main_call0.call0.v167
abbrev r244 := main_call0.call0.v168
abbrev r245 := main_call0.call0.v169
abbrev r246 := main_call0.call0.v170
abbrev r248 := main_call0.call0.v172
abbrev r249 := main_call0.call0.v173
abbrev r250 := main_call0.call0.c_44
abbrev r251 := main_call0.call0.v174

end Cert.Proof.RI

namespace Cert.Proof

variable {F : FTy → Type} [FloatOps F] [Named F] (V : Valuation Cert.KernelIdeal.τ Cert.KernelIdeal.sig (Elt F)) (V' : Valuation Cert.ReferenceIdeal.τ Cert.ReferenceIdeal.sig (Elt F))

theorem s2 : val (after (KI.ops_main (F := F)) V) KI.k2 = RI.R V' RI.r2 :=
  same_nullary KI.line_m RI.line_m KI.sub_m_a RI.sub_m_a V V' 0 (y := KI.k2) (y' := RI.r2) rfl rfl
theorem s3 : val (after (KI.ops_main (F := F)) V) KI.k3 = RI.R V' RI.r3 :=
  same_nullary KI.line_m RI.line_m KI.sub_m_a RI.sub_m_a V V' 1 (y := KI.k3) (y' := RI.r3) rfl rfl
theorem s4 : val (after (KI.ops_main (F := F)) V) KI.k4 = RI.R V' RI.r4 :=
  same_binary KI.line_m RI.line_m KI.sub_m_a RI.sub_m_a V V' 2 (a := KI.k2) (a' := RI.r2) (b := KI.k3) (b' := RI.r3) (y := KI.k4) (y' := RI.r4) (f := (Host.shrui : (⟨Cert.KernelIdeal.S_, .i32⟩ : BufTy).Contents (Elt F) → (⟨Cert.KernelIdeal.S_, .i32⟩ : BufTy).Contents (Elt F) → (⟨Cert.KernelIdeal.S_, .i32⟩ : BufTy).Contents (Elt F))) rfl rfl (by decide) (by decide) (by decide) (by decide) (s2 V V') (s3 V V')
theorem s5 : val (after (KI.ops_main (F := F)) V) KI.k5 = RI.R V' RI.r5 :=
  same_unary KI.line_m RI.line_m KI.sub_m_a RI.sub_m_a V V' 3 (x := KI.k4) (x' := RI.r4) (y := KI.k5) (y' := RI.r5) (f := (id : (⟨Cert.KernelIdeal.S_, .i32⟩ : BufTy).Contents (Elt F) → (⟨Cert.KernelIdeal.S_, .i32⟩ : BufTy).Contents (Elt F))) rfl rfl (by decide) (by decide) (s4 V V')
theorem s6 : val (after (KI.ops_main (F := F)) V) KI.k6 = RI.R V' RI.r6 :=
  same_unary KI.line_m RI.line_m KI.sub_m_a RI.sub_m_a V V' 4 (x := KI.k5) (x' := RI.r5) (y := KI.k6) (y' := RI.r6) (f := (broadcastInDim Cert.KernelIdeal.S1 ![] Cert.KernelIdeal.Facts₀.bcast_S_S1 : (⟨Cert.KernelIdeal.S_, .i32⟩ : BufTy).Contents (Elt F) → (⟨Cert.KernelIdeal.S1, .i32⟩ : BufTy).Contents (Elt F))) rfl rfl (by decide) (by decide) (s5 V V')
theorem s7 : val (after (KI.ops_main (F := F)) V) KI.k7 = RI.R V' RI.r7 :=
  same_nullary KI.line_m RI.line_m KI.sub_m_a RI.sub_m_a V V' 5 (y := KI.k7) (y' := RI.r7) rfl rfl
theorem s8 : val (after (KI.ops_main (F := F)) V) KI.k8 = RI.R V' RI.r8 :=
  same_binary KI.line_m RI.line_m KI.sub_m_a RI.sub_m_a V V' 6 (a := KI.k2) (a' := RI.r2) (b := KI.k7) (b' := RI.r7) (y := KI.k8) (y' := RI.r8) (f := (andi : (⟨Cert.KernelIdeal.S_, .i32⟩ : BufTy).Contents (Elt F) → (⟨Cert.KernelIdeal.S_, .i32⟩ : BufTy).Contents (Elt F) → (⟨Cert.KernelIdeal.S_, .i32⟩ : BufTy).Contents (Elt F))) rfl rfl (by decide) (by decide) (by decide) (by decide) (s2 V V') (s7 V V')
theorem s9 : val (after (KI.ops_main (F := F)) V) KI.k9 = RI.R V' RI.r9 :=
  same_unary KI.line_m RI.line_m KI.sub_m_a RI.sub_m_a V V' 7 (x := KI.k8) (x' := RI.r8) (y := KI.k9) (y' := RI.r9) (f := (id : (⟨Cert.KernelIdeal.S_, .i32⟩ : BufTy).Contents (Elt F) → (⟨Cert.KernelIdeal.S_, .i32⟩ : BufTy).Contents (Elt F))) rfl rfl (by decide) (by decide) (s8 V V')
theorem s10 : val (after (KI.ops_main (F := F)) V) KI.k10 = RI.R V' RI.r10 :=
  same_unary KI.line_m RI.line_m KI.sub_m_a RI.sub_m_a V V' 8 (x := KI.k9) (x' := RI.r9) (y := KI.k10) (y' := RI.r10) (f := (broadcastInDim Cert.KernelIdeal.S1 ![] Cert.KernelIdeal.Facts₀.bcast_S_S1 : (⟨Cert.KernelIdeal.S_, .i32⟩ : BufTy).Contents (Elt F) → (⟨Cert.KernelIdeal.S1, .i32⟩ : BufTy).Contents (Elt F))) rfl rfl (by decide) (by decide) (s9 V V')
theorem s11 : val (after (KI.ops_main (F := F)) V) KI.k11 = RI.R V' RI.r11 :=
  same_binary KI.line_m RI.line_m KI.sub_m_a RI.sub_m_a V V' 9 (a := KI.k6) (a' := RI.r6) (b := KI.k10) (b' := RI.r10) (y := KI.k11) (y' := RI.r11) (f := ((fun a b => concatenate Cert.KernelIdeal.S2 0 [⟨Cert.KernelIdeal.S1, a⟩, ⟨Cert.KernelIdeal.S1, b⟩] Cert.KernelIdeal.Facts₀.concatenates_S1_S1_S2_d0) : (⟨Cert.KernelIdeal.S1, .i32⟩ : BufTy).Contents (Elt F) → (⟨Cert.KernelIdeal.S1, .i32⟩ : BufTy).Contents (Elt F) → (⟨Cert.KernelIdeal.S2, .i32⟩ : BufTy).Contents (Elt F))) rfl rfl (by decide) (by decide) (by decide) (by decide) (s6 V V') (s10 V V')
theorem s12 : val (after (KI.ops_main (F := F)) V) KI.k12 = RI.R V' RI.r12 :=
  same_nullary KI.line_m RI.line_m KI.sub_m_a RI.sub_m_a V V' 10 (y := KI.k12) (y' := RI.r12) rfl rfl
theorem s13 : val (after (KI.ops_main (F := F)) V) KI.k13 = RI.R V' RI.r13 :=
  same_nullary KI.line_m RI.line_m KI.sub_m_a RI.sub_m_a V V' 11 (y := KI.k13) (y' := RI.r13) rfl rfl
theorem s14 : val (after (KI.ops_main (F := F)) V) KI.k14 = RI.R V' RI.r14 :=
  same_unary KI.line_m RI.line_m KI.sub_m_c0_a RI.sub_m_c0_a V V' 0 (x := KI.k12) (x' := RI.r12) (y := KI.k14) (y' := RI.r14) rfl rfl (by decide) (by decide) (s12 V V')
theorem s15 : val (after (KI.ops_main (F := F)) V) KI.k15 = RI.R V' RI.r15 :=
  same_unary KI.line_m RI.line_m KI.sub_m_c0_a RI.sub_m_c0_a V V' 1 (x := KI.k13) (x' := RI.r13) (y := KI.k15) (y' := RI.r15) rfl rfl (by decide) (by decide) (s13 V V')
theorem s16 : val (after (KI.ops_main (F := F)) V) KI.k16 = RI.R V' RI.r16 :=
  same_unary KI.line_m RI.line_m KI.sub_m_c0_a RI.sub_m_c0_a V V' 2 (x := KI.k14) (x' := RI.r14) (y := KI.k16) (y' := RI.r16) rfl rfl (by decide) (by decide) (s14 V V')
theorem s17 : val (after (KI.ops_main (F := F)) V) KI.k17 = RI.R V' RI.r17 :=
  same_unary KI.line_m RI.line_m KI.sub_m_c0_a RI.sub_m_c0_a V V' 3 (x := KI.k15) (x' := RI.r15) (y := KI.k17) (y' := RI.r17) rfl rfl (by decide) (by decide) (s15 V V')
theorem s18 : val (after (KI.ops_main (F := F)) V) KI.k18 = RI.R V' RI.r18 :=
  same_unary KI.line_m RI.line_m KI.sub_m_c0_a RI.sub_m_c0_a V V' 4 (x := KI.k11) (x' := RI.r11) (y := KI.k18) (y' := RI.r18) rfl rfl (by decide) (by decide) (s11 V V')
theorem s19 : val (after (KI.ops_main (F := F)) V) KI.k19 = RI.R V' RI.r19 :=
  same_reshape KI.line_m RI.line_m KI.sub_m_c0_a RI.sub_m_c0_a V V' 5 (x := KI.k18) (x' := RI.r18) (y := KI.k19) (y' := RI.r19) rfl rfl (by decide) (by decide) (s18 V V')
theorem s20 : val (after (KI.ops_main (F := F)) V) KI.k20 = RI.R V' RI.r20 :=
  same_unary KI.line_m RI.line_m KI.sub_m_c0_a RI.sub_m_c0_a V V' 6 (x := KI.k11) (x' := RI.r11) (y := KI.k20) (y' := RI.r20) rfl rfl (by decide) (by decide) (s11 V V')
theorem s21 : val (after (KI.ops_main (F := F)) V) KI.k21 = RI.R V' RI.r21 :=
  same_reshape KI.line_m RI.line_m KI.sub_m_c0_a RI.sub_m_c0_a V V' 7 (x := KI.k20) (x' := RI.r20) (y := KI.k21) (y' := RI.r21) rfl rfl (by decide) (by decide) (s20 V V')
theorem s22 : val (after (KI.ops_main (F := F)) V) KI.k22 = RI.R V' RI.r22 :=
  same_nullary KI.line_m RI.line_m KI.sub_m_c0_a RI.sub_m_c0_a V V' 8 (y := KI.k22) (y' := RI.r22) rfl rfl
theorem s23 : val (after (KI.ops_main (F := F)) V) KI.k23 = RI.R V' RI.r23 :=
  same_nullary KI.line_m RI.line_m KI.sub_m_c0_a RI.sub_m_c0_a V V' 9 (y := KI.k23) (y' := RI.r23) rfl rfl
theorem s24 : val (after (KI.ops_main (F := F)) V) KI.k24 = RI.R V' RI.r24 :=
  same_unary KI.line_m RI.line_m KI.sub_m_c0_a RI.sub_m_c0_a V V' 10 (x := KI.k23) (x' := RI.r23) (y := KI.k24) (y' := RI.r24) rfl rfl (by decide) (by decide) (s23 V V')
theorem s25 : val (after (KI.ops_main (F := F)) V) KI.k25 = RI.R V' RI.r25 :=
  same_binary KI.line_m RI.line_m KI.sub_m_c0_a RI.sub_m_c0_a V V' 11 (a := KI.k24) (a' := RI.r24) (b := KI.k22) (b' := RI.r22) (y := KI.k25) (y' := RI.r25) rfl rfl (by decide) (by decide) (by decide) (by decide) (s24 V V') (s22 V V')
theorem s26 : val (after (KI.ops_main (F := F)) V) KI.k26 = RI.R V' RI.r26 :=
  same_nullary KI.line_m RI.line_m KI.sub_m_c0_a RI.sub_m_c0_a V V' 12 (y := KI.k26) (y' := RI.r26) rfl rfl
theorem s27 : val (after (KI.ops_main (F := F)) V) KI.k27 = RI.R V' RI.r27 :=
  same_unary KI.line_m RI.line_m KI.sub_m_c0_a RI.sub_m_c0_a V V' 13 (x := KI.k26) (x' := RI.r26) (y := KI.k27) (y' := RI.r27) rfl rfl (by decide) (by decide) (s26 V V')
theorem s28 : val (after (KI.ops_main (F := F)) V) KI.k28 = RI.R V' RI.r28 :=
  same_binary KI.line_m RI.line_m KI.sub_m_c0_a RI.sub_m_c0_a V V' 14 (a := KI.k25) (a' := RI.r25) (b := KI.k27) (b' := RI.r27) (y := KI.k28) (y' := RI.r28) rfl rfl (by decide) (by decide) (by decide) (by decide) (s25 V V') (s27 V V')
theorem s29 : val (after (KI.ops_main (F := F)) V) KI.k29 = RI.R V' RI.r29 :=
  same_unary KI.line_m RI.line_m KI.sub_m_c0_a RI.sub_m_c0_a V V' 15 (x := KI.k25) (x' := RI.r25) (y := KI.k29) (y' := RI.r29) rfl rfl (by decide) (by decide) (s25 V V')
theorem s30 : val (after (KI.ops_main (F := F)) V) KI.k30 = RI.R V' RI.r30 :=
  same_unary KI.line_m RI.line_m KI.sub_m_c0_a RI.sub_m_c0_a V V' 16 (x := KI.k28) (x' := RI.r28) (y := KI.k30) (y' := RI.r30) rfl rfl (by decide) (by decide) (s28 V V')
theorem s31 : val (after (KI.ops_main (F := F)) V) KI.k31 = RI.R V' RI.r31 :=
  same_binary KI.line_m RI.line_m KI.sub_m_c0_c0_p0_a RI.sub_m_c0_c0_p0_a V V' 0 (a := KI.k19) (a' := RI.r19) (b := KI.k21) (b' := RI.r21) (y := KI.k31) (y' := RI.r31) rfl rfl (by decide) (by decide) (by decide) (by decide) (s19 V V') (s21 V V')
theorem s32 : val (after (KI.ops_main (F := F)) V) KI.k32 = RI.R V' RI.r32 :=
  same_nullary KI.line_m RI.line_m KI.sub_m_c0_c0_p0_a RI.sub_m_c0_c0_p0_a V V' 1 (y := KI.k32) (y' := RI.r32) rfl rfl
theorem s33 : val (after (KI.ops_main (F := F)) V) KI.k33 = RI.R V' RI.r33 :=
  same_binary KI.line_m RI.line_m KI.sub_m_c0_c0_p0_a RI.sub_m_c0_c0_p0_a V V' 2 (a := KI.k31) (a' := RI.r31) (b := KI.k32) (b' := RI.r32) (y := KI.k33) (y' := RI.r33) rfl rfl (by decide) (by decide) (by decide) (by decide) (s31 V V') (s32 V V')
theorem s34 : val (after (KI.ops_main (F := F)) V) KI.k34 = RI.R V' RI.r34 :=
  same_unary KI.line_m RI.line_m KI.sub_m_c0_c0_p0_a RI.sub_m_c0_c0_p0_a V V' 3 (x := KI.k19) (x' := RI.r19) (y := KI.k34) (y' := RI.r34) rfl rfl (by decide) (by decide) (s19 V V')
theorem s35 : val (after (KI.ops_main (F := F)) V) KI.k35 = RI.R V' RI.r35 :=
  same_binary KI.line_m RI.line_m KI.sub_m_c0_c0_p0_a RI.sub_m_c0_c0_p0_a V V' 4 (a := KI.k30) (a' := RI.r30) (b := KI.k34) (b' := RI.r34) (y := KI.k35) (y' := RI.r35) rfl rfl (by decide) (by decide) (by decide) (by decide) (s30 V V') (s34 V V')
theorem s36 : val (after (KI.ops_main (F := F)) V) KI.k36 = RI.R V' RI.r36 :=
  same_unary KI.line_m RI.line_m KI.sub_m_c0_c0_p0_a RI.sub_m_c0_c0_p0_a V V' 5 (x := KI.k21) (x' := RI.r21) (y := KI.k36) (y' := RI.r36) rfl rfl (by decide) (by decide) (s21 V V')
theorem s37 : val (after (KI.ops_main (F := F)) V) KI.k37 = RI.R V' RI.r37 :=
  same_binary KI.line_m RI.line_m KI.sub_m_c0_c0_p0_a RI.sub_m_c0_c0_p0_a V V' 6 (a := KI.k29) (a' := RI.r29) (b := KI.k36) (b' := RI.r36) (y := KI.k37) (y' := RI.r37) rfl rfl (by decide) (by decide) (by decide) (by decide) (s29 V V') (s36 V V')
theorem s38 : val (after (KI.ops_main (F := F)) V) KI.k38 = RI.R V' RI.r38 :=
  same_binary KI.line_m RI.line_m KI.sub_m_c0_c0_p0_a RI.sub_m_c0_c0_p0_a V V' 7 (a := KI.k35) (a' := RI.r35) (b := KI.k37) (b' := RI.r37) (y := KI.k38) (y' := RI.r38) rfl rfl (by decide) (by decide) (by decide) (by decide) (s35 V V') (s37 V V')
theorem s39 : val (after (KI.ops_main (F := F)) V) KI.k39 = RI.R V' RI.r39 :=
  same_nullary KI.line_m RI.line_m KI.sub_m_c0_c0_p0_a RI.sub_m_c0_c0_p0_a V V' 8 (y := KI.k39) (y' := RI.r39) rfl rfl
theorem s40 : val (after (KI.ops_main (F := F)) V) KI.k40 = RI.R V' RI.r40 :=
  same_unary KI.line_m RI.line_m KI.sub_m_c0_c0_p0_a RI.sub_m_c0_c0_p0_a V V' 9 (x := KI.k39) (x' := RI.r39) (y := KI.k40) (y' := RI.r40) rfl rfl (by decide) (by decide) (s39 V V')
theorem s41 : val (after (KI.ops_main (F := F)) V) KI.k41 = RI.R V' RI.r41 :=
  same_binary KI.line_m RI.line_m KI.sub_m_c0_c0_p0_a RI.sub_m_c0_c0_p0_a V V' 10 (a := KI.k37) (a' := RI.r37) (b := KI.k40) (b' := RI.r40) (y := KI.k41) (y' := RI.r41) rfl rfl (by decide) (by decide) (by decide) (by decide) (s37 V V') (s40 V V')
theorem s42 : val (after (KI.ops_main (F := F)) V) KI.k42 = RI.R V' RI.r42 :=
  same_nullary KI.line_m RI.line_m KI.sub_m_c0_c0_p0_a RI.sub_m_c0_c0_p0_a V V' 11 (y := KI.k42) (y' := RI.r42) rfl rfl
theorem s43 : val (after (KI.ops_main (F := F)) V) KI.k43 = RI.R V' RI.r43 :=
  same_unary KI.line_m RI.line_m KI.sub_m_c0_c0_p0_a RI.sub_m_c0_c0_p0_a V V' 12 (x := KI.k42) (x' := RI.r42) (y := KI.k43) (y' := RI.r43) rfl rfl (by decide) (by decide) (s42 V V')
theorem s44 : val (after (KI.ops_main (F := F)) V) KI.k44 = RI.R V' RI.r44 :=
  same_binary KI.line_m RI.line_m KI.sub_m_c0_c0_p0_a RI.sub_m_c0_c0_p0_a V V' 13 (a := KI.k37) (a' := RI.r37) (b := KI.k43) (b' := RI.r43) (y := KI.k44) (y' := RI.r44) rfl rfl (by decide) (by decide) (by decide) (by decide) (s37 V V') (s43 V V')
theorem s45 : val (after (KI.ops_main (F := F)) V) KI.k45 = RI.R V' RI.r45 :=
  same_binary KI.line_m RI.line_m KI.sub_m_c0_c0_p0_a RI.sub_m_c0_c0_p0_a V V' 14 (a := KI.k41) (a' := RI.r41) (b := KI.k44) (b' := RI.r44) (y := KI.k45) (y' := RI.r45) rfl rfl (by decide) (by decide) (by decide) (by decide) (s41 V V') (s44 V V')
theorem s46 : val (after (KI.ops_main (F := F)) V) KI.k46 = RI.R V' RI.r46 :=
  same_binary KI.line_m RI.line_m KI.sub_m_c0_c0_p0_a RI.sub_m_c0_c0_p0_a V V' 15 (a := KI.k38) (a' := RI.r38) (b := KI.k45) (b' := RI.r45) (y := KI.k46) (y' := RI.r46) rfl rfl (by decide) (by decide) (by decide) (by decide) (s38 V V') (s45 V V')
theorem s47 : val (after (KI.ops_main (F := F)) V) KI.k47 = RI.R V' RI.r47 :=
  same_binary KI.line_m RI.line_m KI.sub_m_c0_c0_p0_a RI.sub_m_c0_c0_p0_a V V' 16 (a := KI.k38) (a' := RI.r38) (b := KI.k46) (b' := RI.r46) (y := KI.k47) (y' := RI.r47) rfl rfl (by decide) (by decide) (by decide) (by decide) (s38 V V') (s46 V V')
theorem s48 : val (after (KI.ops_main (F := F)) V) KI.k48 = RI.R V' RI.r48 :=
  same_nullary KI.line_m RI.line_m KI.sub_m_c0_c0_p0_a RI.sub_m_c0_c0_p0_a V V' 17 (y := KI.k48) (y' := RI.r48) rfl rfl
theorem s49 : val (after (KI.ops_main (F := F)) V) KI.k49 = RI.R V' RI.r49 :=
  same_unary KI.line_m RI.line_m KI.sub_m_c0_c0_p0_a RI.sub_m_c0_c0_p0_a V V' 18 (x := KI.k48) (x' := RI.r48) (y := KI.k49) (y' := RI.r49) rfl rfl (by decide) (by decide) (s48 V V')
theorem s50 : val (after (KI.ops_main (F := F)) V) KI.k50 = RI.R V' RI.r50 :=
  same_binary KI.line_m RI.line_m KI.sub_m_c0_c0_p0_a RI.sub_m_c0_c0_p0_a V V' 19 (a := KI.k46) (a' := RI.r46) (b := KI.k49) (b' := RI.r49) (y := KI.k50) (y' := RI.r50) rfl rfl (by decide) (by decide) (by decide) (by decide) (s46 V V') (s49 V V')
theorem s51 : val (after (KI.ops_main (F := F)) V) KI.k51 = RI.R V' RI.r51 :=
  same_nullary KI.line_m RI.line_m KI.sub_m_c0_c0_p0_a RI.sub_m_c0_c0_p0_a V V' 20 (y := KI.k51) (y' := RI.r51) rfl rfl
theorem s52 : val (after (KI.ops_main (F := F)) V) KI.k52 = RI.R V' RI.r52 :=
  same_unary KI.line_m RI.line_m KI.sub_m_c0_c0_p0_a RI.sub_m_c0_c0_p0_a V V' 21 (x := KI.k51) (x' := RI.r51) (y := KI.k52) (y' := RI.r52) rfl rfl (by decide) (by decide) (s51 V V')
theorem s53 : val (after (KI.ops_main (F := F)) V) KI.k53 = RI.R V' RI.r53 :=
  same_binary KI.line_m RI.line_m KI.sub_m_c0_c0_p0_a RI.sub_m_c0_c0_p0_a V V' 22 (a := KI.k46) (a' := RI.r46) (b := KI.k52) (b' := RI.r52) (y := KI.k53) (y' := RI.r53) rfl rfl (by decide) (by decide) (by decide) (by decide) (s46 V V') (s52 V V')
theorem s54 : val (after (KI.ops_main (F := F)) V) KI.k54 = RI.R V' RI.r54 :=
  same_binary KI.line_m RI.line_m KI.sub_m_c0_c0_p0_a RI.sub_m_c0_c0_p0_a V V' 23 (a := KI.k50) (a' := RI.r50) (b := KI.k53) (b' := RI.r53) (y := KI.k54) (y' := RI.r54) rfl rfl (by decide) (by decide) (by decide) (by decide) (s50 V V') (s53 V V')
theorem s55 : val (after (KI.ops_main (F := F)) V) KI.k55 = RI.R V' RI.r55 :=
  same_binary KI.line_m RI.line_m KI.sub_m_c0_c0_p0_a RI.sub_m_c0_c0_p0_a V V' 24 (a := KI.k47) (a' := RI.r47) (b := KI.k54) (b' := RI.r54) (y := KI.k55) (y' := RI.r55) rfl rfl (by decide) (by decide) (by decide) (by decide) (s47 V V') (s54 V V')
theorem s56 : val (after (KI.ops_main (F := F)) V) KI.k56 = RI.R V' RI.r56 :=
  same_binary KI.line_m RI.line_m KI.sub_m_c0_c0_p0_a RI.sub_m_c0_c0_p0_a V V' 25 (a := KI.k47) (a' := RI.r47) (b := KI.k55) (b' := RI.r55) (y := KI.k56) (y' := RI.r56) rfl rfl (by decide) (by decide) (by decide) (by decide) (s47 V V') (s55 V V')
theorem s57 : val (after (KI.ops_main (F := F)) V) KI.k57 = RI.R V' RI.r57 :=
  same_nullary KI.line_m RI.line_m KI.sub_m_c0_c0_p0_a RI.sub_m_c0_c0_p0_a V V' 26 (y := KI.k57) (y' := RI.r57) rfl rfl
theorem s58 : val (after (KI.ops_main (F := F)) V) KI.k58 = RI.R V' RI.r58 :=
  same_unary KI.line_m RI.line_m KI.sub_m_c0_c0_p0_a RI.sub_m_c0_c0_p0_a V V' 27 (x := KI.k57) (x' := RI.r57) (y := KI.k58) (y' := RI.r58) rfl rfl (by decide) (by decide) (s57 V V')
theorem s59 : val (after (KI.ops_main (F := F)) V) KI.k59 = RI.R V' RI.r59 :=
  same_binary KI.line_m RI.line_m KI.sub_m_c0_c0_p0_a RI.sub_m_c0_c0_p0_a V V' 28 (a := KI.k55) (a' := RI.r55) (b := KI.k58) (b' := RI.r58) (y := KI.k59) (y' := RI.r59) rfl rfl (by decide) (by decide) (by decide) (by decide) (s55 V V') (s58 V V')
theorem s60 : val (after (KI.ops_main (F := F)) V) KI.k60 = RI.R V' RI.r60 :=
  same_nullary KI.line_m RI.line_m KI.sub_m_c0_c0_p0_a RI.sub_m_c0_c0_p0_a V V' 29 (y := KI.k60) (y' := RI.r60) rfl rfl
theorem s61 : val (after (KI.ops_main (F := F)) V) KI.k61 = RI.R V' RI.r61 :=
  same_unary KI.line_m RI.line_m KI.sub_m_c0_c0_p0_a RI.sub_m_c0_c0_p0_a V V' 30 (x := KI.k60) (x' := RI.r60) (y := KI.k61) (y' := RI.r61) rfl rfl (by decide) (by decide) (s60 V V')
theorem s62 : val (after (KI.ops_main (F := F)) V) KI.k62 = RI.R V' RI.r62 :=
  same_binary KI.line_m RI.line_m KI.sub_m_c0_c0_p0_a RI.sub_m_c0_c0_p0_a V V' 31 (a := KI.k55) (a' := RI.r55) (b := KI.k61) (b' := RI.r61) (y := KI.k62) (y' := RI.r62) rfl rfl (by decide) (by decide) (by decide) (by decide) (s55 V V') (s61 V V')
theorem s63 : val (after (KI.ops_main (F := F)) V) KI.k63 = RI.R V' RI.r63 :=
  same_binary KI.line_m RI.line_m KI.sub_m_c0_c0_p0_a RI.sub_m_c0_c0_p0_a V V' 32 (a := KI.k59) (a' := RI.r59) (b := KI.k62) (b' := RI.r62) (y := KI.k63) (y' := RI.r63) rfl rfl (by decide) (by decide) (by decide) (by decide) (s59 V V') (s62 V V')
theorem s64 : val (after (KI.ops_main (F := F)) V) KI.k64 = RI.R V' RI.r64 :=
  same_binary KI.line_m RI.line_m KI.sub_m_c0_c0_p0_a RI.sub_m_c0_c0_p0_a V V' 33 (a := KI.k56) (a' := RI.r56) (b := KI.k63) (b' := RI.r63) (y := KI.k64) (y' := RI.r64) rfl rfl (by decide) (by decide) (by decide) (by decide) (s56 V V') (s63 V V')
theorem s65 : val (after (KI.ops_main (F := F)) V) KI.k65 = RI.R V' RI.r65 :=
  same_binary KI.line_m RI.line_m KI.sub_m_c0_c0_p0_a RI.sub_m_c0_c0_p0_a V V' 34 (a := KI.k56) (a' := RI.r56) (b := KI.k64) (b' := RI.r64) (y := KI.k65) (y' := RI.r65) rfl rfl (by decide) (by decide) (by decide) (by decide) (s56 V V') (s64 V V')
theorem s66 : val (after (KI.ops_main (F := F)) V) KI.k66 = RI.R V' RI.r66 :=
  same_nullary KI.line_m RI.line_m KI.sub_m_c0_c0_p0_a RI.sub_m_c0_c0_p0_a V V' 35 (y := KI.k66) (y' := RI.r66) rfl rfl
theorem s67 : val (after (KI.ops_main (F := F)) V) KI.k67 = RI.R V' RI.r67 :=
  same_unary KI.line_m RI.line_m KI.sub_m_c0_c0_p0_a RI.sub_m_c0_c0_p0_a V V' 36 (x := KI.k66) (x' := RI.r66) (y := KI.k67) (y' := RI.r67) rfl rfl (by decide) (by decide) (s66 V V')
theorem s68 : val (after (KI.ops_main (F := F)) V) KI.k68 = RI.R V' RI.r68 :=
  same_binary KI.line_m RI.line_m KI.sub_m_c0_c0_p0_a RI.sub_m_c0_c0_p0_a V V' 37 (a := KI.k64) (a' := RI.r64) (b := KI.k67) (b' := RI.r67) (y := KI.k68) (y' := RI.r68) rfl rfl (by decide) (by decide) (by decide) (by decide) (s64 V V') (s67 V V')
theorem s69 : val (after (KI.ops_main (F := F)) V) KI.k69 = RI.R V' RI.r69 :=
  same_nullary KI.line_m RI.line_m KI.sub_m_c0_c0_p0_a RI.sub_m_c0_c0_p0_a V V' 38 (y := KI.k69) (y' := RI.r69) rfl rfl
theorem s70 : val (after (KI.ops_main (F := F)) V) KI.k70 = RI.R V' RI.r70 :=
  same_unary KI.line_m RI.line_m KI.sub_m_c0_c0_p0_a RI.sub_m_c0_c0_p0_a V V' 39 (x := KI.k69) (x' := RI.r69) (y := KI.k70) (y' := RI.r70) rfl rfl (by decide) (by decide) (s69 V V')
theorem s71 : val (after (KI.ops_main (F := F)) V) KI.k71 = RI.R V' RI.r71 :=
  same_binary KI.line_m RI.line_m KI.sub_m_c0_c0_p0_a RI.sub_m_c0_c0_p0_a V V' 40 (a := KI.k64) (a' := RI.r64) (b := KI.k70) (b' := RI.r70) (y := KI.k71) (y' := RI.r71) rfl rfl (by decide) (by decide) (by decide) (by decide) (s64 V V') (s70 V V')
theorem s72 : val (after (KI.ops_main (F := F)) V) KI.k72 = RI.R V' RI.r72 :=
  same_binary KI.line_m RI.line_m KI.sub_m_c0_c0_p0_a RI.sub_m_c0_c0_p0_a V V' 41 (a := KI.k68) (a' := RI.r68) (b := KI.k71) (b' := RI.r71) (y := KI.k72) (y' := RI.r72) rfl rfl (by decide) (by decide) (by decide) (by decide) (s68 V V') (s71 V V')
theorem s73 : val (after (KI.ops_main (F := F)) V) KI.k73 = RI.R V' RI.r73 :=
  same_binary KI.line_m RI.line_m KI.sub_m_c0_c0_p0_a RI.sub_m_c0_c0_p0_a V V' 42 (a := KI.k65) (a' := RI.r65) (b := KI.k72) (b' := RI.r72) (y := KI.k73) (y' := RI.r73) rfl rfl (by decide) (by decide) (by decide) (by decide) (s65 V V') (s72 V V')
theorem s74 : val (after (KI.ops_main (F := F)) V) KI.k74 = RI.R V' RI.r74 :=
  same_unary KI.line_m RI.line_m KI.sub_m_c0_c0_p0_a RI.sub_m_c0_c0_p0_a V V' 43 (x := KI.k21) (x' := RI.r21) (y := KI.k74) (y' := RI.r74) rfl rfl (by decide) (by decide) (s21 V V')
theorem s75 : val (after (KI.ops_main (F := F)) V) KI.k75 = RI.R V' RI.r75 :=
  same_binary KI.line_m RI.line_m KI.sub_m_c0_c0_p0_a RI.sub_m_c0_c0_p0_a V V' 44 (a := KI.k65) (a' := RI.r65) (b := KI.k74) (b' := RI.r74) (y := KI.k75) (y' := RI.r75) rfl rfl (by decide) (by decide) (by decide) (by decide) (s65 V V') (s74 V V')
theorem s76 : val (after (KI.ops_main (F := F)) V) KI.k76 = RI.R V' RI.r76 :=
  same_unary KI.line_m RI.line_m KI.sub_m_c0_c0_p0_a RI.sub_m_c0_c0_p0_a V V' 45 (x := KI.k33) (x' := RI.r33) (y := KI.k76) (y' := RI.r76) rfl rfl (by decide) (by decide) (s33 V V')
theorem s77 : val (after (KI.ops_main (F := F)) V) KI.k77 = RI.R V' RI.r77 :=
  same_binary KI.line_m RI.line_m KI.sub_m_c0_c0_p0_a RI.sub_m_c0_c0_p0_a V V' 46 (a := KI.k73) (a' := RI.r73) (b := KI.k76) (b' := RI.r76) (y := KI.k77) (y' := RI.r77) rfl rfl (by decide) (by decide) (by decide) (by decide) (s73 V V') (s76 V V')
theorem s78 : val (after (KI.ops_main (F := F)) V) KI.k78 = RI.R V' RI.r78 :=
  same_nullary KI.line_m RI.line_m KI.sub_m_c0_c0_p0_a RI.sub_m_c0_c0_p0_a V V' 47 (y := KI.k78) (y' := RI.r78) rfl rfl
theorem s79 : val (after (KI.ops_main (F := F)) V) KI.k79 = RI.R V' RI.r79 :=
  same_unary KI.line_m RI.line_m KI.sub_m_c0_c0_p0_a RI.sub_m_c0_c0_p0_a V V' 48 (x := KI.k78) (x' := RI.r78) (y := KI.k79) (y' := RI.r79) rfl rfl (by decide) (by decide) (s78 V V')
theorem s80 : val (after (KI.ops_main (F := F)) V) KI.k80 = RI.R V' RI.r80 :=
  same_binary KI.line_m RI.line_m KI.sub_m_c0_c0_p0_a RI.sub_m_c0_c0_p0_a V V' 49 (a := KI.k77) (a' := RI.r77) (b := KI.k79) (b' := RI.r79) (y := KI.k80) (y' := RI.r80) rfl rfl (by decide) (by decide) (by decide) (by decide) (s77 V V') (s79 V V')
theorem s81 : val (after (KI.ops_main (F := F)) V) KI.k81 = RI.R V' RI.r81 :=
  same_binary KI.line_m RI.line_m KI.sub_m_c0_c0_p0_a RI.sub_m_c0_c0_p0_a V V' 50 (a := KI.k75) (a' := RI.r75) (b := KI.k80) (b' := RI.r80) (y := KI.k81) (y' := RI.r81) rfl rfl (by decide) (by decide) (by decide) (by decide) (s75 V V') (s80 V V')
theorem s82 : val (after (KI.ops_main (F := F)) V) KI.k82 = RI.R V' RI.r82 :=
  same_nullary KI.line_m RI.line_m KI.sub_m_c0_c0_p0_a RI.sub_m_c0_c0_p0_a V V' 51 (y := KI.k82) (y' := RI.r82) rfl rfl
theorem s83 : val (after (KI.ops_main (F := F)) V) KI.k83 = RI.R V' RI.r83 :=
  same_unary KI.line_m RI.line_m KI.sub_m_c0_c0_p0_a RI.sub_m_c0_c0_p0_a V V' 52 (x := KI.k82) (x' := RI.r82) (y := KI.k83) (y' := RI.r83) rfl rfl (by decide) (by decide) (s82 V V')
theorem s84 : val (after (KI.ops_main (F := F)) V) KI.k84 = RI.R V' RI.r84 :=
  same_binary KI.line_m RI.line_m KI.sub_m_c0_c0_p0_a RI.sub_m_c0_c0_p0_a V V' 53 (a := KI.k80) (a' := RI.r80) (b := KI.k83) (b' := RI.r83) (y := KI.k84) (y' := RI.r84) rfl rfl (by decide) (by decide) (by decide) (by decide) (s80 V V') (s83 V V')
theorem s85 : val (after (KI.ops_main (F := F)) V) KI.k85 = RI.R V' RI.r85 :=
  same_nullary KI.line_m RI.line_m KI.sub_m_c0_c0_p0_a RI.sub_m_c0_c0_p0_a V V' 54 (y := KI.k85) (y' := RI.r85) rfl rfl
theorem s86 : val (after (KI.ops_main (F := F)) V) KI.k86 = RI.R V' RI.r86 :=
  same_unary KI.line_m RI.line_m KI.sub_m_c0_c0_p0_a RI.sub_m_c0_c0_p0_a V V' 55 (x := KI.k85) (x' := RI.r85) (y := KI.k86) (y' := RI.r86) rfl rfl (by decide) (by decide) (s85 V V')
theorem s87 : val (after (KI.ops_main (F := F)) V) KI.k87 = RI.R V' RI.r87 :=
  same_binary KI.line_m RI.line_m KI.sub_m_c0_c0_p0_a RI.sub_m_c0_c0_p0_a V V' 56 (a := KI.k80) (a' := RI.r80) (b := KI.k86) (b' := RI.r86) (y := KI.k87) (y' := RI.r87) rfl rfl (by decide) (by decide) (by decide) (by decide) (s80 V V') (s86 V V')
theorem s88 : val (after (KI.ops_main (F := F)) V) KI.k88 = RI.R V' RI.r88 :=
  same_binary KI.line_m RI.line_m KI.sub_m_c0_c0_p0_a RI.sub_m_c0_c0_p0_a V V' 57 (a := KI.k84) (a' := RI.r84) (b := KI.k87) (b' := RI.r87) (y := KI.k88) (y' := RI.r88) rfl rfl (by decide) (by decide) (by decide) (by decide) (s84 V V') (s87 V V')
theorem s89 : val (after (KI.ops_main (F := F)) V) KI.k89 = RI.R V' RI.r89 :=
  same_binary KI.line_m RI.line_m KI.sub_m_c0_c0_p0_a RI.sub_m_c0_c0_p0_a V V' 58 (a := KI.k81) (a' := RI.r81) (b := KI.k88) (b' := RI.r88) (y := KI.k89) (y' := RI.r89) rfl rfl (by decide) (by decide) (by decide) (by decide) (s81 V V') (s88 V V')
theorem s90 : val (after (KI.ops_main (F := F)) V) KI.k90 = RI.R V' RI.r90 :=
  same_binary KI.line_m RI.line_m KI.sub_m_c0_c0_p0_a RI.sub_m_c0_c0_p0_a V V' 59 (a := KI.k81) (a' := RI.r81) (b := KI.k89) (b' := RI.r89) (y := KI.k90) (y' := RI.r90) rfl rfl (by decide) (by decide) (by decide) (by decide) (s81 V V') (s89 V V')
theorem s91 : val (after (KI.ops_main (F := F)) V) KI.k91 = RI.R V' RI.r91 :=
  same_nullary KI.line_m RI.line_m KI.sub_m_c0_c0_p1_a RI.sub_m_c0_c0_p1_a V V' 0 (y := KI.k91) (y' := RI.r91) rfl rfl
theorem s92 : val (after (KI.ops_main (F := F)) V) KI.k92 = RI.R V' RI.r92 :=
  same_unary KI.line_m RI.line_m KI.sub_m_c0_c0_p1_a RI.sub_m_c0_c0_p1_a V V' 1 (x := KI.k91) (x' := RI.r91) (y := KI.k92) (y' := RI.r92) rfl rfl (by decide) (by decide) (s91 V V')
theorem s93 : val (after (KI.ops_main (F := F)) V) KI.k93 = RI.R V' RI.r93 :=
  same_binary KI.line_m RI.line_m KI.sub_m_c0_c0_p1_a RI.sub_m_c0_c0_p1_a V V' 2 (a := KI.k89) (a' := RI.r89) (b := KI.k92) (b' := RI.r92) (y := KI.k93) (y' := RI.r93) rfl rfl (by decide) (by decide) (by decide) (by decide) (s89 V V') (s92 V V')
theorem s94 : val (after (KI.ops_main (F := F)) V) KI.k94 = RI.R V' RI.r94 :=
  same_nullary KI.line_m RI.line_m KI.sub_m_c0_c0_p1_a RI.sub_m_c0_c0_p1_a V V' 3 (y := KI.k94) (y' := RI.r94) rfl rfl
theorem s95 : val (after (KI.ops_main (F := F)) V) KI.k95 = RI.R V' RI.r95 :=
  same_unary KI.line_m RI.line_m KI.sub_m_c0_c0_p1_a RI.sub_m_c0_c0_p1_a V V' 4 (x := KI.k94) (x' := RI.r94) (y := KI.k95) (y' := RI.r95) rfl rfl (by decide) (by decide) (s94 V V')
theorem s96 : val (after (KI.ops_main (F := F)) V) KI.k96 = RI.R V' RI.r96 :=
  same_binary KI.line_m RI.line_m KI.sub_m_c0_c0_p1_a RI.sub_m_c0_c0_p1_a V V' 5 (a := KI.k89) (a' := RI.r89) (b := KI.k95) (b' := RI.r95) (y := KI.k96) (y' := RI.r96) rfl rfl (by decide) (by decide) (by decide) (by decide) (s89 V V') (s95 V V')
theorem s97 : val (after (KI.ops_main (F := F)) V) KI.k97 = RI.R V' RI.r97 :=
  same_binary KI.line_m RI.line_m KI.sub_m_c0_c0_p1_a RI.sub_m_c0_c0_p1_a V V' 6 (a := KI.k93) (a' := RI.r93) (b := KI.k96) (b' := RI.r96) (y := KI.k97) (y' := RI.r97) rfl rfl (by decide) (by decide) (by decide) (by decide) (s93 V V') (s96 V V')
theorem s98 : val (after (KI.ops_main (F := F)) V) KI.k98 = RI.R V' RI.r98 :=
  same_binary KI.line_m RI.line_m KI.sub_m_c0_c0_p1_a RI.sub_m_c0_c0_p1_a V V' 7 (a := KI.k90) (a' := RI.r90) (b := KI.k97) (b' := RI.r97) (y := KI.k98) (y' := RI.r98) rfl rfl (by decide) (by decide) (by decide) (by decide) (s90 V V') (s97 V V')
theorem s99 : val (after (KI.ops_main (F := F)) V) KI.k99 = RI.R V' RI.r99 :=
  same_binary KI.line_m RI.line_m KI.sub_m_c0_c0_p1_a RI.sub_m_c0_c0_p1_a V V' 8 (a := KI.k90) (a' := RI.r90) (b := KI.k98) (b' := RI.r98) (y := KI.k99) (y' := RI.r99) rfl rfl (by decide) (by decide) (by decide) (by decide) (s90 V V') (s98 V V')
theorem s100 : val (after (KI.ops_main (F := F)) V) KI.k100 = RI.R V' RI.r100 :=
  same_nullary KI.line_m RI.line_m KI.sub_m_c0_c0_p1_a RI.sub_m_c0_c0_p1_a V V' 9 (y := KI.k100) (y' := RI.r100) rfl rfl
theorem s101 : val (after (KI.ops_main (F := F)) V) KI.k101 = RI.R V' RI.r101 :=
  same_unary KI.line_m RI.line_m KI.sub_m_c0_c0_p1_a RI.sub_m_c0_c0_p1_a V V' 10 (x := KI.k100) (x' := RI.r100) (y := KI.k101) (y' := RI.r101) rfl rfl (by decide) (by decide) (s100 V V')
theorem s102 : val (after (KI.ops_main (F := F)) V) KI.k102 = RI.R V' RI.r102 :=
  same_binary KI.line_m RI.line_m KI.sub_m_c0_c0_p1_a RI.sub_m_c0_c0_p1_a V V' 11 (a := KI.k98) (a' := RI.r98) (b := KI.k101) (b' := RI.r101) (y := KI.k102) (y' := RI.r102) rfl rfl (by decide) (by decide) (by decide) (by decide) (s98 V V') (s101 V V')
theorem s103 : val (after (KI.ops_main (F := F)) V) KI.k103 = RI.R V' RI.r103 :=
  same_nullary KI.line_m RI.line_m KI.sub_m_c0_c0_p1_a RI.sub_m_c0_c0_p1_a V V' 12 (y := KI.k103) (y' := RI.r103) rfl rfl
theorem s104 : val (after (KI.ops_main (F := F)) V) KI.k104 = RI.R V' RI.r104 :=
  same_unary KI.line_m RI.line_m KI.sub_m_c0_c0_p1_a RI.sub_m_c0_c0_p1_a V V' 13 (x := KI.k103) (x' := RI.r103) (y := KI.k104) (y' := RI.r104) rfl rfl (by decide) (by decide) (s103 V V')
theorem s105 : val (after (KI.ops_main (F := F)) V) KI.k105 = RI.R V' RI.r105 :=
  same_binary KI.line_m RI.line_m KI.sub_m_c0_c0_p1_a RI.sub_m_c0_c0_p1_a V V' 14 (a := KI.k98) (a' := RI.r98) (b := KI.k104) (b' := RI.r104) (y := KI.k105) (y' := RI.r105) rfl rfl (by decide) (by decide) (by decide) (by decide) (s98 V V') (s104 V V')
theorem s106 : val (after (KI.ops_main (F := F)) V) KI.k106 = RI.R V' RI.r106 :=
  same_binary KI.line_m RI.line_m KI.sub_m_c0_c0_p1_a RI.sub_m_c0_c0_p1_a V V' 15 (a := KI.k102) (a' := RI.r102) (b := KI.k105) (b' := RI.r105) (y := KI.k106) (y' := RI.r106) rfl rfl (by decide) (by decide) (by decide) (by decide) (s102 V V') (s105 V V')
theorem s107 : val (after (KI.ops_main (F := F)) V) KI.k107 = RI.R V' RI.r107 :=
  same_binary KI.line_m RI.line_m KI.sub_m_c0_c0_p1_a RI.sub_m_c0_c0_p1_a V V' 16 (a := KI.k99) (a' := RI.r99) (b := KI.k106) (b' := RI.r106) (y := KI.k107) (y' := RI.r107) rfl rfl (by decide) (by decide) (by decide) (by decide) (s99 V V') (s106 V V')
theorem s108 : val (after (KI.ops_main (F := F)) V) KI.k108 = RI.R V' RI.r108 :=
  same_binary KI.line_m RI.line_m KI.sub_m_c0_c0_p1_a RI.sub_m_c0_c0_p1_a V V' 17 (a := KI.k99) (a' := RI.r99) (b := KI.k107) (b' := RI.r107) (y := KI.k108) (y' := RI.r108) rfl rfl (by decide) (by decide) (by decide) (by decide) (s99 V V') (s107 V V')
theorem s109 : val (after (KI.ops_main (F := F)) V) KI.k109 = RI.R V' RI.r109 :=
  same_nullary KI.line_m RI.line_m KI.sub_m_c0_c0_p1_a RI.sub_m_c0_c0_p1_a V V' 18 (y := KI.k109) (y' := RI.r109) rfl rfl
theorem s110 : val (after (KI.ops_main (F := F)) V) KI.k110 = RI.R V' RI.r110 :=
  same_unary KI.line_m RI.line_m KI.sub_m_c0_c0_p1_a RI.sub_m_c0_c0_p1_a V V' 19 (x := KI.k109) (x' := RI.r109) (y := KI.k110) (y' := RI.r110) rfl rfl (by decide) (by decide) (s109 V V')
theorem s111 : val (after (KI.ops_main (F := F)) V) KI.k111 = RI.R V' RI.r111 :=
  same_binary KI.line_m RI.line_m KI.sub_m_c0_c0_p1_a RI.sub_m_c0_c0_p1_a V V' 20 (a := KI.k107) (a' := RI.r107) (b := KI.k110) (b' := RI.r110) (y := KI.k111) (y' := RI.r111) rfl rfl (by decide) (by decide) (by decide) (by decide) (s107 V V') (s110 V V')
theorem s112 : val (after (KI.ops_main (F := F)) V) KI.k112 = RI.R V' RI.r112 :=
  same_nullary KI.line_m RI.line_m KI.sub_m_c0_c0_p1_a RI.sub_m_c0_c0_p1_a V V' 21 (y := KI.k112) (y' := RI.r112) rfl rfl
theorem s113 : val (after (KI.ops_main (F := F)) V) KI.k113 = RI.R V' RI.r113 :=
  same_unary KI.line_m RI.line_m KI.sub_m_c0_c0_p1_a RI.sub_m_c0_c0_p1_a V V' 22 (x := KI.k112) (x' := RI.r112) (y := KI.k113) (y' := RI.r113) rfl rfl (by decide) (by decide) (s112 V V')
theorem s114 : val (after (KI.ops_main (F := F)) V) KI.k114 = RI.R V' RI.r114 :=
  same_binary KI.line_m RI.line_m KI.sub_m_c0_c0_p1_a RI.sub_m_c0_c0_p1_a V V' 23 (a := KI.k107) (a' := RI.r107) (b := KI.k113) (b' := RI.r113) (y := KI.k114) (y' := RI.r114) rfl rfl (by decide) (by decide) (by decide) (by decide) (s107 V V') (s113 V V')
theorem s115 : val (after (KI.ops_main (F := F)) V) KI.k115 = RI.R V' RI.r115 :=
  same_binary KI.line_m RI.line_m KI.sub_m_c0_c0_p1_a RI.sub_m_c0_c0_p1_a V V' 24 (a := KI.k111) (a' := RI.r111) (b := KI.k114) (b' := RI.r114) (y := KI.k115) (y' := RI.r115) rfl rfl (by decide) (by decide) (by decide) (by decide) (s111 V V') (s114 V V')
theorem s116 : val (after (KI.ops_main (F := F)) V) KI.k116 = RI.R V' RI.r116 :=
  same_binary KI.line_m RI.line_m KI.sub_m_c0_c0_p1_a RI.sub_m_c0_c0_p1_a V V' 25 (a := KI.k108) (a' := RI.r108) (b := KI.k115) (b' := RI.r115) (y := KI.k116) (y' := RI.r116) rfl rfl (by decide) (by decide) (by decide) (by decide) (s108 V V') (s115 V V')
theorem s117 : val (after (KI.ops_main (F := F)) V) KI.k117 = RI.R V' RI.r117 :=
  same_unary KI.line_m RI.line_m KI.sub_m_c0_c0_p1_a RI.sub_m_c0_c0_p1_a V V' 26 (x := KI.k33) (x' := RI.r33) (y := KI.k117) (y' := RI.r117) rfl rfl (by decide) (by decide) (s33 V V')
theorem s118 : val (after (KI.ops_main (F := F)) V) KI.k118 = RI.R V' RI.r118 :=
  same_binary KI.line_m RI.line_m KI.sub_m_c0_c0_p1_a RI.sub_m_c0_c0_p1_a V V' 27 (a := KI.k108) (a' := RI.r108) (b := KI.k117) (b' := RI.r117) (y := KI.k118) (y' := RI.r118) rfl rfl (by decide) (by decide) (by decide) (by decide) (s108 V V') (s117 V V')
theorem s119 : val (after (KI.ops_main (F := F)) V) KI.k119 = RI.R V' RI.r119 :=
  same_unary KI.line_m RI.line_m KI.sub_m_c0_c0_p1_a RI.sub_m_c0_c0_p1_a V V' 28 (x := KI.k19) (x' := RI.r19) (y := KI.k119) (y' := RI.r119) rfl rfl (by decide) (by decide) (s19 V V')
theorem s120 : val (after (KI.ops_main (F := F)) V) KI.k120 = RI.R V' RI.r120 :=
  same_binary KI.line_m RI.line_m KI.sub_m_c0_c0_p1_a RI.sub_m_c0_c0_p1_a V V' 29 (a := KI.k116) (a' := RI.r116) (b := KI.k119) (b' := RI.r119) (y := KI.k120) (y' := RI.r120) rfl rfl (by decide) (by decide) (by decide) (by decide) (s116 V V') (s119 V V')
theorem s121 : val (after (KI.ops_main (F := F)) V) KI.k121 = RI.R V' RI.r121 :=
  same_nullary KI.line_m RI.line_m KI.sub_m_c0_c0_p1_a RI.sub_m_c0_c0_p1_a V V' 30 (y := KI.k121) (y' := RI.r121) rfl rfl
theorem s122 : val (after (KI.ops_main (F := F)) V) KI.k122 = RI.R V' RI.r122 :=
  same_unary KI.line_m RI.line_m KI.sub_m_c0_c0_p1_a RI.sub_m_c0_c0_p1_a V V' 31 (x := KI.k121) (x' := RI.r121) (y := KI.k122) (y' := RI.r122) rfl rfl (by decide) (by decide) (s121 V V')
theorem s123 : val (after (KI.ops_main (F := F)) V) KI.k123 = RI.R V' RI.r123 :=
  same_binary KI.line_m RI.line_m KI.sub_m_c0_c0_p1_a RI.sub_m_c0_c0_p1_a V V' 32 (a := KI.k120) (a' := RI.r120) (b := KI.k122) (b' := RI.r122) (y := KI.k123) (y' := RI.r123) rfl rfl (by decide) (by decide) (by decide) (by decide) (s120 V V') (s122 V V')
theorem s124 : val (after (KI.ops_main (F := F)) V) KI.k124 = RI.R V' RI.r124 :=
  same_binary KI.line_m RI.line_m KI.sub_m_c0_c0_p1_a RI.sub_m_c0_c0_p1_a V V' 33 (a := KI.k118) (a' := RI.r118) (b := KI.k123) (b' := RI.r123) (y := KI.k124) (y' := RI.r124) rfl rfl (by decide) (by decide) (by decide) (by decide) (s118 V V') (s123 V V')
theorem s125 : val (after (KI.ops_main (F := F)) V) KI.k125 = RI.R V' RI.r125 :=
  same_nullary KI.line_m RI.line_m KI.sub_m_c0_c0_p1_a RI.sub_m_c0_c0_p1_a V V' 34 (y := KI.k125) (y' := RI.r125) rfl rfl
theorem s126 : val (after (KI.ops_main (F := F)) V) KI.k126 = RI.R V' RI.r126 :=
  same_unary KI.line_m RI.line_m KI.sub_m_c0_c0_p1_a RI.sub_m_c0_c0_p1_a V V' 35 (x := KI.k125) (x' := RI.r125) (y := KI.k126) (y' := RI.r126) rfl rfl (by decide) (by decide) (s125 V V')
theorem s127 : val (after (KI.ops_main (F := F)) V) KI.k127 = RI.R V' RI.r127 :=
  same_binary KI.line_m RI.line_m KI.sub_m_c0_c0_p1_a RI.sub_m_c0_c0_p1_a V V' 36 (a := KI.k123) (a' := RI.r123) (b := KI.k126) (b' := RI.r126) (y := KI.k127) (y' := RI.r127) rfl rfl (by decide) (by decide) (by decide) (by decide) (s123 V V') (s126 V V')
theorem s128 : val (after (KI.ops_main (F := F)) V) KI.k128 = RI.R V' RI.r128 :=
  same_nullary KI.line_m RI.line_m KI.sub_m_c0_c0_p1_a RI.sub_m_c0_c0_p1_a V V' 37 (y := KI.k128) (y' := RI.r128) rfl rfl
theorem s129 : val (after (KI.ops_main (F := F)) V) KI.k129 = RI.R V' RI.r129 :=
  same_unary KI.line_m RI.line_m KI.sub_m_c0_c0_p1_a RI.sub_m_c0_c0_p1_a V V' 38 (x := KI.k128) (x' := RI.r128) (y := KI.k129) (y' := RI.r129) rfl rfl (by decide) (by decide) (s128 V V')
theorem s130 : val (after (KI.ops_main (F := F)) V) KI.k130 = RI.R V' RI.r130 :=
  same_binary KI.line_m RI.line_m KI.sub_m_c0_c0_p1_a RI.sub_m_c0_c0_p1_a V V' 39 (a := KI.k123) (a' := RI.r123) (b := KI.k129) (b' := RI.r129) (y := KI.k130) (y' := RI.r130) rfl rfl (by decide) (by decide) (by decide) (by decide) (s123 V V') (s129 V V')
theorem s131 : val (after (KI.ops_main (F := F)) V) KI.k131 = RI.R V' RI.r131 :=
  same_binary KI.line_m RI.line_m KI.sub_m_c0_c0_p1_a RI.sub_m_c0_c0_p1_a V V' 40 (a := KI.k127) (a' := RI.r127) (b := KI.k130) (b' := RI.r130) (y := KI.k131) (y' := RI.r131) rfl rfl (by decide) (by decide) (by decide) (by decide) (s127 V V') (s130 V V')
theorem s132 : val (after (KI.ops_main (F := F)) V) KI.k132 = RI.R V' RI.r132 :=
  same_binary KI.line_m RI.line_m KI.sub_m_c0_c0_p1_a RI.sub_m_c0_c0_p1_a V V' 41 (a := KI.k124) (a' := RI.r124) (b := KI.k131) (b' := RI.r131) (y := KI.k132) (y' := RI.r132) rfl rfl (by decide) (by decide) (by decide) (by decide) (s124 V V') (s131 V V')
theorem s133 : val (after (KI.ops_main (F := F)) V) KI.k133 = RI.R V' RI.r133 :=
  same_binary KI.line_m RI.line_m KI.sub_m_c0_c0_p1_a RI.sub_m_c0_c0_p1_a V V' 42 (a := KI.k124) (a' := RI.r124) (b := KI.k132) (b' := RI.r132) (y := KI.k133) (y' := RI.r133) rfl rfl (by decide) (by decide) (by decide) (by decide) (s124 V V') (s132 V V')
theorem s134 : val (after (KI.ops_main (F := F)) V) KI.k134 = RI.R V' RI.r134 :=
  same_nullary KI.line_m RI.line_m KI.sub_m_c0_c0_p1_a RI.sub_m_c0_c0_p1_a V V' 43 (y := KI.k134) (y' := RI.r134) rfl rfl
theorem s135 : val (after (KI.ops_main (F := F)) V) KI.k135 = RI.R V' RI.r135 :=
  same_unary KI.line_m RI.line_m KI.sub_m_c0_c0_p1_a RI.sub_m_c0_c0_p1_a V V' 44 (x := KI.k134) (x' := RI.r134) (y := KI.k135) (y' := RI.r135) rfl rfl (by decide) (by decide) (s134 V V')
theorem s136 : val (after (KI.ops_main (F := F)) V) KI.k136 = RI.R V' RI.r136 :=
  same_binary KI.line_m RI.line_m KI.sub_m_c0_c0_p1_a RI.sub_m_c0_c0_p1_a V V' 45 (a := KI.k132) (a' := RI.r132) (b := KI.k135) (b' := RI.r135) (y := KI.k136) (y' := RI.r136) rfl rfl (by decide) (by decide) (by decide) (by decide) (s132 V V') (s135 V V')
theorem s137 : val (after (KI.ops_main (F := F)) V) KI.k137 = RI.R V' RI.r137 :=
  same_nullary KI.line_m RI.line_m KI.sub_m_c0_c0_p1_a RI.sub_m_c0_c0_p1_a V V' 46 (y := KI.k137) (y' := RI.r137) rfl rfl
theorem s138 : val (after (KI.ops_main (F := F)) V) KI.k138 = RI.R V' RI.r138 :=
  same_unary KI.line_m RI.line_m KI.sub_m_c0_c0_p1_a RI.sub_m_c0_c0_p1_a V V' 47 (x := KI.k137) (x' := RI.r137) (y := KI.k138) (y' := RI.r138) rfl rfl (by decide) (by decide) (s137 V V')
theorem s139 : val (after (KI.ops_main (F := F)) V) KI.k139 = RI.R V' RI.r139 :=
  same_binary KI.line_m RI.line_m KI.sub_m_c0_c0_p1_a RI.sub_m_c0_c0_p1_a V V' 48 (a := KI.k132) (a' := RI.r132) (b := KI.k138) (b' := RI.r138) (y := KI.k139) (y' := RI.r139) rfl rfl (by decide) (by decide) (by decide) (by decide) (s132 V V') (s138 V V')
theorem s140 : val (after (KI.ops_main (F := F)) V) KI.k140 = RI.R V' RI.r140 :=
  same_binary KI.line_m RI.line_m KI.sub_m_c0_c0_p1_a RI.sub_m_c0_c0_p1_a V V' 49 (a := KI.k136) (a' := RI.r136) (b := KI.k139) (b' := RI.r139) (y := KI.k140) (y' := RI.r140) rfl rfl (by decide) (by decide) (by decide) (by decide) (s136 V V') (s139 V V')
theorem s141 : val (after (KI.ops_main (F := F)) V) KI.k141 = RI.R V' RI.r141 :=
  same_binary KI.line_m RI.line_m KI.sub_m_c0_c0_p1_a RI.sub_m_c0_c0_p1_a V V' 50 (a := KI.k133) (a' := RI.r133) (b := KI.k140) (b' := RI.r140) (y := KI.k141) (y' := RI.r141) rfl rfl (by decide) (by decide) (by decide) (by decide) (s133 V V') (s140 V V')
theorem s142 : val (after (KI.ops_main (F := F)) V) KI.k142 = RI.R V' RI.r142 :=
  same_binary KI.line_m RI.line_m KI.sub_m_c0_c0_p1_a RI.sub_m_c0_c0_p1_a V V' 51 (a := KI.k133) (a' := RI.r133) (b := KI.k141) (b' := RI.r141) (y := KI.k142) (y' := RI.r142) rfl rfl (by decide) (by decide) (by decide) (by decide) (s133 V V') (s141 V V')
theorem s143 : val (after (KI.ops_main (F := F)) V) KI.k143 = RI.R V' RI.r143 :=
  same_nullary KI.line_m RI.line_m KI.sub_m_c0_c0_p1_a RI.sub_m_c0_c0_p1_a V V' 52 (y := KI.k143) (y' := RI.r143) rfl rfl
theorem s144 : val (after (KI.ops_main (F := F)) V) KI.k144 = RI.R V' RI.r144 :=
  same_unary KI.line_m RI.line_m KI.sub_m_c0_c0_p1_a RI.sub_m_c0_c0_p1_a V V' 53 (x := KI.k143) (x' := RI.r143) (y := KI.k144) (y' := RI.r144) rfl rfl (by decide) (by decide) (s143 V V')
theorem s145 : val (after (KI.ops_main (F := F)) V) KI.k145 = RI.R V' RI.r145 :=
  same_binary KI.line_m RI.line_m KI.sub_m_c0_c0_p1_a RI.sub_m_c0_c0_p1_a V V' 54 (a := KI.k141) (a' := RI.r141) (b := KI.k144) (b' := RI.r144) (y := KI.k145) (y' := RI.r145) rfl rfl (by decide) (by decide) (by decide) (by decide) (s141 V V') (s144 V V')
theorem s146 : val (after (KI.ops_main (F := F)) V) KI.k146 = RI.R V' RI.r146 :=
  same_nullary KI.line_m RI.line_m KI.sub_m_c0_c0_p1_a RI.sub_m_c0_c0_p1_a V V' 55 (y := KI.k146) (y' := RI.r146) rfl rfl
theorem s147 : val (after (KI.ops_main (F := F)) V) KI.k147 = RI.R V' RI.r147 :=
  same_unary KI.line_m RI.line_m KI.sub_m_c0_c0_p1_a RI.sub_m_c0_c0_p1_a V V' 56 (x := KI.k146) (x' := RI.r146) (y := KI.k147) (y' := RI.r147) rfl rfl (by decide) (by decide) (s146 V V')
theorem s148 : val (after (KI.ops_main (F := F)) V) KI.k148 = RI.R V' RI.r148 :=
  same_binary KI.line_m RI.line_m KI.sub_m_c0_c0_p1_a RI.sub_m_c0_c0_p1_a V V' 57 (a := KI.k141) (a' := RI.r141) (b := KI.k147) (b' := RI.r147) (y := KI.k148) (y' := RI.r148) rfl rfl (by decide) (by decide) (by decide) (by decide) (s141 V V') (s147 V V')
theorem s149 : val (after (KI.ops_main (F := F)) V) KI.k149 = RI.R V' RI.r149 :=
  same_binary KI.line_m RI.line_m KI.sub_m_c0_c0_p1_a RI.sub_m_c0_c0_p1_a V V' 58 (a := KI.k145) (a' := RI.r145) (b := KI.k148) (b' := RI.r148) (y := KI.k149) (y' := RI.r149) rfl rfl (by decide) (by decide) (by decide) (by decide) (s145 V V') (s148 V V')
theorem s150 : val (after (KI.ops_main (F := F)) V) KI.k150 = RI.R V' RI.r150 :=
  same_binary KI.line_m RI.line_m KI.sub_m_c0_c0_p1_a RI.sub_m_c0_c0_p1_a V V' 59 (a := KI.k142) (a' := RI.r142) (b := KI.k149) (b' := RI.r149) (y := KI.k150) (y' := RI.r150) rfl rfl (by decide) (by decide) (by decide) (by decide) (s142 V V') (s149 V V')
theorem s151 : val (after (KI.ops_main (F := F)) V) KI.k151 = RI.R V' RI.r151 :=
  same_binary KI.line_m RI.line_m KI.sub_m_c0_c0_p2_a RI.sub_m_c0_c0_p2_a V V' 0 (a := KI.k142) (a' := RI.r142) (b := KI.k150) (b' := RI.r150) (y := KI.k151) (y' := RI.r151) rfl rfl (by decide) (by decide) (by decide) (by decide) (s142 V V') (s150 V V')
theorem s152 : val (after (KI.ops_main (F := F)) V) KI.k152 = RI.R V' RI.r152 :=
  same_nullary KI.line_m RI.line_m KI.sub_m_c0_c0_p2_a RI.sub_m_c0_c0_p2_a V V' 1 (y := KI.k152) (y' := RI.r152) rfl rfl
theorem s153 : val (after (KI.ops_main (F := F)) V) KI.k153 = RI.R V' RI.r153 :=
  same_unary KI.line_m RI.line_m KI.sub_m_c0_c0_p2_a RI.sub_m_c0_c0_p2_a V V' 2 (x := KI.k152) (x' := RI.r152) (y := KI.k153) (y' := RI.r153) rfl rfl (by decide) (by decide) (s152 V V')
theorem s154 : val (after (KI.ops_main (F := F)) V) KI.k154 = RI.R V' RI.r154 :=
  same_binary KI.line_m RI.line_m KI.sub_m_c0_c0_p2_a RI.sub_m_c0_c0_p2_a V V' 3 (a := KI.k150) (a' := RI.r150) (b := KI.k153) (b' := RI.r153) (y := KI.k154) (y' := RI.r154) rfl rfl (by decide) (by decide) (by decide) (by decide) (s150 V V') (s153 V V')
theorem s155 : val (after (KI.ops_main (F := F)) V) KI.k155 = RI.R V' RI.r155 :=
  same_nullary KI.line_m RI.line_m KI.sub_m_c0_c0_p2_a RI.sub_m_c0_c0_p2_a V V' 4 (y := KI.k155) (y' := RI.r155) rfl rfl
theorem s156 : val (after (KI.ops_main (F := F)) V) KI.k156 = RI.R V' RI.r156 :=
  same_unary KI.line_m RI.line_m KI.sub_m_c0_c0_p2_a RI.sub_m_c0_c0_p2_a V V' 5 (x := KI.k155) (x' := RI.r155) (y := KI.k156) (y' := RI.r156) rfl rfl (by decide) (by decide) (s155 V V')
theorem s157 : val (after (KI.ops_main (F := F)) V) KI.k157 = RI.R V' RI.r157 :=
  same_binary KI.line_m RI.line_m KI.sub_m_c0_c0_p2_a RI.sub_m_c0_c0_p2_a V V' 6 (a := KI.k150) (a' := RI.r150) (b := KI.k156) (b' := RI.r156) (y := KI.k157) (y' := RI.r157) rfl rfl (by decide) (by decide) (by decide) (by decide) (s150 V V') (s156 V V')
theorem s158 : val (after (KI.ops_main (F := F)) V) KI.k158 = RI.R V' RI.r158 :=
  same_binary KI.line_m RI.line_m KI.sub_m_c0_c0_p2_a RI.sub_m_c0_c0_p2_a V V' 7 (a := KI.k154) (a' := RI.r154) (b := KI.k157) (b' := RI.r157) (y := KI.k158) (y' := RI.r158) rfl rfl (by decide) (by decide) (by decide) (by decide) (s154 V V') (s157 V V')
theorem s159 : val (after (KI.ops_main (F := F)) V) KI.k159 = RI.R V' RI.r159 :=
  same_binary KI.line_m RI.line_m KI.sub_m_c0_c0_p2_a RI.sub_m_c0_c0_p2_a V V' 8 (a := KI.k151) (a' := RI.r151) (b := KI.k158) (b' := RI.r158) (y := KI.k159) (y' := RI.r159) rfl rfl (by decide) (by decide) (by decide) (by decide) (s151 V V') (s158 V V')
theorem s160 : val (after (KI.ops_main (F := F)) V) KI.k160 = RI.R V' RI.r160 :=
  same_unary KI.line_m RI.line_m KI.sub_m_c0_c0_p2_a RI.sub_m_c0_c0_p2_a V V' 9 (x := KI.k19) (x' := RI.r19) (y := KI.k160) (y' := RI.r160) rfl rfl (by decide) (by decide) (s19 V V')
theorem s161 : val (after (KI.ops_main (F := F)) V) KI.k161 = RI.R V' RI.r161 :=
  same_binary KI.line_m RI.line_m KI.sub_m_c0_c0_p2_a RI.sub_m_c0_c0_p2_a V V' 10 (a := KI.k151) (a' := RI.r151) (b := KI.k160) (b' := RI.r160) (y := KI.k161) (y' := RI.r161) rfl rfl (by decide) (by decide) (by decide) (by decide) (s151 V V') (s160 V V')
theorem s162 : val (after (KI.ops_main (F := F)) V) KI.k162 = RI.R V' RI.r162 :=
  same_unary KI.line_m RI.line_m KI.sub_m_c0_c0_p2_a RI.sub_m_c0_c0_p2_a V V' 11 (x := KI.k21) (x' := RI.r21) (y := KI.k162) (y' := RI.r162) rfl rfl (by decide) (by decide) (s21 V V')
theorem s163 : val (after (KI.ops_main (F := F)) V) KI.k163 = RI.R V' RI.r163 :=
  same_binary KI.line_m RI.line_m KI.sub_m_c0_c0_p2_a RI.sub_m_c0_c0_p2_a V V' 12 (a := KI.k159) (a' := RI.r159) (b := KI.k162) (b' := RI.r162) (y := KI.k163) (y' := RI.r163) rfl rfl (by decide) (by decide) (by decide) (by decide) (s159 V V') (s162 V V')
theorem s164 : val (after (KI.ops_main (F := F)) V) KI.k164 = RI.R V' RI.r164 :=
  same_nullary KI.line_m RI.line_m KI.sub_m_c0_c0_p2_a RI.sub_m_c0_c0_p2_a V V' 13 (y := KI.k164) (y' := RI.r164) rfl rfl
theorem s165 : val (after (KI.ops_main (F := F)) V) KI.k165 = RI.R V' RI.r165 :=
  same_unary KI.line_m RI.line_m KI.sub_m_c0_c0_p2_a RI.sub_m_c0_c0_p2_a V V' 14 (x := KI.k164) (x' := RI.r164) (y := KI.k165) (y' := RI.r165) rfl rfl (by decide) (by decide) (s164 V V')
theorem s166 : val (after (KI.ops_main (F := F)) V) KI.k166 = RI.R V' RI.r166 :=
  same_binary KI.line_m RI.line_m KI.sub_m_c0_c0_p2_a RI.sub_m_c0_c0_p2_a V V' 15 (a := KI.k163) (a' := RI.r163) (b := KI.k165) (b' := RI.r165) (y := KI.k166) (y' := RI.r166) rfl rfl (by decide) (by decide) (by decide) (by decide) (s163 V V') (s165 V V')
theorem s167 : val (after (KI.ops_main (F := F)) V) KI.k167 = RI.R V' RI.r167 :=
  same_binary KI.line_m RI.line_m KI.sub_m_c0_c0_p2_a RI.sub_m_c0_c0_p2_a V V' 16 (a := KI.k161) (a' := RI.r161) (b := KI.k166) (b' := RI.r166) (y := KI.k167) (y' := RI.r167) rfl rfl (by decide) (by decide) (by decide) (by decide) (s161 V V') (s166 V V')
theorem s168 : val (after (KI.ops_main (F := F)) V) KI.k168 = RI.R V' RI.r168 :=
  same_nullary KI.line_m RI.line_m KI.sub_m_c0_c0_p2_a RI.sub_m_c0_c0_p2_a V V' 17 (y := KI.k168) (y' := RI.r168) rfl rfl
theorem s169 : val (after (KI.ops_main (F := F)) V) KI.k169 = RI.R V' RI.r169 :=
  same_unary KI.line_m RI.line_m KI.sub_m_c0_c0_p2_a RI.sub_m_c0_c0_p2_a V V' 18 (x := KI.k168) (x' := RI.r168) (y := KI.k169) (y' := RI.r169) rfl rfl (by decide) (by decide) (s168 V V')
theorem s170 : val (after (KI.ops_main (F := F)) V) KI.k170 = RI.R V' RI.r170 :=
  same_binary KI.line_m RI.line_m KI.sub_m_c0_c0_p2_a RI.sub_m_c0_c0_p2_a V V' 19 (a := KI.k166) (a' := RI.r166) (b := KI.k169) (b' := RI.r169) (y := KI.k170) (y' := RI.r170) rfl rfl (by decide) (by decide) (by decide) (by decide) (s166 V V') (s169 V V')
theorem s171 : val (after (KI.ops_main (F := F)) V) KI.k171 = RI.R V' RI.r171 :=
  same_nullary KI.line_m RI.line_m KI.sub_m_c0_c0_p2_a RI.sub_m_c0_c0_p2_a V V' 20 (y := KI.k171) (y' := RI.r171) rfl rfl
theorem s172 : val (after (KI.ops_main (F := F)) V) KI.k172 = RI.R V' RI.r172 :=
  same_unary KI.line_m RI.line_m KI.sub_m_c0_c0_p2_a RI.sub_m_c0_c0_p2_a V V' 21 (x := KI.k171) (x' := RI.r171) (y := KI.k172) (y' := RI.r172) rfl rfl (by decide) (by decide) (s171 V V')
theorem s173 : val (after (KI.ops_main (F := F)) V) KI.k173 = RI.R V' RI.r173 :=
  same_binary KI.line_m RI.line_m KI.sub_m_c0_c0_p2_a RI.sub_m_c0_c0_p2_a V V' 22 (a := KI.k166) (a' := RI.r166) (b := KI.k172) (b' := RI.r172) (y := KI.k173) (y' := RI.r173) rfl rfl (by decide) (by decide) (by decide) (by decide) (s166 V V') (s172 V V')
theorem s174 : val (after (KI.ops_main (F := F)) V) KI.k174 = RI.R V' RI.r174 :=
  same_binary KI.line_m RI.line_m KI.sub_m_c0_c0_p2_a RI.sub_m_c0_c0_p2_a V V' 23 (a := KI.k170) (a' := RI.r170) (b := KI.k173) (b' := RI.r173) (y := KI.k174) (y' := RI.r174) rfl rfl (by decide) (by decide) (by decide) (by decide) (s170 V V') (s173 V V')
theorem s175 : val (after (KI.ops_main (F := F)) V) KI.k175 = RI.R V' RI.r175 :=
  same_binary KI.line_m RI.line_m KI.sub_m_c0_c0_p2_a RI.sub_m_c0_c0_p2_a V V' 24 (a := KI.k167) (a' := RI.r167) (b := KI.k174) (b' := RI.r174) (y := KI.k175) (y' := RI.r175) rfl rfl (by decide) (by decide) (by decide) (by decide) (s167 V V') (s174 V V')
theorem s176 : val (after (KI.ops_main (F := F)) V) KI.k176 = RI.R V' RI.r176 :=
  same_binary KI.line_m RI.line_m KI.sub_m_c0_c0_p2_a RI.sub_m_c0_c0_p2_a V V' 25 (a := KI.k167) (a' := RI.r167) (b := KI.k175) (b' := RI.r175) (y := KI.k176) (y' := RI.r176) rfl rfl (by decide) (by decide) (by decide) (by decide) (s167 V V') (s175 V V')
theorem s177 : val (after (KI.ops_main (F := F)) V) KI.k177 = RI.R V' RI.r177 :=
  same_nullary KI.line_m RI.line_m KI.sub_m_c0_c0_p2_a RI.sub_m_c0_c0_p2_a V V' 26 (y := KI.k177) (y' := RI.r177) rfl rfl
theorem s178 : val (after (KI.ops_main (F := F)) V) KI.k178 = RI.R V' RI.r178 :=
  same_unary KI.line_m RI.line_m KI.sub_m_c0_c0_p2_a RI.sub_m_c0_c0_p2_a V V' 27 (x := KI.k177) (x' := RI.r177) (y := KI.k178) (y' := RI.r178) rfl rfl (by decide) (by decide) (s177 V V')
theorem s179 : val (after (KI.ops_main (F := F)) V) KI.k179 = RI.R V' RI.r179 :=
  same_binary KI.line_m RI.line_m KI.sub_m_c0_c0_p2_a RI.sub_m_c0_c0_p2_a V V' 28 (a := KI.k175) (a' := RI.r175) (b := KI.k178) (b' := RI.r178) (y := KI.k179) (y' := RI.r179) rfl rfl (by decide) (by decide) (by decide) (by decide) (s175 V V') (s178 V V')
theorem s180 : val (after (KI.ops_main (F := F)) V) KI.k180 = RI.R V' RI.r180 :=
  same_nullary KI.line_m RI.line_m KI.sub_m_c0_c0_p2_a RI.sub_m_c0_c0_p2_a V V' 29 (y := KI.k180) (y' := RI.r180) rfl rfl
theorem s181 : val (after (KI.ops_main (F := F)) V) KI.k181 = RI.R V' RI.r181 :=
  same_unary KI.line_m RI.line_m KI.sub_m_c0_c0_p2_a RI.sub_m_c0_c0_p2_a V V' 30 (x := KI.k180) (x' := RI.r180) (y := KI.k181) (y' := RI.r181) rfl rfl (by decide) (by decide) (s180 V V')
theorem s182 : val (after (KI.ops_main (F := F)) V) KI.k182 = RI.R V' RI.r182 :=
  same_binary KI.line_m RI.line_m KI.sub_m_c0_c0_p2_a RI.sub_m_c0_c0_p2_a V V' 31 (a := KI.k175) (a' := RI.r175) (b := KI.k181) (b' := RI.r181) (y := KI.k182) (y' := RI.r182) rfl rfl (by decide) (by decide) (by decide) (by decide) (s175 V V') (s181 V V')
theorem s183 : val (after (KI.ops_main (F := F)) V) KI.k183 = RI.R V' RI.r183 :=
  same_binary KI.line_m RI.line_m KI.sub_m_c0_c0_p2_a RI.sub_m_c0_c0_p2_a V V' 32 (a := KI.k179) (a' := RI.r179) (b := KI.k182) (b' := RI.r182) (y := KI.k183) (y' := RI.r183) rfl rfl (by decide) (by decide) (by decide) (by decide) (s179 V V') (s182 V V')
theorem s184 : val (after (KI.ops_main (F := F)) V) KI.k184 = RI.R V' RI.r184 :=
  same_binary KI.line_m RI.line_m KI.sub_m_c0_c0_p2_a RI.sub_m_c0_c0_p2_a V V' 33 (a := KI.k176) (a' := RI.r176) (b := KI.k183) (b' := RI.r183) (y := KI.k184) (y' := RI.r184) rfl rfl (by decide) (by decide) (by decide) (by decide) (s176 V V') (s183 V V')
theorem s185 : val (after (KI.ops_main (F := F)) V) KI.k185 = RI.R V' RI.r185 :=
  same_binary KI.line_m RI.line_m KI.sub_m_c0_c0_p2_a RI.sub_m_c0_c0_p2_a V V' 34 (a := KI.k176) (a' := RI.r176) (b := KI.k184) (b' := RI.r184) (y := KI.k185) (y' := RI.r185) rfl rfl (by decide) (by decide) (by decide) (by decide) (s176 V V') (s184 V V')
theorem s186 : val (after (KI.ops_main (F := F)) V) KI.k186 = RI.R V' RI.r186 :=
  same_nullary KI.line_m RI.line_m KI.sub_m_c0_c0_p2_a RI.sub_m_c0_c0_p2_a V V' 35 (y := KI.k186) (y' := RI.r186) rfl rfl
theorem s187 : val (after (KI.ops_main (F := F)) V) KI.k187 = RI.R V' RI.r187 :=
  same_unary KI.line_m RI.line_m KI.sub_m_c0_c0_p2_a RI.sub_m_c0_c0_p2_a V V' 36 (x := KI.k186) (x' := RI.r186) (y := KI.k187) (y' := RI.r187) rfl rfl (by decide) (by decide) (s186 V V')
theorem s188 : val (after (KI.ops_main (F := F)) V) KI.k188 = RI.R V' RI.r188 :=
  same_binary KI.line_m RI.line_m KI.sub_m_c0_c0_p2_a RI.sub_m_c0_c0_p2_a V V' 37 (a := KI.k184) (a' := RI.r184) (b := KI.k187) (b' := RI.r187) (y := KI.k188) (y' := RI.r188) rfl rfl (by decide) (by decide) (by decide) (by decide) (s184 V V') (s187 V V')
theorem s189 : val (after (KI.ops_main (F := F)) V) KI.k189 = RI.R V' RI.r189 :=
  same_nullary KI.line_m RI.line_m KI.sub_m_c0_c0_p2_a RI.sub_m_c0_c0_p2_a V V' 38 (y := KI.k189) (y' := RI.r189) rfl rfl
theorem s190 : val (after (KI.ops_main (F := F)) V) KI.k190 = RI.R V' RI.r190 :=
  same_unary KI.line_m RI.line_m KI.sub_m_c0_c0_p2_a RI.sub_m_c0_c0_p2_a V V' 39 (x := KI.k189) (x' := RI.r189) (y := KI.k190) (y' := RI.r190) rfl rfl (by decide) (by decide) (s189 V V')
theorem s191 : val (after (KI.ops_main (F := F)) V) KI.k191 = RI.R V' RI.r191 :=
  same_binary KI.line_m RI.line_m KI.sub_m_c0_c0_p2_a RI.sub_m_c0_c0_p2_a V V' 40 (a := KI.k184) (a' := RI.r184) (b := KI.k190) (b' := RI.r190) (y := KI.k191) (y' := RI.r191) rfl rfl (by decide) (by decide) (by decide) (by decide) (s184 V V') (s190 V V')
theorem s192 : val (after (KI.ops_main (F := F)) V) KI.k192 = RI.R V' RI.r192 :=
  same_binary KI.line_m RI.line_m KI.sub_m_c0_c0_p2_a RI.sub_m_c0_c0_p2_a V V' 41 (a := KI.k188) (a' := RI.r188) (b := KI.k191) (b' := RI.r191) (y := KI.k192) (y' := RI.r192) rfl rfl (by decide) (by decide) (by decide) (by decide) (s188 V V') (s191 V V')
theorem s193 : val (after (KI.ops_main (F := F)) V) KI.k193 = RI.R V' RI.r193 :=
  same_binary KI.line_m RI.line_m KI.sub_m_c0_c0_p2_a RI.sub_m_c0_c0_p2_a V V' 42 (a := KI.k185) (a' := RI.r185) (b := KI.k192) (b' := RI.r192) (y := KI.k193) (y' := RI.r193) rfl rfl (by decide) (by decide) (by decide) (by decide) (s185 V V') (s192 V V')
theorem s194 : val (after (KI.ops_main (F := F)) V) KI.k194 = RI.R V' RI.r194 :=
  same_binary KI.line_m RI.line_m KI.sub_m_c0_c0_p2_a RI.sub_m_c0_c0_p2_a V V' 43 (a := KI.k185) (a' := RI.r185) (b := KI.k193) (b' := RI.r193) (y := KI.k194) (y' := RI.r194) rfl rfl (by decide) (by decide) (by decide) (by decide) (s185 V V') (s193 V V')
theorem s195 : val (after (KI.ops_main (F := F)) V) KI.k195 = RI.R V' RI.r195 :=
  same_nullary KI.line_m RI.line_m KI.sub_m_c0_c0_p2_a RI.sub_m_c0_c0_p2_a V V' 44 (y := KI.k195) (y' := RI.r195) rfl rfl
theorem s196 : val (after (KI.ops_main (F := F)) V) KI.k196 = RI.R V' RI.r196 :=
  same_unary KI.line_m RI.line_m KI.sub_m_c0_c0_p2_a RI.sub_m_c0_c0_p2_a V V' 45 (x := KI.k195) (x' := RI.r195) (y := KI.k196) (y' := RI.r196) rfl rfl (by decide) (by decide) (s195 V V')
theorem s197 : val (after (KI.ops_main (F := F)) V) KI.k197 = RI.R V' RI.r197 :=
  same_binary KI.line_m RI.line_m KI.sub_m_c0_c0_p2_a RI.sub_m_c0_c0_p2_a V V' 46 (a := KI.k193) (a' := RI.r193) (b := KI.k196) (b' := RI.r196) (y := KI.k197) (y' := RI.r197) rfl rfl (by decide) (by decide) (by decide) (by decide) (s193 V V') (s196 V V')
theorem s198 : val (after (KI.ops_main (F := F)) V) KI.k198 = RI.R V' RI.r198 :=
  same_nullary KI.line_m RI.line_m KI.sub_m_c0_c0_p2_a RI.sub_m_c0_c0_p2_a V V' 47 (y := KI.k198) (y' := RI.r198) rfl rfl
theorem s199 : val (after (KI.ops_main (F := F)) V) KI.k199 = RI.R V' RI.r199 :=
  same_unary KI.line_m RI.line_m KI.sub_m_c0_c0_p2_a RI.sub_m_c0_c0_p2_a V V' 48 (x := KI.k198) (x' := RI.r198) (y := KI.k199) (y' := RI.r199) rfl rfl (by decide) (by decide) (s198 V V')
theorem s200 : val (after (KI.ops_main (F := F)) V) KI.k200 = RI.R V' RI.r200 :=
  same_binary KI.line_m RI.line_m KI.sub_m_c0_c0_p2_a RI.sub_m_c0_c0_p2_a V V' 49 (a := KI.k193) (a' := RI.r193) (b := KI.k199) (b' := RI.r199) (y := KI.k200) (y' := RI.r200) rfl rfl (by decide) (by decide) (by decide) (by decide) (s193 V V') (s199 V V')
theorem s201 : val (after (KI.ops_main (F := F)) V) KI.k201 = RI.R V' RI.r201 :=
  same_binary KI.line_m RI.line_m KI.sub_m_c0_c0_p2_a RI.sub_m_c0_c0_p2_a V V' 50 (a := KI.k197) (a' := RI.r197) (b := KI.k200) (b' := RI.r200) (y := KI.k201) (y' := RI.r201) rfl rfl (by decide) (by decide) (by decide) (by decide) (s197 V V') (s200 V V')
theorem s202 : val (after (KI.ops_main (F := F)) V) KI.k202 = RI.R V' RI.r202 :=
  same_binary KI.line_m RI.line_m KI.sub_m_c0_c0_p2_a RI.sub_m_c0_c0_p2_a V V' 51 (a := KI.k194) (a' := RI.r194) (b := KI.k201) (b' := RI.r201) (y := KI.k202) (y' := RI.r202) rfl rfl (by decide) (by decide) (by decide) (by decide) (s194 V V') (s201 V V')
theorem s203 : val (after (KI.ops_main (F := F)) V) KI.k203 = RI.R V' RI.r203 :=
  same_unary KI.line_m RI.line_m KI.sub_m_c0_c0_p2_a RI.sub_m_c0_c0_p2_a V V' 52 (x := KI.k21) (x' := RI.r21) (y := KI.k203) (y' := RI.r203) rfl rfl (by decide) (by decide) (s21 V V')
theorem s204 : val (after (KI.ops_main (F := F)) V) KI.k204 = RI.R V' RI.r204 :=
  same_binary KI.line_m RI.line_m KI.sub_m_c0_c0_p2_a RI.sub_m_c0_c0_p2_a V V' 53 (a := KI.k194) (a' := RI.r194) (b := KI.k203) (b' := RI.r203) (y := KI.k204) (y' := RI.r204) rfl rfl (by decide) (by decide) (by decide) (by decide) (s194 V V') (s203 V V')
theorem s205 : val (after (KI.ops_main (F := F)) V) KI.k205 = RI.R V' RI.r205 :=
  same_unary KI.line_m RI.line_m KI.sub_m_c0_c0_p2_a RI.sub_m_c0_c0_p2_a V V' 54 (x := KI.k33) (x' := RI.r33) (y := KI.k205) (y' := RI.r205) rfl rfl (by decide) (by decide) (s33 V V')
theorem s206 : val (after (KI.ops_main (F := F)) V) KI.k206 = RI.R V' RI.r206 :=
  same_binary KI.line_m RI.line_m KI.sub_m_c0_c0_p2_a RI.sub_m_c0_c0_p2_a V V' 55 (a := KI.k202) (a' := RI.r202) (b := KI.k205) (b' := RI.r205) (y := KI.k206) (y' := RI.r206) rfl rfl (by decide) (by decide) (by decide) (by decide) (s202 V V') (s205 V V')
theorem s207 : val (after (KI.ops_main (F := F)) V) KI.k207 = RI.R V' RI.r207 :=
  same_nullary KI.line_m RI.line_m KI.sub_m_c0_c0_p2_a RI.sub_m_c0_c0_p2_a V V' 56 (y := KI.k207) (y' := RI.r207) rfl rfl
theorem s208 : val (after (KI.ops_main (F := F)) V) KI.k208 = RI.R V' RI.r208 :=
  same_unary KI.line_m RI.line_m KI.sub_m_c0_c0_p2_a RI.sub_m_c0_c0_p2_a V V' 57 (x := KI.k207) (x' := RI.r207) (y := KI.k208) (y' := RI.r208) rfl rfl (by decide) (by decide) (s207 V V')
theorem s209 : val (after (KI.ops_main (F := F)) V) KI.k209 = RI.R V' RI.r209 :=
  same_binary KI.line_m RI.line_m KI.sub_m_c0_c0_p2_a RI.sub_m_c0_c0_p2_a V V' 58 (a := KI.k206) (a' := RI.r206) (b := KI.k208) (b' := RI.r208) (y := KI.k209) (y' := RI.r209) rfl rfl (by decide) (by decide) (by decide) (by decide) (s206 V V') (s208 V V')
theorem s210 : val (after (KI.ops_main (F := F)) V) KI.k210 = RI.R V' RI.r210 :=
  same_binary KI.line_m RI.line_m KI.sub_m_c0_c0_p2_a RI.sub_m_c0_c0_p2_a V V' 59 (a := KI.k204) (a' := RI.r204) (b := KI.k209) (b' := RI.r209) (y := KI.k210) (y' := RI.r210) rfl rfl (by decide) (by decide) (by decide) (by decide) (s204 V V') (s209 V V')
theorem s211 : val (after (KI.ops_main (F := F)) V) KI.k211 = RI.R V' RI.r211 :=
  same_nullary KI.line_m RI.line_m KI.sub_m_c0_c0_p3_a RI.sub_m_c0_c0_p3_a V V' 0 (y := KI.k211) (y' := RI.r211) rfl rfl
theorem s212 : val (after (KI.ops_main (F := F)) V) KI.k212 = RI.R V' RI.r212 :=
  same_unary KI.line_m RI.line_m KI.sub_m_c0_c0_p3_a RI.sub_m_c0_c0_p3_a V V' 1 (x := KI.k211) (x' := RI.r211) (y := KI.k212) (y' := RI.r212) rfl rfl (by decide) (by decide) (s211 V V')
theorem s213 : val (after (KI.ops_main (F := F)) V) KI.k213 = RI.R V' RI.r213 :=
  same_binary KI.line_m RI.line_m KI.sub_m_c0_c0_p3_a RI.sub_m_c0_c0_p3_a V V' 2 (a := KI.k209) (a' := RI.r209) (b := KI.k212) (b' := RI.r212) (y := KI.k213) (y' := RI.r213) rfl rfl (by decide) (by decide) (by decide) (by decide) (s209 V V') (s212 V V')
theorem s214 : val (after (KI.ops_main (F := F)) V) KI.k214 = RI.R V' RI.r214 :=
  same_nullary KI.line_m RI.line_m KI.sub_m_c0_c0_p3_a RI.sub_m_c0_c0_p3_a V V' 3 (y := KI.k214) (y' := RI.r214) rfl rfl
theorem s215 : val (after (KI.ops_main (F := F)) V) KI.k215 = RI.R V' RI.r215 :=
  same_unary KI.line_m RI.line_m KI.sub_m_c0_c0_p3_a RI.sub_m_c0_c0_p3_a V V' 4 (x := KI.k214) (x' := RI.r214) (y := KI.k215) (y' := RI.r215) rfl rfl (by decide) (by decide) (s214 V V')
theorem s216 : val (after (KI.ops_main (F := F)) V) KI.k216 = RI.R V' RI.r216 :=
  same_binary KI.line_m RI.line_m KI.sub_m_c0_c0_p3_a RI.sub_m_c0_c0_p3_a V V' 5 (a := KI.k209) (a' := RI.r209) (b := KI.k215) (b' := RI.r215) (y := KI.k216) (y' := RI.r216) rfl rfl (by decide) (by decide) (by decide) (by decide) (s209 V V') (s215 V V')
theorem s217 : val (after (KI.ops_main (F := F)) V) KI.k217 = RI.R V' RI.r217 :=
  same_binary KI.line_m RI.line_m KI.sub_m_c0_c0_p3_a RI.sub_m_c0_c0_p3_a V V' 6 (a := KI.k213) (a' := RI.r213) (b := KI.k216) (b' := RI.r216) (y := KI.k217) (y' := RI.r217) rfl rfl (by decide) (by decide) (by decide) (by decide) (s213 V V') (s216 V V')
theorem s218 : val (after (KI.ops_main (F := F)) V) KI.k218 = RI.R V' RI.r218 :=
  same_binary KI.line_m RI.line_m KI.sub_m_c0_c0_p3_a RI.sub_m_c0_c0_p3_a V V' 7 (a := KI.k210) (a' := RI.r210) (b := KI.k217) (b' := RI.r217) (y := KI.k218) (y' := RI.r218) rfl rfl (by decide) (by decide) (by decide) (by decide) (s210 V V') (s217 V V')
theorem s219 : val (after (KI.ops_main (F := F)) V) KI.k219 = RI.R V' RI.r219 :=
  same_binary KI.line_m RI.line_m KI.sub_m_c0_c0_p3_a RI.sub_m_c0_c0_p3_a V V' 8 (a := KI.k210) (a' := RI.r210) (b := KI.k218) (b' := RI.r218) (y := KI.k219) (y' := RI.r219) rfl rfl (by decide) (by decide) (by decide) (by decide) (s210 V V') (s218 V V')
theorem s220 : val (after (KI.ops_main (F := F)) V) KI.k220 = RI.R V' RI.r220 :=
  same_nullary KI.line_m RI.line_m KI.sub_m_c0_c0_p3_a RI.sub_m_c0_c0_p3_a V V' 9 (y := KI.k220) (y' := RI.r220) rfl rfl
theorem s221 : val (after (KI.ops_main (F := F)) V) KI.k221 = RI.R V' RI.r221 :=
  same_unary KI.line_m RI.line_m KI.sub_m_c0_c0_p3_a RI.sub_m_c0_c0_p3_a V V' 10 (x := KI.k220) (x' := RI.r220) (y := KI.k221) (y' := RI.r221) rfl rfl (by decide) (by decide) (s220 V V')
theorem s222 : val (after (KI.ops_main (F := F)) V) KI.k222 = RI.R V' RI.r222 :=
  same_binary KI.line_m RI.line_m KI.sub_m_c0_c0_p3_a RI.sub_m_c0_c0_p3_a V V' 11 (a := KI.k218) (a' := RI.r218) (b := KI.k221) (b' := RI.r221) (y := KI.k222) (y' := RI.r222) rfl rfl (by decide) (by decide) (by decide) (by decide) (s218 V V') (s221 V V')
theorem s223 : val (after (KI.ops_main (F := F)) V) KI.k223 = RI.R V' RI.r223 :=
  same_nullary KI.line_m RI.line_m KI.sub_m_c0_c0_p3_a RI.sub_m_c0_c0_p3_a V V' 12 (y := KI.k223) (y' := RI.r223) rfl rfl
theorem s224 : val (after (KI.ops_main (F := F)) V) KI.k224 = RI.R V' RI.r224 :=
  same_unary KI.line_m RI.line_m KI.sub_m_c0_c0_p3_a RI.sub_m_c0_c0_p3_a V V' 13 (x := KI.k223) (x' := RI.r223) (y := KI.k224) (y' := RI.r224) rfl rfl (by decide) (by decide) (s223 V V')
theorem s225 : val (after (KI.ops_main (F := F)) V) KI.k225 = RI.R V' RI.r225 :=
  same_binary KI.line_m RI.line_m KI.sub_m_c0_c0_p3_a RI.sub_m_c0_c0_p3_a V V' 14 (a := KI.k218) (a' := RI.r218) (b := KI.k224) (b' := RI.r224) (y := KI.k225) (y' := RI.r225) rfl rfl (by decide) (by decide) (by decide) (by decide) (s218 V V') (s224 V V')
theorem s226 : val (after (KI.ops_main (F := F)) V) KI.k226 = RI.R V' RI.r226 :=
  same_binary KI.line_m RI.line_m KI.sub_m_c0_c0_p3_a RI.sub_m_c0_c0_p3_a V V' 15 (a := KI.k222) (a' := RI.r222) (b := KI.k225) (b' := RI.r225) (y := KI.k226) (y' := RI.r226) rfl rfl (by decide) (by decide) (by decide) (by decide) (s222 V V') (s225 V V')
theorem s227 : val (after (KI.ops_main (F := F)) V) KI.k227 = RI.R V' RI.r227 :=
  same_binary KI.line_m RI.line_m KI.sub_m_c0_c0_p3_a RI.sub_m_c0_c0_p3_a V V' 16 (a := KI.k219) (a' := RI.r219) (b := KI.k226) (b' := RI.r226) (y := KI.k227) (y' := RI.r227) rfl rfl (by decide) (by decide) (by decide) (by decide) (s219 V V') (s226 V V')
theorem s228 : val (after (KI.ops_main (F := F)) V) KI.k228 = RI.R V' RI.r228 :=
  same_binary KI.line_m RI.line_m KI.sub_m_c0_c0_p3_a RI.sub_m_c0_c0_p3_a V V' 17 (a := KI.k219) (a' := RI.r219) (b := KI.k227) (b' := RI.r227) (y := KI.k228) (y' := RI.r228) rfl rfl (by decide) (by decide) (by decide) (by decide) (s219 V V') (s227 V V')
theorem s229 : val (after (KI.ops_main (F := F)) V) KI.k229 = RI.R V' RI.r229 :=
  same_nullary KI.line_m RI.line_m KI.sub_m_c0_c0_p3_a RI.sub_m_c0_c0_p3_a V V' 18 (y := KI.k229) (y' := RI.r229) rfl rfl
theorem s230 : val (after (KI.ops_main (F := F)) V) KI.k230 = RI.R V' RI.r230 :=
  same_unary KI.line_m RI.line_m KI.sub_m_c0_c0_p3_a RI.sub_m_c0_c0_p3_a V V' 19 (x := KI.k229) (x' := RI.r229) (y := KI.k230) (y' := RI.r230) rfl rfl (by decide) (by decide) (s229 V V')
theorem s231 : val (after (KI.ops_main (F := F)) V) KI.k231 = RI.R V' RI.r231 :=
  same_binary KI.line_m RI.line_m KI.sub_m_c0_c0_p3_a RI.sub_m_c0_c0_p3_a V V' 20 (a := KI.k227) (a' := RI.r227) (b := KI.k230) (b' := RI.r230) (y := KI.k231) (y' := RI.r231) rfl rfl (by decide) (by decide) (by decide) (by decide) (s227 V V') (s230 V V')
theorem s232 : val (after (KI.ops_main (F := F)) V) KI.k232 = RI.R V' RI.r232 :=
  same_nullary KI.line_m RI.line_m KI.sub_m_c0_c0_p3_a RI.sub_m_c0_c0_p3_a V V' 21 (y := KI.k232) (y' := RI.r232) rfl rfl
theorem s233 : val (after (KI.ops_main (F := F)) V) KI.k233 = RI.R V' RI.r233 :=
  same_unary KI.line_m RI.line_m KI.sub_m_c0_c0_p3_a RI.sub_m_c0_c0_p3_a V V' 22 (x := KI.k232) (x' := RI.r232) (y := KI.k233) (y' := RI.r233) rfl rfl (by decide) (by decide) (s232 V V')
theorem s234 : val (after (KI.ops_main (F := F)) V) KI.k234 = RI.R V' RI.r234 :=
  same_binary KI.line_m RI.line_m KI.sub_m_c0_c0_p3_a RI.sub_m_c0_c0_p3_a V V' 23 (a := KI.k227) (a' := RI.r227) (b := KI.k233) (b' := RI.r233) (y := KI.k234) (y' := RI.r234) rfl rfl (by decide) (by decide) (by decide) (by decide) (s227 V V') (s233 V V')
theorem s235 : val (after (KI.ops_main (F := F)) V) KI.k235 = RI.R V' RI.r235 :=
  same_binary KI.line_m RI.line_m KI.sub_m_c0_c0_p3_a RI.sub_m_c0_c0_p3_a V V' 24 (a := KI.k231) (a' := RI.r231) (b := KI.k234) (b' := RI.r234) (y := KI.k235) (y' := RI.r235) rfl rfl (by decide) (by decide) (by decide) (by decide) (s231 V V') (s234 V V')
theorem s236 : val (after (KI.ops_main (F := F)) V) KI.k236 = RI.R V' RI.r236 :=
  same_binary KI.line_m RI.line_m KI.sub_m_c0_c0_p3_a RI.sub_m_c0_c0_p3_a V V' 25 (a := KI.k228) (a' := RI.r228) (b := KI.k235) (b' := RI.r235) (y := KI.k236) (y' := RI.r236) rfl rfl (by decide) (by decide) (by decide) (by decide) (s228 V V') (s235 V V')
theorem s237 : val (after (KI.ops_main (F := F)) V) KI.k237 = RI.R V' RI.r237 :=
  same_binary KI.line_m RI.line_m KI.sub_m_c0_c0_p3_a RI.sub_m_c0_c0_p3_a V V' 26 (a := KI.k228) (a' := RI.r228) (b := KI.k236) (b' := RI.r236) (y := KI.k237) (y' := RI.r237) rfl rfl (by decide) (by decide) (by decide) (by decide) (s228 V V') (s236 V V')
theorem s238 : val (after (KI.ops_main (F := F)) V) KI.k238 = RI.R V' RI.r238 :=
  same_nullary KI.line_m RI.line_m KI.sub_m_c0_c0_p3_a RI.sub_m_c0_c0_p3_a V V' 27 (y := KI.k238) (y' := RI.r238) rfl rfl
theorem s239 : val (after (KI.ops_main (F := F)) V) KI.k239 = RI.R V' RI.r239 :=
  same_unary KI.line_m RI.line_m KI.sub_m_c0_c0_p3_a RI.sub_m_c0_c0_p3_a V V' 28 (x := KI.k238) (x' := RI.r238) (y := KI.k239) (y' := RI.r239) rfl rfl (by decide) (by decide) (s238 V V')
theorem s240 : val (after (KI.ops_main (F := F)) V) KI.k240 = RI.R V' RI.r240 :=
  same_binary KI.line_m RI.line_m KI.sub_m_c0_c0_p3_a RI.sub_m_c0_c0_p3_a V V' 29 (a := KI.k236) (a' := RI.r236) (b := KI.k239) (b' := RI.r239) (y := KI.k240) (y' := RI.r240) rfl rfl (by decide) (by decide) (by decide) (by decide) (s236 V V') (s239 V V')
theorem s241 : val (after (KI.ops_main (F := F)) V) KI.k241 = RI.R V' RI.r241 :=
  same_nullary KI.line_m RI.line_m KI.sub_m_c0_c0_p3_a RI.sub_m_c0_c0_p3_a V V' 30 (y := KI.k241) (y' := RI.r241) rfl rfl
theorem s242 : val (after (KI.ops_main (F := F)) V) KI.k242 = RI.R V' RI.r242 :=
  same_unary KI.line_m RI.line_m KI.sub_m_c0_c0_p3_a RI.sub_m_c0_c0_p3_a V V' 31 (x := KI.k241) (x' := RI.r241) (y := KI.k242) (y' := RI.r242) rfl rfl (by decide) (by decide) (s241 V V')
theorem s243 : val (after (KI.ops_main (F := F)) V) KI.k243 = RI.R V' RI.r243 :=
  same_binary KI.line_m RI.line_m KI.sub_m_c0_c0_p3_a RI.sub_m_c0_c0_p3_a V V' 32 (a := KI.k236) (a' := RI.r236) (b := KI.k242) (b' := RI.r242) (y := KI.k243) (y' := RI.r243) rfl rfl (by decide) (by decide) (by decide) (by decide) (s236 V V') (s242 V V')
theorem s244 : val (after (KI.ops_main (F := F)) V) KI.k244 = RI.R V' RI.r244 :=
  same_binary KI.line_m RI.line_m KI.sub_m_c0_c0_p3_a RI.sub_m_c0_c0_p3_a V V' 33 (a := KI.k240) (a' := RI.r240) (b := KI.k243) (b' := RI.r243) (y := KI.k244) (y' := RI.r244) rfl rfl (by decide) (by decide) (by decide) (by decide) (s240 V V') (s243 V V')
theorem s245 : val (after (KI.ops_main (F := F)) V) KI.k245 = RI.R V' RI.r245 :=
  same_binary KI.line_m RI.line_m KI.sub_m_c0_c0_p3_a RI.sub_m_c0_c0_p3_a V V' 34 (a := KI.k237) (a' := RI.r237) (b := KI.k244) (b' := RI.r244) (y := KI.k245) (y' := RI.r245) rfl rfl (by decide) (by decide) (by decide) (by decide) (s237 V V') (s244 V V')
theorem s246 : val (after (KI.ops_main (F := F)) V) KI.k246 = RI.R V' RI.r246 :=
  same_unary KI.line_m RI.line_m KI.sub_m_c0_c0_p3_a RI.sub_m_c0_c0_p3_a V V' 35 (x := KI.k33) (x' := RI.r33) (y := KI.k246) (y' := RI.r246) rfl rfl (by decide) (by decide) (s33 V V')
theorem s247 : val (after (KI.ops_main (F := F)) V) KI.k247 = RI.R V' RI.r247 :=
  same_binary KI.line_m RI.line_m KI.sub_m_c0_c0_p3_a RI.sub_m_c0_c0_p3_a V V' 36 (a := KI.k237) (a' := RI.r237) (b := KI.k246) (b' := RI.r246) (y := KI.k247) (y' := RI.r247) rfl rfl (by decide) (by decide) (by decide) (by decide) (s237 V V') (s246 V V')
theorem s248 : val (after (KI.ops_main (F := F)) V) KI.k248 = RI.R V' RI.r248 :=
  same_unary KI.line_m RI.line_m KI.sub_m_c0_c0_p3_a RI.sub_m_c0_c0_p3_a V V' 37 (x := KI.k19) (x' := RI.r19) (y := KI.k248) (y' := RI.r248) rfl rfl (by decide) (by decide) (s19 V V')
theorem s249 : val (after (KI.ops_main (F := F)) V) KI.k249 = RI.R V' RI.r249 :=
  same_binary KI.line_m RI.line_m KI.sub_m_c0_c0_p3_a RI.sub_m_c0_c0_p3_a V V' 38 (a := KI.k245) (a' := RI.r245) (b := KI.k248) (b' := RI.r248) (y := KI.k249) (y' := RI.r249) rfl rfl (by decide) (by decide) (by decide) (by decide) (s245 V V') (s248 V V')
theorem s250 : val (after (KI.ops_main (F := F)) V) KI.k250 = RI.R V' RI.r250 :=
  same_nullary KI.line_m RI.line_m KI.sub_m_c0_c0_p3_a RI.sub_m_c0_c0_p3_a V V' 39 (y := KI.k250) (y' := RI.r250) rfl rfl
theorem s251 : val (after (KI.ops_main (F := F)) V) KI.k251 = RI.R V' RI.r251 :=
  same_unary KI.line_m RI.line_m KI.sub_m_c0_c0_p3_a RI.sub_m_c0_c0_p3_a V V' 40 (x := KI.k250) (x' := RI.r250) (y := KI.k251) (y' := RI.r251) rfl rfl (by decide) (by decide) (s250 V V')
theorem s252 : val (after (KI.ops_main (F := F)) V) KI.k252 = RI.R V' RI.r252 :=
  same_binary KI.line_m RI.line_m KI.sub_m_c0_c0_p3_a RI.sub_m_c0_c0_p3_a V V' 41 (a := KI.k249) (a' := RI.r249) (b := KI.k251) (b' := RI.r251) (y := KI.k252) (y' := RI.r252) rfl rfl (by decide) (by decide) (by decide) (by decide) (s249 V V') (s251 V V')
theorem s253 : val (after (KI.ops_main (F := F)) V) KI.k253 = RI.R V' RI.r253 :=
  same_binary KI.line_m RI.line_m KI.sub_m_c0_b RI.sub_m_c0_b V V' 0 (a := KI.k247) (a' := RI.r247) (b := KI.k252) (b' := RI.r252) (y := KI.k253) (y' := RI.r253) rfl rfl (by decide) (by decide) (by decide) (by decide) (s247 V V') (s252 V V')
theorem s254 : val (after (KI.ops_main (F := F)) V) KI.k254 = RI.R V' RI.r254 :=
  same_nullary KI.line_m RI.line_m KI.sub_m_c0_b RI.sub_m_c0_b V V' 1 (y := KI.k254) (y' := RI.r254) rfl rfl
theorem s255 : val (after (KI.ops_main (F := F)) V) KI.k255 = RI.R V' RI.r255 :=
  same_unary KI.line_m RI.line_m KI.sub_m_c0_b RI.sub_m_c0_b V V' 2 (x := KI.k254) (x' := RI.r254) (y := KI.k255) (y' := RI.r255) rfl rfl (by decide) (by decide) (s254 V V')
theorem s256 : val (after (KI.ops_main (F := F)) V) KI.k256 = RI.R V' RI.r256 :=
  same_binary KI.line_m RI.line_m KI.sub_m_c0_b RI.sub_m_c0_b V V' 3 (a := KI.k253) (a' := RI.r253) (b := KI.k255) (b' := RI.r255) (y := KI.k256) (y' := RI.r256) rfl rfl (by decide) (by decide) (by decide) (by decide) (s253 V V') (s255 V V')
theorem s257 : val (after (KI.ops_main (F := F)) V) KI.k257 = RI.R V' RI.r257 :=
  same_nullary KI.line_m RI.line_m KI.sub_m_c0_b RI.sub_m_c0_b V V' 4 (y := KI.k257) (y' := RI.r257) rfl rfl
theorem s258 : val (after (KI.ops_main (F := F)) V) KI.k258 = RI.R V' RI.r258 :=
  same_unary KI.line_m RI.line_m KI.sub_m_c0_b RI.sub_m_c0_b V V' 5 (x := KI.k257) (x' := RI.r257) (y := KI.k258) (y' := RI.r258) rfl rfl (by decide) (by decide) (s257 V V')
theorem s259 : val (after (KI.ops_main (F := F)) V) KI.k259 = RI.R V' RI.r259 :=
  same_binary KI.line_m RI.line_m KI.sub_m_c0_b RI.sub_m_c0_b V V' 6 (a := KI.k256) (a' := RI.r256) (b := KI.k258) (b' := RI.r258) (y := KI.k259) (y' := RI.r259) rfl rfl (by decide) (by decide) (by decide) (by decide) (s256 V V') (s258 V V')
theorem s260 : val (after (KI.ops_main (F := F)) V) KI.k260 = RI.R V' RI.r260 :=
  same_unary KI.line_m RI.line_m KI.sub_m_c0_b RI.sub_m_c0_b V V' 7 (x := KI.k259) (x' := RI.r259) (y := KI.k260) (y' := RI.r260) rfl rfl (by decide) (by decide) (s259 V V')
theorem s261 : val (after (KI.ops_main (F := F)) V) KI.k261 = RI.R V' RI.r261 :=
  same_nullary KI.line_m RI.line_m KI.sub_m_c0_b RI.sub_m_c0_b V V' 8 (y := KI.k261) (y' := RI.r261) rfl rfl
theorem s262 : val (after (KI.ops_main (F := F)) V) KI.k262 = RI.R V' RI.r262 :=
  same_unary KI.line_m RI.line_m KI.sub_m_c0_b RI.sub_m_c0_b V V' 9 (x := KI.k261) (x' := RI.r261) (y := KI.k262) (y' := RI.r262) rfl rfl (by decide) (by decide) (s261 V V')
theorem s263 : val (after (KI.ops_main (F := F)) V) KI.k263 = RI.R V' RI.r263 :=
  same_binary KI.line_m RI.line_m KI.sub_m_c0_b RI.sub_m_c0_b V V' 10 (a := KI.k260) (a' := RI.r260) (b := KI.k262) (b' := RI.r262) (y := KI.k263) (y' := RI.r263) rfl rfl (by decide) (by decide) (by decide) (by decide) (s260 V V') (s262 V V')
theorem s264 : val (after (KI.ops_main (F := F)) V) KI.k264 = RI.R V' RI.r264 :=
  same_binary KI.line_m RI.line_m KI.sub_m_c0_b RI.sub_m_c0_b V V' 11 (a := KI.k17) (a' := RI.r17) (b := KI.k16) (b' := RI.r16) (y := KI.k264) (y' := RI.r264) rfl rfl (by decide) (by decide) (by decide) (by decide) (s17 V V') (s16 V V')
theorem s265 : val (after (KI.ops_main (F := F)) V) KI.k265 = RI.R V' RI.r265 :=
  same_unary KI.line_m RI.line_m KI.sub_m_c0_b RI.sub_m_c0_b V V' 12 (x := KI.k264) (x' := RI.r264) (y := KI.k265) (y' := RI.r265) rfl rfl (by decide) (by decide) (s264 V V')
theorem s266 : val (after (KI.ops_main (F := F)) V) KI.k266 = RI.R V' RI.r266 :=
  same_binary KI.line_m RI.line_m KI.sub_m_c0_b RI.sub_m_c0_b V V' 13 (a := KI.k263) (a' := RI.r263) (b := KI.k265) (b' := RI.r265) (y := KI.k266) (y' := RI.r266) rfl rfl (by decide) (by decide) (by decide) (by decide) (s263 V V') (s265 V V')
theorem s267 : val (after (KI.ops_main (F := F)) V) KI.k267 = RI.R V' RI.r267 :=
  same_unary KI.line_m RI.line_m KI.sub_m_c0_b RI.sub_m_c0_b V V' 14 (x := KI.k16) (x' := RI.r16) (y := KI.k267) (y' := RI.r267) rfl rfl (by decide) (by decide) (s16 V V')
theorem s268 : val (after (KI.ops_main (F := F)) V) KI.k268 = RI.R V' RI.r268 :=
  same_binary KI.line_m RI.line_m KI.sub_m_c0_b RI.sub_m_c0_b V V' 15 (a := KI.k266) (a' := RI.r266) (b := KI.k267) (b' := RI.r267) (y := KI.k268) (y' := RI.r268) rfl rfl (by decide) (by decide) (by decide) (by decide) (s266 V V') (s267 V V')
theorem s269 : val (after (KI.ops_main (F := F)) V) KI.k269 = RI.R V' RI.r269 :=
  same_unary KI.line_m RI.line_m KI.sub_m_c0_b RI.sub_m_c0_b V V' 16 (x := KI.k16) (x' := RI.r16) (y := KI.k269) (y' := RI.r269) rfl rfl (by decide) (by decide) (s16 V V')
theorem s270 : val (after (KI.ops_main (F := F)) V) KI.k270 = RI.R V' RI.r270 :=
  same_binary KI.line_m RI.line_m KI.sub_m_c0_b RI.sub_m_c0_b V V' 17 (a := KI.k269) (a' := RI.r269) (b := KI.k268) (b' := RI.r268) (y := KI.k270) (y' := RI.r270) rfl rfl (by decide) (by decide) (by decide) (by decide) (s269 V V') (s268 V V')
theorem s271 : val (after (KI.ops_main (F := F)) V) KI.k271 = RI.R V' RI.r271 :=
  same_unary KI.line_m RI.line_m KI.sub_m_b RI.sub_m_b V V' 0 (x := KI.k270) (x' := RI.r270) (y := KI.k271) (y' := RI.r271) (f := (Host.log : (⟨Cert.KernelIdeal.S2048, .f32⟩ : BufTy).Contents (Elt F) → (⟨Cert.KernelIdeal.S2048, .f32⟩ : BufTy).Contents (Elt F))) rfl rfl (by decide) (by decide) (s270 V V')
theorem s272 : val (after (KI.ops_main (F := F)) V) KI.k272 = RI.R V' RI.r272 :=
  same_unary KI.line_m RI.line_m KI.sub_m_b RI.sub_m_b V V' 1 (x := KI.k271) (x' := RI.r271) (y := KI.k272) (y' := RI.r272) (f := (Host.negf : (⟨Cert.KernelIdeal.S2048, .f32⟩ : BufTy).Contents (Elt F) → (⟨Cert.KernelIdeal.S2048, .f32⟩ : BufTy).Contents (Elt F))) rfl rfl (by decide) (by decide) (s271 V V')
theorem s273 : val (after (KI.ops_main (F := F)) V) KI.k273 = RI.R V' RI.r273 :=
  same_unary KI.line_m RI.line_m KI.sub_m_b RI.sub_m_b V V' 2 (x := KI.k272) (x' := RI.r272) (y := KI.k273) (y' := RI.r273) (f := (Host.log : (⟨Cert.KernelIdeal.S2048, .f32⟩ : BufTy).Contents (Elt F) → (⟨Cert.KernelIdeal.S2048, .f32⟩ : BufTy).Contents (Elt F))) rfl rfl (by decide) (by decide) (s272 V V')
theorem s274 : val (after (KI.ops_main (F := F)) V) KI.k274 = RI.R V' RI.r274 :=
  same_unary KI.line_m RI.line_m KI.sub_m_b RI.sub_m_b V V' 3 (x := KI.k273) (x' := RI.r273) (y := KI.k274) (y' := RI.r274) (f := (Host.negf : (⟨Cert.KernelIdeal.S2048, .f32⟩ : BufTy).Contents (Elt F) → (⟨Cert.KernelIdeal.S2048, .f32⟩ : BufTy).Contents (Elt F))) rfl rfl (by decide) (by decide) (s273 V V')

end Cert.Proof

end
-- ==== Proof.Alg.lean ====
/-
The kernel and the reference end with one result over the extended reals, for finite means.
-/
module

public import proofs.«01_k».proof.Defs
public import proofs.«01_k».proof.Proof.KVal
public import proofs.«01_k».proof.Proof.RPick
public import proofs.«01_k».proof.Proof.RefRun
public import proofs.«01_k».proof.Proof.SameG
import Idealize.ShloMosaic.Lib.ReduceAll

@[expose] public section

noncomputable section

namespace Cert.Proof

open Idealize.ShloMosaic Idealize.ShloMosaic.StableHlo Idealize.SL.Sem Cert.Proof.Ssa

/-- The side conditions of the printed precondition. -/
theorem facts_finite : Cert.Pre_finite.Facts where
  bcast_S_S2048 := Cert.ReferenceIdeal.Gen.facts.bcast_S_S2048
  reducesTo_S2048_S_d0 := Cert.ReferenceIdeal.Gen.facts.reducesTo_S2048_S_d0
  h_S_ := Cert.ReferenceIdeal.Gen.facts.h_S_

section
attribute [local instance] facts_finite

/-- What the precondition says: every mean is real. -/
theorem finite_real (x0 : Cert.Pre_finite.S4x4096x2048.Idx → Elt Ideal .f32) (x1 : Cert.Pre_finite.S2048.Idx → Elt Ideal .f32)
    (h : Cert.Pre_finite.fn (F := Ideal) x0 x1 = fun _ => 1#1) (i : Cert.Pre_finite.S2048.Idx) : ∃ r : ℝ, x1 i = (r : EReal) := by
  have h1 := Host.reduce_andi_all (t := Cert.Pre_finite.S_) _ _ _ _ _ (congrFun h (fun a => a.elim0)) i
  have h2 : BitVec.ofBool (decide (max (x1 i : EReal) (-(x1 i : EReal)) < Ideal.ofBits .f32 0x7F800000#32)) = 1#1 := h1
  rw [lit_top] at h2
  have h3 : max (x1 i : EReal) (-(x1 i : EReal)) < ⊤ := by
    by_contra hn
    rw [decide_eq_false hn] at h2
    exact absurd h2 (by decide)
  have t1 : (x1 i : EReal) ≠ ⊤ := fun e => by rw [e] at h3; exact absurd h3 (by simp)
  have t2 : (x1 i : EReal) ≠ ⊥ := fun e => by rw [e] at h3; exact absurd h3 (by simp)
  exact ⟨(x1 i : EReal).toReal, (EReal.coe_toReal t1 t2).symm⟩

end

/-- The column the kernel picks is the first at which the sum is largest. -/
theorem sel_first (cm cg : Cert.KernelIdeal.S2048.Idx → EReal) (y : Cert.KernelIdeal.S2048.Idx → ℝ) (hy : ∀ i, cm i + cg i = (y i : EReal))
    (a : Cert.KernelIdeal.S2048.Idx) (ha : ∀ i, y i ≤ y a ∧ (y i = y a → (a 0).val ≤ (i 0).val)) :
    (KI.sel (F := Ideal) cm cg).toNat = (a 0).val := by
  have b := KI.sel_best cm cg (fun n => by unfold KI.yv; rw [hy]; exact EReal.bot_lt_coe _)
  generalize (KI.sel (F := Ideal) cm cg).toNat = p at b
  have la : (a 0).val < 2048 := (a 0).isLt
  have ea : KI.ixn (a 0).val = a := funext fun k => Fin.ext (match k with | 0 => Nat.mod_eq_of_lt la)
  have hn : ∀ n, KI.yv cm cg n = (y (KI.ixn n) : EReal) := fun n => hy _
  have h1 := b.le (a 0).val la
  rw [hn, hn, EReal.coe_le_coe_iff, ea] at h1
  have h2 : y (KI.ixn p) = y a := le_antisymm (ha _).1 h1
  have h3 : (a 0).val ≤ p := by
    have := (ha _).2 h2
    have e : ((KI.ixn p) 0).val = p := Nat.mod_eq_of_lt b.mem
    rwa [e] at this
  rcases Nat.lt_or_ge (a 0).val p with h | h
  · have := b.lt (a 0).val la h
    rw [hn, hn, EReal.coe_lt_coe_iff, ea, h2] at this
    exact absurd this (lt_irrefl _)
  · omega

/-- Both programs' results, at memories that agree on the arguments. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hr : ∀ i : Cert.KernelIdeal.S2048.Idx, ∃ r : ℝ, (m ((c.tc : Thread Cert.KernelIdeal.nD Cert.KernelIdeal.τ).loc Cert.KernelIdeal.main_arg1) : Cert.KernelIdeal.S2048.Idx → EReal) i = (r : EReal))
    (j : Cert.KernelIdeal.S4x4096x1.Idx) :
    (RI.post m' c (Proc.devRef .tc Cert.ReferenceIdeal.main_v43) : Cert.KernelIdeal.S4x4096x1.Idx → EReal) j
      = (KI.post m c (Proc.devRef .tc Cert.KernelIdeal.main_v14) : Cert.KernelIdeal.S4x4096x1.Idx → EReal) j := by
  let V := launchContents m' c
  let W := launchContents m c
  have r0 : RI.R V RI.r0 = m' ((c.tc : Thread Cert.ReferenceIdeal.nD Cert.ReferenceIdeal.τ).loc Cert.ReferenceIdeal.main_arg0) := RI.e_arg0 V
  have r1 : RI.R V RI.r1 = m' ((c.tc : Thread Cert.ReferenceIdeal.nD Cert.ReferenceIdeal.τ).loc Cert.ReferenceIdeal.main_arg1) := RI.e_arg1 V
  rw [h0] at r0
  rw [h1] at r1
  have g : KI.pre m c (Proc.devRef .tc Cert.KernelIdeal.main_v11) = RI.R V RI.r274 := s274 W V
  choose mu hmu using hr
  choose no hno using RI.noise_real V
  have hy : ∀ i, RI.R V RI.r275 i = ((mu i + no i : ℝ) : EReal) := fun i => by
    rw [EReal.coe_add, ← hno, ← hmu, ← r1, RI.e275]
    exact RI.add_at Cert.ReferenceIdeal.S2048 (RI.R V RI.r1) (RI.R V RI.r274) i
  obtain ⟨a, ha, hv⟩ := RI.ref_value V (fun i => mu i + no i) hy
  have hp := sel_first (m ((c.tc : Thread Cert.KernelIdeal.nD Cert.KernelIdeal.τ).loc Cert.KernelIdeal.main_arg1)) (RI.R V RI.r274) (fun i => mu i + no i)
    (fun i => by rw [EReal.coe_add, ← hno, ← hmu]) a ha
  have hl : (RI.post m' c (Proc.devRef .tc Cert.ReferenceIdeal.main_v43) : Cert.KernelIdeal.S4x4096x1.Idx → EReal) j = RI.R V RI.r613 j := rfl
  rw [hl, hv, r0]
  refine Eq.trans ?_ (KI.post_value m c j).symm
  rw [g]
  refine congrArg (m ((c.tc : Thread Cert.KernelIdeal.nD Cert.KernelIdeal.τ).loc Cert.KernelIdeal.main_arg0)) (funext fun k => Fin.ext ?_)
  match k with
  | 0 => rfl
  | 1 => rfl
  | 2 => exact hp.symm

theorem algebraic : Cert.algebraic_KernelIdeal_ReferenceIdeal_pre_finite (hKernelIdeal := Cert.KernelIdeal.Gen.facts)
    (hReferenceIdeal := Cert.ReferenceIdeal.Gen.facts) (hPre_finite := facts_finite) := fun m g m' g' hpre hag =>
  ⟨fun c => KI.post m c (Proc.devRef .tc Cert.KernelIdeal.main_v14),
    (θ_run Cert.KernelIdeal.defs _ _).mono (fun _ h c => ⟨(h.1 c).2.2, (h.1 c).1, (h.1 c).2.1⟩) (KI.run_main (F := Ideal) m g),
    (θ_run Cert.ReferenceIdeal.defs _ _).mono
      (fun r h c => ⟨(h c _).trans (funext fun j => values m m' c (hag c).1 (hag c).2 (finite_real _ _ (hpre c)) j),
        (h c _).trans (RI.post_arg m' (by decide) c), (h c _).trans (RI.post_arg m' (by decide) c)⟩)
      (RI.run_main (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import Idealize.ShloMosaic.Adequacy
public import Idealize.ShloMosaic.Init
public import proofs.«01_k».proof.Proof.Frames
public import proofs.«01_k».proof.Proof.Alg

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, facts_finite, frame_kernel, frame_ideal,
    fun m g _ => frame_ideal m g trivial, frame_ref, fun m g _ => frame_ref m g trivial, preserves, algebraic⟩

end Cert.Proof

end
